-- ==== Defs.lean ====
def Pre_Kernel [hPre_ids_and_lengths_fit : Cert.Pre_ids_and_lengths_fit.Facts] (m : (ℓ : Loc Cert.Kernel.nD Cert.Kernel.τ Cert.Kernel.sig) → Buf (Elt Bits) ℓ) : Prop :=
  ∀ c : Dev Cert.Kernel.nD,
    (Cert.Pre_ids_and_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_and_lengths_fit : Cert.Pre_ids_and_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_lengths_fit [hPre_ids_and_lengths_fit : Cert.Pre_ids_and_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_and_lengths_fit : Cert.Pre_ids_and_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_and_lengths_fit : Cert.Pre_ids_and_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_and_lengths_fit [hReferenceIdeal : Cert.ReferenceIdeal.Facts] [hPre_ids_and_lengths_fit : Cert.Pre_ids_and_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_lengths_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_and_lengths_fit : Cert.Pre_ids_and_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_and_lengths_fit : Cert.Pre_ids_and_lengths_fit.Facts),
    quiescent_Kernel (hKernel := hKernel) (hPre_ids_and_lengths_fit := hPre_ids_and_lengths_fit)
    ∧ quiescent_KernelIdeal (hKernelIdeal := hKernelIdeal) (hPre_ids_and_lengths_fit := hPre_ids_and_lengths_fit)
    ∧ quiescent_ReferenceIdeal (hReferenceIdeal := hReferenceIdeal)
    ∧ quiescent_ReferenceIdeal_pre_ids_and_lengths_fit (hReferenceIdeal := hReferenceIdeal) (hPre_ids_and_lengths_fit := hPre_ids_and_lengths_fit)
    ∧ preserves_Kernel_KernelIdeal
    ∧ algebraic_KernelIdeal_ReferenceIdeal (hKernelIdeal := hKernelIdeal) (hReferenceIdeal := hReferenceIdeal) (hPre_ids_and_lengths_fit := hPre_ids_and_lengths_fit)
-- ==== Pre_ids_and_lengths_fit.lean ====
abbrev S160x12x128 : Shape := ⟨3, ![160, 12, 128]⟩
abbrev S160x12 : Shape := ⟨2, ![160, 12]⟩
abbrev S160x12x384 : Shape := ⟨3, ![160, 12, 384]⟩
abbrev S12 : Shape := ⟨1, ![12]⟩
abbrev S_ : Shape := ⟨0, ![]⟩
abbrev S160x12x1 : Shape := ⟨3, ![160, 12, 1]⟩

class Facts : Prop where
  bcast_S_S160x12x384 : S_.BroadcastsInDim S160x12x384 (![] : Fin 0 → Fin S160x12x384.rank)
  bcast_S_S160x12 : S_.BroadcastsInDim S160x12 (![] : Fin 0 → Fin S160x12.rank)
  bcast_S160x12_S160x12x1_0_1 : S160x12.BroadcastsInDim S160x12x1 (![0, 1] : Fin 2 → Fin S160x12x1.rank)
  bcast_S160x12x1_S160x12x384_0_1_2 : S160x12x1.BroadcastsInDim S160x12x384 (![0, 1, 2] : Fin 3 → Fin S160x12x384.rank)

variable [Facts]

def fn {F : FTy → Type} [FloatOps F] (main_arg0 : FVec F S160x12x128 .fp8e5m2) (main_arg1 : FVec F S160x12 .f32) (main_arg2 : IVec S160x12x384 32) (main_arg3 : FVec F S160x12x384 .f32) (main_arg4 : IVec S160x12 32) (main_arg5 : FVec F S12 .f32) : IVec S160x12x384 1 :=
  let main_c : IVec S_ 32 := constantI S_ 32 0#32
  let main_v0 : IVec S160x12x384 32 := broadcastInDim S160x12x384 ![] bcast_S_S160x12x384 main_c
  let main_v1 : IVec S160x12x384 1 := cmpi .sge main_arg2 main_v0
  let main_c_0 : IVec S_ 32 := constantI S_ 32 45000#32
  let main_v2 : IVec S160x12x384 32 := broadcastInDim S160x12x384 ![] bcast_S_S160x12x384 main_c_0
  let main_v3 : IVec S160x12x384 1 := cmpi .slt main_arg2 main_v2
  let main_v4 : IVec S160x12x384 1 := andi main_v1 main_v3
  let main_c_1 : IVec S_ 32 := constantI S_ 32 384#32
  let main_v5 : IVec S160x12 32 := broadcastInDim S160x12 ![] bcast_S_S160x12 main_c_1
  let main_v6 : IVec S160x12 1 := cmpi .sle main_arg4 main_v5
  let main_v7 : IVec S160x12x1 1 := broadcastInDim S160x12x1 ![0, 1] bcast_S160x12_S160x12x1_0_1 main_v6
  let main_v8 : IVec S160x12x384 1 := broadcastInDim S160x12x384 ![0, 1, 2] bcast_S160x12x1_S160x12x384_0_1_2 main_v7
  let main_v9 : IVec S160x12x384 1 := andi main_v4 main_v8
  main_v9
-- ==== Kernel.lean ====
abbrev S160x12x128 : Shape := ⟨3, ![160, 12, 128]⟩
abbrev S160x12 : Shape := ⟨2, ![160, 12]⟩
abbrev S160x12x384 : Shape := ⟨3, ![160, 12, 384]⟩
abbrev S12 : Shape := ⟨1, ![12]⟩
abbrev S277 : Shape := ⟨1, ![277]⟩
abbrev S12x1 : Shape := ⟨2, ![12, 1]⟩
abbrev S1x277 : Shape := ⟨2, ![1, 277]⟩
abbrev S12x277 : Shape := ⟨2, ![12, 277]⟩
abbrev S_ : Shape := ⟨0, ![]⟩
abbrev S12x160x384 : Shape := ⟨3, ![12, 160, 384]⟩
abbrev S12x160x128 : Shape := ⟨3, ![12, 160, 128]⟩
abbrev S12x160x48x8 : Shape := ⟨4, ![12, 160, 48, 8]⟩
abbrev S12x160x48x128 : Shape := ⟨4, ![12, 160, 48, 128]⟩
abbrev S12x160 : Shape := ⟨2, ![12, 160]⟩
abbrev S1x12 : Shape := ⟨2, ![1, 12]⟩
abbrev S12x45000x128 : Shape := ⟨3, ![12, 45000, 128]⟩
abbrev S1x32x384 : Shape := ⟨3, ![1, 32, 384]⟩
abbrev S1x32x128 : Shape := ⟨3, ![1, 32, 128]⟩
abbrev S1x32x48x128 : Shape := ⟨4, ![1, 32, 48, 128]⟩
abbrev S45000x128 : Shape := ⟨2, ![45000, 128]⟩
abbrev S3x1000x128 : Shape := ⟨3, ![3, 1000, 128]⟩
abbrev S32x128 : Shape := ⟨2, ![32, 128]⟩
abbrev S3 : Shape := ⟨1, ![3]⟩
abbrev S1x45000x128 : Shape := ⟨3, ![1, 45000, 128]⟩
abbrev S1000x128 : Shape := ⟨2, ![1000, 128]⟩
abbrev S1x1 : Shape := ⟨2, ![1, 1]⟩
abbrev S1x128 : Shape := ⟨2, ![1, 128]⟩
abbrev S8x128 : Shape := ⟨2, ![8, 128]⟩
abbrev S1x1x1x128 : Shape := ⟨4, ![1, 1, 1, 128]⟩
abbrev S1x1x1 : Shape := ⟨3, ![1, 1, 1]⟩
abbrev S1 : Shape := ⟨1, ![1]⟩
abbrev S1x1000x128 : Shape := ⟨3, ![1, 1000, 128]⟩

abbrev nBuf : Space → Nat
  | .hbm => 100
  | .vmem => 7
  | .smem => 5
  | _ => 0

abbrev bufTy : (tb : Table) → Fin (tcTables nBuf tb) → BufTy
  | .hbm, ⟨0, _⟩ => ⟨S160x12x128, .fp8e5m2⟩
  | .hbm, ⟨1, _⟩ => ⟨S160x12, .f32⟩
  | .hbm, ⟨2, _⟩ => ⟨S160x12x384, .i32⟩
  | .hbm, ⟨3, _⟩ => ⟨S160x12x384, .f32⟩
  | .hbm, ⟨4, _⟩ => ⟨S160x12, .i32⟩
  | .hbm, ⟨5, _⟩ => ⟨S12, .f32⟩
  | .hbm, ⟨6, _⟩ => ⟨S277, .f32⟩
  | .hbm, ⟨7, _⟩ => ⟨S12, .f32⟩
  | .hbm, ⟨8, _⟩ => ⟨S12x1, .f32⟩
  | .hbm, ⟨9, _⟩ => ⟨S1x277, .f32⟩
  | .hbm, ⟨10, _⟩ => ⟨S12x277, .f32⟩
  | .hbm, ⟨11, _⟩ => ⟨S12x277, .f32⟩
  | .hbm, ⟨12, _⟩ => ⟨S12x277, .i1⟩
  | .hbm, ⟨13, _⟩ => ⟨S12x277, .i32⟩
  | .hbm, ⟨14, _⟩ => ⟨S_, .i32⟩
  | .hbm, ⟨15, _⟩ => ⟨S12, .i32⟩
  | .hbm, ⟨16, _⟩ => ⟨S_, .f32⟩
  | .hbm, ⟨17, _⟩ => ⟨S12, .f32⟩
  | .hbm, ⟨18, _⟩ => ⟨S12, .i1⟩
  | .hbm, ⟨19, _⟩ => ⟨S_, .f32⟩
  | .hbm, ⟨20, _⟩ => ⟨S12, .f32⟩
  | .hbm, ⟨21, _⟩ => ⟨S12, .i1⟩
  | .hbm, ⟨22, _⟩ => ⟨S12, .i1⟩
  | .hbm, ⟨23, _⟩ => ⟨S_, .i32⟩
  | .hbm, ⟨24, _⟩ => ⟨S12, .i32⟩
  | .hbm, ⟨25, _⟩ => ⟨S12, .i32⟩
  | .hbm, ⟨26, _⟩ => ⟨S_, .i32⟩
  | .hbm, ⟨27, _⟩ => ⟨S_, .i32⟩
  | .hbm, ⟨28, _⟩ => ⟨S12, .i32⟩
  | .hbm, ⟨29, _⟩ => ⟨S12, .i32⟩
  | .hbm, ⟨30, _⟩ => ⟨S_, .i32⟩
  | .hbm, ⟨31, _⟩ => ⟨S12, .i32⟩
  | .hbm, ⟨32, _⟩ => ⟨S12, .i32⟩
  | .hbm, ⟨33, _⟩ => ⟨S12, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S12, .i32⟩
  | .hbm, ⟨38, _⟩ => ⟨S12, .i32⟩
  | .hbm, ⟨39, _⟩ => ⟨S_, .i32⟩
  | .hbm, ⟨40, _⟩ => ⟨S12, .i32⟩
  | .hbm, ⟨41, _⟩ => ⟨S12, .i32⟩
  | .hbm, ⟨42, _⟩ => ⟨S_, .i32⟩
  | .hbm, ⟨43, _⟩ => ⟨S12, .i32⟩
  | .hbm, ⟨44, _⟩ => ⟨S12, .i32⟩
  | .hbm, ⟨45, _⟩ => ⟨S_, .i32⟩
  | .hbm, ⟨46, _⟩ => ⟨S12, .i32⟩
  | .hbm, ⟨47, _⟩ => ⟨S12, .i32⟩
  | .hbm, ⟨48, _⟩ => ⟨S_, .i32⟩
  | .hbm, ⟨49, _⟩ => ⟨S12, .i32⟩
  | .hbm, ⟨50, _⟩ => ⟨S12, .i32⟩
  | .hbm, ⟨51, _⟩ => ⟨S12, .f32⟩
  | .hbm, ⟨52, _⟩ => ⟨S12, .i32⟩
  | .hbm, ⟨53, _⟩ => ⟨S_, .i32⟩
  | .hbm, ⟨54, _⟩ => ⟨S12, .i32⟩
  | .hbm, ⟨55, _⟩ => ⟨S12, .i32⟩
  | .hbm, ⟨56, _⟩ => ⟨S_, .i32⟩
  | .hbm, ⟨57, _⟩ => ⟨S12, .i32⟩
  | .hbm, ⟨58, _⟩ => ⟨S12, .i32⟩
  | .hbm, ⟨59, _⟩ => ⟨S12, .f32⟩
  | .hbm, ⟨60, _⟩ => ⟨S12, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S12, .i32⟩
  | .hbm, ⟨65, _⟩ => ⟨S12, .i32⟩
  | .hbm, ⟨66, _⟩ => ⟨S_, .i32⟩
  | .hbm, ⟨67, _⟩ => ⟨S12, .i32⟩
  | .hbm, ⟨68, _⟩ => ⟨S12, .i32⟩
  | .hbm, ⟨69, _⟩ => ⟨S_, .i32⟩
  | .hbm, ⟨70, _⟩ => ⟨S12, .i32⟩
  | .hbm, ⟨71, _⟩ => ⟨S12, .i32⟩
  | .hbm, ⟨72, _⟩ => ⟨S_, .i32⟩
  | .hbm, ⟨73, _⟩ => ⟨S12, .i32⟩
  | .hbm, ⟨74, _⟩ => ⟨S12, .i32⟩
  | .hbm, ⟨75, _⟩ => ⟨S_, .i32⟩
  | .hbm, ⟨76, _⟩ => ⟨S12, .i32⟩
  | .hbm, ⟨77, _⟩ => ⟨S12, .i32⟩
  | .hbm, ⟨78, _⟩ => ⟨S12, .f32⟩
  | .hbm, ⟨79, _⟩ => ⟨S12, .i32⟩
  | .hbm, ⟨80, _⟩ => ⟨S_, .i32⟩
  | .hbm, ⟨81, _⟩ => ⟨S12, .i32⟩
  | .hbm, ⟨82, _⟩ => ⟨S12, .i32⟩
  | .hbm, ⟨83, _⟩ => ⟨S_, .i32⟩
  | .hbm, ⟨84, _⟩ => ⟨S12, .i32⟩
  | .hbm, ⟨85, _⟩ => ⟨S12, .i32⟩
  | .hbm, ⟨86, _⟩ => ⟨S12, .f32⟩
  | .hbm, ⟨87, _⟩ => ⟨S12, .f32⟩
  | .hbm, ⟨88, _⟩ => ⟨S12x160x384, .i32⟩
  | .hbm, ⟨89, _⟩ => ⟨S12x160x128, .fp8e5m2⟩
  | .hbm, ⟨90, _⟩ => ⟨S12x160x384, .f32⟩
  | .hbm, ⟨91, _⟩ => ⟨S12x160x48x8, .f32⟩
  | .hbm, ⟨92, _⟩ => ⟨S_, .i32⟩
  | .hbm, ⟨93, _⟩ => ⟨S_, .f32⟩
  | .hbm, ⟨94, _⟩ => ⟨S12x160x48x128, .f32⟩
  | .hbm, ⟨95, _⟩ => ⟨S12x160, .i32⟩
  | .hbm, ⟨96, _⟩ => ⟨S12x160, .f32⟩
  | .hbm, ⟨97, _⟩ => ⟨S1x12, .f32⟩
  | .hbm, ⟨98, _⟩ => ⟨S12x45000x128, .f32⟩
  | .hbm, ⟨99, _⟩ => ⟨S12x45000x128, .i32⟩
  | .local _ .vmem, ⟨0, _⟩ => ⟨S1x32x128, .fp8e5m2⟩
  | .local _ .vmem, ⟨1, _⟩ => ⟨S1x32x128, .fp8e5m2⟩
  | .local _ .vmem, ⟨2, _⟩ => ⟨S1x32x48x128, .f32⟩
  | .local _ .vmem, ⟨3, _⟩ => ⟨S1x32x48x128, .f32⟩
  | .local _ .vmem, ⟨4, _⟩ => ⟨S45000x128, .i32⟩
  | .local _ .vmem, ⟨5, _⟩ => ⟨S3x1000x128, .f32⟩
  | .local _ .vmem, ⟨6, _⟩ => ⟨S32x128, .f32⟩
  | .local _ .smem, ⟨0, _⟩ => ⟨S12x160, .i32⟩
  | .local _ .smem, ⟨1, _⟩ => ⟨S12x160, .f32⟩
  | .local _ .smem, ⟨2, _⟩ => ⟨S1x12, .f32⟩
  | .local _ .smem, ⟨3, _⟩ => ⟨S1x32x384, .i32⟩
  | .local _ .smem, ⟨4, _⟩ => ⟨S1x32x384, .i32⟩
  | _, _ => ⟨S160x12x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v19 : Ref sig .tc := ⟨.hbm, 41, rfl⟩
abbrev main_c_7 : Ref sig .tc := ⟨.hbm, 42, rfl⟩
abbrev main_v20 : Ref sig .tc := ⟨.hbm, 43, rfl⟩
abbrev main_v21 : Ref sig .tc := ⟨.hbm, 44, rfl⟩
abbrev main_c_8 : Ref sig .tc := ⟨.hbm, 45, rfl⟩
abbrev main_v22 : Ref sig .tc := ⟨.hbm, 46, rfl⟩
abbrev main_v23 : Ref sig .tc := ⟨.hbm, 47, rfl⟩
abbrev main_c_9 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_10 : Ref sig .tc := ⟨.hbm, 53, rfl⟩
abbrev main_v28 : Ref sig .tc := ⟨.hbm, 54, rfl⟩
abbrev main_v29 : Ref sig .tc := ⟨.hbm, 55, rfl⟩
abbrev main_c_11 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_12 : Ref sig .tc := ⟨.hbm, 61, rfl⟩
abbrev main_c_13 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v34 : Ref sig .tc := ⟨.hbm, 68, rfl⟩
abbrev main_c_14 : Ref sig .tc := ⟨.hbm, 69, rfl⟩
abbrev main_v35 : Ref sig .tc := ⟨.hbm, 70, rfl⟩
abbrev main_v36 : Ref sig .tc := ⟨.hbm, 71, rfl⟩
abbrev main_c_15 : Ref sig .tc := ⟨.hbm, 72, rfl⟩
abbrev main_v37 : Ref sig .tc := ⟨.hbm, 73, rfl⟩
abbrev main_v38 : Ref sig .tc := ⟨.hbm, 74, rfl⟩
abbrev main_c_16 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_17 : Ref sig .tc := ⟨.hbm, 80, rfl⟩
abbrev main_v43 : Ref sig .tc := ⟨.hbm, 81, rfl⟩
abbrev main_v44 : Ref sig .tc := ⟨.hbm, 82, rfl⟩
abbrev main_c_18 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_19 : Ref sig .tc := ⟨.hbm, 92, rfl⟩
abbrev main_call3_v0 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57_0 : Ref sig .tc := ⟨.hbm, 98, rfl⟩
abbrev main_v57_1 : Ref sig .tc := ⟨.hbm, 99, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg3_1 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![12, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_9 : BitVec 32 := 0#32
  let v15 : BitVec 1 := Scalar.cmpi .sgt arg0 c0_i32_9
  let v16 : BitVec 32 := Scalar.extui v15
  let c0_i32_10 : BitVec 32 := 0#32
  let v17 : BitVec 1 := Scalar.cmpi .ne v16 c0_i32_10
  v17

def k0_off1 (i : grid0.Coords) : Fin 3 → Nat :=
  let arg0 : BitVec 32 := BitVec.ofNat 32 (i 0).val
  let c1_i32_14 : BitVec 32 := 1#32
  let v19 : BitVec 32 := Scalar.subi arg0 c1_i32_14
  let c0_i32_15 : BitVec 32 := 0#32
  let c0_i32_16 : BitVec 32 := 0#32
  ![v19.toNat, 0, 0]
@[reducible] def k0_t1_loop : Scf.Loop 32 :=
  let c0_i32_11 : BitVec 32 := 0#32
  let c45_i32 : BitVec 32 := 45#32
  let v18 : BitVec 32 := Scalar.addi c0_i32_11 c45_i32
  let c1_i32_12 : BitVec 32 := 1#32
  ⟨c0_i32_11, v18, c1_i32_12⟩
def k0_mult1 (k0_t1 : Fin k0_t1_loop.trips) : BitVec 32 :=
  let c0_i32_11 : BitVec 32 := 0#32
  let c1_i32_12 : BitVec 32 := 1#32
  let arg15 : BitVec 32 := Scf.iv c0_i32_11 c1_i32_12 k0_t1
  let c1000_i32 : BitVec 32 := 1000#32
  let v20 : BitVec 32 := Scalar.muli arg15 c1000_i32
  v20
def k0_off2 (k0_t1 : Fin k0_t1_loop.trips) : Fin 2 → Nat :=
  let c0_i32_11 : BitVec 32 := 0#32
  let c1_i32_12 : BitVec 32 := 1#32
  let arg15 : BitVec 32 := Scf.iv c0_i32_11 c1_i32_12 k0_t1
  let c1000_i32 : BitVec 32 := 1000#32
  let v20 : BitVec 32 := Scalar.muli arg15 c1000_i32
  let v21 : BitVec 32 := v20
  let v22 : Index := Scalar.indexCast v21
  let c0_15 : Index := 0#32
  ![v22.toNat, 0]
def k0_off3 (i : grid0.Coords) : Fin 2 → Nat :=
  let c0 : Index := 0#32
  let arg0 : BitVec 32 := BitVec.ofNat 32 (i 0).val
  let v3 : Index := Scalar.indexCast arg0
  ![0, v3.toNat]
@[reducible] def k0_t2_loop : Scf.Loop 32 :=
  let c0_i32_6 : BitVec 32 := 0#32
  let c32_i32 : BitVec 32 := 32#32
  let v11 : BitVec 32 := Scalar.addi c0_i32_6 c32_i32
  let c1_i32 : BitVec 32 := 1#32
  ⟨c0_i32_6, v11, c1_i32⟩
def k0_off4 (i : grid0.Coords) (k0_t2 : Fin k0_t2_loop.trips) : Fin 2 → Nat :=
  let arg0 : BitVec 32 := BitVec.ofNat 32 (i 0).val
  let v17 : Index := Scalar.indexCast arg0
  let arg1 : BitVec 32 := BitVec.ofNat 32 (i 1).val
  let c32_i32_9 : BitVec 32 := 32#32
  let v15 : BitVec 32 := Scalar.muli arg1 c32_i32_9
  let c0_i32_6 : BitVec 32 := 0#32
  let c1_i32 : BitVec 32 := 1#32
  let arg15 : BitVec 32 := Scf.iv c0_i32_6 c1_i32 k0_t2
  let v16 : BitVec 32 := Scalar.addi v15 arg15
  let v18 : Index := Scalar.indexCast v16
  ![v17.toNat, v18.toNat]
def k0_off5 (k0_t2 : Fin k0_t2_loop.trips) : Fin 2 → Nat :=
  let c0_i32_6 : BitVec 32 := 0#32
  let c1_i32 : BitVec 32 := 1#32
  let arg15 : BitVec 32 := Scf.iv c0_i32_6 c1_i32 k0_t2
  let v20 : Index := Scalar.indexCast arg15
  let c0_10 : Index := 0#32
  ![v20.toNat, 0]
@[reducible] def k0_t3_loop (v19 : BitVec 32) : Scf.Loop 32 :=
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_15 : BitVec 32 := 1#32
  ⟨c0_i32_12, v37, c1_i32_15⟩

def k0_off6 (k0_t2 : Fin k0_t2_loop.trips) (v19 : BitVec 32) (k0_t3 : Fin (k0_t3_loop v19).trips) : Fin 4 → Nat :=
  let c0_17 : Index := 0#32
  let c0_i32_6 : BitVec 32 := 0#32
  let c1_i32 : BitVec 32 := 1#32
  let arg15 : BitVec 32 := Scf.iv c0_i32_6 c1_i32 k0_t2
  let v40 : Index := Scalar.indexCast arg15
  let c0_i32_12 : BitVec 32 := 0#32
  let c1_i32_15 : BitVec 32 := 1#32
  let arg16 : BitVec 32 := Scf.iv c0_i32_12 c1_i32_15 k0_t3
  let v41 : Index := Scalar.indexCast arg16
  let c0_18 : Index := 0#32
  ![0, v40.toNat, v41.toNat, 0]
def k0_off7 (k0_t2 : Fin k0_t2_loop.trips) (v19 : BitVec 32) (k0_t3 : Fin (k0_t3_loop v19).trips) : Fin 3 → Nat :=
  let c0_23 : Index := 0#32
  let c0_i32_6 : BitVec 32 := 0#32
  let c1_i32 : BitVec 32 := 1#32
  let arg15 : BitVec 32 := Scf.iv c0_i32_6 c1_i32 k0_t2
  let v59 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c0_i32_22 : BitVec 32 := 0#32
  let v58 : BitVec 32 := Scalar.addi v44 c0_i32_22
  let v60 : Index := Scalar.indexCast v58
  ![0, v59.toNat, v60.toNat]
def k0_off8 (v61 : BitVec 32) : Fin 2 → Nat :=
  let v62 : Index := Scalar.indexCast v61
  let c0_24 : Index := 0#32
  ![v62.toNat, 0]

def k0_chk2 (v61 : BitVec 32) : Prop :=
  (∀ a, (k0_off8 v61) a + S1x128.size a ≤ S45000x128.size a)
theorem k0_off8_inb : ∀ (v61 : BitVec 32) (k0_hw2 : k0_chk2 v61), ∀ a, (k0_off8 v61) a + S1x128.size a ≤ S45000x128.size a := fun v61 k0_hw2 => k0_hw2

def k0_off9 (k0_t2 : Fin k0_t2_loop.trips) (v19 : BitVec 32) (k0_t3 : Fin (k0_t3_loop v19).trips) : Fin 3 → Nat :=
  let c0_29 : Index := 0#32
  let c0_i32_6 : BitVec 32 := 0#32
  let c1_i32 : BitVec 32 := 1#32
  let arg15 : BitVec 32 := Scf.iv c0_i32_6 c1_i32 k0_t2
  let v83 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c1_i32_28 : BitVec 32 := 1#32
  let v82 : BitVec 32 := Scalar.addi v44 c1_i32_28
  let v84 : Index := Scalar.indexCast v82
  ![0, v83.toNat, v84.toNat]
def k0_off10 (v85 : BitVec 32) : Fin 2 → Nat :=
  let v86 : Index := Scalar.indexCast v85
  let c0_30 : Index := 0#32
  ![v86.toNat, 0]

def k0_chk3 (v85 : BitVec 32) : Prop :=
  (∀ a, (k0_off10 v85) a + S1x128.size a ≤ S45000x128.size a)
theorem k0_off10_inb : ∀ (v85 : BitVec 32) (k0_hw3 : k0_chk3 v85), ∀ a, (k0_off10 v85) a + S1x128.size a ≤ S45000x128.size a := fun v85 k0_hw3 => k0_hw3

def k0_off11 (k0_t2 : Fin k0_t2_loop.trips) (v19 : BitVec 32) (k0_t3 : Fin (k0_t3_loop v19).trips) : Fin 3 → Nat :=
  let c0_34 : Index := 0#32
  let c0_i32_6 : BitVec 32 := 0#32
  let c1_i32 : BitVec 32 := 1#32
  let arg15 : BitVec 32 := Scf.iv c0_i32_6 c1_i32 k0_t2
  let v107 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c2_i32_33 : BitVec 32 := 2#32
  let v106 : BitVec 32 := Scalar.addi v44 c2_i32_33
  let v108 : Index := Scalar.indexCast v106
  ![0, v107.toNat, v108.toNat]
def k0_off12 (v109 : BitVec 32) : Fin 2 → Nat :=
  let v110 : Index := Scalar.indexCast v109
  let c0_35 : Index := 0#32
  ![v110.toNat, 0]

def k0_chk4 (v109 : BitVec 32) : Prop :=
  (∀ a, (k0_off12 v109) a + S1x128.size a ≤ S45000x128.size a)
theorem k0_off12_inb : ∀ (v109 : BitVec 32) (k0_hw4 : k0_chk4 v109), ∀ a, (k0_off12 v109) a + S1x128.size a ≤ S45000x128.size a := fun v109 k0_hw4 => k0_hw4

def k0_off13 (k0_t2 : Fin k0_t2_loop.trips) (v19 : BitVec 32) (k0_t3 : Fin (k0_t3_loop v19).trips) : Fin 3 → Nat :=
  let c0_39 : Index := 0#32
  let c0_i32_6 : BitVec 32 := 0#32
  let c1_i32 : BitVec 32 := 1#32
  let arg15 : BitVec 32 := Scf.iv c0_i32_6 c1_i32 k0_t2
  let v131 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c3_i32_38 : BitVec 32 := 3#32
  let v130 : BitVec 32 := Scalar.addi v44 c3_i32_38
  let v132 : Index := Scalar.indexCast v130
  ![0, v131.toNat, v132.toNat]
def k0_off14 (v133 : BitVec 32) : Fin 2 → Nat :=
  let v134 : Index := Scalar.indexCast v133
  let c0_40 : Index := 0#32
  ![v134.toNat, 0]

def k0_chk5 (v133 : BitVec 32) : Prop :=
  (∀ a, (k0_off14 v133) a + S1x128.size a ≤ S45000x128.size a)
theorem k0_off14_inb : ∀ (v133 : BitVec 32) (k0_hw5 : k0_chk5 v133), ∀ a, (k0_off14 v133) a + S1x128.size a ≤ S45000x128.size a := fun v133 k0_hw5 => k0_hw5

def k0_off15 (k0_t2 : Fin k0_t2_loop.trips) (v19 : BitVec 32) (k0_t3 : Fin (k0_t3_loop v19).trips) : Fin 3 → Nat :=
  let c0_45 : Index := 0#32
  let c0_i32_6 : BitVec 32 := 0#32
  let c1_i32 : BitVec 32 := 1#32
  let arg15 : BitVec 32 := Scf.iv c0_i32_6 c1_i32 k0_t2
  let v155 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c4_i32_44 : BitVec 32 := 4#32
  let v154 : BitVec 32 := Scalar.addi v44 c4_i32_44
  let v156 : Index := Scalar.indexCast v154
  ![0, v155.toNat, v156.toNat]
def k0_off16 (v157 : BitVec 32) : Fin 2 → Nat :=
  let v158 : Index := Scalar.indexCast v157
  let c0_46 : Index := 0#32
  ![v158.toNat, 0]

def k0_chk6 (v157 : BitVec 32) : Prop :=
  (∀ a, (k0_off16 v157) a + S1x128.size a ≤ S45000x128.size a)
theorem k0_off16_inb : ∀ (v157 : BitVec 32) (k0_hw6 : k0_chk6 v157), ∀ a, (k0_off16 v157) a + S1x128.size a ≤ S45000x128.size a := fun v157 k0_hw6 => k0_hw6

def k0_off17 (k0_t2 : Fin k0_t2_loop.trips) (v19 : BitVec 32) (k0_t3 : Fin (k0_t3_loop v19).trips) : Fin 3 → Nat :=
  let c0_50 : Index := 0#32
  let c0_i32_6 : BitVec 32 := 0#32
  let c1_i32 : BitVec 32 := 1#32
  let arg15 : BitVec 32 := Scf.iv c0_i32_6 c1_i32 k0_t2
  let v179 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c5_i32_49 : BitVec 32 := 5#32
  let v178 : BitVec 32 := Scalar.addi v44 c5_i32_49
  let v180 : Index := Scalar.indexCast v178
  ![0, v179.toNat, v180.toNat]
def k0_off18 (v181 : BitVec 32) : Fin 2 → Nat :=
  let v182 : Index := Scalar.indexCast v181
  let c0_51 : Index := 0#32
  ![v182.toNat, 0]

def k0_chk7 (v181 : BitVec 32) : Prop :=
  (∀ a, (k0_off18 v181) a + S1x128.size a ≤ S45000x128.size a)
theorem k0_off18_inb : ∀ (v181 : BitVec 32) (k0_hw7 : k0_chk7 v181), ∀ a, (k0_off18 v181) a + S1x128.size a ≤ S45000x128.size a := fun v181 k0_hw7 => k0_hw7

def k0_off19 (k0_t2 : Fin k0_t2_loop.trips) (v19 : BitVec 32) (k0_t3 : Fin (k0_t3_loop v19).trips) : Fin 3 → Nat :=
  let c0_55 : Index := 0#32
  let c0_i32_6 : BitVec 32 := 0#32
  let c1_i32 : BitVec 32 := 1#32
  let arg15 : BitVec 32 := Scf.iv c0_i32_6 c1_i32 k0_t2
  let v203 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c6_i32_54 : BitVec 32 := 6#32
  let v202 : BitVec 32 := Scalar.addi v44 c6_i32_54
  let v204 : Index := Scalar.indexCast v202
  ![0, v203.toNat, v204.toNat]
def k0_off20 (v205 : BitVec 32) : Fin 2 → Nat :=
  let v206 : Index := Scalar.indexCast v205
  let c0_56 : Index := 0#32
  ![v206.toNat, 0]

def k0_chk8 (v205 : BitVec 32) : Prop :=
  (∀ a, (k0_off20 v205) a + S1x128.size a ≤ S45000x128.size a)
theorem k0_off20_inb : ∀ (v205 : BitVec 32) (k0_hw8 : k0_chk8 v205), ∀ a, (k0_off20 v205) a + S1x128.size a ≤ S45000x128.size a := fun v205 k0_hw8 => k0_hw8

def k0_off21 (k0_t2 : Fin k0_t2_loop.trips) (v19 : BitVec 32) (k0_t3 : Fin (k0_t3_loop v19).trips) : Fin 3 → Nat :=
  let c0_61 : Index := 0#32
  let c0_i32_6 : BitVec 32 := 0#32
  let c1_i32 : BitVec 32 := 1#32
  let arg15 : BitVec 32 := Scf.iv c0_i32_6 c1_i32 k0_t2
  let v227 : Index := Scalar.indexCast arg15
  let c0_i32_12 : BitVec 32 := 0#32
  let c1_i32_15 : BitVec 32 := 1#32
  let arg16 : BitVec 32 := Scf.iv c0_i32_12 c1_i32_15 k0_t3
  let c8_i32_19 : BitVec 32 := 8#32
  let v44 : BitVec 32 := Scalar.muli arg16 c8_i32_19
  let c7_i32_60 : BitVec 32 := 7#32
  let v226 : BitVec 32 := Scalar.addi v44 c7_i32_60
  let v228 : Index := Scalar.indexCast v226
  ![0, v227.toNat, v228.toNat]
def k0_off22 (v229 : BitVec 32) : Fin 2 → Nat :=
  let v230 : Index := Scalar.indexCast v229
  let c0_62 : Index := 0#32
  ![v230.toNat, 0]

def k0_chk9 (v229 : BitVec 32) : Prop :=
  (∀ a, (k0_off22 v229) a + S1x128.size a ≤ S45000x128.size a)
theorem k0_off22_inb : ∀ (v229 : BitVec 32) (k0_hw9 : k0_chk9 v229), ∀ a, (k0_off22 v229) a + S1x128.size a ≤ S45000x128.size a := fun v229 k0_hw9 => k0_hw9

@[reducible] def k0_t4_loop (v19 : BitVec 32) : Scf.Loop 32 :=
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let v34 : BitVec 32 := Scalar.addi c0_i32_12 v33
  let c1_i32_16 : BitVec 32 := 1#32
  ⟨v37, v34, c1_i32_16⟩
def k0_off23 (k0_t2 : Fin k0_t2_loop.trips) (v19 : BitVec 32) (k0_t4 : Fin (k0_t4_loop v19).trips) : Fin 4 → Nat :=
  let c0_17 : Index := 0#32
  let c0_i32_6 : BitVec 32 := 0#32
  let c1_i32 : BitVec 32 := 1#32
  let arg15 : BitVec 32 := Scf.iv c0_i32_6 c1_i32 k0_t2
  let v40 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let v41 : Index := Scalar.indexCast arg16
  let c0_18 : Index := 0#32
  ![0, v40.toNat, v41.toNat, 0]
def k0_off24 (k0_t2 : Fin k0_t2_loop.trips) (v19 : BitVec 32) (k0_t4 : Fin (k0_t4_loop v19).trips) : Fin 3 → Nat :=
  let c0_23 : Index := 0#32
  let c0_i32_6 : BitVec 32 := 0#32
  let c1_i32 : BitVec 32 := 1#32
  let arg15 : BitVec 32 := Scf.iv c0_i32_6 c1_i32 k0_t2
  let v59 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c0_i32_22 : BitVec 32 := 0#32
  let v58 : BitVec 32 := Scalar.addi v44 c0_i32_22
  let v60 : Index := Scalar.indexCast v58
  ![0, v59.toNat, v60.toNat]
def k0_off25 (v61 : BitVec 32) : Fin 2 → Nat :=
  let v62 : Index := Scalar.indexCast v61
  let c0_24 : Index := 0#32
  ![v62.toNat, 0]

def k0_chk10 (v61 : BitVec 32) : Prop :=
  (∀ a, (k0_off25 v61) a + S1x128.size a ≤ S45000x128.size a)
theorem k0_off25_inb : ∀ (v61 : BitVec 32) (k0_hw10 : k0_chk10 v61), ∀ a, (k0_off25 v61) a + S1x128.size a ≤ S45000x128.size a := fun v61 k0_hw10 => k0_hw10

def k0_off26 (k0_t2 : Fin k0_t2_loop.trips) (v19 : BitVec 32) (k0_t4 : Fin (k0_t4_loop v19).trips) : Fin 3 → Nat :=
  let c0_29 : Index := 0#32
  let c0_i32_6 : BitVec 32 := 0#32
  let c1_i32 : BitVec 32 := 1#32
  let arg15 : BitVec 32 := Scf.iv c0_i32_6 c1_i32 k0_t2
  let v83 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c1_i32_28 : BitVec 32 := 1#32
  let v82 : BitVec 32 := Scalar.addi v44 c1_i32_28
  let v84 : Index := Scalar.indexCast v82
  ![0, v83.toNat, v84.toNat]
def k0_off27 (v85 : BitVec 32) : Fin 2 → Nat :=
  let v86 : Index := Scalar.indexCast v85
  let c0_30 : Index := 0#32
  ![v86.toNat, 0]

def k0_chk11 (v85 : BitVec 32) : Prop :=
  (∀ a, (k0_off27 v85) a + S1x128.size a ≤ S45000x128.size a)
theorem k0_off27_inb : ∀ (v85 : BitVec 32) (k0_hw11 : k0_chk11 v85), ∀ a, (k0_off27 v85) a + S1x128.size a ≤ S45000x128.size a := fun v85 k0_hw11 => k0_hw11

def k0_off28 (k0_t2 : Fin k0_t2_loop.trips) (v19 : BitVec 32) (k0_t4 : Fin (k0_t4_loop v19).trips) : Fin 3 → Nat :=
  let c0_34 : Index := 0#32
  let c0_i32_6 : BitVec 32 := 0#32
  let c1_i32 : BitVec 32 := 1#32
  let arg15 : BitVec 32 := Scf.iv c0_i32_6 c1_i32 k0_t2
  let v107 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c2_i32_33 : BitVec 32 := 2#32
  let v106 : BitVec 32 := Scalar.addi v44 c2_i32_33
  let v108 : Index := Scalar.indexCast v106
  ![0, v107.toNat, v108.toNat]
def k0_off29 (v109 : BitVec 32) : Fin 2 → Nat :=
  let v110 : Index := Scalar.indexCast v109
  let c0_35 : Index := 0#32
  ![v110.toNat, 0]

def k0_chk12 (v109 : BitVec 32) : Prop :=
  (∀ a, (k0_off29 v109) a + S1x128.size a ≤ S45000x128.size a)
theorem k0_off29_inb : ∀ (v109 : BitVec 32) (k0_hw12 : k0_chk12 v109), ∀ a, (k0_off29 v109) a + S1x128.size a ≤ S45000x128.size a := fun v109 k0_hw12 => k0_hw12

def k0_off30 (k0_t2 : Fin k0_t2_loop.trips) (v19 : BitVec 32) (k0_t4 : Fin (k0_t4_loop v19).trips) : Fin 3 → Nat :=
  let c0_39 : Index := 0#32
  let c0_i32_6 : BitVec 32 := 0#32
  let c1_i32 : BitVec 32 := 1#32
  let arg15 : BitVec 32 := Scf.iv c0_i32_6 c1_i32 k0_t2
  let v131 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c3_i32_38 : BitVec 32 := 3#32
  let v130 : BitVec 32 := Scalar.addi v44 c3_i32_38
  let v132 : Index := Scalar.indexCast v130
  ![0, v131.toNat, v132.toNat]
def k0_off31 (v133 : BitVec 32) : Fin 2 → Nat :=
  let v134 : Index := Scalar.indexCast v133
  let c0_40 : Index := 0#32
  ![v134.toNat, 0]

def k0_chk13 (v133 : BitVec 32) : Prop :=
  (∀ a, (k0_off31 v133) a + S1x128.size a ≤ S45000x128.size a)
theorem k0_off31_inb : ∀ (v133 : BitVec 32) (k0_hw13 : k0_chk13 v133), ∀ a, (k0_off31 v133) a + S1x128.size a ≤ S45000x128.size a := fun v133 k0_hw13 => k0_hw13

def k0_off32 (k0_t2 : Fin k0_t2_loop.trips) (v19 : BitVec 32) (k0_t4 : Fin (k0_t4_loop v19).trips) : Fin 3 → Nat :=
  let c0_45 : Index := 0#32
  let c0_i32_6 : BitVec 32 := 0#32
  let c1_i32 : BitVec 32 := 1#32
  let arg15 : BitVec 32 := Scf.iv c0_i32_6 c1_i32 k0_t2
  let v155 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c4_i32_44 : BitVec 32 := 4#32
  let v154 : BitVec 32 := Scalar.addi v44 c4_i32_44
  let v156 : Index := Scalar.indexCast v154
  ![0, v155.toNat, v156.toNat]
def k0_off33 (v157 : BitVec 32) : Fin 2 → Nat :=
  let v158 : Index := Scalar.indexCast v157
  let c0_46 : Index := 0#32
  ![v158.toNat, 0]

def k0_chk14 (v157 : BitVec 32) : Prop :=
  (∀ a, (k0_off33 v157) a + S1x128.size a ≤ S45000x128.size a)
theorem k0_off33_inb : ∀ (v157 : BitVec 32) (k0_hw14 : k0_chk14 v157), ∀ a, (k0_off33 v157) a + S1x128.size a ≤ S45000x128.size a := fun v157 k0_hw14 => k0_hw14

def k0_off34 (k0_t2 : Fin k0_t2_loop.trips) (v19 : BitVec 32) (k0_t4 : Fin (k0_t4_loop v19).trips) : Fin 3 → Nat :=
  let c0_50 : Index := 0#32
  let c0_i32_6 : BitVec 32 := 0#32
  let c1_i32 : BitVec 32 := 1#32
  let arg15 : BitVec 32 := Scf.iv c0_i32_6 c1_i32 k0_t2
  let v179 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c5_i32_49 : BitVec 32 := 5#32
  let v178 : BitVec 32 := Scalar.addi v44 c5_i32_49
  let v180 : Index := Scalar.indexCast v178
  ![0, v179.toNat, v180.toNat]
def k0_off35 (v181 : BitVec 32) : Fin 2 → Nat :=
  let v182 : Index := Scalar.indexCast v181
  let c0_51 : Index := 0#32
  ![v182.toNat, 0]

def k0_chk15 (v181 : BitVec 32) : Prop :=
  (∀ a, (k0_off35 v181) a + S1x128.size a ≤ S45000x128.size a)
theorem k0_off35_inb : ∀ (v181 : BitVec 32) (k0_hw15 : k0_chk15 v181), ∀ a, (k0_off35 v181) a + S1x128.size a ≤ S45000x128.size a := fun v181 k0_hw15 => k0_hw15

def k0_off36 (k0_t2 : Fin k0_t2_loop.trips) (v19 : BitVec 32) (k0_t4 : Fin (k0_t4_loop v19).trips) : Fin 3 → Nat :=
  let c0_55 : Index := 0#32
  let c0_i32_6 : BitVec 32 := 0#32
  let c1_i32 : BitVec 32 := 1#32
  let arg15 : BitVec 32 := Scf.iv c0_i32_6 c1_i32 k0_t2
  let v203 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c6_i32_54 : BitVec 32 := 6#32
  let v202 : BitVec 32 := Scalar.addi v44 c6_i32_54
  let v204 : Index := Scalar.indexCast v202
  ![0, v203.toNat, v204.toNat]
def k0_off37 (v205 : BitVec 32) : Fin 2 → Nat :=
  let v206 : Index := Scalar.indexCast v205
  let c0_56 : Index := 0#32
  ![v206.toNat, 0]

def k0_chk16 (v205 : BitVec 32) : Prop :=
  (∀ a, (k0_off37 v205) a + S1x128.size a ≤ S45000x128.size a)
theorem k0_off37_inb : ∀ (v205 : BitVec 32) (k0_hw16 : k0_chk16 v205), ∀ a, (k0_off37 v205) a + S1x128.size a ≤ S45000x128.size a := fun v205 k0_hw16 => k0_hw16

def k0_off38 (k0_t2 : Fin k0_t2_loop.trips) (v19 : BitVec 32) (k0_t4 : Fin (k0_t4_loop v19).trips) : Fin 3 → Nat :=
  let c0_61 : Index := 0#32
  let c0_i32_6 : BitVec 32 := 0#32
  let c1_i32 : BitVec 32 := 1#32
  let arg15 : BitVec 32 := Scf.iv c0_i32_6 c1_i32 k0_t2
  let v227 : Index := Scalar.indexCast arg15
  let c0_i32_12 : BitVec 32 := 0#32
  let c7_i32 : BitVec 32 := 7#32
  let v31 : BitVec 32 := Scalar.addi v19 c7_i32
  let c8_i32 : BitVec 32 := 8#32
  let v32 : BitVec 32 := Scalar.divsi v31 c8_i32
  let v33 : BitVec 32 := Scalar.subi v32 c0_i32_12
  let c1_i32_14 : BitVec 32 := 1#32
  let v35 : BitVec 32 := Scalar.divsi v33 c1_i32_14
  let v36 : BitVec 32 := Scalar.muli v35 c1_i32_14
  let v37 : BitVec 32 := Scalar.addi c0_i32_12 v36
  let c1_i32_16 : BitVec 32 := 1#32
  let arg16 : BitVec 32 := Scf.iv v37 c1_i32_16 k0_t4
  let c8_i32_19 : BitVec 32 := 8#32
  let v44 : BitVec 32 := Scalar.muli arg16 c8_i32_19
  let c7_i32_60 : BitVec 32 := 7#32
  let v226 : BitVec 32 := Scalar.addi v44 c7_i32_60
  let v228 : Index := Scalar.indexCast v226
  ![0, v227.toNat, v228.toNat]

def k0_chk1 (k0_t2 : Fin k0_t2_loop.trips) (v19 : BitVec 32) : Prop :=
  ((k0_t3_loop v19).OK) ∧
  (∀ k0_t3 : Fin (k0_t3_loop v19).trips, ∀ a, (k0_off6 k0_t2 v19 k0_t3) a + S1x1x1x128.size a ≤ S1x32x48x128.size a) ∧
  (∀ k0_t3 : Fin (k0_t3_loop v19).trips, ∀ a, (k0_off7 k0_t2 v19 k0_t3) a + S1x1x1.size a ≤ S1x32x384.size a) ∧
  (∀ k0_t3 : Fin (k0_t3_loop v19).trips, ∀ a, (k0_off9 k0_t2 v19 k0_t3) a + S1x1x1.size a ≤ S1x32x384.size a) ∧
  (∀ k0_t3 : Fin (k0_t3_loop v19).trips, ∀ a, (k0_off11 k0_t2 v19 k0_t3) a + S1x1x1.size a ≤ S1x32x384.size a) ∧
  (∀ k0_t3 : Fin (k0_t3_loop v19).trips, ∀ a, (k0_off13 k0_t2 v19 k0_t3) a + S1x1x1.size a ≤ S1x32x384.size a) ∧
  (∀ k0_t3 : Fin (k0_t3_loop v19).trips, ∀ a, (k0_off15 k0_t2 v19 k0_t3) a + S1x1x1.size a ≤ S1x32x384.size a) ∧
  (∀ k0_t3 : Fin (k0_t3_loop v19).trips, ∀ a, (k0_off17 k0_t2 v19 k0_t3) a + S1x1x1.size a ≤ S1x32x384.size a) ∧
  (∀ k0_t3 : Fin (k0_t3_loop v19).trips, ∀ a, (k0_off19 k0_t2 v19 k0_t3) a + S1x1x1.size a ≤ S1x32x384.size a) ∧
  (∀ k0_t3 : Fin (k0_t3_loop v19).trips, ∀ a, (k0_off21 k0_t2 v19 k0_t3) a + S1x1x1.size a ≤ S1x32x384.size a) ∧
  ((k0_t4_loop v19).OK) ∧
  (∀ k0_t4 : Fin (k0_t4_loop v19).trips, ∀ a, (k0_off23 k0_t2 v19 k0_t4) a + S1x1x1x128.size a ≤ S1x32x48x128.size a) ∧
  (∀ k0_t4 : Fin (k0_t4_loop v19).trips, ∀ a, (k0_off24 k0_t2 v19 k0_t4) a + S1x1x1.size a ≤ S1x32x384.size a) ∧
  (∀ k0_t4 : Fin (k0_t4_loop v19).trips, ∀ a, (k0_off26 k0_t2 v19 k0_t4) a + S1x1x1.size a ≤ S1x32x384.size a) ∧
  (∀ k0_t4 : Fin (k0_t4_loop v19).trips, ∀ a, (k0_off28 k0_t2 v19 k0_t4) a + S1x1x1.size a ≤ S1x32x384.size a) ∧
  (∀ k0_t4 : Fin (k0_t4_loop v19).trips, ∀ a, (k0_off30 k0_t2 v19 k0_t4) a + S1x1x1.size a ≤ S1x32x384.size a) ∧
  (∀ k0_t4 : Fin (k0_t4_loop v19).trips, ∀ a, (k0_off32 k0_t2 v19 k0_t4) a + S1x1x1.size a ≤ S1x32x384.size a) ∧
  (∀ k0_t4 : Fin (k0_t4_loop v19).trips, ∀ a, (k0_off34 k0_t2 v19 k0_t4) a + S1x1x1.size a ≤ S1x32x384.size a) ∧
  (∀ k0_t4 : Fin (k0_t4_loop v19).trips, ∀ a, (k0_off36 k0_t2 v19 k0_t4) a + S1x1x1.size a ≤ S1x32x384.size a) ∧
  (∀ k0_t4 : Fin (k0_t4_loop v19).trips, ∀ a, (k0_off38 k0_t2 v19 k0_t4) a + S1x1x1.size a ≤ S1x32x384.size a)
theorem k0_t3_ok : ∀ (k0_t2 : Fin k0_t2_loop.trips) (v19 : BitVec 32) (k0_hw1 : k0_chk1 k0_t2 v19), (k0_t3_loop v19).OK := fun k0_t2 v19 k0_hw1 => k0_hw1.1
theorem k0_off6_inb : ∀ (k0_t2 : Fin k0_t2_loop.trips) (v19 : BitVec 32) (k0_hw1 : k0_chk1 k0_t2 v19) (k0_t3 : Fin (k0_t3_loop v19).trips), ∀ a, (k0_off6 k0_t2 v19 k0_t3) a + S1x1x1x128.size a ≤ S1x32x48x128.size a := fun k0_t2 v19 k0_hw1 k0_t3 => k0_hw1.2.1 k0_t3
theorem k0_off7_inb : ∀ (k0_t2 : Fin k0_t2_loop.trips) (v19 : BitVec 32) (k0_hw1 : k0_chk1 k0_t2 v19) (k0_t3 : Fin (k0_t3_loop v19).trips), ∀ a, (k0_off7 k0_t2 v19 k0_t3) a + S1x1x1.size a ≤ S1x32x384.size a := fun k0_t2 v19 k0_hw1 k0_t3 => k0_hw1.2.2.1 k0_t3
theorem k0_off9_inb : ∀ (k0_t2 : Fin k0_t2_loop.trips) (v19 : BitVec 32) (k0_hw1 : k0_chk1 k0_t2 v19) (k0_t3 : Fin (k0_t3_loop v19).trips), ∀ a, (k0_off9 k0_t2 v19 k0_t3) a + S1x1x1.size a ≤ S1x32x384.size a := fun k0_t2 v19 k0_hw1 k0_t3 => k0_hw1.2.2.2.1 k0_t3
theorem k0_off11_inb : ∀ (k0_t2 : Fin k0_t2_loop.trips) (v19 : BitVec 32) (k0_hw1 : k0_chk1 k0_t2 v19) (k0_t3 : Fin (k0_t3_loop v19).trips), ∀ a, (k0_off11 k0_t2 v19 k0_t3) a + S1x1x1.size a ≤ S1x32x384.size a := fun k0_t2 v19 k0_hw1 k0_t3 => k0_hw1.2.2.2.2.1 k0_t3
theorem k0_off13_inb : ∀ (k0_t2 : Fin k0_t2_loop.trips) (v19 : BitVec 32) (k0_hw1 : k0_chk1 k0_t2 v19) (k0_t3 : Fin (k0_t3_loop v19).trips), ∀ a, (k0_off13 k0_t2 v19 k0_t3) a + S1x1x1.size a ≤ S1x32x384.size a := fun k0_t2 v19 k0_hw1 k0_t3 => k0_hw1.2.2.2.2.2.1 k0_t3
theorem k0_off15_inb : ∀ (k0_t2 : Fin k0_t2_loop.trips) (v19 : BitVec 32) (k0_hw1 : k0_chk1 k0_t2 v19) (k0_t3 : Fin (k0_t3_loop v19).trips), ∀ a, (k0_off15 k0_t2 v19 k0_t3) a + S1x1x1.size a ≤ S1x32x384.size a := fun k0_t2 v19 k0_hw1 k0_t3 => k0_hw1.2.2.2.2.2.2.1 k0_t3
theorem k0_off17_inb : ∀ (k0_t2 : Fin k0_t2_loop.trips) (v19 : BitVec 32) (k0_hw1 : k0_chk1 k0_t2 v19) (k0_t3 : Fin (k0_t3_loop v19).trips), ∀ a, (k0_off17 k0_t2 v19 k0_t3) a + S1x1x1.size a ≤ S1x32x384.size a := fun k0_t2 v19 k0_hw1 k0_t3 => k0_hw1.2.2.2.2.2.2.2.1 k0_t3
theorem k0_off19_inb : ∀ (k0_t2 : Fin k0_t2_loop.trips) (v19 : BitVec 32) (k0_hw1 : k0_chk1 k0_t2 v19) (k0_t3 : Fin (k0_t3_loop v19).trips), ∀ a, (k0_off19 k0_t2 v19 k0_t3) a + S1x1x1.size a ≤ S1x32x384.size a := fun k0_t2 v19 k0_hw1 k0_t3 => k0_hw1.2.2.2.2.2.2.2.2.1 k0_t3
theorem k0_off21_inb : ∀ (k0_t2 : Fin k0_t2_loop.trips) (v19 : BitVec 32) (k0_hw1 : k0_chk1 k0_t2 v19) (k0_t3 : Fin (k0_t3_loop v19).trips), ∀ a, (k0_off21 k0_t2 v19 k0_t3) a + S1x1x1.size a ≤ S1x32x384.size a := fun k0_t2 v19 k0_hw1 k0_t3 => k0_hw1.2.2.2.2.2.2.2.2.2.1 k0_t3
theorem k0_t4_ok : ∀ (k0_t2 : Fin k0_t2_loop.trips) (v19 : BitVec 32) (k0_hw1 : k0_chk1 k0_t2 v19), (k0_t4_loop v19).OK := fun k0_t2 v19 k0_hw1 => k0_hw1.2.2.2.2.2.2.2.2.2.2.1
theorem k0_off23_inb : ∀ (k0_t2 : Fin k0_t2_loop.trips) (v19 : BitVec 32) (k0_hw1 : k0_chk1 k0_t2 v19) (k0_t4 : Fin (k0_t4_loop v19).trips), ∀ a, (k0_off23 k0_t2 v19 k0_t4) a + S1x1x1x128.size a ≤ S1x32x48x128.size a := fun k0_t2 v19 k0_hw1 k0_t4 => k0_hw1.2.2.2.2.2.2.2.2.2.2.2.1 k0_t4
theorem k0_off24_inb : ∀ (k0_t2 : Fin k0_t2_loop.trips) (v19 : BitVec 32) (k0_hw1 : k0_chk1 k0_t2 v19) (k0_t4 : Fin (k0_t4_loop v19).trips), ∀ a, (k0_off24 k0_t2 v19 k0_t4) a + S1x1x1.size a ≤ S1x32x384.size a := fun k0_t2 v19 k0_hw1 k0_t4 => k0_hw1.2.2.2.2.2.2.2.2.2.2.2.2.1 k0_t4
theorem k0_off26_inb : ∀ (k0_t2 : Fin k0_t2_loop.trips) (v19 : BitVec 32) (k0_hw1 : k0_chk1 k0_t2 v19) (k0_t4 : Fin (k0_t4_loop v19).trips), ∀ a, (k0_off26 k0_t2 v19 k0_t4) a + S1x1x1.size a ≤ S1x32x384.size a := fun k0_t2 v19 k0_hw1 k0_t4 => k0_hw1.2.2.2.2.2.2.2.2.2.2.2.2.2.1 k0_t4
theorem k0_off28_inb : ∀ (k0_t2 : Fin k0_t2_loop.trips) (v19 : BitVec 32) (k0_hw1 : k0_chk1 k0_t2 v19) (k0_t4 : Fin (k0_t4_loop v19).trips), ∀ a, (k0_off28 k0_t2 v19 k0_t4) a + S1x1x1.size a ≤ S1x32x384.size a := fun k0_t2 v19 k0_hw1 k0_t4 => k0_hw1.2.2.2.2.2.2.2.2.2.2.2.2.2.2.1 k0_t4
theorem k0_off30_inb : ∀ (k0_t2 : Fin k0_t2_loop.trips) (v19 : BitVec 32) (k0_hw1 : k0_chk1 k0_t2 v19) (k0_t4 : Fin (k0_t4_loop v19).trips), ∀ a, (k0_off30 k0_t2 v19 k0_t4) a + S1x1x1.size a ≤ S1x32x384.size a := fun k0_t2 v19 k0_hw1 k0_t4 => k0_hw1.2.2.2.2.2.2.2.2.2.2.2.2.2.2.2.1 k0_t4
theorem k0_off32_inb : ∀ (k0_t2 : Fin k0_t2_loop.trips) (v19 : BitVec 32) (k0_hw1 : k0_chk1 k0_t2 v19) (k0_t4 : Fin (k0_t4_loop v19).trips), ∀ a, (k0_off32 k0_t2 v19 k0_t4) a + S1x1x1.size a ≤ S1x32x384.size a := fun k0_t2 v19 k0_hw1 k0_t4 => k0_hw1.2.2.2.2.2.2.2.2.2.2.2.2.2.2.2.2.1 k0_t4
theorem k0_off34_inb : ∀ (k0_t2 : Fin k0_t2_loop.trips) (v19 : BitVec 32) (k0_hw1 : k0_chk1 k0_t2 v19) (k0_t4 : Fin (k0_t4_loop v19).trips), ∀ a, (k0_off34 k0_t2 v19 k0_t4) a + S1x1x1.size a ≤ S1x32x384.size a := fun k0_t2 v19 k0_hw1 k0_t4 => k0_hw1.2.2.2.2.2.2.2.2.2.2.2.2.2.2.2.2.2.1 k0_t4
theorem k0_off36_inb : ∀ (k0_t2 : Fin k0_t2_loop.trips) (v19 : BitVec 32) (k0_hw1 : k0_chk1 k0_t2 v19) (k0_t4 : Fin (k0_t4_loop v19).trips), ∀ a, (k0_off36 k0_t2 v19 k0_t4) a + S1x1x1.size a ≤ S1x32x384.size a := fun k0_t2 v19 k0_hw1 k0_t4 => k0_hw1.2.2.2.2.2.2.2.2.2.2.2.2.2.2.2.2.2.2.1 k0_t4
theorem k0_off38_inb : ∀ (k0_t2 : Fin k0_t2_loop.trips) (v19 : BitVec 32) (k0_hw1 : k0_chk1 k0_t2 v19) (k0_t4 : Fin (k0_t4_loop v19).trips), ∀ a, (k0_off38 k0_t2 v19 k0_t4) a + S1x1x1.size a ≤ S1x32x384.size a := fun k0_t2 v19 k0_hw1 k0_t4 => k0_hw1.2.2.2.2.2.2.2.2.2.2.2.2.2.2.2.2.2.2.2 k0_t4

def k0_off39 (v229 : BitVec 32) : Fin 2 → Nat :=
  let v230 : Index := Scalar.indexCast v229
  let c0_62 : Index := 0#32
  ![v230.toNat, 0]

def k0_chk17 (v229 : BitVec 32) : Prop :=
  (∀ a, (k0_off39 v229) a + S1x128.size a ≤ S45000x128.size a)
theorem k0_off39_inb : ∀ (v229 : BitVec 32) (k0_hw17 : k0_chk17 v229), ∀ a, (k0_off39 v229) a + S1x128.size a ≤ S45000x128.size a := fun v229 k0_hw17 => k0_hw17

def k0_cond3 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_8 : BitVec 32 := 0#32
  let v14 : BitVec 1 := Scalar.cmpi .ne v13 c0_i32_8
  v14

def k0_off40 (i : grid0.Coords) : Fin 3 → Nat :=
  let arg0 : BitVec 32 := BitVec.ofNat 32 (i 0).val
  let c0_i32_9 : BitVec 32 := 0#32
  let c0_i32_10 : BitVec 32 := 0#32
  ![arg0.toNat, 0, 0]
@[reducible] def k0_t5_loop : Scf.Loop 32 :=
  let c0_i32_11 : BitVec 32 := 0#32
  let c45_i32 : BitVec 32 := 45#32
  let v18 : BitVec 32 := Scalar.addi c0_i32_11 c45_i32
  let c1_i32_12 : BitVec 32 := 1#32
  ⟨c0_i32_11, v18, c1_i32_12⟩
def k0_cond4 (k0_t5 : Fin k0_t5_loop.trips) : BitVec 1 :=
  let c0_i32_11 : BitVec 32 := 0#32
  let c1_i32_12 : BitVec 32 := 1#32
  let arg15 : BitVec 32 := Scf.iv c0_i32_11 c1_i32_12 k0_t5
  let c3_i32_29 : BitVec 32 := 3#32
  let v41 : BitVec 1 := Scalar.cmpi .sge arg15 c3_i32_29
  let v42 : BitVec 32 := Scalar.extui v41
  let c0_i32_30 : BitVec 32 := 0#32
  let v43 : BitVec 1 := Scalar.cmpi .ne v42 c0_i32_30
  v43

def k0_off41 (k0_t5 : Fin k0_t5_loop.trips) : Fin 1 → Nat :=
  let c0_i32_11 : BitVec 32 := 0#32
  let c1_i32_12 : BitVec 32 := 1#32
  let arg15 : BitVec 32 := Scf.iv c0_i32_11 c1_i32_12 k0_t5
  let c3_i32 : BitVec 32 := 3#32
  let v40 : BitVec 32 := Scalar.remsi arg15 c3_i32
  ![v40.toNat]
def k0_off42 (i : grid0.Coords) (k0_t5 : Fin k0_t5_loop.trips) : Fin 3 → Nat :=
  let arg0 : BitVec 32 := BitVec.ofNat 32 (i 0).val
  let c0_i32_11 : BitVec 32 := 0#32
  let c1_i32_12 : BitVec 32 := 1#32
  let arg15 : BitVec 32 := Scf.iv c0_i32_11 c1_i32_12 k0_t5
  let c3_i32_38 : BitVec 32 := 3#32
  let v62 : BitVec 32 := Scalar.subi arg15 c3_i32_38
  let c1000_i32_39 : BitVec 32 := 1000#32
  let v63 : BitVec 32 := Scalar.muli v62 c1000_i32_39
  let c0_i32_40 : BitVec 32 := 0#32
  ![arg0.toNat, v63.toNat, 0]
def k0_off43 (k0_t5 : Fin k0_t5_loop.trips) : Fin 3 → Nat :=
  let c0_i32_11 : BitVec 32 := 0#32
  let c1_i32_12 : BitVec 32 := 1#32
  let arg15 : BitVec 32 := Scf.iv c0_i32_11 c1_i32_12 k0_t5
  let c3_i32 : BitVec 32 := 3#32
  let v40 : BitVec 32 := Scalar.remsi arg15 c3_i32
  let c0_i32_41 : BitVec 32 := 0#32
  let c0_i32_42 : BitVec 32 := 0#32
  ![v40.toNat, 0, 0]
def k0_mult2 (k0_t5 : Fin k0_t5_loop.trips) : BitVec 32 :=
  let c0_i32_11 : BitVec 32 := 0#32
  let c1_i32_12 : BitVec 32 := 1#32
  let arg15 : BitVec 32 := Scf.iv c0_i32_11 c1_i32_12 k0_t5
  let c1000_i32 : BitVec 32 := 1000#32
  let v44 : BitVec 32 := Scalar.muli arg15 c1000_i32
  v44
def k0_off44 (k0_t5 : Fin k0_t5_loop.trips) : Fin 2 → Nat :=
  let c0_i32_11 : BitVec 32 := 0#32
  let c1_i32_12 : BitVec 32 := 1#32
  let arg15 : BitVec 32 := Scf.iv c0_i32_11 c1_i32_12 k0_t5
  let c1000_i32 : BitVec 32 := 1000#32
  let v44 : BitVec 32 := Scalar.muli arg15 c1000_i32
  let v45 : BitVec 32 := v44
  let v46 : Index := Scalar.indexCast v45
  let c0_31 : Index := 0#32
  ![v46.toNat, 0]
def k0_off45 (k0_t5 : Fin k0_t5_loop.trips) : Fin 3 → Nat :=
  let c0_i32_11 : BitVec 32 := 0#32
  let c1_i32_12 : BitVec 32 := 1#32
  let arg15 : BitVec 32 := Scf.iv c0_i32_11 c1_i32_12 k0_t5
  let c3_i32 : BitVec 32 := 3#32
  let v40 : BitVec 32 := Scalar.remsi arg15 c3_i32
  let v51 : Index := Scalar.indexCast v40
  let c0_32 : Index := 0#32
  let c0_33 : Index := 0#32
  ![v51.toNat, 0, 0]
def k0_off46 (k0_t5 : Fin k0_t5_loop.trips) : Fin 1 → Nat :=
  let c0_i32_11 : BitVec 32 := 0#32
  let c1_i32_12 : BitVec 32 := 1#32
  let arg15 : BitVec 32 := Scf.iv c0_i32_11 c1_i32_12 k0_t5
  let c3_i32 : BitVec 32 := 3#32
  let v40 : BitVec 32 := Scalar.remsi arg15 c3_i32
  ![v40.toNat]
def k0_off47 (i : grid0.Coords) (k0_t5 : Fin k0_t5_loop.trips) : Fin 3 → Nat :=
  let arg0 : BitVec 32 := BitVec.ofNat 32 (i 0).val
  let c0_i32_11 : BitVec 32 := 0#32
  let c1_i32_12 : BitVec 32 := 1#32
  let arg15 : BitVec 32 := Scf.iv c0_i32_11 c1_i32_12 k0_t5
  let c1000_i32_34 : BitVec 32 := 1000#32
  let v55 : BitVec 32 := Scalar.muli arg15 c1000_i32_34
  let c0_i32_35 : BitVec 32 := 0#32
  ![arg0.toNat, v55.toNat, 0]
def k0_off48 (k0_t5 : Fin k0_t5_loop.trips) : Fin 3 → Nat :=
  let c0_i32_11 : BitVec 32 := 0#32
  let c1_i32_12 : BitVec 32 := 1#32
  let arg15 : BitVec 32 := Scf.iv c0_i32_11 c1_i32_12 k0_t5
  let c3_i32 : BitVec 32 := 3#32
  let v40 : BitVec 32 := Scalar.remsi arg15 c3_i32
  let c0_i32_36 : BitVec 32 := 0#32
  let c0_i32_37 : BitVec 32 := 0#32
  ![v40.toNat, 0, 0]
def k0_off49 (i : grid0.Coords) : Fin 3 → Nat :=
  let arg0 : BitVec 32 := BitVec.ofNat 32 (i 0).val
  let c42000_i32 : BitVec 32 := 42000#32
  let c0_i32_16 : BitVec 32 := 0#32
  ![arg0.toNat, 42000, 0]
def k0_off50 (i : grid0.Coords) : Fin 3 → Nat :=
  let arg0 : BitVec 32 := BitVec.ofNat 32 (i 0).val
  let c43000_i32 : BitVec 32 := 43000#32
  let c0_i32_21 : BitVec 32 := 0#32
  ![arg0.toNat, 43000, 0]
def k0_off51 (i : grid0.Coords) : Fin 3 → Nat :=
  let arg0 : BitVec 32 := BitVec.ofNat 32 (i 0).val
  let c44000_i32 : BitVec 32 := 44000#32
  let c0_i32_25 : BitVec 32 := 0#32
  ![arg0.toNat, 44000, 0]
def k0_cond5 (i : grid0.Coords) : BitVec 1 :=
  let arg0 : BitVec 32 := BitVec.ofNat 32 (i 0).val
  let c11_i32 : BitVec 32 := 11#32
  let v37 : BitVec 1 := Scalar.cmpi .eq arg0 c11_i32
  let v38 : BitVec 32 := Scalar.extui v37
  let c0_i32_28 : BitVec 32 := 0#32
  let v39 : BitVec 1 := Scalar.cmpi .ne v38 c0_i32_28
  v39

def k0_off52 (i : grid0.Coords) : Fin 3 → Nat :=
  let arg0 : BitVec 32 := BitVec.ofNat 32 (i 0).val
  let c0_i32_29 : BitVec 32 := 0#32
  let c0_i32_30 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S12x160 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S12x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .smem S1x32x384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x48x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S160x12x128 : Shape := ⟨3, ![160, 12, 128]⟩
abbrev S160x12 : Shape := ⟨2, ![160, 12]⟩
abbrev S160x12x384 : Shape := ⟨3, ![160, 12, 384]⟩
abbrev S12 : Shape := ⟨1, ![12]⟩
abbrev S277 : Shape := ⟨1, ![277]⟩
abbrev S160x12x1 : Shape := ⟨3, ![160, 12, 1]⟩
abbrev S160x12x1x128 : Shape := ⟨4, ![160, 12, 1, 128]⟩
abbrev S160x12x384x1 : Shape := ⟨4, ![160, 12, 384, 1]⟩
abbrev S160x12x384x128 : Shape := ⟨4, ![160, 12, 384, 128]⟩
abbrev S12x1 : Shape := ⟨2, ![12, 1]⟩
abbrev S1x277 : Shape := ⟨2, ![1, 277]⟩
abbrev S12x277 : Shape := ⟨2, ![12, 277]⟩
abbrev S_ : Shape := ⟨0, ![]⟩
abbrev S1x12x1x1 : Shape := ⟨4, ![1, 12, 1, 1]⟩
abbrev S384 : Shape := ⟨1, ![384]⟩
abbrev S1x1x384 : Shape := ⟨3, ![1, 1, 384]⟩
abbrev S1x12x1 : Shape := ⟨3, ![1, 12, 1]⟩
abbrev S737280 : Shape := ⟨1, ![737280]⟩
abbrev S737280x128 : Shape := ⟨2, ![737280, 128]⟩
abbrev S540000x128 : Shape := ⟨2, ![540000, 128]⟩
abbrev S737280x1 : Shape := ⟨2, ![737280, 1]⟩
abbrev S12x45000x128 : Shape := ⟨3, ![12, 45000, 128]⟩
abbrev S12x1x1 : Shape := ⟨3, ![12, 1, 1]⟩

abbrev nBuf : Space → Nat
  | .hbm => 130
  | .vmem => 2
  | .smem => 0
  | _ => 0

abbrev hbmTy0_0 (i : Nat) : BufTy := match i % 128 with
  | 0 => ⟨S160x12x128, .fp8e5m2⟩
  | 1 => ⟨S160x12, .f32⟩
  | 2 => ⟨S160x12x384, .i32⟩
  | 3 => ⟨S160x12x384, .f32⟩
  | 4 => ⟨S160x12, .i32⟩
  | 5 => ⟨S12, .f32⟩
  | 6 => ⟨S277, .f32⟩
  | 7 => ⟨S160x12x128, .f32⟩
  | 8 => ⟨S160x12x1, .f32⟩
  | 9 => ⟨S160x12x128, .f32⟩
  | 10 => ⟨S160x12x128, .f32⟩
  | 11 => ⟨S160x12x1x128, .f32⟩
  | 12 => ⟨S160x12x384x1, .f32⟩
  | 13 => ⟨S160x12x384x128, .f32⟩
  | 14 => ⟨S160x12x384x128, .f32⟩
  | 15 => ⟨S160x12x384x128, .f32⟩
  | 16 => ⟨S12, .f32⟩
  | 17 => ⟨S12x1, .f32⟩
  | 18 => ⟨S1x277, .f32⟩
  | 19 => ⟨S12x277, .f32⟩
  | 20 => ⟨S12x277, .f32⟩
  | 21 => ⟨S12x277, .i1⟩
  | 22 => ⟨S12x277, .i32⟩
  | 23 => ⟨S_, .i32⟩
  | 24 => ⟨S12, .i32⟩
  | 25 => ⟨S_, .f32⟩
  | 26 => ⟨S12, .f32⟩
  | 27 => ⟨S12, .i1⟩
  | 28 => ⟨S_, .f32⟩
  | 29 => ⟨S12, .f32⟩
  | 30 => ⟨S12, .i1⟩
  | 31 => ⟨S12, .i1⟩
  | 32 => ⟨S_, .i32⟩
  | 33 => ⟨S12, .i32⟩
  | 34 => ⟨S12, .i32⟩
  | 35 => ⟨S_, .i32⟩
  | 36 => ⟨S_, .i32⟩
  | 37 => ⟨S12, .i32⟩
  | 38 => ⟨S12, .i32⟩
  | 39 => ⟨S_, .i32⟩
  | 40 => ⟨S12, .i32⟩
  | 41 => ⟨S12, .i32⟩
  | 42 => ⟨S12, .i32⟩
  | 43 => ⟨S_, .i32⟩
  | 44 => ⟨S_, .i32⟩
  | 45 => ⟨S_, .i32⟩
  | 46 => ⟨S12, .i32⟩
  | 47 => ⟨S12, .i32⟩
  | 48 => ⟨S_, .i32⟩
  | 49 => ⟨S12, .i32⟩
  | 50 => ⟨S12, .i32⟩
  | 51 => ⟨S_, .i32⟩
  | 52 => ⟨S12, .i32⟩
  | 53 => ⟨S12, .i32⟩
  | 54 => ⟨S_, .i32⟩
  | 55 => ⟨S12, .i32⟩
  | 56 => ⟨S12, .i32⟩
  | 57 => ⟨S_, .i32⟩
  | 58 => ⟨S12, .i32⟩
  | 59 => ⟨S12, .i32⟩
  | 60 => ⟨S12, .f32⟩
  | 61 => ⟨S12, .i32⟩
  | 62 => ⟨S_, .i32⟩
  | 63 => ⟨S12, .i32⟩
  | 64 => ⟨S12, .i32⟩
  | 65 => ⟨S_, .i32⟩
  | 66 => ⟨S12, .i32⟩
  | 67 => ⟨S12, .i32⟩
  | 68 => ⟨S12, .f32⟩
  | 69 => ⟨S12, .f32⟩
  | 70 => ⟨S_, .i32⟩
  | 71 => ⟨S_, .i32⟩
  | 72 => ⟨S_, .i32⟩
  | 73 => ⟨S12, .i32⟩
  | 74 => ⟨S12, .i32⟩
  | 75 => ⟨S_, .i32⟩
  | 76 => ⟨S12, .i32⟩
  | 77 => ⟨S12, .i32⟩
  | 78 => ⟨S_, .i32⟩
  | 79 => ⟨S12, .i32⟩
  | 80 => ⟨S12, .i32⟩
  | 81 => ⟨S_, .i32⟩
  | 82 => ⟨S12, .i32⟩
  | 83 => ⟨S12, .i32⟩
  | 84 => ⟨S_, .i32⟩
  | 85 => ⟨S12, .i32⟩
  | 86 => ⟨S12, .i32⟩
  | 87 => ⟨S12, .f32⟩
  | 88 => ⟨S12, .i32⟩
  | 89 => ⟨S_, .i32⟩
  | 90 => ⟨S12, .i32⟩
  | 91 => ⟨S12, .i32⟩
  | 92 => ⟨S_, .i32⟩
  | 93 => ⟨S12, .i32⟩
  | 94 => ⟨S12, .i32⟩
  | 95 => ⟨S12, .f32⟩
  | 96 => ⟨S12, .f32⟩
  | 97 => ⟨S1x12x1x1, .f32⟩
  | 98 => ⟨S160x12x384x128, .f32⟩
  | 99 => ⟨S160x12x384x128, .f32⟩
  | 100 => ⟨S160x12x384x128, .f32⟩
  | 101 => ⟨S160x12x384x128, .i32⟩
  | 102 => ⟨S384, .i32⟩
  | 103 => ⟨S1x1x384, .i32⟩
  | 104 => ⟨S160x12x1, .i32⟩
  | 105 => ⟨S160x12x384, .i32⟩
  | 106 => ⟨S160x12x384, .i32⟩
  | 107 => ⟨S160x12x384, .i1⟩
  | 108 => ⟨S12, .i32⟩
  | 109 => ⟨S1x12x1, .i32⟩
  | 110 => ⟨S_, .i32⟩
  | 111 => ⟨S1x12x1, .i32⟩
  | 112 => ⟨S1x12x1, .i32⟩
  | 113 => ⟨S160x12x384, .i32⟩
  | 114 => ⟨S160x12x384, .i32⟩
  | 115 => ⟨S_, .i32⟩
  | 116 => ⟨S_, .i32⟩
  | 117 => ⟨S160x12x384, .i32⟩
  | 118 => ⟨S160x12x384, .i32⟩
  | 119 => ⟨S737280, .i32⟩
  | 120 => ⟨S737280x128, .i32⟩
  | 121 => ⟨S_, .i32⟩
  | 122 => ⟨S540000x128, .i32⟩
  | 123 => ⟨S737280x1, .i32⟩
  | 124 => ⟨S540000x128, .i32⟩
  | 125 => ⟨S12x45000x128, .i32⟩
  | 126 => ⟨S12x45000x128, .f32⟩
  | 127 => ⟨S12x1x1, .f32⟩
  | _ => ⟨S160x12x128, .fp8e5m2⟩

abbrev hbmTy0_1 (i : Nat) : BufTy := match i % 128 with
  | 0 => ⟨S12x45000x128, .f32⟩
  | 1 => ⟨S12x45000x128, .f32⟩
  | _ => ⟨S160x12x128, .fp8e5m2⟩

abbrev hbmTy (i : Nat) : BufTy := match i / 128 with
  | 0 => hbmTy0_0 i
  | 1 => hbmTy0_1 i
  | _ => ⟨S160x12x128, .fp8e5m2⟩

abbrev bufTy : (tb : Table) → Fin (tcTables nBuf tb) → BufTy
  | .hbm, ⟨i, _⟩ => hbmTy i
  | .local _ .vmem, ⟨0, _⟩ => ⟨S160x12x128, .fp8e5m2⟩
  | .local _ .vmem, ⟨1, _⟩ => ⟨S160x12x128, .f32⟩
  | _, _ => ⟨S160x12x128, .fp8e5m2⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_c_13 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v43 : Ref sig .tc := ⟨.hbm, 77, rfl⟩
abbrev main_c_14 : Ref sig .tc := ⟨.hbm, 78, rfl⟩
abbrev main_v44 : Ref sig .tc := ⟨.hbm, 79, rfl⟩
abbrev main_v45 : Ref sig .tc := ⟨.hbm, 80, rfl⟩
abbrev main_c_15 : Ref sig .tc := ⟨.hbm, 81, rfl⟩
abbrev main_v46 : Ref sig .tc := ⟨.hbm, 82, rfl⟩
abbrev main_v47 : Ref sig .tc := ⟨.hbm, 83, rfl⟩
abbrev main_c_16 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_c_17 : Ref sig .tc := ⟨.hbm, 89, rfl⟩
abbrev main_v52 : Ref sig .tc := ⟨.hbm, 90, rfl⟩
abbrev main_v53 : Ref sig .tc := ⟨.hbm, 91, rfl⟩
abbrev main_c_18 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_20 : Ref sig .tc := ⟨.hbm, 115, rfl⟩
abbrev main_call4_v0 : Ref sig .tc := ⟨.hbm, 116, rfl⟩
abbrev main_call4_v1 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_21 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S160x12x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BitsVals.lean ====
module

public import proofs.«01_k».proof.Proof.Gen.Kernel.Frame
public import Idealize.ShloMosaic.Lib.StableHlo.RunRead
public import Idealize.ShloMosaic.Lib.Claim

@[expose] public section

set_option maxRecDepth 16384
set_option maxHeartbeats 400000

noncomputable section

namespace Cert.Kernel.Hand

open Cert.Kernel Cert.Kernel.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The lengths as the region finds them: the argument with its two axes exchanged. -/
theorem V_v54 (c : Dev nD) : V m c main_v54 = transpose S12x160 [1, 0] (m ((c : Thread nD τ).loc main_arg4)) transposes_S160x12_S12x160_1_0 := by
  unfold V
  simp only [List.flatten_cons, List.flatten_nil, List.append_nil, List.cons_append, List.nil_append]
  after_reads_simp
/-- The scales as the region finds them: the argument with its two axes exchanged. -/
theorem V_v55 (c : Dev nD) : V m c main_v55 = transpose S12x160 [1, 0] (m ((c : Thread nD τ).loc main_arg1)) transposes_S160x12_S12x160_1_0 := by
  unfold V
  simp only [List.flatten_cons, List.flatten_nil, List.append_nil, List.cons_append, List.nil_append]
  after_reads_simp
/-- The ids as the region finds them: the argument with its first two axes exchanged. -/
theorem V_v49 (c : Dev nD) : V m c main_v49 = transpose S12x160x384 [1, 0, 2] (m ((c : Thread nD τ).loc main_arg2)) transposes_S160x12x384_S12x160x384_1_0_2 := by
  unfold V
  simp only [List.flatten_cons, List.flatten_nil, List.append_nil, List.cons_append, List.nil_append]
  after_reads_simp
/-- The codes as the region finds them: the argument with its first two axes exchanged. -/
theorem V_v50 (c : Dev nD) : V m c main_v50 = transpose S12x160x128 [1, 0, 2] (m ((c : Thread nD τ).loc main_arg0)) transposes_S160x12x128_S12x160x128_1_0_2 := by
  unfold V
  simp only [List.flatten_cons, List.flatten_nil, List.append_nil, List.cons_append, List.nil_append]
  after_reads_simp

end Cert.Kernel.Hand

end
-- ==== Proof.BitsChain.lean ====
/-
  The kernel's integer chains in closed form: where each loop trip reads and writes, that a bag length at most 384
  makes every position of the inner loops in range, and that the remainder loops run no trip.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.WritesUnit

@[expose] public section

noncomputable section

namespace Cert.Kernel.Hand

open Cert.Kernel Cert.Kernel.Gen
open Idealize.ShloMosaic
open Idealize.ShloMosaic.TcCoe Idealize.ShloMosaic.Tactic
open Affine

theorem toInt_of_isInt {x : BitVec 32} {e : Int} (h : IsInt x e) : x.toInt = e := by
  delta Affine.IsInt at h; exact h

/-! ## The bag's group count -/

/-- Division by eight toward zero, by cases of the sign. -/
theorem tdiv8 (a : Int) : (0 ≤ a ∧ a.tdiv 8 = a / 8) ∨ (a < 0 ∧ a.tdiv 8 = -((-a) / 8)) := by
  rcases Int.lt_or_le a 0 with h | h
  · refine Or.inr ⟨h, ?_⟩
    rw [← Int.tdiv_eq_ediv_of_nonneg (by omega : 0 ≤ -a), Int.neg_tdiv, Int.neg_neg]
  · exact Or.inl ⟨h, Int.tdiv_eq_ediv_of_nonneg h⟩

section Bag
variable (v : BitVec 32)

/-- The signed quotient of a bag's rounded-up length by eight. -/
theorem isInt_div8 (h : v.toInt ≤ 384) :
    IsInt (Scalar.divsi (Scalar.addi v 7#32) 8#32) ((v.toInt + 7).tdiv 8) := by
  have hr := word_range v; have hd := tdiv8 (v.toInt + 7)
  have h1 : IsInt (Scalar.addi v 7#32) (v.toInt + 7) :=
    addi (e := v.toInt + 7) (word v) (ofNat (e := 7) 7 ⟨rfl, by decide⟩) ⟨by omega, by omega, by omega⟩
  have h2 := toInt_of_isInt h1
  have hc : ¬IntOp.SDivCorner (Scalar.addi v 7#32) 8#32 := by
    rintro (h0 | ⟨-, h0⟩) <;> exact absurd h0 (by decide)
  delta Affine.IsInt
  rw [Scalar.divsi, IntOp.divsi, if_neg hc, BitVec.toInt_sdiv, h2]
  rw [show (8#32 : BitVec 32).toInt = 8 from by decide]
  have hb : -2 ^ 31 ≤ (v.toInt + 7).tdiv 8 ∧ (v.toInt + 7).tdiv 8 < 2 ^ 31 := by omega
  exact Int.bmod_eq_of_le (by omega) (by omega)

/-- The groups of eight positions the kernel walks in a bag of length `v`. -/
def grps : ℕ := ((v.toInt + 7).tdiv 8).toNat

theorem grps_le (h : v.toInt ≤ 384) : grps v ≤ 48 := by have hd := tdiv8 (v.toInt + 7); unfold grps; omega
/-- Every position below the length is in a group. -/
theorem lt_grps (p : ℕ) (h : (p : Int) < v.toInt) : p < 8 * grps v := by have hd := tdiv8 (v.toInt + 7); unfold grps; omega

theorem isInt_main (h : v.toInt ≤ 384) :
    IsInt (Scalar.addi 0#32 (Scalar.muli (Scalar.divsi (Scalar.subi (Scalar.divsi (Scalar.addi v 7#32) 8#32) 0#32) 1#32) 1#32)) ((v.toInt + 7).tdiv 8) := by
  have hr := word_range v; have hd := tdiv8 (v.toInt + 7)
  have h0 := isInt_div8 v h
  have h1 : IsInt (Scalar.subi (Scalar.divsi (Scalar.addi v 7#32) 8#32) 0#32) ((v.toInt + 7).tdiv 8) :=
    subi h0 (ofNat (e := 0) 0 ⟨rfl, by decide⟩) ⟨by omega, by omega, by omega⟩
  have h2 := divsi_one (e := (v.toInt + 7).tdiv 8) h1 (ofNat (e := 1) 1 ⟨rfl, by decide⟩) ⟨rfl, rfl⟩
  have h3 := muli (e := (v.toInt + 7).tdiv 8) h2 (ofNat (e := 1) 1 ⟨rfl, by decide⟩) ⟨by omega, by omega, by omega⟩
  exact addi (e := (v.toInt + 7).tdiv 8) (ofNat (e := 0) 0 ⟨rfl, by decide⟩) h3 ⟨by omega, by omega, by omega⟩
theorem isInt_rest (h : v.toInt ≤ 384) :
    IsInt (Scalar.addi 0#32 (Scalar.subi (Scalar.divsi (Scalar.addi v 7#32) 8#32) 0#32)) ((v.toInt + 7).tdiv 8) := by
  have hr := word_range v; have hd := tdiv8 (v.toInt + 7)
  have h1 : IsInt (Scalar.subi (Scalar.divsi (Scalar.addi v 7#32) 8#32) 0#32) ((v.toInt + 7).tdiv 8) :=
    subi (isInt_div8 v h) (ofNat (e := 0) 0 ⟨rfl, by decide⟩) ⟨by omega, by omega, by omega⟩
  exact addi (e := (v.toInt + 7).tdiv 8) (ofNat (e := 0) 0 ⟨rfl, by decide⟩) h1 ⟨by omega, by omega, by omega⟩

/-- The main loop runs one trip per group; -/
theorem trips3_eq (h : v.toInt ≤ 384) : (k0_t3_loop v).trips = grps v := by
  show Scf.trips 0#32 (Scalar.addi 0#32 (Scalar.muli (Scalar.divsi (Scalar.subi (Scalar.divsi (Scalar.addi v 7#32) 8#32) 0#32) 1#32) 1#32)) 1#32 = _
  unfold Scf.trips grps; rw [toInt_of_isInt (isInt_main v h)]; simp
/-- the remainder loop none. -/
theorem trips4_eq (h : v.toInt ≤ 384) : (k0_t4_loop v).trips = 0 := by
  show Scf.trips (Scalar.addi 0#32 (Scalar.muli (Scalar.divsi (Scalar.subi (Scalar.divsi (Scalar.addi v 7#32) 8#32) 0#32) 1#32) 1#32))
    (Scalar.addi 0#32 (Scalar.subi (Scalar.divsi (Scalar.addi v 7#32) 8#32) 0#32)) 1#32 = 0
  unfold Scf.trips; rw [toInt_of_isInt (isInt_main v h), toInt_of_isInt (isInt_rest v h)]; simp

theorem trips2_val : k0_t2_loop.trips = 32 := by decide
theorem t2_lt (b : Fin k0_t2_loop.trips) : b.val < 32 := Nat.lt_of_lt_of_eq b.isLt trips2_val

variable {v} (h : v.toInt ≤ 384)
include h

theorem t3_lt (k : Fin (k0_t3_loop v).trips) : k.val < 48 :=
  Nat.lt_of_lt_of_le (Nat.lt_of_lt_of_eq k.isLt (trips3_eq v h)) (grps_le v h)

omit h in
theorem isInt_iv (k : ℕ) (hk : k < 2 ^ 31) : IsInt (Scf.iv 0#32 1#32 k) k :=
  iv (e := k) (ofNat (e := 0) 0 ⟨rfl, by decide⟩) (ofNat (e := 1) 1 ⟨rfl, by decide⟩) k ⟨by omega, by omega, by omega⟩

theorem isInt_t3 (k : Fin (k0_t3_loop v).trips) : IsInt (Scf.iv 0#32 1#32 k.val) k.val :=
  isInt_iv _ (by have := t3_lt h k; omega)
omit h in
theorem isInt_t2 (b : Fin k0_t2_loop.trips) : IsInt (Scf.iv 0#32 1#32 b.val) b.val :=
  isInt_iv _ (by have := t2_lt b; omega)
/-- Trip `k`'s first position, -/
theorem isInt_base (k : Fin (k0_t3_loop v).trips) : IsInt (Scalar.muli (Scf.iv 0#32 1#32 k.val) 8#32) (8 * k.val : ℕ) := by
  have := t3_lt h k
  exact muli (e := (8 * k.val : ℕ)) (isInt_t3 h k) (ofNat (e := 8) 8 ⟨rfl, by decide⟩) ⟨by push_cast; omega, by omega, by omega⟩
/-- and its `s`-th. -/
theorem isInt_pos (k : Fin (k0_t3_loop v).trips) (s : ℕ) (hs : s < 8) :
    IsInt (Scalar.addi (Scalar.muli (Scf.iv 0#32 1#32 k.val) 8#32) (BitVec.ofNat 32 s)) (8 * k.val + s : ℕ) := by
  have := t3_lt h k
  exact addi (e := (8 * k.val + s : ℕ)) (isInt_base h k) (ofNat (e := (s : Int)) s ⟨rfl, by omega⟩) ⟨by push_cast; omega, by omega, by omega⟩

abbrev idOff (b p : ℕ) : Fin 3 → ℕ := ![0, b, p]
theorem off7_eq (b : Fin k0_t2_loop.trips) (k : Fin (k0_t3_loop v).trips) : k0_off7 b v k = idOff b.val (8 * k.val + 0) := by
  show (![0, _, _] : Fin 3 → ℕ) = ![0, _, _]
  rw [nat_eq (indexCast (isInt_t2 b)) _ rfl, nat_eq (indexCast (isInt_pos h k 0 (by decide))) _ rfl]
theorem off9_eq (b : Fin k0_t2_loop.trips) (k : Fin (k0_t3_loop v).trips) : k0_off9 b v k = idOff b.val (8 * k.val + 1) := by
  show (![0, _, _] : Fin 3 → ℕ) = ![0, _, _]
  rw [nat_eq (indexCast (isInt_t2 b)) _ rfl, nat_eq (indexCast (isInt_pos h k 1 (by decide))) _ rfl]
theorem off11_eq (b : Fin k0_t2_loop.trips) (k : Fin (k0_t3_loop v).trips) : k0_off11 b v k = idOff b.val (8 * k.val + 2) := by
  show (![0, _, _] : Fin 3 → ℕ) = ![0, _, _]
  rw [nat_eq (indexCast (isInt_t2 b)) _ rfl, nat_eq (indexCast (isInt_pos h k 2 (by decide))) _ rfl]
theorem off13_eq (b : Fin k0_t2_loop.trips) (k : Fin (k0_t3_loop v).trips) : k0_off13 b v k = idOff b.val (8 * k.val + 3) := by
  show (![0, _, _] : Fin 3 → ℕ) = ![0, _, _]
  rw [nat_eq (indexCast (isInt_t2 b)) _ rfl, nat_eq (indexCast (isInt_pos h k 3 (by decide))) _ rfl]
theorem off15_eq (b : Fin k0_t2_loop.trips) (k : Fin (k0_t3_loop v).trips) : k0_off15 b v k = idOff b.val (8 * k.val + 4) := by
  show (![0, _, _] : Fin 3 → ℕ) = ![0, _, _]
  rw [nat_eq (indexCast (isInt_t2 b)) _ rfl, nat_eq (indexCast (isInt_pos h k 4 (by decide))) _ rfl]
theorem off17_eq (b : Fin k0_t2_loop.trips) (k : Fin (k0_t3_loop v).trips) : k0_off17 b v k = idOff b.val (8 * k.val + 5) := by
  show (![0, _, _] : Fin 3 → ℕ) = ![0, _, _]
  rw [nat_eq (indexCast (isInt_t2 b)) _ rfl, nat_eq (indexCast (isInt_pos h k 5 (by decide))) _ rfl]
theorem off19_eq (b : Fin k0_t2_loop.trips) (k : Fin (k0_t3_loop v).trips) : k0_off19 b v k = idOff b.val (8 * k.val + 6) := by
  show (![0, _, _] : Fin 3 → ℕ) = ![0, _, _]
  rw [nat_eq (indexCast (isInt_t2 b)) _ rfl, nat_eq (indexCast (isInt_pos h k 6 (by decide))) _ rfl]
theorem off21_eq (b : Fin k0_t2_loop.trips) (k : Fin (k0_t3_loop v).trips) : k0_off21 b v k = idOff b.val (8 * k.val + 7) := by
  show (![0, _, _] : Fin 3 → ℕ) = ![0, _, _]
  rw [nat_eq (indexCast (isInt_t2 b)) _ rfl, nat_eq (indexCast (isInt_pos h k 7 (by decide))) _ rfl]
theorem off6_eq (b : Fin k0_t2_loop.trips) (k : Fin (k0_t3_loop v).trips) : k0_off6 b v k = ![0, b.val, k.val, 0] := by
  show (![0, _, _, 0] : Fin 4 → ℕ) = ![0, _, _, 0]
  rw [nat_eq (indexCast (isInt_t2 b)) _ rfl, nat_eq (indexCast (isInt_t3 h k)) _ rfl]

omit h in
theorem idOff_inb {b p : ℕ} (hb : b < 32) (hp : p < 384) : ∀ a, idOff b p a + S1x1x1.size a ≤ S1x32x384.size a := by
  intro a; fin_cases a
  · show 0 + 1 ≤ 1; omega
  · show b + 1 ≤ 32; omega
  · show p + 1 ≤ 384; omega

/-- A bag length at most 384 is what the body's check asks. -/
theorem chk1 (b : Fin k0_t2_loop.trips) : k0_chk1 b v := by
  have hb := t2_lt b
  have z : ∀ k : Fin (k0_t4_loop v).trips, False := fun k => Nat.not_lt_zero _ (Nat.lt_of_lt_of_eq k.isLt (trips4_eq v h))
  have hr := word_range v; have hd := tdiv8 (v.toInt + 7)
  refine ⟨?_, ?_, ?_, ?_, ?_, ?_, ?_, ?_, ?_, ?_, ?_, fun k => (z k).elim, fun k => (z k).elim, fun k => (z k).elim, fun k => (z k).elim,
    fun k => (z k).elim, fun k => (z k).elim, fun k => (z k).elim, fun k => (z k).elim, fun k => (z k).elim⟩
  · exact ok (ofNat (e := 0) 0 ⟨rfl, by decide⟩) (isInt_main v h) (ofNat (e := 1) 1 ⟨rfl, by decide⟩) ⟨by decide, by omega⟩
  · intro k; rw [off6_eq h]; have := t3_lt h k
    intro a; fin_cases a
    · show 0 + 1 ≤ 1; omega
    · show b.val + 1 ≤ 32; omega
    · show k.val + 1 ≤ 48; omega
    · show 0 + 128 ≤ 128; omega
  · intro k; rw [off7_eq h]; have := t3_lt h k; exact idOff_inb hb (by omega)
  · intro k; rw [off9_eq h]; have := t3_lt h k; exact idOff_inb hb (by omega)
  · intro k; rw [off11_eq h]; have := t3_lt h k; exact idOff_inb hb (by omega)
  · intro k; rw [off13_eq h]; have := t3_lt h k; exact idOff_inb hb (by omega)
  · intro k; rw [off15_eq h]; have := t3_lt h k; exact idOff_inb hb (by omega)
  · intro k; rw [off17_eq h]; have := t3_lt h k; exact idOff_inb hb (by omega)
  · intro k; rw [off19_eq h]; have := t3_lt h k; exact idOff_inb hb (by omega)
  · intro k; rw [off21_eq h]; have := t3_lt h k; exact idOff_inb hb (by omega)
  · exact ok (isInt_main v h) (isInt_rest v h) (ofNat (e := 1) 1 ⟨rfl, by decide⟩) ⟨by decide, by omega⟩

end Bag

/-! ## The offsets of the other loops and of the grid -/

section Grid
variable (i : grid0.Coords)

theorem i0_lt : (i 0).val < 12 := (i 0).isLt
theorem i1_lt : (i 1).val < 5 := (i 1).isLt
theorem isInt_i0 : IsInt (BitVec.ofNat 32 (i 0).val) (i 0).val := ofNat _ ⟨rfl, by have := i0_lt i; omega⟩
theorem isInt_i1 : IsInt (BitVec.ofNat 32 (i 1).val) (i 1).val := ofNat _ ⟨rfl, by have := i1_lt i; omega⟩

theorem off3_eq : k0_off3 i = ![0, (i 0).val] := by
  show (![0, _] : Fin 2 → ℕ) = ![0, _]
  rw [nat_eq (indexCast (isInt_i0 i)) _ rfl]
theorem off4_eq (b : Fin k0_t2_loop.trips) : k0_off4 i b = ![(i 0).val, 32 * (i 1).val + b.val] := by
  have h1 := i1_lt i; have hb := t2_lt b
  have e : IsInt (Scalar.addi (Scalar.muli (BitVec.ofNat 32 (i 1).val) 32#32) (Scf.iv 0#32 1#32 b.val)) (32 * (i 1).val + b.val : ℕ) :=
    addi (e := (32 * (i 1).val + b.val : ℕ))
      (muli (e := (32 * (i 1).val : ℕ)) (isInt_i1 i) (ofNat (e := 32) 32 ⟨rfl, by decide⟩) ⟨by push_cast; omega, by omega, by omega⟩)
      (isInt_t2 b) ⟨by push_cast; omega, by omega, by omega⟩
  show (![_, _] : Fin 2 → ℕ) = ![_, _]
  rw [nat_eq (indexCast (isInt_i0 i)) _ rfl, nat_eq (indexCast e) _ rfl]
theorem off5_eq (b : Fin k0_t2_loop.trips) : k0_off5 b = ![b.val, 0] := by
  show (![_, 0] : Fin 2 → ℕ) = ![_, 0]
  rw [nat_eq (indexCast (isInt_t2 b)) _ rfl]

theorem cond1_iff : k0_cond1 i = 1#1 ↔ (i 1).val = 0 := by
  have h := i1_lt i
  have : ∀ n : Fin 5, Scalar.cmpi .ne (Scalar.extui (Scalar.cmpi .eq (BitVec.ofNat 32 n.val) 0#32) : BitVec 32) 0#32 = 1#1 ↔ n.val = 0 := by decide
  exact this (i 1)
theorem cond3_iff : k0_cond3 i = 1#1 ↔ (i 1).val = 4 := by
  have : ∀ n : Fin 5, Scalar.cmpi .ne (Scalar.extui (Scalar.cmpi .eq (BitVec.ofNat 32 n.val) 4#32) : BitVec 32) 0#32 = 1#1 ↔ n.val = 4 := by decide
  exact this (i 1)
theorem cond2_iff : k0_cond2 i = 1#1 ↔ 0 < (i 0).val := by
  have : ∀ n : Fin 12, Scalar.cmpi .ne (Scalar.extui (Scalar.cmpi .sgt (BitVec.ofNat 32 n.val) 0#32) : BitVec 32) 0#32 = 1#1 ↔ 0 < n.val := by decide
  exact this (i 0)
theorem cond5_iff : k0_cond5 i = 1#1 ↔ (i 0).val = 11 := by
  have : ∀ n : Fin 12, Scalar.cmpi .ne (Scalar.extui (Scalar.cmpi .eq (BitVec.ofNat 32 n.val) 11#32) : BitVec 32) 0#32 = 1#1 ↔ n.val = 11 := by decide
  exact this (i 0)

abbrev tabOff (t : ℕ) : Fin 3 → ℕ := ![t, 0, 0]
theorem off1_eq (h : 0 < (i 0).val) : k0_off1 i = tabOff ((i 0).val - 1) := by
  have h0 := i0_lt i
  have e : IsInt (Scalar.subi (BitVec.ofNat 32 (i 0).val) 1#32) ((i 0).val - 1 : ℕ) :=
    subi (e := ((i 0).val - 1 : ℕ)) (isInt_i0 i) (ofNat (e := 1) 1 ⟨rfl, by decide⟩) ⟨by omega, by omega, by omega⟩
  show (![_, 0, 0] : Fin 3 → ℕ) = ![_, 0, 0]
  rw [nat_eq e _ rfl]
theorem off40_eq : k0_off40 i = tabOff (i 0).val := by
  show (![_, 0, 0] : Fin 3 → ℕ) = ![_, 0, 0]
  rw [nat_eq (isInt_i0 i) _ rfl]
theorem off52_eq : k0_off52 i = tabOff (i 0).val := off40_eq i

theorem trips1_val : k0_t1_loop.trips = 45 := by decide
theorem trips5_val : k0_t5_loop.trips = 45 := by decide
theorem t1_lt (k : Fin k0_t1_loop.trips) : k.val < 45 := Nat.lt_of_lt_of_eq k.isLt trips1_val
theorem t5_lt (k : Fin k0_t5_loop.trips) : k.val < 45 := Nat.lt_of_lt_of_eq k.isLt trips5_val

theorem isInt_k1000 (k : ℕ) (hk : k < 45) : IsInt (Scalar.muli (Scf.iv 0#32 1#32 k) 1000#32) (1000 * k : ℕ) :=
  muli (e := (1000 * k : ℕ)) (isInt_iv k (by omega)) (ofNat (e := 1000) 1000 ⟨rfl, by decide⟩) ⟨by push_cast; omega, by omega, by omega⟩
theorem isInt_k3 (k : ℕ) (hk : k < 45) : IsInt (Scalar.remsi (Scf.iv 0#32 1#32 k) 3#32) (k % 3 : ℕ) :=
  remsi (e := (k % 3 : ℕ)) (isInt_iv k (by omega)) (ofNat (e := 3) 3 ⟨rfl, by decide⟩) ⟨by omega, by omega, by omega⟩

theorem off2_eq (k : Fin k0_t1_loop.trips) : k0_off2 k = ![1000 * k.val, 0] := by
  show (![_, 0] : Fin 2 → ℕ) = ![_, 0]
  rw [nat_eq (indexCast (isInt_k1000 k.val (t1_lt k))) _ rfl]
theorem off44_eq (k : Fin k0_t5_loop.trips) : k0_off44 k = ![1000 * k.val, 0] := by
  show (![_, 0] : Fin 2 → ℕ) = ![_, 0]
  rw [nat_eq (indexCast (isInt_k1000 k.val (t5_lt k))) _ rfl]

abbrev slotOff (s : Fin 3) : Fin 3 → ℕ := ![s.val, 0, 0]
abbrev semOff (s : Fin 3) : Fin 1 → ℕ := ![s.val]
abbrev slabOff (t s : ℕ) : Fin 3 → ℕ := ![t, 1000 * s, 0]

theorem sl3_val (k : ℕ) : (Ring.sl 3 k).val = k % 3 := by simp [Ring.sl, Fin.ofNat]

theorem off41_eq (k : Fin k0_t5_loop.trips) : k0_off41 k = semOff (Ring.sl 3 k.val) := by
  show (![_] : Fin 1 → ℕ) = ![_]
  rw [nat_eq (isInt_k3 k.val (t5_lt k)) _ rfl, sl3_val]
theorem off46_eq (k : Fin k0_t5_loop.trips) : k0_off46 k = semOff (Ring.sl 3 k.val) := off41_eq k
theorem off43_eq (k : Fin k0_t5_loop.trips) : k0_off43 k = slotOff (Ring.sl 3 k.val) := by
  show (![_, 0, 0] : Fin 3 → ℕ) = ![_, 0, 0]
  rw [nat_eq (isInt_k3 k.val (t5_lt k)) _ rfl, sl3_val]
theorem off45_eq (k : Fin k0_t5_loop.trips) : k0_off45 k = slotOff (Ring.sl 3 k.val) := off43_eq k
theorem off48_eq (k : Fin k0_t5_loop.trips) : k0_off48 k = slotOff (Ring.sl 3 k.val) := off43_eq k
theorem off47_eq (k : Fin k0_t5_loop.trips) : k0_off47 i k = slabOff (i 0).val k.val := by
  show (![_, _, 0] : Fin 3 → ℕ) = ![_, _, 0]
  rw [nat_eq (isInt_i0 i) _ rfl, nat_eq (isInt_k1000 k.val (t5_lt k)) _ rfl]
theorem off42_eq (k : Fin k0_t5_loop.trips) (h3 : 3 ≤ k.val) : k0_off42 i k = slabOff (i 0).val (k.val - 3) := by
  have hk := t5_lt k
  have e : IsInt (Scalar.muli (Scalar.subi (Scf.iv 0#32 1#32 k.val) 3#32) 1000#32) (1000 * (k.val - 3) : ℕ) :=
    muli (e := (1000 * (k.val - 3) : ℕ))
      (subi (e := (k.val - 3 : ℕ)) (isInt_iv k.val (by omega)) (ofNat (e := 3) 3 ⟨rfl, by decide⟩) ⟨by omega, by omega, by omega⟩)
      (ofNat (e := 1000) 1000 ⟨rfl, by decide⟩) ⟨by push_cast; omega, by omega, by omega⟩
  show (![_, _, 0] : Fin 3 → ℕ) = ![_, _, 0]
  rw [nat_eq (isInt_i0 i) _ rfl, nat_eq e _ rfl]
theorem cond4_iff (k : Fin k0_t5_loop.trips) : k0_cond4 k = 1#1 ↔ 3 ≤ k.val := by
  have hk := t5_lt k
  unfold k0_cond4
  dsimp only
  show Scalar.cmpi .ne (Scalar.extui (Scalar.cmpi .sge (Scf.iv 0#32 1#32 k.val) 3#32) : BitVec 32) 0#32 = 1#1 ↔ _
  rw [show (Scf.iv 0#32 1#32 k.val) = BitVec.ofNat 32 k.val from eq_of (isInt_iv k.val (by omega)) _ rfl]
  have : ∀ n : Fin 45, Scalar.cmpi .ne (Scalar.extui (Scalar.cmpi .sge (BitVec.ofNat 32 n.val) 3#32) : BitVec 32) 0#32 = 1#1 ↔ 3 ≤ n.val := by decide
  exact this ⟨k.val, hk⟩

theorem off49_eq : k0_off49 i = slabOff (i 0).val 42 := by
  show (![_, 42000, 0] : Fin 3 → ℕ) = ![_, _, 0]
  rw [nat_eq (isInt_i0 i) _ rfl]
theorem off50_eq : k0_off50 i = slabOff (i 0).val 43 := by
  show (![_, 43000, 0] : Fin 3 → ℕ) = ![_, _, 0]
  rw [nat_eq (isInt_i0 i) _ rfl]
theorem off51_eq : k0_off51 i = slabOff (i 0).val 44 := by
  show (![_, 44000, 0] : Fin 3 → ℕ) = ![_, _, 0]
  rw [nat_eq (isInt_i0 i) _ rfl]

end Grid

end Cert.Kernel.Hand

end
-- ==== Proof.BitsBody.lean ====
module

public import proofs.«01_k».proof.Proof.BitsChain
public import Idealize.ShloMosaic.Lib.Pipeline.Value

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev gradM : Memref sig .tc .hbm S12x45000x128 .f32 := Memref.whole main_v57_0
abbrev fixM : Memref sig .tc .hbm S12x45000x128 .i32 := Memref.whole main_v57_1
abbrev accM : Memref sig .tc .vmem S45000x128 .i32 := Memref.whole cc0_scratch0
abbrev stM : Memref sig .tc .vmem S3x1000x128 .f32 := Memref.whole cc0_scratch1
abbrev gfM : Memref sig .tc .vmem S32x128 .f32 := Memref.whole cc0_scratch2

/-! ## One token: its row of the accumulator, its code -/

def ixRow (l : Fin 128) : S1x128.Idx := fun | 0 => (0 : Fin 1) | 1 => l
def ix4 (l : Fin 128) : S1x1x1x128.Idx := fun | 0 => (0 : Fin 1) | 1 => (0 : Fin 1) | 2 => (0 : Fin 1) | 3 => l

abbrev Acc := S45000x128.Idx → BitVec 32

/-- The accumulator with the code `g` added to row `v`. -/
def tokv (v : BitVec 32) (g : S1x128.Idx → BitVec 32) (A : Acc) : Acc :=
  fun x => if (x 0).val = v.toNat then IntOp.addi (A x) (g (ixRow (x 1))) else A x

abbrev rowOff (v : BitVec 32) : Fin 2 → ℕ := ![v.toNat, 0]

theorem read_tok (A10 : Memref sig .tc .vmem S45000x128 .i32) (f : A10.view.ty.Contents (Elt F)) (L : List (View.Piece (Elt F) S45000x128 .i32))
    (v : BitVec 32) (g : S1x128.Idx → BitVec 32) (h : ∀ a, rowOff v a + S1x128.size a ≤ S45000x128.size a)
    (pay : (Rect.unit (s := S45000x128) (rowOff v) S1x128.size h).shape.Idx → Elt F .i32)
    (hp : ∀ x : S1x128.Idx, pay x = IntOp.addi (A10.view.readAt (Elt F) (Rect.unit (s := S45000x128) (rowOff v) S1x128.size h).toLoadRect (A10.view.writes (Elt F) f L) x) (g x)) :
    A10.view.read (Elt F) (A10.view.writes (Elt F) f (⟨Rect.unit (s := S45000x128) (rowOff v) S1x128.size h, pay⟩ :: L))
      = tokv v g (A10.view.read (Elt F) (A10.view.writes (Elt F) f L)) := by
  funext y
  unfold tokv
  by_cases hy : (y 0).val = v.toNat
  · rw [if_pos hy]
    have hx : ∀ a, (y a).val = rowOff v a + ((ixRow (y 1)) a).val := by
      intro a; fin_cases a
      · show (y 0).val = v.toNat + 0; omega
      · show (y 1).val = 0 + (y 1).val; omega
    rw [View.read_writes_cons_unit_of_mem A10.view f h pay L y (ixRow (y 1)) rfl hx]
    refine (hp _).trans (congrArg (fun w => IntOp.addi w (g (ixRow (y 1)))) ?_)
    refine congrArg (A10.view.read (Elt F) (A10.view.writes (Elt F) f L)) (funext fun a => Fin.ext ?_)
    show rowOff v a + 1 * ((ixRow (y 1)) a).val = (y a).val
    rw [hx a, Nat.one_mul]
  · rw [if_neg hy]
    refine View.read_writes_cons_unit_of_not_mem A10.view f h pay L y (off' := rowOff v) rfl 0 ?_
    show (y 0).val < v.toNat ∨ v.toNat + 1 ≤ (y 0).val
    omega

theorem read_step (A10 : Memref sig .tc .vmem S45000x128 .i32) (f : A10.view.ty.Contents (Elt F)) (L : List (View.Piece (Elt F) S45000x128 .i32))
    (v v' : BitVec 32) (g : S1x128.Idx → BitVec 32) (h : ∀ a, rowOff v a + S1x128.size a ≤ S45000x128.size a)
    (pay : (Rect.unit (s := S45000x128) (rowOff v) S1x128.size h).shape.Idx → Elt F .i32)
    (hp : ∀ x : S1x128.Idx, pay x = IntOp.addi (A10.view.readAt (Elt F) (Rect.unit (s := S45000x128) (rowOff v) S1x128.size h).toLoadRect (A10.view.writes (Elt F) f L) x) (g x))
    (e : v = v') {B : Acc} (hB : A10.view.read (Elt F) (A10.view.writes (Elt F) f L) = B) :
    A10.view.read (Elt F) (A10.view.writes (Elt F) f (⟨Rect.unit (s := S45000x128) (rowOff v) S1x128.size h, pay⟩ :: L)) = tokv v' g B := by
  rw [read_tok A10 f L v g h pay hp, e, hB]

/-- The first `n` tokens of a bag, in order. -/
def toks (ids : ℕ → BitVec 32) (code : ℕ → S1x128.Idx → BitVec 32) (A : Acc) : ℕ → Acc
  | 0 => A
  | n + 1 => tokv (ids n) (code n) (toks ids code A n)

/-- A token's code, from the bag's scaled row, the token's weight and the column's grid. -/
@[irreducible] def codev (v21 : Vec F S1x128 .f32) (v26 w v4 : Elt F .f32) : IVec S1x128 32 :=
  fptosi 32 (roundeven (mulf (mulf (mulf v21 (broadcast S1x128 v26)) (broadcast S1x128 w)) (broadcast S1x128 v4)))
/-- The same, nothing past the bag's length. -/
def code (v21 : Vec F S1x128 .f32) (v26 v4 : Elt F .f32) (n : BitVec 32) (w : ℕ → Elt F .f32) (p : ℕ) : S1x128.Idx → BitVec 32 :=
  if (p : Int) < n.toInt then codev v21 v26 (w p) v4 else fun _ => 0#32

theorem row0 (v21 : Vec F S1x128 .f32) (v26 : Elt F .f32) (h) :
    extractStridedSlice S1x128 ![0, 0] (k0_pay3 v21 v26) h = mulf v21 (broadcast S1x128 v26) := by
  funext x
  have h0 : (x 0).val = 0 := Nat.lt_one_iff.mp (x 0).isLt
  show extractStridedSlice S1x128 ![0, 0] (broadcastTo S8x128 (shapeCast S1x128 (mulf v21 (broadcast S1x128 v26)) shapeCasts_S1x128_S1x128) broadcasts_S1x128_S8x128) h x = _
  rw [shapeCast_self]
  refine congrArg (mulf v21 (broadcast S1x128 v26)) (funext fun a => Fin.ext ?_)
  fin_cases a
  · exact h0.symm
  · show 0 + (x 1).val = (x 1).val; omega

theorem lane (v43 : FVec F S1x128 .f32) (j : Fin 128) (h) (h' h'') :
    broadcastTo S1x128 (shapeCast S1x1 (extractStridedSlice S1x1 ![0, j.val] v43 h) h') h'' = broadcast S1x128 (v43 (ixRow j)) := by
  funext x
  rw [shapeCast_self]
  refine congrArg v43 (funext fun a => Fin.ext ?_)
  fin_cases a
  · rfl
  · show j.val + 0 = j.val; omega

theorem mask {v19 : BitVec 32} (hl : v19.toInt ≤ 384) (k : Fin (k0_t3_loop v19).trips) (s : ℕ) (hs : s < 8) (w : S1x128.Idx → BitVec 32) :
    Scalar.select (Scalar.cmpi .slt (Scalar.addi (Scalar.muli (Scf.iv 0#32 1#32 k.val) 8#32) (BitVec.ofNat 32 s)) v19) w (broadcast S1x128 0#32)
      = if ((8 * k.val + s : ℕ) : Int) < v19.toInt then w else fun _ => 0#32 := by
  have e := toInt_of_isInt (isInt_pos hl k s hs)
  have hc : Scalar.cmpi .slt (Scalar.addi (Scalar.muli (Scf.iv 0#32 1#32 k.val) 8#32) (BitVec.ofNat 32 s)) v19 = 1#1 ↔ ((8 * k.val + s : ℕ) : Int) < v19.toInt := by
    rw [← e]; exact IntOp.cmpi_slt
  unfold Scalar.select
  by_cases h : ((8 * k.val + s : ℕ) : Int) < v19.toInt
  · rw [if_pos h]; exact if_pos (hc.mpr h)
  · rw [if_neg h]; exact if_neg (fun hh => h (hc.mp hh))

/-- The place of position `p` of bag `b` in the block of ids, -/
def idAt (b p : ℕ) : S1x32x384.Idx := fun | 0 => (0 : Fin 1) | 1 => Fin.ofNat 32 b | 2 => Fin.ofNat 384 p
/-- and in the block of weights. -/
def wAt (b p : ℕ) : S1x32x48x128.Idx := fun | 0 => (0 : Fin 1) | 1 => Fin.ofNat 32 b | 2 => Fin.ofNat 48 (p / 8) | 3 => Fin.ofNat 128 (p % 8)

theorem read_id (A5 : Memref sig .tc .smem S1x32x384 .i32) (X : A5.view.ty.Contents (Elt F)) {off : Fin 3 → ℕ} {b p : ℕ} (e : off = idOff b p) (hb : b < 32) (hp : p < 384)
    (h : ∀ a, off a + S1x1x1.size a ≤ S1x32x384.size a) (z : S1x1x1.Idx) :
    A5.view.readAt (Elt F) (Rect.unit (s := S1x32x384) off S1x1x1.size h).toLoadRect X z = A5.view.read (Elt F) X (idAt b p) := by
  subst e
  refine congrArg (A5.view.read (Elt F) X) (funext fun a => Fin.ext ?_)
  show idOff b p a + 1 * (z a).val = _
  have hz : (z a).val = 0 := by
    have := (z a).isLt; fin_cases a <;> exact Nat.lt_one_iff.mp this
  rw [hz]
  fin_cases a
  · rfl
  · show b + 0 = b % 32; omega
  · show p + 0 = p % 384; omega

theorem read_w (A7 : Memref sig .tc .vmem S1x32x48x128 .f32) (X : A7.view.ty.Contents (Elt F)) {off : Fin 4 → ℕ} {b k : ℕ} (e : off = ![0, b, k, 0]) (hb : b < 32) (hk : k < 48)
    (h : ∀ a, off a + S1x1x1x128.size a ≤ S1x32x48x128.size a) (s : ℕ) (hs : s < 8) :
    k0_pay7 (A7.view.readAt (Elt F) (Rect.unit (s := S1x32x48x128) off S1x1x1x128.size h).toLoadRect X) (ixRow ⟨s, by omega⟩)
      = A7.view.read (Elt F) X (wAt b (8 * k + s)) := by
  subst e
  show shapeCast S1x128 (A7.view.readAt (Elt F) _ X) shapeCasts_S1x1x1x128_S1x128 _ = _
  rw [shapeCast_apply _ _ _ (ix4 ⟨s, by omega⟩) (by rw [Shape.rowMajor_val_four, Shape.rowMajor_val_two]; rfl)]
  refine congrArg (A7.view.read (Elt F) X) (funext fun a => Fin.ext ?_)
  show (![0, b, k, 0] : Fin 4 → ℕ) a + 1 * ((ix4 ⟨s, by omega⟩) a).val = _
  fin_cases a
  · rfl
  · show b + 1 * 0 = b % 32; omega
  · show k + 1 * 0 = (8 * k + s) / 8 % 48; omega
  · show 0 + 1 * s = (8 * k + s) % 8 % 128; omega

theorem codev_eq (v21 : Vec F S1x128 .f32) (v26 v4 : Elt F .f32) (v43 : FVec F S1x128 .f32) (j : Fin 128) (h h1 h2 h3) :
    fptosi 32 (roundeven (mulf (mulf (extractStridedSlice S1x128 ![0, 0] (k0_pay3 v21 v26) h)
      (broadcastTo S1x128 (shapeCast S1x1 (extractStridedSlice S1x1 ![0, j.val] v43 h1) h2) h3)) (broadcast S1x128 v4)))
      = codev v21 v26 (v43 (ixRow j)) v4 := by
  rw [row0, lane]; unfold codev; rfl

section Pays
variable {v19 : BitVec 32} (hl : v19.toInt ≤ 384) (k : Fin (k0_t3_loop v19).trips) (v21 : Vec F S1x128 .f32) (v26 v4 : Elt F .f32) (w : ℕ → Elt F .f32)
include hl

theorem code_of (v43 : FVec F S1x128 .f32) (s : ℕ) (hs : s < 8) (hw : v43 (ixRow ⟨s, by omega⟩) = w (8 * k.val + s)) (h h1 h2 h3) :
    Scalar.select (Scalar.cmpi .slt (Scalar.addi (Scalar.muli (Scf.iv 0#32 1#32 k.val) 8#32) (BitVec.ofNat 32 s)) v19)
      (fptosi 32 (roundeven (mulf (mulf (extractStridedSlice S1x128 ![0, 0] (k0_pay3 v21 v26) h)
      (broadcastTo S1x128 (shapeCast S1x1 (extractStridedSlice S1x1 ![0, s] v43 h1) h2) h3)) (broadcast S1x128 v4)))) (broadcast S1x128 0#32)
      = code v21 v26 v4 v19 w (8 * k.val + s) := by
  rw [mask hl k s hs, codev_eq v21 v26 v4 v43 ⟨s, by omega⟩ h h1 h2 h3, hw]; rfl

theorem add_of (v63 : IVec S1x128 32) (g g' : S1x128.Idx → BitVec 32) (e : g = g') (h) (x : S1x128.Idx) :
    shapeCast S1x128 (addi v63 g) h x = IntOp.addi (v63 x) (g' x) := by
  rw [shapeCast_self, e]; rfl

variable (v43 : FVec F S1x128 .f32) (hw : ∀ s (hs : s < 8), v43 (ixRow ⟨s, by omega⟩) = w (8 * k.val + s))
include hw

theorem tok0 (v42 : Vec F S1x1x1x128 .f32) (e7 : v43 = k0_pay7 v42) (v63 : Vec F S1x128 .i32) (x : S1x128.Idx) :
    k0_pay8 v4 v19 (k0_pay3 v21 v26) 0#32 1#32 k v42 v63 x = IntOp.addi (v63 x) (code v21 v26 v4 v19 w (8 * k.val + 0) x) :=
  add_of hl v63 _ _ (code_of hl k v21 v26 v4 w (k0_pay7 v42) 0 (by decide) ((e7 ▸ hw) 0 (by decide)) _ _ _ _) _ x

theorem tok1 (v42 : Vec F S1x1x1x128 .f32) (e7 : v43 = k0_pay7 v42) (v63 : Vec F S1x128 .i32) (x : S1x128.Idx) :
    k0_pay10 (F := F) (k0_pay9 v4 v19 (k0_pay3 v21 v26) 0#32 1#32 k v42) v63 x = IntOp.addi (v63 x) (code v21 v26 v4 v19 w (8 * k.val + 1) x) :=
  add_of hl v63 _ _ (code_of hl k v21 v26 v4 w (k0_pay7 v42) 1 (by decide) ((e7 ▸ hw) 1 (by decide)) _ _ _ _) _ x

theorem tok2  (v63 : Vec F S1x128 .i32) (x : S1x128.Idx) :
    k0_pay11 v4 v19 (k0_pay3 v21 v26) v43 (Scalar.muli (Scf.iv 0#32 1#32 k.val) 8#32) v63 x = IntOp.addi (v63 x) (code v21 v26 v4 v19 w (8 * k.val + 2) x) :=
  add_of hl v63 _ _ (code_of hl k v21 v26 v4 w v43 2 (by decide) (hw 2 (by decide)) _ _ _ _) _ x

theorem tok3  (v63 : Vec F S1x128 .i32) (x : S1x128.Idx) :
    k0_pay13 (F := F) (k0_pay12 v4 v19 (k0_pay3 v21 v26) v43 (Scalar.muli (Scf.iv 0#32 1#32 k.val) 8#32)) v63 x = IntOp.addi (v63 x) (code v21 v26 v4 v19 w (8 * k.val + 3) x) :=
  add_of hl v63 _ _ (code_of hl k v21 v26 v4 w v43 3 (by decide) (hw 3 (by decide)) _ _ _ _) _ x

theorem tok4  (v63 : Vec F S1x128 .i32) (x : S1x128.Idx) :
    k0_pay14 v4 v19 (k0_pay3 v21 v26) v43 (Scalar.muli (Scf.iv 0#32 1#32 k.val) 8#32) v63 x = IntOp.addi (v63 x) (code v21 v26 v4 v19 w (8 * k.val + 4) x) :=
  add_of hl v63 _ _ (code_of hl k v21 v26 v4 w v43 4 (by decide) (hw 4 (by decide)) _ _ _ _) _ x

theorem tok5  (v63 : Vec F S1x128 .i32) (x : S1x128.Idx) :
    k0_pay16 (F := F) v19 (k0_pay15 v4 (k0_pay3 v21 v26) v43) (Scalar.addi (Scalar.muli (Scf.iv 0#32 1#32 k.val) 8#32) 5#32) v63 x = IntOp.addi (v63 x) (code v21 v26 v4 v19 w (8 * k.val + 5) x) :=
  add_of hl v63 _ _ (code_of hl k v21 v26 v4 w v43 5 (by decide) (hw 5 (by decide)) _ _ _ _) _ x

theorem tok6  (v63 : Vec F S1x128 .i32) (x : S1x128.Idx) :
    k0_pay17 v4 v19 (k0_pay3 v21 v26) v43 (Scalar.muli (Scf.iv 0#32 1#32 k.val) 8#32) v63 x = IntOp.addi (v63 x) (code v21 v26 v4 v19 w (8 * k.val + 6) x) :=
  add_of hl v63 _ _ (code_of hl k v21 v26 v4 w v43 6 (by decide) (hw 6 (by decide)) _ _ _ _) _ x

theorem tok7  (v63 : Vec F S1x128 .i32) (x : S1x128.Idx) :
    k0_pay4 v19 (Scalar.muli (Scf.iv 0#32 1#32 k.val) 8#32) (k0_pay18 v4 (k0_pay3 v21 v26) v43) v63 x = IntOp.addi (v63 x) (code v21 v26 v4 v19 w (8 * k.val + 7) x) :=
  add_of hl v63 _ _ (code_of hl k v21 v26 v4 w v43 7 (by decide) (hw 7 (by decide)) _ _ _ _) _ x

end Pays

section T3
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32) (b : Fin k0_t2_loop.trips) (arg15 : BitVec 32) (v19 : Elt F .i32) (hw : k0_chk1 b v19)
  (v21 : Vec F S1x128 .f32) (v26 : Elt F .f32)

abbrev t3G (k : Fin (k0_t3_loop v19).trips) (a : BitVec 32) : Prog (TpuEff nD τ sig (Elt F) Λ₀ .tc) (BitVec 32) :=
  k0_t3_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 b arg15 v19 hw v21 v26 k a

instance (v : BitVec 32) : ClosedOff (k0_off8 v) := ⟨rowOff v, rfl⟩
instance (v : BitVec 32) : ClosedOff (k0_off10 v) := ⟨rowOff v, rfl⟩
instance (v : BitVec 32) : ClosedOff (k0_off12 v) := ⟨rowOff v, rfl⟩
instance (v : BitVec 32) : ClosedOff (k0_off14 v) := ⟨rowOff v, rfl⟩
instance (v : BitVec 32) : ClosedOff (k0_off16 v) := ⟨rowOff v, rfl⟩
instance (v : BitVec 32) : ClosedOff (k0_off18 v) := ⟨rowOff v, rfl⟩
instance (v : BitVec 32) : ClosedOff (k0_off20 v) := ⟨rowOff v, rfl⟩
instance (v : BitVec 32) : ClosedOff (k0_off22 v) := ⟨rowOff v, rfl⟩

theorem row_chk {v : BitVec 32} (h : v.toNat < 45000) : ∀ a, (![v.toNat, 0] : Fin 2 → ℕ) a + S1x128.size a ≤ S45000x128.size a := by
  intro a; fin_cases a
  · show v.toNat + 1 ≤ 45000; omega
  · show 0 + 128 ≤ 128; omega

abbrev ids (X5 : Buf (Elt F) (arg5.view.loc (c : Thread nD τ))) (b : ℕ) : ℕ → BitVec 32 := fun p => arg5.view.read (Elt F) X5 (idAt b p)
abbrev wts (X7 : Buf (Elt F) (arg7.view.loc (c : Thread nD τ))) (b : ℕ) : ℕ → Elt F .f32 := fun p => arg7.view.read (Elt F) X7 (wAt b p)

theorem t3trip (k : Fin (k0_t3_loop v19).trips) (a : BitVec 32) (hl : v19.toInt ≤ 384)
    (X5 : Buf (Elt F) (arg5.view.loc (c : Thread nD τ))) (X7 : Buf (Elt F) (arg7.view.loc (c : Thread nD τ)))
    (hid : ∀ x, (arg5.view.read (Elt F) X5 x).toNat < 45000)
    (f : Buf (Elt F) (arg10.view.loc (c : Thread nD τ))) (A : Acc)
    (hf : arg10.view.read (Elt F) f = toks (ids c arg5 X5 b.val) (code v21 v26 v4 v19 (wts c arg7 X7 b.val)) A (8 * k.val)) :
    (iprop((arg5.view.loc (c : Thread nD τ) ↦[arg5.view.set]{fullShare} X5) ∗ (arg7.view.loc (c : Thread nD τ) ↦[arg7.view.set]{fullShare} X7)
      ∗ (arg10.view.loc (c : Thread nD τ) ↦[arg10.view.set]{fullShare} f)) : sProp 𝕄)
    ⊢ wp frame (wpE (defs₀ (F := F)) 𝒱₀ (c : Thread nD τ) none) Set.univ (t3G i arg2 harg2 arg3 harg3 arg4 harg4 arg5 harg5 arg6 harg6 arg7 harg7 arg10 harg10 arg12 harg12 v4 b arg15 v19 hw v21 v26 k a)
        (fun _ => iprop((arg5.view.loc (c : Thread nD τ) ↦[arg5.view.set]{fullShare} X5) ∗ (arg7.view.loc (c : Thread nD τ) ↦[arg7.view.set]{fullShare} X7)
      ∗ ∃ f', (arg10.view.loc (c : Thread nD τ) ↦[arg10.view.set]{fullShare} f')
        ∗ ⌜arg10.view.read (Elt F) f' = toks (ids c arg5 X5 b.val) (code v21 v26 v4 v19 (wts c arg7 X7 b.val)) A (8 * (k.val + 1))⌝)) := by
  have hk := t3_lt hl k
  have hb := t2_lt b
  have hwt : ∀ s (hs : s < 8), k0_pay7 (arg7.view.readAt (Elt F) (Rect.unit (s := S1x32x48x128) (k0_off6 b v19 k) S1x1x1x128.size (k0_off6_inb b v19 hw k)).toLoadRect X7) (ixRow ⟨s, by omega⟩)
      = wts c arg7 X7 b.val (8 * k.val + s) := fun s hs => read_w arg7 X7 (off6_eq hl b k) hb hk _ s hs
  iintro ⟨H5, H7, HA⟩
  dsimp only [t3G]
  sl_unfold [k0_t3_body]
  sl_exec (disch := exact row_chk (hid _))
  sl_step
  isplitl [H5]; · iexact H5
  isplitl [H7]; · iexact H7
  iexists _; isplitl [HA]; · iexact HA
  ipureintro
  show _ = tokv _ _ (tokv _ _ (tokv _ _ (tokv _ _ (tokv _ _ (tokv _ _ (tokv _ _ (tokv _ _ (toks _ _ A (8 * k.val)))))))))
  rw [← hf]
  refine read_step arg10 _ _ _ _ _ _ _ (tok7 hl k v21 v26 v4 _ _ hwt _) (read_id arg5 X5 (off21_eq hl b k) hb (by omega) _ _) ?_
  refine read_step arg10 _ _ _ _ _ _ _ (tok6 hl k v21 v26 v4 _ _ hwt _) (read_id arg5 X5 (off19_eq hl b k) hb (by omega) _ _) ?_
  refine read_step arg10 _ _ _ _ _ _ _ (tok5 hl k v21 v26 v4 _ _ hwt _) (read_id arg5 X5 (off17_eq hl b k) hb (by omega) _ _) ?_
  refine read_step arg10 _ _ _ _ _ _ _ (tok4 hl k v21 v26 v4 _ _ hwt _) (read_id arg5 X5 (off15_eq hl b k) hb (by omega) _ _) ?_
  refine read_step arg10 _ _ _ _ _ _ _ (tok3 hl k v21 v26 v4 _ _ hwt _) (read_id arg5 X5 (off13_eq hl b k) hb (by omega) _ _) ?_
  refine read_step arg10 _ _ _ _ _ _ _ (tok2 hl k v21 v26 v4 _ _ hwt _) (read_id arg5 X5 (off11_eq hl b k) hb (by omega) _ _) ?_
  refine read_step arg10 _ _ _ _ _ _ _ (tok1 hl k v21 v26 v4 _ _ hwt _ rfl _) (read_id arg5 X5 (off9_eq hl b k) hb (by omega) _ _) ?_
  have t0 := tok0 hl k v21 v26 v4 _ _ hwt _ rfl
  have i0 := read_id arg5 X5 (off7_eq hl b k) hb (by omega) (k0_off7_inb b v19 hw k) (Shape.Idx.first (by decide))
  rw [Nat.add_zero] at t0 i0
  change _ = tokv (ids c arg5 X5 b.val (8 * k.val)) (code v21 v26 v4 v19 (wts c arg7 X7 b.val) (8 * k.val)) _
  delta t3trip.sl.HA_1
  refine read_step arg10 _ _ _ _ _ _ _ (fun x => ?_) i0 ?_
  · rw [View.writes_nil]; exact t0 _ x
  · rw [View.writes_nil]

end T3

end Cert.Kernel.Hand

end
-- ==== Proof.BitsRing.lean ====
module

public import proofs.«01_k».proof.Proof.BitsBody
public import Idealize.ShloMosaic.Lib.Ring

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Canonical names: a table's slab of the gradient, a slot of the staging buffer, its cell, a table's counts -/

abbrev slabO (T : Fin 12) (s : Fin 45) : Fin 3 → ℕ := slabOff T.val s.val
theorem slab_inb (T : Fin 12) (s : Fin 45) : ∀ a, slabO T s a + S1x1000x128.size a ≤ S12x45000x128.size a := by
  have := T.isLt; have := s.isLt; intro a; fin_cases a
  · show T.val + 1 ≤ 12; omega
  · show 1000 * s.val + 1000 ≤ 45000; omega
  · show 0 + 128 ≤ 128; omega
theorem slotOff_inb (s : Fin 3) : ∀ a, slotOff s a + S1x1000x128.size a ≤ S3x1000x128.size a := by
  have := s.isLt; intro a; fin_cases a
  · show s.val + 1 ≤ 3; omega
  · show 0 + 1000 ≤ 1000; omega
  · show 0 + 128 ≤ 128; omega
theorem semOff_inb (s : Fin 3) : ∀ a, semOff s a + S1.size a ≤ S3.size a := by
  have := s.isLt; intro a; fin_cases a; show s.val + 1 ≤ 3; omega
theorem tab_inb (T : Fin 12) : ∀ a, tabOff T.val a + S1x45000x128.size a ≤ S12x45000x128.size a := by
  have := T.isLt; intro a; fin_cases a
  · show T.val + 1 ≤ 12; omega
  · show 0 + 45000 ≤ 45000; omega
  · show 0 + 128 ≤ 128; omega

def slab (T : Fin 12) (s : Fin 45) : Memref sig .tc .hbm S1000x128 .f32 :=
  (gradM.slice (Rect.unit (s := S12x45000x128) (slabO T s) S1x1000x128.size (slab_inb T s)) (fun _ => rfl)).squeeze S1000x128 squeezes_S1x1000x128_S1000x128
def rslot (s : Fin 3) : Memref sig .tc .vmem S1000x128 .f32 :=
  (stM.slice (Rect.unit (s := S3x1000x128) (slotOff s) S1x1000x128.size (slotOff_inb s)) (fun _ => rfl)).squeeze S1000x128 squeezes_S1x1000x128_S1000x128
def csm (s : Fin 3) : DmaSems sig S_ := (cc0_scratch4.slice (Rect.unit (s := S3) (semOff s) S1.size (semOff_inb s))).squeeze S_ squeezes_S1_S_
def ftab (T : Fin 12) : Memref sig .tc .hbm S45000x128 .i32 :=
  (fixM.slice (Rect.unit (s := S12x45000x128) (tabOff T.val) S1x45000x128.size (tab_inb T)) (fun _ => rfl)).squeeze S45000x128 squeezes_S1x45000x128_S45000x128

abbrev tb (i : grid0.Coords) : Fin 12 := ⟨(i 0).val, i0_lt i⟩

instance (s : Fin 3) : ClosedOff (slotOff s) := ⟨slotOff s, rfl⟩
instance (T : Fin 12) (s : Fin 45) : ClosedOff (slabO T s) := ⟨slabO T s, rfl⟩
instance (k : Fin k0_t5_loop.trips) : ClosedOff (k0_off45 k) := ⟨slotOff (Ring.sl 3 k.val), off45_eq k⟩
instance (k : Fin k0_t5_loop.trips) : ClosedOff (k0_off44 k) := ⟨![1000 * k.val, 0], off44_eq k⟩

theorem csm_congr {off : Fin 1 → ℕ} {s : Fin 3} (e : off = semOff s) (hh) :
    (cc0_scratch4.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → ℕ} {s : Fin 3} (e : off = slotOff s) (hh hs) :
    (stM.slice (Rect.unit (s := S3x1000x128) off S1x1000x128.size hh) hs).squeeze S1000x128 squeezes_S1x1000x128_S1000x128 = rslot s :=
  congrArg (fun M : Memref sig .tc .vmem S1x1000x128 .f32 => M.squeeze S1000x128 squeezes_S1x1000x128_S1000x128) (Memref.slice_unit_congr _ e _ _ _ _)
theorem slab_congr {off : Fin 3 → ℕ} {T : Fin 12} {s : Fin 45} (e : off = slabO T s) (hh hs) :
    (gradM.slice (Rect.unit (s := S12x45000x128) off S1x1000x128.size hh) hs).squeeze S1000x128 squeezes_S1x1000x128_S1000x128 = slab T s :=
  congrArg (fun M : Memref sig .tc .hbm S1x1000x128 .f32 => M.squeeze S1000x128 squeezes_S1x1000x128_S1000x128) (Memref.slice_unit_congr _ e _ _ _ _)
theorem ftab_congr {off : Fin 3 → ℕ} {T : Fin 12} (e : off = tabOff T.val) (hh hs) :
    (fixM.slice (Rect.unit (s := S12x45000x128) off S1x45000x128.size hh) hs).squeeze S45000x128 squeezes_S1x45000x128_S45000x128 = ftab T :=
  congrArg (fun M : Memref sig .tc .hbm S1x45000x128 .i32 => M.squeeze S45000x128 squeezes_S1x45000x128_S45000x128) (Memref.slice_unit_congr _ e _ _ _ _)

section Canon
variable (i : grid0.Coords) (k : Fin k0_t5_loop.trips)
theorem bk45 : (Ring.bk 45 k.val).val = k.val := Ring.bk_val (t5_lt k)
@[sl_canon] theorem sem41 (hh) : (cc0_scratch4.slice (Rect.unit (s := S3) (k0_off41 k) S1.size hh)).squeeze S_ squeezes_S1_S_ = csm (Ring.sl 3 k.val) := csm_congr (off41_eq k) _
@[sl_canon] theorem sem46 (hh) : (cc0_scratch4.slice (Rect.unit (s := S3) (k0_off46 k) S1.size hh)).squeeze S_ squeezes_S1_S_ = csm (Ring.sl 3 k.val) := csm_congr (off46_eq k) _
@[sl_canon] theorem slot43 (hh hs) : (stM.slice (Rect.unit (s := S3x1000x128) (k0_off43 k) S1x1000x128.size hh) hs).squeeze S1000x128 squeezes_S1x1000x128_S1000x128 = rslot (Ring.sl 3 k.val) := rslot_congr (off43_eq k) _ _
@[sl_canon] theorem slot48 (hh hs) : (stM.slice (Rect.unit (s := S3x1000x128) (k0_off48 k) S1x1000x128.size hh) hs).squeeze S1000x128 squeezes_S1x1000x128_S1000x128 = rslot (Ring.sl 3 k.val) := rslot_congr (off48_eq k) _ _
@[sl_canon] theorem slab47 (hh hs) : (gradM.slice (Rect.unit (s := S12x45000x128) (k0_off47 i k) S1x1000x128.size hh) hs).squeeze S1000x128 squeezes_S1x1000x128_S1000x128 = slab (tb i) (Ring.bk 45 k.val) :=
  slab_congr ((off47_eq i k).trans (by rw [slabO, bk45])) _ _
@[sl_canon] theorem slab42 (h3 : 3 ≤ k.val) (hh hs) : (gradM.slice (Rect.unit (s := S12x45000x128) (k0_off42 i k) S1x1000x128.size hh) hs).squeeze S1000x128 squeezes_S1x1000x128_S1000x128 = slab (tb i) (Ring.bk 45 (k.val - 3)) :=
  slab_congr ((off42_eq i k h3).trans (by rw [slabO, Ring.bk_val (by have := t5_lt k; omega)])) _ _
@[sl_canon] theorem semL0 (hh) : (cc0_scratch4.slice (Rect.unit (s := S3) ![0] S1.size hh)).squeeze S_ squeezes_S1_S_ = csm 0 := csm_congr (by decide) _
@[sl_canon] theorem semL1 (hh) : (cc0_scratch4.slice (Rect.unit (s := S3) ![1] S1.size hh)).squeeze S_ squeezes_S1_S_ = csm 1 := csm_congr (by decide) _
@[sl_canon] theorem semL2 (hh) : (cc0_scratch4.slice (Rect.unit (s := S3) ![2] S1.size hh)).squeeze S_ squeezes_S1_S_ = csm 2 := csm_congr (by decide) _
@[sl_canon] theorem slotL0 (hh hs) : (stM.slice (Rect.unit (s := S3x1000x128) ![0, 0, 0] S1x1000x128.size hh) hs).squeeze S1000x128 squeezes_S1x1000x128_S1000x128 = rslot 0 := rslot_congr (by decide) _ _
@[sl_canon] theorem slotL1 (hh hs) : (stM.slice (Rect.unit (s := S3x1000x128) ![1, 0, 0] S1x1000x128.size hh) hs).squeeze S1000x128 squeezes_S1x1000x128_S1000x128 = rslot 1 := rslot_congr (by decide) _ _
@[sl_canon] theorem slotL2 (hh hs) : (stM.slice (Rect.unit (s := S3x1000x128) ![2, 0, 0] S1x1000x128.size hh) hs).squeeze S1000x128 squeezes_S1x1000x128_S1000x128 = rslot 2 := rslot_congr (by decide) _ _
@[sl_canon] theorem slab49 (hh hs) : (gradM.slice (Rect.unit (s := S12x45000x128) (k0_off49 i) S1x1000x128.size hh) hs).squeeze S1000x128 squeezes_S1x1000x128_S1000x128 = slab (tb i) 42 := slab_congr (off49_eq i) _ _
@[sl_canon] theorem slab50 (hh hs) : (gradM.slice (Rect.unit (s := S12x45000x128) (k0_off50 i) S1x1000x128.size hh) hs).squeeze S1000x128 squeezes_S1x1000x128_S1000x128 = slab (tb i) 43 := slab_congr (off50_eq i) _ _
@[sl_canon] theorem slab51 (hh hs) : (gradM.slice (Rect.unit (s := S12x45000x128) (k0_off51 i) S1x1000x128.size hh) hs).squeeze S1000x128 squeezes_S1x1000x128_S1000x128 = slab (tb i) 44 := slab_congr (off51_eq i) _ _
@[sl_canon] theorem ftab40 (hh hs) : (fixM.slice (Rect.unit (s := S12x45000x128) (k0_off40 i) S1x45000x128.size hh) hs).squeeze S45000x128 squeezes_S1x45000x128_S45000x128 = ftab (tb i) := ftab_congr (off40_eq i) _ _
@[sl_canon] theorem ftab52 (hh hs) : (fixM.slice (Rect.unit (s := S12x45000x128) (k0_off52 i) S1x45000x128.size hh) hs).squeeze S45000x128 squeezes_S1x45000x128_S45000x128 = ftab (tb i) := ftab_congr (off52_eq i) _ _
end Canon

/-! ## Pieces -/

section Pieces
variable (c : Dev nD)
abbrev cellP (s : Fin 3) : sProp 𝕄 := semVal ((c : Thread nD τ), SemLoc.dma (csm s).sem) 0
abbrev slotP (s : Fin 3) (f : Buf (Elt F) ((rslot s).view.loc (c : Thread nD τ))) : sProp 𝕄 := (rslot s).view.loc (c : Thread nD τ) ↦[(rslot s).view.set]{fullShare} f
abbrev slabP (T : Fin 12) (s : Fin 45) (f : Buf (Elt F) ((slab T s).view.loc (c : Thread nD τ))) : sProp 𝕄 := (slab T s).view.loc (c : Thread nD τ) ↦[(slab T s).view.set]{fullShare} f

def accAt (s : Fin 45) (x : S1000x128.Idx) : S45000x128.Idx := fun | 0 => Fin.ofNat 45000 (1000 * s.val + (x 0).val) | 1 => x 1
/-- Slab `s` of a table's gradient, off the table's counts. -/
def gslab (v4 : Elt F .f32) (A : Acc) (s : Fin 45) : S1000x128.Idx → Elt F .f32 :=
  fun x => mulf (sitofp .f32 (fun x => A (accAt s x) : IVec S1000x128 32)) (broadcast S1000x128 (Scalar.divf (Scalar.ofBits .f32 0x3F800000#32) v4)) x

abbrev slabOK (v4 : Elt F .f32) (A : Acc) (T : Fin 12) (s : Fin 45) (g : Buf (Elt F) ((slab T s).view.loc (c : Thread nD τ))) : Prop :=
  (slab T s).view.read (Elt F) g = gslab v4 A s
abbrev doneP (v4 : Elt F .f32) (A : Acc) (T : Fin 12) (s : Fin 45) : sProp 𝕄 := iprop(∃ g, slabP c T s g ∗ ⌜slabOK c v4 A T s g⌝)
abbrev homeR (s : Fin 3) : sProp 𝕄 := iprop((∃ f, slotP c s f) ∗ cellP c s)
abbrev flR (v4 : Elt F .f32) (A : Acc) (T : Fin 12) (s : Fin 3) (b : Fin 45) : sProp 𝕄 :=
  iprop(∃ g f, Transfers.Flight countersEmb (c : Thread nD τ) (SemLoc.dma (csm s).sem) () 16000 iprop(slabP c T b g ∗ slotP c s f) ∗ ⌜slabOK c v4 A T b g⌝)
end Pieces

theorem read_landed {sp : Space} {s : Shape} {e : EltTy} (M : Memref sig .tc sp s e) (g : M.view.ty.Contents (Elt F)) (w : s.Idx → Elt F e) :
    M.view.read (Elt F) (M.view.writes (Elt F) g [⟨Rect.whole s, w⟩]) = w := by
  rw [← View.write_univ_eq_writes_whole]; exact View.read_write_univ _ _

theorem read_slot {off : Fin 3 → ℕ} {s : Fin 3} (e : off = slotOff s) (h : ∀ a, off a + S1x1000x128.size a ≤ S3x1000x128.size a)
    (f : stM.view.ty.Contents (Elt F)) (v50 : S1000x128.Idx → Elt F .f32) (hc) :
    (rslot s).view.read (Elt F) (View.write (Elt F) (stM.access (Rect.unit (s := S3x1000x128) off S1x1000x128.size h)) f (shapeCast S1x1000x128 v50 hc) Finset.univ) = v50 := by
  subst e
  funext x
  have h1 := congrFun (View.read_write_univ (Val := Elt F) (v := stM.access (Rect.unit (s := S3x1000x128) (slotOff s) S1x1000x128.size h)) f (shapeCast S1x1000x128 v50 hc))
    (Shape.reshapeEquiv (squeezes_S1x1000x128_S1000x128).numel_eq x)
  refine Eq.trans (b := shapeCast S1x1000x128 v50 hc (Shape.reshapeEquiv (squeezes_S1x1000x128_S1000x128).numel_eq x)) h1 ?_
  show v50 (Shape.reshapeEquiv _ (Shape.reshapeEquiv _ x)) = v50 x
  rw [Shape.reshapeEquiv_reshapeEquiv, Shape.reshapeEquiv_self]

theorem read_acc (A10 : Memref sig .tc .vmem S45000x128 .i32) (X : A10.view.ty.Contents (Elt F)) (k : Fin k0_t5_loop.trips)
    (h : ∀ a, k0_off44 k a + S1000x128.size a ≤ S45000x128.size a) :
    (A10.view.readAt (Elt F) (Rect.unit (s := S45000x128) (k0_off44 k) S1000x128.size h).toLoadRect X : IVec S1000x128 32)
      = fun x => A10.view.read (Elt F) X (accAt (Ring.bk 45 k.val) x) := by
  funext x
  refine congrArg (A10.view.read (Elt F) X) (funext fun a => Fin.ext ?_)
  have e : k0_off44 k a + 1 * (x a).val = (![1000 * k.val, 0] : Fin 2 → ℕ) a + 1 * (x a).val := by
    rw [← off44_eq k]
  refine e.trans ?_
  have hk := t5_lt k
  have hb := bk45 k
  have hx : (x 0).val < 1000 := (x 0).isLt
  fin_cases a
  · show 1000 * k.val + 1 * (x 0).val = (1000 * (Ring.bk 45 k.val).val + (x 0).val) % 45000; rw [hb]; omega
  · show 0 + 1 * (x 1).val = (x 1).val; omega

theorem read_out (A10 : Memref sig .tc .vmem S45000x128 .i32) (X : A10.view.ty.Contents (Elt F)) (v4 : Elt F .f32) (T : Fin 12) (k : Fin k0_t5_loop.trips)
    (g : (slab T (Ring.bk 45 k.val)).view.ty.Contents (Elt F)) (f : stM.view.ty.Contents (Elt F)) (h h') :
    (slab T (Ring.bk 45 k.val)).view.read (Elt F) ((slab T (Ring.bk 45 k.val)).view.writes (Elt F) g
      [⟨Rect.whole S1000x128,
          ReadAs.same.apply
            (View.read (Elt F) (rslot (Ring.sl 3 k.val)).view
              (View.write (Elt F) (stM.access (Rect.unit (s := S3x1000x128) (k0_off45 k) S1x1000x128.size h)) f
                (k0_pay6 v4 (View.readAt (Elt F) A10.view (Rect.unit (s := S45000x128) (k0_off44 k) S1000x128.size h').toLoadRect X))
                Finset.univ))⟩]) = gslab v4 (A10.view.read (Elt F) X) (Ring.bk 45 k.val) := by
  rw [read_landed]
  show View.read (Elt F) (rslot (Ring.sl 3 k.val)).view _ = _
  unfold k0_pay6
  rw [read_acc]
  exact read_slot (off45_eq k) h f _ _

section Trip
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32) (h3 : k0_cond3 i = 1#1)

abbrev t5G (k : Fin k0_t5_loop.trips) : Prog (TpuEff nD τ sig (Elt F) Λ₀ .tc) Unit :=
  k0_t5_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 h3 k ()

theorem t5lo (k : Fin k0_t5_loop.trips) (hk : ¬ 3 ≤ k.val) (q : PosShare TreeShare) (X : Buf (Elt F) (arg10.view.loc (c : Thread nD τ)))
    (f : Buf (Elt F) ((rslot (Ring.sl 3 k.val)).view.loc (c : Thread nD τ))) (g : Buf (Elt F) ((slab (tb i) (Ring.bk 45 k.val)).view.loc (c : Thread nD τ))) (W : Waits sig Unit) :
    (iprop((arg10.view.loc (c : Thread nD τ) ↦[arg10.view.set]{q} X) ∗ slotP c (Ring.sl 3 k.val) f ∗ cellP c (Ring.sl 3 k.val) ∗ slabP c (tb i) (Ring.bk 45 k.val) g ∗ owes (c : Thread nD τ) 0 W) : sProp 𝕄)
    ⊢ wp frame (wpE (defs₀ (F := F)) 𝒱₀ (c : Thread nD τ) none) Set.univ (t5G i arg2 harg2 arg3 harg3 arg4 harg4 arg5 harg5 arg6 harg6 arg7 harg7 arg10 harg10 arg12 harg12 v4 h3 k)
      (fun _ => iprop((arg10.view.loc (c : Thread nD τ) ↦[arg10.view.set]{q} X) ∗ flR c v4 (arg10.view.read (Elt F) X) (tb i) (Ring.sl 3 k.val) (Ring.bk 45 k.val) ∗ ∃ W, owes (c : Thread nD τ) 0 W)) := by
  have h4 : ¬ k0_cond4 k = 1#1 := fun h => hk ((cond4_iff k).mp h)
  iintro ⟨HA, HS, HC, HG, HW⟩
  dsimp only [t5G]
  sl_unfold [k0_t5_body]
  sl_exec
  sl_step
  isplitl [HA]; · iexact HA
  isplitl [HC]
  · iexists _, _; isplitl [HC]; · iexact HC
    ipureintro
    delta t5lo.sl.dma3 t5lo.sl.HS_w1
    exact read_out arg10 X v4 (tb i) k g f _ _
  iexists _; iexact HW

theorem t5hi (k : Fin k0_t5_loop.trips) (hk : 3 ≤ k.val) (q : PosShare TreeShare) (X : Buf (Elt F) (arg10.view.loc (c : Thread nD τ))) (A : Acc)
    (g : Buf (Elt F) ((slab (tb i) (Ring.bk 45 k.val)).view.loc (c : Thread nD τ))) (W : Waits sig Unit) :
    (iprop((arg10.view.loc (c : Thread nD τ) ↦[arg10.view.set]{q} X) ∗ flR c v4 A (tb i) (Ring.sl 3 k.val) (Ring.bk 45 (k.val - 3)) ∗ slabP c (tb i) (Ring.bk 45 k.val) g ∗ owes (c : Thread nD τ) 0 W) : sProp 𝕄)
    ⊢ wp frame (wpE (defs₀ (F := F)) 𝒱₀ (c : Thread nD τ) none) Set.univ (t5G i arg2 harg2 arg3 harg3 arg4 harg4 arg5 harg5 arg6 harg6 arg7 harg7 arg10 harg10 arg12 harg12 v4 h3 k)
      (fun _ => iprop((arg10.view.loc (c : Thread nD τ) ↦[arg10.view.set]{q} X) ∗ doneP c v4 A (tb i) (Ring.bk 45 (k.val - 3))
        ∗ flR c v4 (arg10.view.read (Elt F) X) (tb i) (Ring.sl 3 k.val) (Ring.bk 45 k.val) ∗ ∃ W, owes (c : Thread nD τ) 0 W)) := by
  have h4 : k0_cond4 k = 1#1 := (cond4_iff k).mpr hk
  iintro ⟨HA, ⟨%g0, %f0, HF, %hg0⟩, HG, HW⟩
  dsimp only [t5G]
  sl_unfold [k0_t5_body]
  sl_exec
  sl_step
  isplitl [HA]; · iexact HA
  isplitl [HF_dst]
  · iexists g0; isplitl [HF_dst]; · iexact HF_dst
    ipureintro; exact hg0
  isplitl [HF]
  · iexists _, _; isplitl [HF]; · iexact HF
    ipureintro
    delta t5hi.sl.dma3 t5hi.sl.HF_src_w1
    exact read_out arg10 X v4 (tb i) k g f0 _ _
  iexists _; iexact HW
end Trip

end Cert.Kernel.Hand

end
-- ==== Proof.BitsLoops.lean ====
module

public import proofs.«01_k».proof.Proof.BitsBody

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- Bag `b` of the grid point `i` in the tables of lengths and of scales. -/
def bagAt (i : grid0.Coords) (b : ℕ) : S12x160.Idx := fun | 0 => Fin.ofNat 12 (i 0).val | 1 => Fin.ofNat 160 (32 * (i 1).val + b)
def gfAt (b : ℕ) (l : Fin 128) : S32x128.Idx := fun | 0 => Fin.ofNat 32 b | 1 => l

theorem read_bag {sp : Space} {e : EltTy} (A2 : Memref sig .tc sp S12x160 e) (X : A2.view.ty.Contents (Elt F)) (i : grid0.Coords) (b : Fin k0_t2_loop.trips)
    (h : ∀ a, k0_off4 i b a + S1x1.size a ≤ S12x160.size a) (z : S1x1.Idx) :
    A2.view.readAt (Elt F) (Rect.unit (s := S12x160) (k0_off4 i b) S1x1.size h).toLoadRect X z = A2.view.read (Elt F) X (bagAt i b.val) := by
  refine congrArg (A2.view.read (Elt F) X) (funext fun a => Fin.ext ?_)
  show k0_off4 i b a + 1 * (z a).val = _
  have hz : (z a).val = 0 := by
    have := (z a).isLt; fin_cases a <;> exact Nat.lt_one_iff.mp this
  rw [hz, off4_eq]
  have hb := t2_lt b
  have h0 := i0_lt i
  have h1 := i1_lt i
  fin_cases a
  · show (i 0).val + 0 = (i 0).val % 12; omega
  · show 32 * (i 1).val + b.val + 0 = (32 * (i 1).val + b.val) % 160; omega

theorem read_gf (A12 : Memref sig .tc .vmem S32x128 .f32) (X : A12.view.ty.Contents (Elt F)) (b : Fin k0_t2_loop.trips)
    (h : ∀ a, k0_off5 b a + S1x128.size a ≤ S32x128.size a) :
    (A12.view.readAt (Elt F) (Rect.unit (s := S32x128) (k0_off5 b) S1x128.size h).toLoadRect X : Vec F S1x128 .f32)
      = fun x => A12.view.read (Elt F) X (gfAt b.val (x 1)) := by
  funext x
  refine congrArg (A12.view.read (Elt F) X) (funext fun a => Fin.ext ?_)
  have e : k0_off5 b a + 1 * (x a).val = (![b.val, 0] : Fin 2 → ℕ) a + 1 * (x a).val := by
    rw [← off5_eq b]
  refine e.trans ?_
  have hb := t2_lt b
  have hz : (x 0).val = 0 := Nat.lt_one_iff.mp (x 0).isLt
  fin_cases a
  · show b.val + 1 * (x 0).val = b.val % 32; omega
  · show 0 + 1 * (x 1).val = (x 1).val; omega

section
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32)

/-- What holds before trip `k` of a bag's loop over groups of eight tokens. -/
abbrev inv3 (b : ℕ) (v19 : Elt F .i32) (v21 : Vec F S1x128 .f32) (v26 : Elt F .f32)
    (X5 : Buf (Elt F) (arg5.view.loc (c : Thread nD τ))) (X7 : Buf (Elt F) (arg7.view.loc (c : Thread nD τ))) (A : Acc) (k : ℕ) : sProp 𝕄 :=
  iprop((arg5.view.loc (c : Thread nD τ) ↦[arg5.view.set]{fullShare} X5) ∗ (arg7.view.loc (c : Thread nD τ) ↦[arg7.view.set]{fullShare} X7)
      ∗ ∃ f', (arg10.view.loc (c : Thread nD τ) ↦[arg10.view.set]{fullShare} f')
        ∗ ⌜arg10.view.read (Elt F) f' = toks (ids c arg5 X5 b) (code v21 v26 v4 v19 (wts c arg7 X7 b)) A (8 * k)⌝)

/-- The accumulator after the first `n` bags of a grid point. -/
def bags (len : ℕ → BitVec 32) (rw_ : ℕ → Vec F S1x128 .f32) (sc : ℕ → Elt F .f32) (id : ℕ → ℕ → BitVec 32) (w : ℕ → ℕ → Elt F .f32) (A : Acc) : ℕ → Acc
  | 0 => A
  | b + 1 => toks (id b) (code (rw_ b) (sc b) v4 (len b) (w b)) (bags len rw_ sc id w A b) (8 * grps (len b))

abbrev bagsG (X2 : Buf (Elt F) (arg2.view.loc (c : Thread nD τ))) (X3 : Buf (Elt F) (arg3.view.loc (c : Thread nD τ)))
    (X5 : Buf (Elt F) (arg5.view.loc (c : Thread nD τ))) (X7 : Buf (Elt F) (arg7.view.loc (c : Thread nD τ)))
    (G : ℕ → Vec F S1x128 .f32) (A : Acc) (n : ℕ) : Acc :=
  bags v4 (fun b => arg2.view.read (Elt F) X2 (bagAt i b)) G
    (fun b => arg3.view.read (Elt F) X3 (bagAt i b)) (ids c arg5 X5) (wts c arg7 X7) A n

abbrev t2G (k : Fin k0_t2_loop.trips) : Prog (TpuEff nD τ sig (Elt F) Λ₀ .tc) Unit :=
  k0_t2_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 k ()

abbrev t3F (b : Fin k0_t2_loop.trips) (arg15 : BitVec 32) (v19 : Elt F .i32) (hw : k0_chk1 b v19) (v21 : Vec F S1x128 .f32) (v26 : Elt F .f32) :=
  k0_t3_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 b arg15 v19 hw v21 v26
abbrev t4F (b : Fin k0_t2_loop.trips) (arg15 : BitVec 32) (v19 : Elt F .i32) (hw : k0_chk1 b v19) (v21 : Vec F S1x128 .f32) (v26 : Elt F .f32) (v37 : BitVec 32) :=
  k0_t4_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 b arg15 v19 hw v21 v26 v37

/-- A bag's two inner loops. -/
def t2tail (b : Fin k0_t2_loop.trips) (v19 : Elt F .i32) (hw : k0_chk1 b v19) (v21 : Vec F S1x128 .f32) (v26 : Elt F .f32) : Prog (TpuEff nD τ sig (Elt F) Λ₀ .tc) Unit := do
  let v38 ← Scf.Loop.for (k0_t3_loop v19) (k0_t3_ok b v19 hw) 0#32 (t3F i arg2 harg2 arg3 harg3 arg4 harg4 arg5 harg5 arg6 harg6 arg7 harg7 arg10 harg10 arg12 harg12 v4 b (Scf.iv 0#32 1#32 b) v19 hw v21 v26)
  let v39 ← Scf.Loop.for (k0_t4_loop v19) (k0_t4_ok b v19 hw) v38 (t4F i arg2 harg2 arg3 harg3 arg4 harg4 arg5 harg5 arg6 harg6 arg7 harg7 arg10 harg10 arg12 harg12 v4 b (Scf.iv 0#32 1#32 b) v19 hw v21 v26 (Scalar.addi 0#32 (Scalar.muli (Scalar.divsi (Scalar.subi (Scalar.divsi (Scalar.addi v19 7#32) 8#32) 0#32) 1#32) 1#32)))
  pure ⟨⟩

/-- Trip `b`: the bag's length, scale and row, then the two loops. -/
def t2head (b : Fin k0_t2_loop.trips) : Prog (TpuEff nD τ sig (Elt F) Λ₀ .tc) ((v19 : Elt F .i32) × PLift (k0_chk1 b v19) × Vec F S1x128 .f32 × Elt F .f32) := do
  let v19 : Elt F .i32 ← smemLoad arg2 (Rect.unit (s := S12x160) (k0_off4 i b) S1x1.size (k0_off4_inb i b)) numel1_S1x1 rfl
  let hw ← Prog.lift (TpuEff.assume (k0_chk1 b v19) (k0_chk1.dec b v19))
  let v21 : Vec F S1x128 .f32 ← Prog.lift (.load arg12 (Rect.unit (s := S32x128) (k0_off5 b) S1x128.size (k0_off5_inb b)).toLoadRect (View.loadsAt_vmem h_S1x128))
  let v26 : Elt F .f32 ← smemLoad arg3 (Rect.unit (s := S12x160) (k0_off4 i b) S1x1.size (k0_off4_inb i b)) numel1_S1x1 rfl
  pure ⟨v19, hw, v21, v26⟩

theorem t2split (b : Fin k0_t2_loop.trips) :
    t2G i arg2 harg2 arg3 harg3 arg4 harg4 arg5 harg5 arg6 harg6 arg7 harg7 arg10 harg10 arg12 harg12 v4 b
      = t2head i arg2 arg3 arg12 b >>= fun r => t2tail i arg2 harg2 arg3 harg3 arg4 harg4 arg5 harg5 arg6 harg6 arg7 harg7 arg10 harg10 arg12 harg12 v4 b r.1 r.2.1.down r.2.2.1 r.2.2.2 := rfl

theorem t2tail_spec (b : Fin k0_t2_loop.trips) (v19 : Elt F .i32) (hw : k0_chk1 b v19) (v21 : Vec F S1x128 .f32) (v26 : Elt F .f32) (hl : v19.toInt ≤ 384)
    (X5 : Buf (Elt F) (arg5.view.loc (c : Thread nD τ))) (X7 : Buf (Elt F) (arg7.view.loc (c : Thread nD τ)))
    (hid : ∀ x, (arg5.view.read (Elt F) X5 x).toNat < 45000)
    (f : Buf (Elt F) (arg10.view.loc (c : Thread nD τ))) :
    (iprop((arg5.view.loc (c : Thread nD τ) ↦[arg5.view.set]{fullShare} X5) ∗ (arg7.view.loc (c : Thread nD τ) ↦[arg7.view.set]{fullShare} X7) ∗ (arg10.view.loc (c : Thread nD τ) ↦[arg10.view.set]{fullShare} f)) : sProp 𝕄)
    ⊢ wp frame (wpE (defs₀ (F := F)) 𝒱₀ (c : Thread nD τ) none) Set.univ (t2tail i arg2 harg2 arg3 harg3 arg4 harg4 arg5 harg5 arg6 harg6 arg7 harg7 arg10 harg10 arg12 harg12 v4 b v19 hw v21 v26)
      (fun _ => iprop((arg5.view.loc (c : Thread nD τ) ↦[arg5.view.set]{fullShare} X5) ∗ (arg7.view.loc (c : Thread nD τ) ↦[arg7.view.set]{fullShare} X7)
      ∗ ∃ f', (arg10.view.loc (c : Thread nD τ) ↦[arg10.view.set]{fullShare} f')
        ∗ ⌜arg10.view.read (Elt F) f' = toks (ids c arg5 X5 b.val) (code v21 v26 v4 v19 (wts c arg7 X7 b.val)) (arg10.view.read (Elt F) f) (8 * grps v19)⌝)) := by
  unfold t2tail
  iintro ⟨H5, H7, HA⟩
  iapply (Scf.wp_for_bind _ _ _ _ _ _ _ _ _ (fun k _ => inv3 c arg5 arg7 arg10 v4 b.val v19 v21 v26 X5 X7 (arg10.view.read (Elt F) f) k) ?step3) $$ [H5 H7 HA]
  case step3 =>
    intro k a
    iintro ⟨H5, H7, %f, HA, %hf⟩
    iapply (t3trip c i arg2 harg2 arg3 harg3 arg4 harg4 arg5 harg5 arg6 harg6 arg7 harg7 arg10 harg10 arg12 harg12 v4 b (Scf.iv 0#32 1#32 b) v19 hw v21 v26 k a hl X5 X7 hid f _ hf)
    isplitl [H5]; · iexact H5
    isplitl [H7]; · iexact H7
    iexact HA
  · isplitl [H5]; · iexact H5
    isplitl [H7]; · iexact H7
    iexists f; isplitl [HA]; · iexact HA
    ipureintro; rfl
  iintro %v38 ⟨H5, H7, %f', HA, %hf⟩
  iapply (Scf.wp_for_bind _ _ _ _ _ _ _ _ _ (fun _ _ => iprop(emp)) ?step4) $$ []
  case step4 =>
    intro k a
    exact absurd k.isLt (by have e := trips4_eq v19 hl; intro h; exact Nat.not_lt_zero _ (lt_of_lt_of_eq h e))
  · iempintro
  iintro %v39 He
  sl_step
  isplitl [H5]; · iexact H5
  isplitl [H7]; · iexact H7
  iexists f'; isplitl [HA]; · iexact HA
  ipureintro
  rw [← trips3_eq v19 hl]; exact hf

theorem t2head_spec (b : Fin k0_t2_loop.trips)
    (X2 : Buf (Elt F) (arg2.view.loc (c : Thread nD τ))) (X3 : Buf (Elt F) (arg3.view.loc (c : Thread nD τ)))
    (X12 : Buf (Elt F) (arg12.view.loc (c : Thread nD τ)))
    (hlen : ∀ x, (arg2.view.read (Elt F) X2 x).toInt ≤ 384) :
    (iprop((arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12)) : sProp 𝕄)
    ⊢ wp frame (wpE (defs₀ (F := F)) 𝒱₀ (c : Thread nD τ) none) Set.univ (t2head i arg2 arg3 arg12 b)
      (fun r => iprop(⌜r.1 = arg2.view.read (Elt F) X2 (bagAt i b.val) ∧ r.2.2.1 = (fun x => arg12.view.read (Elt F) X12 (gfAt b.val (x 1))) ∧ r.2.2.2 = arg3.view.read (Elt F) X3 (bagAt i b.val)⌝
        ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12))) := by
  have e2 := read_bag arg2 X2 i b (k0_off4_inb i b) (Shape.Idx.first (show 0 < S1x1.numel from by decide))
  have e3 := read_bag arg3 X3 i b (k0_off4_inb i b) (Shape.Idx.first (show 0 < S1x1.numel from by decide))
  have e12 := read_gf arg12 X12 b (k0_off5_inb b)
  have hl := hlen (bagAt i b.val)
  unfold t2head
  iintro ⟨H2, H3, H12⟩
  rw [← e2] at hl
  sl_exec (disch := exact chk1 hl b)
  sl_step
  isplitl []
  · ipureintro
    exact ⟨e2, rfl, e3⟩
  isplitl [H2]; · iexact H2
  isplitl [H3]; · iexact H3
  iexact H12

theorem t2trip (b : Fin k0_t2_loop.trips)
    (X2 : Buf (Elt F) (arg2.view.loc (c : Thread nD τ))) (X3 : Buf (Elt F) (arg3.view.loc (c : Thread nD τ)))
    (X5 : Buf (Elt F) (arg5.view.loc (c : Thread nD τ))) (X7 : Buf (Elt F) (arg7.view.loc (c : Thread nD τ)))
    (X12 : Buf (Elt F) (arg12.view.loc (c : Thread nD τ)))
    (hlen : ∀ x, (arg2.view.read (Elt F) X2 x).toInt ≤ 384)
    (hid : ∀ x, (arg5.view.read (Elt F) X5 x).toNat < 45000)
    (f : Buf (Elt F) (arg10.view.loc (c : Thread nD τ))) (A : Acc)
    (hf : arg10.view.read (Elt F) f = bagsG c i arg2 arg3 arg5 arg7 v4 X2 X3 X5 X7 (fun b x => arg12.view.read (Elt F) X12 (gfAt b (x 1))) A b.val) :
    (iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ (arg10.view.loc (c : Thread nD τ) ↦[arg10.view.set]{fullShare} f)) : sProp 𝕄)
    ⊢ wp frame (wpE (defs₀ (F := F)) 𝒱₀ (c : Thread nD τ) none) Set.univ (t2G i arg2 harg2 arg3 harg3 arg4 harg4 arg5 harg5 arg6 harg6 arg7 harg7 arg10 harg10 arg12 harg12 v4 b)
        (fun _ => iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ ∃ f', (arg10.view.loc (c : Thread nD τ) ↦[arg10.view.set]{fullShare} f')
        ∗ ⌜arg10.view.read (Elt F) f' = bagsG c i arg2 arg3 arg5 arg7 v4 X2 X3 X5 X7 (fun b x => arg12.view.read (Elt F) X12 (gfAt b (x 1))) A (b.val + 1)⌝)) := by
  rw [t2split]
  iintro ⟨H2, H3, H5, H7, H12, HA⟩
  iapply (exec_cut _ _ _ (t2head_spec c i arg2 arg3 arg12 b X2 X3 X12 hlen)) $$ [H2 H3 H12]
  · isplitl [H2]; · iexact H2
    isplitl [H3]; · iexact H3
    iexact H12
  iintro %r ⟨%hr, H2, H3, H12⟩
  obtain ⟨v19, hw, v21, v26⟩ := r
  obtain ⟨h19, h21, h26⟩ := hr
  have hl : v19.toInt ≤ 384 := le_of_eq_of_le (congrArg BitVec.toInt h19) (hlen _)
  iapply (exec_cut_last _ _ _ (t2tail_spec c i arg2 harg2 arg3 harg3 arg4 harg4 arg5 harg5 arg6 harg6 arg7 harg7 arg10 harg10 arg12 harg12 v4 b v19 hw.down v21 v26 hl X5 X7 hid f)) $$ [H5 H7 HA]
  · isplitl [H5]; · iexact H5
    isplitl [H7]; · iexact H7
    iexact HA
  iintro %_ ⟨H5, H7, %f', HA, %hf'⟩
  isplitl [H2]; · iexact H2
  isplitl [H3]; · iexact H3
  isplitl [H5]; · iexact H5
  isplitl [H7]; · iexact H7
  isplitl [H12]; · iexact H12
  iexists f'; isplitl [HA]; · iexact HA
  ipureintro
  rw [hf', hf]
  change v19 = _ at h19
  change v21 = _ at h21
  change v26 = _ at h26
  rw [h19, h21, h26]
  rfl

end

end Cert.Kernel.Hand

end
-- ==== Proof.BitsSegs.lean ====
module

public import proofs.«01_k».proof.Proof.BitsRing
public import proofs.«01_k».proof.Proof.BitsLoops

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Ring
variable (c : Dev nD)
/-- Slot `k mod 3` before trip `k`: home for the first three trips, then in flight with the slab three before. -/
def roleP (v4 : Elt F .f32) (A : Acc) (T : Fin 12) (k : ℕ) : sProp 𝕄 :=
  if 3 ≤ k then flR c v4 A T (Ring.sl 3 k) (Ring.bk 45 (k - 3)) else homeR c (Ring.sl 3 k)
def Dset (k : ℕ) : Finset (Fin 45) := Finset.univ.filter fun s => s.val + 3 < k
def Uset (k : ℕ) : Finset (Fin 45) := Finset.univ.filter fun s => k ≤ s.val
abbrev anyP (T : Fin 12) (s : Fin 45) : sProp 𝕄 := iprop(∃ g, slabP c T s g)

theorem Dset_lo {k : ℕ} (h : ¬ 3 ≤ k) : Dset (k + 1) = Dset k := by
  ext s; simp only [Dset, Finset.mem_filter, Finset.mem_univ, true_and]; omega
theorem Dset_hi {k : ℕ} (h : 3 ≤ k) (hk : k < 45) : Dset (k + 1) = insert (Ring.bk 45 (k - 3)) (Dset k) := by
  ext s; simp only [Dset, Finset.mem_filter, Finset.mem_univ, true_and, Finset.mem_insert, Fin.ext_iff, Ring.bk_val (show k - 3 < 45 by omega)]; omega
theorem Dset_nm {k : ℕ} (h : 3 ≤ k) (hk : k < 45) : Ring.bk 45 (k - 3) ∉ Dset k := by
  simp only [Dset, Finset.mem_filter, Finset.mem_univ, true_and, Ring.bk_val (show k - 3 < 45 by omega)]; omega
theorem Uset_eq {k : ℕ} (hk : k < 45) : Uset k = insert (Ring.bk 45 k) (Uset (k + 1)) := by
  ext s; simp only [Uset, Finset.mem_filter, Finset.mem_univ, true_and, Finset.mem_insert, Fin.ext_iff, Ring.bk_val hk]; omega
theorem Uset_nm {k : ℕ} (hk : k < 45) : Ring.bk 45 k ∉ Uset (k + 1) := by
  simp only [Uset, Finset.mem_filter, Finset.mem_univ, true_and, Ring.bk_val hk]; omega
theorem U_split (P : Fin 45 → sProp 𝕄) {k : ℕ} (hk : k < 45) : bigSep (Uset k) P = iprop(P (Ring.bk 45 k) ∗ bigSep (Uset (k + 1)) P) := by
  rw [Uset_eq hk, bigSep_insert (Uset_nm hk)]; rfl
theorem D_split (P : Fin 45 → sProp 𝕄) {k : ℕ} (h : 3 ≤ k) (hk : k < 45) : bigSep (Dset (k + 1)) P = iprop(P (Ring.bk 45 (k - 3)) ∗ bigSep (Dset k) P) := by
  rw [Dset_hi h hk, bigSep_insert (Dset_nm h hk)]; rfl
theorem role_next (v4 : Elt F .f32) (A : Acc) (T : Fin 12) (k : ℕ) : roleP c v4 A T (k + 1 + 2) = flR c v4 A T (Ring.sl 3 k) (Ring.bk 45 k) := by
  have e : Ring.sl 3 (k + 1 + 2) = Ring.sl 3 k := by rw [show k + 1 + 2 = k + 3 from rfl, Ring.sl_add]
  unfold roleP; rw [if_pos (by omega), e, show k + 1 + 2 - 3 = k by omega]

variable (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32) (h3 : k0_cond3 i = 1#1)

/-- What holds before trip `k` of the loop that writes the gradient. -/
abbrev inv5 (q : PosShare TreeShare) (X : Buf (Elt F) (arg10.view.loc (c : Thread nD τ))) (k : ℕ) : sProp 𝕄 :=
  iprop((arg10.view.loc (c : Thread nD τ) ↦[arg10.view.set]{q} X)
    ∗ roleP c v4 (arg10.view.read (Elt F) X) (tb i) k ∗ roleP c v4 (arg10.view.read (Elt F) X) (tb i) (k + 1) ∗ roleP c v4 (arg10.view.read (Elt F) X) (tb i) (k + 2)
    ∗ bigSep (Dset k) (doneP c v4 (arg10.view.read (Elt F) X) (tb i)) ∗ bigSep (Uset k) (anyP c (tb i)) ∗ ∃ W, owes (c : Thread nD τ) 0 W)

theorem t5step (q : PosShare TreeShare) (X : Buf (Elt F) (arg10.view.loc (c : Thread nD τ))) (k : Fin k0_t5_loop.trips) :
    inv5 c i arg10 v4 q X k.val
    ⊢ wp frame (wpE (defs₀ (F := F)) 𝒱₀ (c : Thread nD τ) none) Set.univ (t5G i arg2 harg2 arg3 harg3 arg4 harg4 arg5 harg5 arg6 harg6 arg7 harg7 arg10 harg10 arg12 harg12 v4 h3 k)
      (fun _ => inv5 c i arg10 v4 q X (k.val + 1)) := by
  have hk := t5_lt k
  unfold inv5
  rw [role_next, U_split _ hk]
  by_cases h : 3 ≤ k.val
  · rw [D_split _ h hk]
    rw [show roleP c v4 (arg10.view.read (Elt F) X) (tb i) k.val = flR c v4 (arg10.view.read (Elt F) X) (tb i) (Ring.sl 3 k.val) (Ring.bk 45 (k.val - 3)) from if_pos h]
    iintro ⟨HA, H0, H1, H2, HD, ⟨⟨%g, HG⟩, HU⟩, %W, HW⟩
    iapply (wp_wand_r Idealize.ShloMosaic.frame (wpE (defs₀ (F := F)) 𝒱₀ (c : Thread nD τ) none) Set.univ)
    isplitl [HA H0 HG HW]
    · iapply (t5hi c i arg2 harg2 arg3 harg3 arg4 harg4 arg5 harg5 arg6 harg6 arg7 harg7 arg10 harg10 arg12 harg12 v4 h3 k h q X (arg10.view.read (Elt F) X) g W)
      isplitl [HA]; · iexact HA
      isplitl [H0]; · iexact H0
      isplitl [HG]; · iexact HG
      iexact HW
    iintro %_ ⟨HA, HN, HF, HW⟩
    isplitl [HA]; · iexact HA
    isplitl [H1]; · iexact H1
    isplitl [H2]; · iexact H2
    isplitl [HF]; · iexact HF
    isplitl [HN HD]
    · isplitl [HN]; · iexact HN
      iexact HD
    isplitl [HU]; · iexact HU
    iexact HW
  · rw [Dset_lo h]
    rw [show roleP c v4 (arg10.view.read (Elt F) X) (tb i) k.val = homeR c (Ring.sl 3 k.val) from if_neg h]
    iintro ⟨HA, H0, H1, H2, HD, ⟨⟨%g, HG⟩, HU⟩, %W, HW⟩
    icases H0 with ⟨⟨%f, HS⟩, HC⟩
    iapply (wp_wand_r Idealize.ShloMosaic.frame (wpE (defs₀ (F := F)) 𝒱₀ (c : Thread nD τ) none) Set.univ)
    isplitl [HA HS HC HG HW]
    · iapply (t5lo c i arg2 harg2 arg3 harg3 arg4 harg4 arg5 harg5 arg6 harg6 arg7 harg7 arg10 harg10 arg12 harg12 v4 h3 k h q X f g W)
      isplitl [HA]; · iexact HA
      isplitl [HS]; · iexact HS
      isplitl [HC]; · iexact HC
      isplitl [HG]; · iexact HG
      iexact HW
    iintro %_ ⟨HA, HF, HW⟩
    isplitl [HA]; · iexact HA
    isplitl [H1]; · iexact H1
    isplitl [H2]; · iexact H2
    isplitl [HF]; · iexact HF
    isplitl [HD]; · iexact HD
    isplitl [HU]; · iexact HU
    iexact HW

/-! ## The last point of a table: the copy of the counts, the gradient's slabs, the drain -/

def segC1 (h3 : k0_cond3 i = 1#1) : Prog (TpuEff nD τ sig (Elt F) Λ₀ .tc) PUnit := do
  let v15 : Memref sig .tc .hbm S1x45000x128 .i32 := fixM.slice (Rect.unit (s := S12x45000x128) (k0_off40 i) S1x45000x128.size (k0_off40_inb i h3)) (fun _ => rfl)
  let v16 : Memref sig .tc .hbm S45000x128 .i32 := v15.squeeze S45000x128 squeezes_S1x45000x128_S45000x128
  Prog.lift (.enqueueDma arg10 (.here v16) (.dma cc0_scratch3.sem) harg10.wordExact ((View.wordExact_bits rfl).reshape _ _) ⟨Or.inl rfl, trivial⟩)

abbrev fcell : sProp 𝕄 := semVal ((c : Thread nD τ), SemLoc.dma cc0_scratch3.sem) 0
abbrev tabP (T : Fin 12) (g : Buf (Elt F) ((ftab T).view.loc (c : Thread nD τ))) : sProp 𝕄 := (ftab T).view.loc (c : Thread nD τ) ↦[(ftab T).view.set]{fullShare} g
/-- The counts of table `T` on their way out of the accumulator, which keeps half a share. -/
abbrev fixFl (T : Fin 12) (X : Buf (Elt F) (arg10.view.loc (c : Thread nD τ))) : sProp 𝕄 :=
  iprop(∃ g, Transfers.Flight countersEmb (c : Thread nD τ) (SemLoc.dma cc0_scratch3.sem) () 720000
    iprop(tabP c T g ∗ (arg10.view.loc (c : Thread nD τ) ↦[arg10.view.set]{fullShare.right} X)) ∗ ⌜(ftab T).view.read (Elt F) g = arg10.view.read (Elt F) X⌝)

theorem segC1_spec (X : Buf (Elt F) (arg10.view.loc (c : Thread nD τ))) (g : Buf (Elt F) ((ftab (tb i)).view.loc (c : Thread nD τ))) (W : Waits sig Unit) :
    (iprop((arg10.view.loc (c : Thread nD τ) ↦[arg10.view.set]{fullShare} X) ∗ tabP c (tb i) g ∗ fcell c ∗ owes (c : Thread nD τ) 0 W) : sProp 𝕄)
    ⊢ wp frame (wpE (defs₀ (F := F)) 𝒱₀ (c : Thread nD τ) none) Set.univ (segC1 (F := F) i arg10 harg10 h3)
      (fun _ => iprop((arg10.view.loc (c : Thread nD τ) ↦[arg10.view.set]{fullShare.left} X) ∗ fixFl c arg10 (tb i) X ∗ ∃ W, owes (c : Thread nD τ) 0 W)) := by
  iintro ⟨HA, HG, HC, HW⟩
  unfold segC1
  set_option sl_exec.lendShare "HA" in sl_exec
  sl_step
  isplitl [HA]; · iexact HA
  isplitl [HC]
  · iexists _; isplitl [HC]; · iexact HC
    ipureintro
    exact read_landed _ _ _
  iexists _; iexact HW

/-- The three waits after the loop. -/
def segC3 (h3 : k0_cond3 i = 1#1) : Prog (TpuEff nD τ sig (Elt F) Λ₀ .tc) PUnit := do
  let v19 : DmaSems sig S1 := cc0_scratch4.slice (Rect.unit (s := S3) ![0] S1.size inb_S3_S1_0)
  let v20 : DmaSems sig S_ := v19.squeeze S_ squeezes_S1_S_
  let v21 : Memref sig .tc .hbm S1x1000x128 .f32 := gradM.slice (Rect.unit (s := S12x45000x128) (k0_off49 i) S1x1000x128.size (k0_off49_inb i h3)) (fun _ => rfl)
  let v22 : Memref sig .tc .hbm S1000x128 .f32 := v21.squeeze S1000x128 squeezes_S1x1000x128_S1000x128
  let v23 : Memref sig .tc .vmem S1x1000x128 .f32 := stM.slice (Rect.unit (s := S3x1000x128) ![0, 0, 0] S1x1000x128.size inb_S3x1000x128_S1x1000x128_0_0_0) (fun _ => rfl)
  let v24 : Memref sig .tc .vmem S1000x128 .f32 := v23.squeeze S1000x128 squeezes_S1x1000x128_S1000x128
  Prog.lift (.waitDma2 v20.sem v24 v22 ((View.wordExact_bits rfl).reshape _ _) ((View.wordExact_bits rfl).reshape _ _))
  let v25 : DmaSems sig S1 := cc0_scratch4.slice (Rect.unit (s := S3) ![1] S1.size inb_S3_S1_1)
  let v26 : DmaSems sig S_ := v25.squeeze S_ squeezes_S1_S_
  let v27 : Memref sig .tc .hbm S1x1000x128 .f32 := gradM.slice (Rect.unit (s := S12x45000x128) (k0_off50 i) S1x1000x128.size (k0_off50_inb i h3)) (fun _ => rfl)
  let v28 : Memref sig .tc .hbm S1000x128 .f32 := v27.squeeze S1000x128 squeezes_S1x1000x128_S1000x128
  let v29 : Memref sig .tc .vmem S1x1000x128 .f32 := stM.slice (Rect.unit (s := S3x1000x128) ![1, 0, 0] S1x1000x128.size inb_S3x1000x128_S1x1000x128_1_0_0) (fun _ => rfl)
  let v30 : Memref sig .tc .vmem S1000x128 .f32 := v29.squeeze S1000x128 squeezes_S1x1000x128_S1000x128
  Prog.lift (.waitDma2 v26.sem v30 v28 ((View.wordExact_bits rfl).reshape _ _) ((View.wordExact_bits rfl).reshape _ _))
  let v31 : DmaSems sig S1 := cc0_scratch4.slice (Rect.unit (s := S3) ![2] S1.size inb_S3_S1_2)
  let v32 : DmaSems sig S_ := v31.squeeze S_ squeezes_S1_S_
  let v33 : Memref sig .tc .hbm S1x1000x128 .f32 := gradM.slice (Rect.unit (s := S12x45000x128) (k0_off51 i) S1x1000x128.size (k0_off51_inb i h3)) (fun _ => rfl)
  let v34 : Memref sig .tc .hbm S1000x128 .f32 := v33.squeeze S1000x128 squeezes_S1x1000x128_S1000x128
  let v35 : Memref sig .tc .vmem S1x1000x128 .f32 := stM.slice (Rect.unit (s := S3x1000x128) ![2, 0, 0] S1x1000x128.size inb_S3x1000x128_S1x1000x128_2_0_0) (fun _ => rfl)
  let v36 : Memref sig .tc .vmem S1000x128 .f32 := v35.squeeze S1000x128 squeezes_S1x1000x128_S1000x128
  Prog.lift (.waitDma2 v32.sem v36 v34 ((View.wordExact_bits rfl).reshape _ _) ((View.wordExact_bits rfl).reshape _ _))

theorem segC3_spec (A : Acc) (W : Waits sig Unit) :
    (iprop(flR c v4 A (tb i) 0 42 ∗ flR c v4 A (tb i) 1 43 ∗ flR c v4 A (tb i) 2 44 ∗ owes (c : Thread nD τ) 0 W) : sProp 𝕄)
    ⊢ wp frame (wpE (defs₀ (F := F)) 𝒱₀ (c : Thread nD τ) none) Set.univ (segC3 (F := F) i h3)
      (fun _ => iprop(homeR c 0 ∗ homeR c 1 ∗ homeR c 2 ∗ doneP c v4 A (tb i) 42 ∗ doneP c v4 A (tb i) 43 ∗ doneP c v4 A (tb i) 44 ∗ ∃ W, owes (c : Thread nD τ) 0 W)) := by
  iintro ⟨⟨%g0, %f0, H0, %h0⟩, ⟨%g1, %f1, H1, %h1⟩, ⟨%g2, %f2, H2, %h2⟩, HW⟩
  unfold segC3
  sl_exec
  sl_step
  isplitl [H0_src H0]
  · isplitl [H0_src]; · iexists _; iexact H0_src
    iexact H0
  isplitl [H1_src H1]
  · isplitl [H1_src]; · iexists _; iexact H1_src
    iexact H1
  isplitl [H2_src H2]
  · isplitl [H2_src]; · iexists _; iexact H2_src
    iexact H2
  isplitl [H0_dst]
  · iexists g0; isplitl [H0_dst]; · iexact H0_dst
    ipureintro; exact h0
  isplitl [H1_dst]
  · iexists g1; isplitl [H1_dst]; · iexact H1_dst
    ipureintro; exact h1
  isplitl [H2_dst]
  · iexists g2; isplitl [H2_dst]; · iexact H2_dst
    ipureintro; exact h2
  iexists _; iexact HW

/-- The wait for a table's counts. -/
def waitF (T : Fin 12) : Prog (TpuEff nD τ sig (Elt F) Λ₀ .tc) PUnit :=
  Prog.lift (.waitDma2 cc0_scratch3.sem arg10 (ftab T) harg10.wordExact ((View.wordExact_bits rfl).reshape _ _))

abbrev tabDone (A : Acc) (T : Fin 12) : sProp 𝕄 := iprop(∃ g, tabP c T g ∗ ⌜(ftab T).view.read (Elt F) g = A⌝)

theorem waitF_spec (T : Fin 12) (X : Buf (Elt F) (arg10.view.loc (c : Thread nD τ))) (W : Waits sig Unit) :
    (iprop((arg10.view.loc (c : Thread nD τ) ↦[arg10.view.set]{fullShare.left} X) ∗ fixFl c arg10 T X ∗ owes (c : Thread nD τ) 0 W) : sProp 𝕄)
    ⊢ wp frame (wpE (defs₀ (F := F)) 𝒱₀ (c : Thread nD τ) none) Set.univ (waitF (F := F) arg10 harg10 T)
      (fun _ => iprop((arg10.view.loc (c : Thread nD τ) ↦[arg10.view.set]{fullShare} X) ∗ tabDone c (arg10.view.read (Elt F) X) T ∗ fcell c ∗ ∃ W, owes (c : Thread nD τ) 0 W)) := by
  iintro ⟨HA, ⟨%g, HF, %hg⟩, HW⟩
  unfold waitF
  sl_exec
  sl_step
  ihave HA := (pointsTo_share (PosShare.mem_left_op_right fullShare)).2 $$ [HA HF_src]
  · isplitl [HA] <;> iassumption
  isplitl [HA]; · iexact HA
  isplitl [HF_dst]
  · iexists g; isplitl [HF_dst]; · iexact HF_dst
    ipureintro; exact hg
  isplitl [HF]; · iexact HF
  iexists _; iexact HW

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)

/-- The loop over a table's slabs, and the drain. -/
def segC2 : Prog (TpuEff nD τ sig (Elt F) Λ₀ .tc) PUnit := do
  Scf.Loop.for k0_t5_loop (k0_t5_ok i h3) ⟨⟩ (k0_t5_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 h3)
  segC3 (F := F) i h3

theorem D_last (P : Fin 45 → sProp 𝕄) : bigSep Finset.univ P = iprop(P 44 ∗ P 43 ∗ P 42 ∗ bigSep (Dset 45) P) := by
  have e : (Finset.univ : Finset (Fin 45)) = Dset 48 := by
    ext s; simp only [Dset, Finset.mem_filter, Finset.mem_univ, true_and, true_iff]; omega
  have h (k : ℕ) (h3 : 3 ≤ k) (hk : k < 48) : bigSep (Dset (k + 1)) P = iprop(P (Ring.bk 45 (k - 3)) ∗ bigSep (Dset k) P) := by
    have e : Dset (k + 1) = insert (Ring.bk 45 (k - 3)) (Dset k) := by
      ext s; simp only [Dset, Finset.mem_filter, Finset.mem_univ, true_and, Finset.mem_insert, Fin.ext_iff, Ring.bk_val (show k - 3 < 45 by omega)]; omega
    have hn : Ring.bk 45 (k - 3) ∉ Dset k := by
      simp only [Dset, Finset.mem_filter, Finset.mem_univ, true_and, Ring.bk_val (show k - 3 < 45 by omega)]; omega
    rw [e, bigSep_insert hn]; rfl
  rw [e, h 47 (by decide) (by decide), h 46 (by decide) (by decide), h 45 (by decide) (by decide)]; rfl

theorem segC2_spec (q : PosShare TreeShare) (X : Buf (Elt F) (arg10.view.loc (c : Thread nD τ))) (W : Waits sig Unit) :
    (iprop((arg10.view.loc (c : Thread nD τ) ↦[arg10.view.set]{q} X) ∗ homeR c 0 ∗ homeR c 1 ∗ homeR c 2 ∗ bigSep Finset.univ (anyP c (tb i)) ∗ owes (c : Thread nD τ) 0 W) : sProp 𝕄)
    ⊢ wp frame (wpE (defs₀ (F := F)) 𝒱₀ (c : Thread nD τ) none) Set.univ
      (segC2 i arg2 harg2 arg3 harg3 arg4 harg4 arg5 harg5 arg6 harg6 arg7 harg7 arg10 harg10 arg12 harg12 v4 h3)
      (fun _ => iprop((arg10.view.loc (c : Thread nD τ) ↦[arg10.view.set]{q} X) ∗ homeR c 0 ∗ homeR c 1 ∗ homeR c 2
        ∗ bigSep Finset.univ (doneP c v4 (arg10.view.read (Elt F) X) (tb i)) ∗ ∃ W, owes (c : Thread nD τ) 0 W)) := by
  rw [D_last (doneP c v4 (arg10.view.read (Elt F) X) (tb i))]
  have eU : Uset 0 = Finset.univ := by ext s; simp [Uset]
  have eD : Dset 0 = ∅ := by ext s; simp [Dset]
  have r0 : roleP c v4 (arg10.view.read (Elt F) X) (tb i) 0 = homeR c 0 := by unfold roleP; rw [if_neg (by decide), sl3_0]
  have r1 : roleP c v4 (arg10.view.read (Elt F) X) (tb i) (0 + 1) = homeR c 1 := by unfold roleP; rw [if_neg (by decide), sl3_1]
  have r2 : roleP c v4 (arg10.view.read (Elt F) X) (tb i) (0 + 2) = homeR c 2 := by unfold roleP; rw [if_neg (by decide), sl3_2]
  unfold segC2
  have hstart : (iprop((arg10.view.loc (c : Thread nD τ) ↦[arg10.view.set]{q} X) ∗ homeR c 0 ∗ homeR c 1 ∗ homeR c 2 ∗ bigSep Finset.univ (anyP c (tb i)) ∗ owes (c : Thread nD τ) 0 W) : sProp 𝕄)
      ⊢ inv5 c i arg10 v4 q X 0 := by
    unfold inv5; rw [r0, r1, r2, eU, eD, bigSep_empty]
    iintro ⟨HA, H0, H1, H2, HU, HW⟩
    isplitl [HA]; · iexact HA
    isplitl [H0]; · iexact H0
    isplitl [H1]; · iexact H1
    isplitl [H2]; · iexact H2
    isplitl []; · iempintro
    isplitl [HU]; · iexact HU
    iexists _; iexact HW
  have e0 : roleP c v4 (arg10.view.read (Elt F) X) (tb i) 45 = flR c v4 (arg10.view.read (Elt F) X) (tb i) 0 42 := by
    unfold roleP; rw [if_pos (by decide)]; rfl
  have e1 : roleP c v4 (arg10.view.read (Elt F) X) (tb i) (45 + 1) = flR c v4 (arg10.view.read (Elt F) X) (tb i) 1 43 := by
    unfold roleP; rw [if_pos (by decide)]; rfl
  have e2 : roleP c v4 (arg10.view.read (Elt F) X) (tb i) (45 + 2) = flR c v4 (arg10.view.read (Elt F) X) (tb i) 2 44 := by
    unfold roleP; rw [if_pos (by decide)]; rfl
  have hend : inv5 c i arg10 v4 q X (Scf.trips k0_t5_loop.lb k0_t5_loop.ub k0_t5_loop.st) ⊢ (iprop((arg10.view.loc (c : Thread nD τ) ↦[arg10.view.set]{q} X)
      ∗ flR c v4 (arg10.view.read (Elt F) X) (tb i) 0 42 ∗ flR c v4 (arg10.view.read (Elt F) X) (tb i) 1 43 ∗ flR c v4 (arg10.view.read (Elt F) X) (tb i) 2 44
      ∗ bigSep (Dset 45) (doneP c v4 (arg10.view.read (Elt F) X) (tb i)) ∗ ∃ W, owes (c : Thread nD τ) 0 W) : sProp 𝕄) := by
    rw [show Scf.trips k0_t5_loop.lb k0_t5_loop.ub k0_t5_loop.st = 45 from trips5_val]
    unfold inv5; rw [e0, e1, e2]
    iintro ⟨HA, H0, H1, H2, HD, -, HW⟩
    isplitl [HA]; · iexact HA
    isplitl [H0]; · iexact H0
    isplitl [H1]; · iexact H1
    isplitl [H2]; · iexact H2
    isplitl [HD]; · iexact HD
    iexact HW
  iintro H
  iapply (Scf.wp_for_bind _ _ _ _ _ _ _ _ _ (fun k _ => inv5 c i arg10 v4 q X k) ?step5) $$ [H]
  case step5 =>
    intro k a
    exact t5step c i arg2 harg2 arg3 harg3 arg4 harg4 arg5 harg5 arg6 harg6 arg7 harg7 arg10 harg10 arg12 harg12 v4 h3 q X k
  · iapply hstart; iexact H
  iintro %_ H
  ihave H := hend $$ H
  icases H with ⟨HA, H0, H1, H2, HD, %W', HW⟩
  iapply (wp_wand_r Idealize.ShloMosaic.frame (wpE (defs₀ (F := F)) 𝒱₀ (c : Thread nD τ) none) Set.univ)
  isplitl [H0 H1 H2 HW]
  · iapply (segC3_spec c i v4 h3 (arg10.view.read (Elt F) X) W')
    isplitl [H0]; · iexact H0
    isplitl [H1]; · iexact H1
    isplitl [H2]; · iexact H2
    iexact HW
  iintro %_ ⟨H0, H1, H2, D0, D1, D2, HW⟩
  isplitl [HA]; · iexact HA
  isplitl [H0]; · iexact H0
  isplitl [H1]; · iexact H1
  isplitl [H2]; · iexact H2
  isplitl [D0 D1 D2 HD]
  · isplitl [D2]; · iexact D2
    isplitl [D1]; · iexact D1
    isplitl [D0]; · iexact D0
    iexact HD
  iexact HW
end Ring

end Cert.Kernel.Hand

end
-- ==== Proof.BitsBlock.lean ====
module

public import proofs.«01_k».proof.Proof.BitsSegs
public import Idealize.ShloMosaic.Lib.VecWindow

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Block
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)

/-! ## Clearing the accumulator -/

abbrev t1G (h1 : k0_cond1 i = 1#1) (k : Fin k0_t1_loop.trips) : Prog (TpuEff nD τ sig (Elt F) Λ₀ .tc) Unit :=
  k0_t1_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 h1 k ()

/-- The first `n` rows of the accumulator are zero. -/
abbrev zeroTo (A : Acc) (n : ℕ) : Prop := ∀ y : S45000x128.Idx, (y 0).val < n → A y = 0#32

theorem t1trip (h1 : k0_cond1 i = 1#1) (k : Fin k0_t1_loop.trips) (f : Buf (Elt F) (arg10.view.loc (c : Thread nD τ)))
    (hf : zeroTo (arg10.view.read (Elt F) f) (1000 * k.val)) :
    (iprop(arg10.view.loc (c : Thread nD τ) ↦[arg10.view.set]{fullShare} f) : sProp 𝕄)
    ⊢ wp frame (wpE (defs₀ (F := F)) 𝒱₀ (c : Thread nD τ) none) Set.univ (t1G i arg2 harg2 arg3 harg3 arg4 harg4 arg5 harg5 arg6 harg6 arg7 harg7 arg10 harg10 arg12 harg12 h1 k)
      (fun _ => iprop(∃ f', (arg10.view.loc (c : Thread nD τ) ↦[arg10.view.set]{fullShare} f') ∗ ⌜zeroTo (arg10.view.read (Elt F) f') (1000 * (k.val + 1))⌝)) := by
  iintro HA
  dsimp only [t1G]
  sl_unfold [k0_t1_body]
  sl_exec
  sl_step
  iexists _; isplitl [HA]; · iexact HA
  ipureintro
  intro y hy
  have ho := off2_eq k
  by_cases h : (y 0).val < 1000 * k.val
  · refine Eq.trans ?_ (hf y h)
    exact View.read_writes_cons_rows_of_not_mem arg10.view f (k0_off2_inb i k h1) k0_pay1 [] y ho rfl (Or.inl h)
  · have hx : (y 0).val - 1000 * k.val < 1000 := by omega
    refine (View.read_writes_cons_rows_of_mem arg10.view f (k0_off2_inb i k h1) k0_pay1 [] y (fun | 0 => (⟨_, hx⟩ : Fin 1000) | 1 => y 1) ho ?_ rfl).trans ?_
    · show (y 0).val = 1000 * k.val + ((y 0).val - 1000 * k.val); omega
    · rfl

/-- The loop that clears the accumulator. -/
def clear (h1 : k0_cond1 i = 1#1) : Prog (TpuEff nD τ sig (Elt F) Λ₀ .tc) PUnit :=
  Scf.Loop.for k0_t1_loop (k0_t1_ok i h1) ⟨⟩ (k0_t1_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 h1)

theorem clear_spec (h1 : k0_cond1 i = 1#1) (f : Buf (Elt F) (arg10.view.loc (c : Thread nD τ))) :
    (iprop(arg10.view.loc (c : Thread nD τ) ↦[arg10.view.set]{fullShare} f) : sProp 𝕄)
    ⊢ wp frame (wpE (defs₀ (F := F)) 𝒱₀ (c : Thread nD τ) none) Set.univ (clear i arg2 harg2 arg3 harg3 arg4 harg4 arg5 harg5 arg6 harg6 arg7 harg7 arg10 harg10 arg12 harg12 h1)
      (fun _ => iprop(∃ f', (arg10.view.loc (c : Thread nD τ) ↦[arg10.view.set]{fullShare} f') ∗ ⌜arg10.view.read (Elt F) f' = fun _ => 0#32⌝)) := by
  unfold clear
  iintro HA
  iapply (Scf.wp_for _ _ _ _ _ _ _ _ _ (fun k _ => iprop(∃ f', (arg10.view.loc (c : Thread nD τ) ↦[arg10.view.set]{fullShare} f') ∗ ⌜zeroTo (arg10.view.read (Elt F) f') (1000 * k)⌝)) ?step1)
  case step1 =>
    intro k a
    iintro ⟨%f, HA, %hf⟩
    iapply (t1trip c i arg2 harg2 arg3 harg3 arg4 harg4 arg5 harg5 arg6 harg6 arg7 harg7 arg10 harg10 arg12 harg12 h1 k f hf)
    iexact HA
  isplitl [HA]
  · iexists f; isplitl [HA]; · iexact HA
    ipureintro
    intro y hy; exact absurd hy (by omega)
  iintro %_ ⟨%f', HA, %hf⟩
  iexists f'; isplitl [HA]; · iexact HA
  ipureintro
  funext y
  refine hf y ?_
  have e : Scf.trips k0_t1_loop.lb k0_t1_loop.ub k0_t1_loop.st = 45 := trips1_val
  rw [e]
  have : (y 0).val < 45000 := (y 0).isLt
  omega

/-! ## A point's bags -/

def stepAt : S1x12.Idx := fun | 0 => (0 : Fin 1) | 1 => Fin.ofNat 12 (i 0).val

/-- The step of the point's table, and the point's rows widened. -/
def rowsIn : Prog (TpuEff nD τ sig (Elt F) Λ₀ .tc) (Elt F .f32) := do
  let v4 : Elt F .f32 ← smemLoad arg4 (Rect.unit (s := S1x12) (k0_off3 i) S1x1.size (k0_off3_inb i)) numel1_S1x1 rfl
  let v5 : Vec F S1x32x128 .fp8e5m2 ← Prog.lift (.load arg6 (Rect.unit (s := S1x32x128) ![0, 0, 0] S1x32x128.size inb_S1x32x128_S1x32x128_0_0_0).toLoadRect (View.loadsAt_vmem h_S1x32x128))
  let v8 : Vec F S32x128 .f32 ← Prog.lift (.load arg12 (Rect.unit (s := S32x128) ![0, 0] S32x128.size inb_S32x128_S32x128_0_0).toLoadRect (View.loadsAt_vmem h_S32x128))
  Prog.lift (.store arg12 (Rect.unit (s := S32x128) ![0, 0] S32x128.size inb_S32x128_S32x128_0_0) (k0_pay2 v5) Finset.univ (View.stores_vmem_bits_univ h_S32x128 rfl) (.inl rfl))
  pure v4

theorem rowsIn_spec (X4 : Buf (Elt F) (arg4.view.loc (c : Thread nD τ))) (X6 : Buf (Elt F) (arg6.view.loc (c : Thread nD τ))) (f : Buf (Elt F) (arg12.view.loc (c : Thread nD τ))) :
    (iprop((arg4.view.loc (c : Thread nD τ) ↦[arg4.view.set]{fullShare} X4) ∗ (arg6.view.loc (c : Thread nD τ) ↦[arg6.view.set]{fullShare} X6)
      ∗ (arg12.view.loc (c : Thread nD τ) ↦[arg12.view.set]{fullShare} f)) : sProp 𝕄)
    ⊢ wp frame (wpE (defs₀ (F := F)) 𝒱₀ (c : Thread nD τ) none) Set.univ (rowsIn i arg4 arg6 arg12)
      (fun r => iprop(⌜r = arg4.view.read (Elt F) X4 (stepAt i)⌝ ∗ (arg4.view.loc (c : Thread nD τ) ↦[arg4.view.set]{fullShare} X4) ∗ (arg6.view.loc (c : Thread nD τ) ↦[arg6.view.set]{fullShare} X6)
        ∗ ∃ f', (arg12.view.loc (c : Thread nD τ) ↦[arg12.view.set]{fullShare} f') ∗ ⌜arg12.view.read (Elt F) f' = k0_pay2 (arg6.view.read (Elt F) X6)⌝)) := by
  unfold rowsIn
  iintro ⟨H4, H6, H12⟩
  sl_exec
  sl_step
  isplitl []
  · ipureintro
    refine congrArg (arg4.view.read (Elt F) X4) (funext fun a => Fin.ext ?_)
    have e : k0_off3 i a + 1 * 0 = (![0, (i 0).val] : Fin 2 → ℕ) a + 1 * 0 := by rw [← off3_eq i]
    have h0 := i0_lt i
    fin_cases a
    · rfl
    · refine e.trans ?_
      show (i 0).val + 1 * 0 = (i 0).val % 12; omega
  isplitl [H4]; · iexact H4
  isplitl [H6]; · iexact H6
  iexists _; isplitl [H12]; · iexact H12
  ipureintro
  refine (View.read_writes_full arg12.view f inb_S32x128_S32x128_0_0 _ []).trans ?_
  exact congrArg k0_pay2 (View.readAt_full arg6.view X6 inb_S1x32x128_S1x32x128_0_0_0)

/-- The loop over a point's bags. -/
def bagLoop (v4 : Elt F .f32) : Prog (TpuEff nD τ sig (Elt F) Λ₀ .tc) PUnit :=
  Scf.Loop.for k0_t2_loop k0_t2_ok ⟨⟩ (k0_t2_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4)

theorem bagLoop_spec (v4 : Elt F .f32)
    (X2 : Buf (Elt F) (arg2.view.loc (c : Thread nD τ))) (X3 : Buf (Elt F) (arg3.view.loc (c : Thread nD τ)))
    (X5 : Buf (Elt F) (arg5.view.loc (c : Thread nD τ))) (X7 : Buf (Elt F) (arg7.view.loc (c : Thread nD τ)))
    (X12 : Buf (Elt F) (arg12.view.loc (c : Thread nD τ)))
    (hlen : ∀ x, (arg2.view.read (Elt F) X2 x).toInt ≤ 384)
    (hid : ∀ x, (arg5.view.read (Elt F) X5 x).toNat < 45000)
    (f : Buf (Elt F) (arg10.view.loc (c : Thread nD τ))) :
    (iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ (arg10.view.loc (c : Thread nD τ) ↦[arg10.view.set]{fullShare} f)) : sProp 𝕄)
    ⊢ wp frame (wpE (defs₀ (F := F)) 𝒱₀ (c : Thread nD τ) none) Set.univ (bagLoop i arg2 harg2 arg3 harg3 arg4 harg4 arg5 harg5 arg6 harg6 arg7 harg7 arg10 harg10 arg12 harg12 v4)
        (fun _ => iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ ∃ f', (arg10.view.loc (c : Thread nD τ) ↦[arg10.view.set]{fullShare} f')
        ∗ ⌜arg10.view.read (Elt F) f' = bagsG c i arg2 arg3 arg5 arg7 v4 X2 X3 X5 X7 (fun b x => arg12.view.read (Elt F) X12 (gfAt b (x 1))) (arg10.view.read (Elt F) f) 32⌝)) := by
  have e32 : Scf.trips k0_t2_loop.lb k0_t2_loop.ub k0_t2_loop.st = 32 := trips2_val
  unfold bagLoop
  iintro H
  iapply (Scf.wp_for _ _ _ _ _ _ _ _ _ (fun k _ => iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ ∃ f', (arg10.view.loc (c : Thread nD τ) ↦[arg10.view.set]{fullShare} f')
        ∗ ⌜arg10.view.read (Elt F) f' = bagsG c i arg2 arg3 arg5 arg7 v4 X2 X3 X5 X7 (fun b x => arg12.view.read (Elt F) X12 (gfAt b (x 1))) (arg10.view.read (Elt F) f) k⌝)) ?step2)
  case step2 =>
    intro k a
    iintro ⟨H2, H3, H5, H7, H12, %f', HA, %hf⟩
    iapply (t2trip c i arg2 harg2 arg3 harg3 arg4 harg4 arg5 harg5 arg6 harg6 arg7 harg7 arg10 harg10 arg12 harg12 v4 k X2 X3 X5 X7 X12 hlen hid f' _ hf)
    isplitl [H2]; · iexact H2
    isplitl [H3]; · iexact H3
    isplitl [H5]; · iexact H5
    isplitl [H7]; · iexact H7
    isplitl [H12]; · iexact H12
    iexact HA
  isplitl [H]
  · icases H with ⟨H2, H3, H5, H7, H12, HA⟩
    isplitl [H2]; · iexact H2
    isplitl [H3]; · iexact H3
    isplitl [H5]; · iexact H5
    isplitl [H7]; · iexact H7
    isplitl [H12]; · iexact H12
    iexists f; isplitl [HA]; · iexact HA
    ipureintro; rfl
  iintro %_ ⟨H2, H3, H5, H7, H12, %f', HA, %hf⟩
  isplitl [H2]; · iexact H2
  isplitl [H3]; · iexact H3
  isplitl [H5]; · iexact H5
  isplitl [H7]; · iexact H7
  isplitl [H12]; · iexact H12
  iexists f'; isplitl [HA]; · iexact HA
  ipureintro
  rw [e32] at hf; exact hf

/-! ## The body, cut -/

abbrev bodyP : Prog (TpuEff nD τ sig (Elt F) Λ₀ .tc) PUnit :=
  cc0_bag_scatter_skel (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4

/-- Rows in, bags, then the rest. -/
def work (k : Elt F .f32 → Prog (TpuEff nD τ sig (Elt F) Λ₀ .tc) PUnit) : Prog (TpuEff nD τ sig (Elt F) Λ₀ .tc) PUnit :=
  rowsIn (F := F) i arg4 arg6 arg12 >>= fun v4 => bagLoop i arg2 harg2 arg3 harg3 arg4 harg4 arg5 harg5 arg6 harg6 arg7 harg7 arg10 harg10 arg12 harg12 v4 >>= fun _ => k v4

/-- A table's results leave. -/
def leave (h3 : k0_cond3 i = 1#1) (k : Prog (TpuEff nD τ sig (Elt F) Λ₀ .tc) PUnit) (v4 : Elt F .f32) : Prog (TpuEff nD τ sig (Elt F) Λ₀ .tc) PUnit :=
  segC1 (F := F) i arg10 harg10 h3 >>= fun _ => segC2 i arg2 harg2 arg3 harg3 arg4 harg4 arg5 harg5 arg6 harg6 arg7 harg7 arg10 harg10 arg12 harg12 v4 h3 >>= fun _ => k

theorem wait_congr {M M' : Memref sig .tc .hbm S45000x128 .i32} (e : M = M') (h h' h'') :
    (Prog.lift (.waitDma2 cc0_scratch3.sem arg10 M h h') : Prog (TpuEff nD τ sig (Elt F) Λ₀ .tc) PUnit) = Prog.lift (.waitDma2 cc0_scratch3.sem arg10 M' h h'') := by
  subst e; rfl

theorem body_first (h1 : k0_cond1 i = 1#1) (h2 : ¬ k0_cond2 i = 1#1) (h3 : ¬ k0_cond3 i = 1#1) :
    bodyP (F := F) i arg2 harg2 arg3 harg3 arg4 harg4 arg5 harg5 arg6 harg6 arg7 harg7 arg10 harg10 arg12 harg12
      = (clear i arg2 harg2 arg3 harg3 arg4 harg4 arg5 harg5 arg6 harg6 arg7 harg7 arg10 harg10 arg12 harg12 h1 >>= fun _ =>
          work i arg2 harg2 arg3 harg3 arg4 harg4 arg5 harg5 arg6 harg6 arg7 harg7 arg10 harg10 arg12 harg12 fun _ => pure ⟨⟩) := by
  unfold bodyP cc0_bag_scatter_skel
  simp only [dif_pos h1, dif_neg h2, dif_neg h3]
  rfl

theorem body_wait (T : Fin 12) (hT : T.val + 1 = (i 0).val) (h1 : k0_cond1 i = 1#1) (h2 : k0_cond2 i = 1#1) (h3 : ¬ k0_cond3 i = 1#1) :
    bodyP (F := F) i arg2 harg2 arg3 harg3 arg4 harg4 arg5 harg5 arg6 harg6 arg7 harg7 arg10 harg10 arg12 harg12
      = (waitF arg10 harg10 T >>= fun _ => clear i arg2 harg2 arg3 harg3 arg4 harg4 arg5 harg5 arg6 harg6 arg7 harg7 arg10 harg10 arg12 harg12 h1 >>= fun _ =>
          work i arg2 harg2 arg3 harg3 arg4 harg4 arg5 harg5 arg6 harg6 arg7 harg7 arg10 harg10 arg12 harg12 fun _ => pure ⟨⟩) := by
  have e : waitF (F := F) arg10 harg10 T = _ := (wait_congr arg10 (ftab_congr (T := T) ((off1_eq i (by omega)).trans (by rw [show (i 0).val - 1 = T.val by omega])) (k0_off1_inb i h1 h2) (fun _ => rfl)) harg10.wordExact ((View.wordExact_bits rfl).reshape _ _) _).symm
  rw [e]
  unfold bodyP cc0_bag_scatter_skel
  simp only [dif_pos h1, dif_pos h2, dif_neg h3]
  rfl

theorem body_mid (h1 : ¬ k0_cond1 i = 1#1) (h3 : ¬ k0_cond3 i = 1#1) :
    bodyP (F := F) i arg2 harg2 arg3 harg3 arg4 harg4 arg5 harg5 arg6 harg6 arg7 harg7 arg10 harg10 arg12 harg12
      = (work i arg2 harg2 arg3 harg3 arg4 harg4 arg5 harg5 arg6 harg6 arg7 harg7 arg10 harg10 arg12 harg12 fun _ => pure ⟨⟩) := by
  unfold bodyP cc0_bag_scatter_skel
  simp only [dif_neg h1, dif_neg h3]
  rfl

theorem body_leave (h1 : ¬ k0_cond1 i = 1#1) (h3 : k0_cond3 i = 1#1) (h5 : ¬ k0_cond5 i = 1#1) :
    bodyP (F := F) i arg2 harg2 arg3 harg3 arg4 harg4 arg5 harg5 arg6 harg6 arg7 harg7 arg10 harg10 arg12 harg12
      = (work i arg2 harg2 arg3 harg3 arg4 harg4 arg5 harg5 arg6 harg6 arg7 harg7 arg10 harg10 arg12 harg12
          (leave i arg2 harg2 arg3 harg3 arg4 harg4 arg5 harg5 arg6 harg6 arg7 harg7 arg10 harg10 arg12 harg12 h3 (pure ⟨⟩))) := by
  unfold bodyP cc0_bag_scatter_skel
  simp only [dif_neg h1, dif_pos h3, dif_neg h5]
  unfold leave segC2
  simp only [bind_assoc]
  rfl

theorem body_last (h1 : ¬ k0_cond1 i = 1#1) (h3 : k0_cond3 i = 1#1) (h5 : k0_cond5 i = 1#1) :
    bodyP (F := F) i arg2 harg2 arg3 harg3 arg4 harg4 arg5 harg5 arg6 harg6 arg7 harg7 arg10 harg10 arg12 harg12
      = (work i arg2 harg2 arg3 harg3 arg4 harg4 arg5 harg5 arg6 harg6 arg7 harg7 arg10 harg10 arg12 harg12
          (leave i arg2 harg2 arg3 harg3 arg4 harg4 arg5 harg5 arg6 harg6 arg7 harg7 arg10 harg10 arg12 harg12 h3 (waitF arg10 harg10 (tb i)))) := by
  have e : waitF (F := F) arg10 harg10 (tb i) = _ := (wait_congr arg10 (ftab_congr (off52_eq i) (k0_off52_inb i h3 h5) (fun _ => rfl)) harg10.wordExact ((View.wordExact_bits rfl).reshape _ _) _).symm
  rw [e]
  unfold bodyP cc0_bag_scatter_skel
  simp only [dif_neg h1, dif_pos h3, dif_pos h5]
  unfold leave segC2
  simp only [bind_assoc]
  rfl

end Block

end Cert.Kernel.Hand

end
-- ==== Proof.BitsPoint.lean ====
module

public import proofs.«01_k».proof.Proof.BitsBlock

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem eqE {P Q : sProp 𝕄} (e : P = Q) : P ⊢ Q := e ▸ .rfl

section Point
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (X7 : Buf (Elt F) (arg7.view.loc (c : Thread nD τ)))

/-- The six staged blocks of a point. -/
abbrev stP : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7))
abbrev anyScr : sProp 𝕄 := iprop(∃ f, arg12.view.loc (c : Thread nD τ) ↦[arg12.view.set]{fullShare} f)
abbrev anyAcc : sProp 𝕄 := iprop(∃ f, arg10.view.loc (c : Thread nD τ) ↦[arg10.view.set]{fullShare} f)
abbrev accIs (A : Acc) : sProp 𝕄 := iprop(∃ f, (arg10.view.loc (c : Thread nD τ) ↦[arg10.view.set]{fullShare} f) ∗ ⌜arg10.view.read (Elt F) f = A⌝)

/-- The accumulator after a point's bags. -/
abbrev ptAcc (A : Acc) : Acc :=
  bagsG c i arg2 arg3 arg5 arg7 (arg4.view.read (Elt F) X4 (stepAt i)) X2 X3 X5 X7 (fun b x => k0_pay2 (arg6.view.read (Elt F) X6) (gfAt b (x 1))) A 32

theorem work_spec (hlen : ∀ x, (arg2.view.read (Elt F) X2 x).toInt ≤ 384)
    (hid : ∀ x, (arg5.view.read (Elt F) X5 x).toNat < 45000) (A : Acc) (k : Elt F .f32 → Prog (TpuEff nD τ sig (Elt F) Λ₀ .tc) PUnit) (Q : PUnit → sProp 𝕄) :
    (iprop(stP c arg2 arg3 arg4 arg5 arg6 arg7 X2 X3 X4 X5 X6 X7 ∗ anyScr c arg12 ∗ accIs c arg10 A) : sProp 𝕄)
    ⊢ iprop((stP c arg2 arg3 arg4 arg5 arg6 arg7 X2 X3 X4 X5 X6 X7 ∗ anyScr c arg12 ∗ accIs c arg10 (ptAcc c i arg2 arg3 arg4 arg5 arg6 arg7 X2 X3 X4 X5 X6 X7 A)
        -∗ wp frame (wpE (defs₀ (F := F)) 𝒱₀ (c : Thread nD τ) none) Set.univ (k (arg4.view.read (Elt F) X4 (stepAt i))) Q)
      -∗ wp frame (wpE (defs₀ (F := F)) 𝒱₀ (c : Thread nD τ) none) Set.univ (work i arg2 harg2 arg3 harg3 arg4 harg4 arg5 harg5 arg6 harg6 arg7 harg7 arg10 harg10 arg12 harg12 k) Q) := by
  unfold work
  iintro ⟨⟨H2, H3, H4, H5, H6, H7⟩, ⟨%f12, H12⟩, %f, HA, %hf⟩ HK
  iapply (exec_cut _ _ _ (rowsIn_spec c i arg4 arg6 arg12 X4 X6 f12)) $$ [H4 H6 H12]
  · isplitl [H4]; · iexact H4
    isplitl [H6]; · iexact H6
    iexact H12
  iintro %v4 ⟨%hv, H4, H6, %X12, H12, %h12⟩
  subst hv
  iapply (exec_cut _ _ _ (bagLoop_spec c i arg2 harg2 arg3 harg3 arg4 harg4 arg5 harg5 arg6 harg6 arg7 harg7 arg10 harg10 arg12 harg12 _ X2 X3 X5 X7 X12 hlen hid f)) $$ [H2 H3 H5 H7 H12 HA]
  · isplitl [H2]; · iexact H2
    isplitl [H3]; · iexact H3
    isplitl [H5]; · iexact H5
    isplitl [H7]; · iexact H7
    isplitl [H12]; · iexact H12
    iexact HA
  iintro %_ ⟨H2, H3, H5, H7, H12, %f', HA, %hf'⟩
  iapply HK
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H12]; · iexists _; iexact H12
  iexists f'; isplitl [HA]; · iexact HA
  ipureintro
  rw [hf', h12, hf]

/-! ## What is where between the points -/

variable (PT : ℕ → ℕ → Acc) (ST : ℕ → Elt F .f32)

def Lo (n : ℕ) : Finset (Fin 12) := Finset.univ.filter fun T => T.val < n
def Hi (n : ℕ) : Finset (Fin 12) := Finset.univ.filter fun T => n ≤ T.val

theorem Lo_split (P : Fin 12 → sProp 𝕄) (T : Fin 12) : bigSep (Lo (T.val + 1)) P = iprop(P T ∗ bigSep (Lo T.val) P) := by
  have e : Lo (T.val + 1) = insert T (Lo T.val) := by
    ext s; simp only [Lo, Finset.mem_filter, Finset.mem_univ, true_and, Finset.mem_insert, Fin.ext_iff]; omega
  have hn : T ∉ Lo T.val := by simp only [Lo, Finset.mem_filter, Finset.mem_univ, true_and]; omega
  rw [e, bigSep_insert hn]; rfl
theorem Hi_split (P : Fin 12 → sProp 𝕄) (T : Fin 12) : bigSep (Hi T.val) P = iprop(P T ∗ bigSep (Hi (T.val + 1)) P) := by
  have e : Hi T.val = insert T (Hi (T.val + 1)) := by
    ext s; simp only [Hi, Finset.mem_filter, Finset.mem_univ, true_and, Finset.mem_insert, Fin.ext_iff]; omega
  have hn : T ∉ Hi (T.val + 1) := by simp only [Hi, Finset.mem_filter, Finset.mem_univ, true_and]; omega
  rw [e, bigSep_insert hn]; rfl

abbrev tabD (T : Fin 12) : sProp 𝕄 := tabDone c (PT T.val 5) T
abbrev tabA (T : Fin 12) : sProp 𝕄 := iprop(∃ g, tabP c T g)
abbrev grD (T : Fin 12) : sProp 𝕄 := bigSep Finset.univ (doneP c (ST T.val) (PT T.val 5) T)
abbrev grA (T : Fin 12) : sProp 𝕄 := bigSep Finset.univ (anyP c T)

/-- Within table `T`: the accumulator at the table's partial counts, the counts of the tables before it out. -/
def midAt (T C : ℕ) : sProp 𝕄 := iprop(accIs c arg10 (PT T C) ∗ fcell c ∗ bigSep (Lo T) (tabD c PT) ∗ bigSep (Hi T) (tabA c))
/-- Before the first point and after the last one. -/
def idleAt (T : ℕ) : sProp 𝕄 := iprop(anyAcc c arg10 ∗ fcell c ∗ bigSep (Lo T) (tabD c PT) ∗ bigSep (Hi T) (tabA c))
/-- Between table `T` and the next: its counts on their way out. -/
def flyAt (T : Fin 12) : sProp 𝕄 :=
  iprop((∃ X, (arg10.view.loc (c : Thread nD τ) ↦[arg10.view.set]{fullShare.left} X) ∗ fixFl c arg10 T X ∗ ⌜arg10.view.read (Elt F) X = PT T.val 5⌝)
    ∗ bigSep (Lo T.val) (tabD c PT) ∗ bigSep (Hi (T.val + 1)) (tabA c))
def fixAt (T C : ℕ) : sProp 𝕄 :=
  if 0 < C then midAt c arg10 PT T C else if 0 < T ∧ T < 12 then flyAt c arg10 PT (Ring.bk 12 (T - 1)) else idleAt c arg10 PT T
def gradAt (T : ℕ) : sProp 𝕄 := iprop(bigSep (Lo T) (grD c PT ST) ∗ bigSep (Hi T) (grA c))
abbrev homes : sProp 𝕄 := iprop(homeR c 0 ∗ homeR c 1 ∗ homeR c 2)

theorem clear_mid (h1 : k0_cond1 i = 1#1) (h0 : ∀ T, PT T 0 = fun _ => 0#32) :
    idleAt c arg10 PT (i 0).val ⊢ wp frame (wpE (defs₀ (F := F)) 𝒱₀ (c : Thread nD τ) none) Set.univ
      (clear i arg2 harg2 arg3 harg3 arg4 harg4 arg5 harg5 arg6 harg6 arg7 harg7 arg10 harg10 arg12 harg12 h1) (fun _ => midAt c arg10 PT (i 0).val 0) := by
  unfold idleAt midAt
  rw [h0]
  iintro ⟨⟨%f, HA⟩, HC, HL, HH⟩
  iapply (exec_cut_last _ _ _ (clear_spec c i arg2 harg2 arg3 harg3 arg4 harg4 arg5 harg5 arg6 harg6 arg7 harg7 arg10 harg10 arg12 harg12 h1 f)) $$ [HA]
  · iexact HA
  iintro %_ HA
  isplitl [HA]; · iexact HA
  isplitl [HC]; · iexact HC
  isplitl [HL]; · iexact HL
  iexact HH

theorem wait_idle (T : Fin 12) (W : Waits sig Unit) :
    (iprop(flyAt c arg10 PT T ∗ owes (c : Thread nD τ) 0 W) : sProp 𝕄) ⊢ wp frame (wpE (defs₀ (F := F)) 𝒱₀ (c : Thread nD τ) none) Set.univ
      (waitF (F := F) arg10 harg10 T) (fun _ => iprop(idleAt c arg10 PT (T.val + 1) ∗ ∃ W, owes (c : Thread nD τ) 0 W)) := by
  unfold flyAt idleAt
  rw [Lo_split]
  iintro ⟨⟨⟨%X, HA, HF, %hX⟩, HL, HH⟩, HW⟩
  iapply (exec_cut_last _ _ _ (waitF_spec c arg10 harg10 T X W)) $$ [HA HF HW]
  · isplitl [HA]; · iexact HA
    isplitl [HF]; · iexact HF
    iexact HW
  rw [hX]
  iintro %_ ⟨HA, HD, HC, HW⟩
  isplitr [HW]
  · isplitl [HA]; · iexists _; iexact HA
    isplitl [HC]; · iexact HC
    isplitl [HD HL]
    · isplitl [HD]; · iexact HD
      iexact HL
    iexact HH
  iexact HW

theorem leave_fly (h3 : k0_cond3 i = 1#1) (k : Prog (TpuEff nD τ sig (Elt F) Λ₀ .tc) PUnit) (W : Waits sig Unit) (Q : PUnit → sProp 𝕄) :
    (iprop(midAt c arg10 PT (i 0).val 5 ∗ gradAt c PT ST (i 0).val ∗ homes c ∗ owes (c : Thread nD τ) 0 W) : sProp 𝕄)
    ⊢ iprop((flyAt c arg10 PT (tb i) ∗ gradAt c PT ST ((i 0).val + 1) ∗ homes c ∗ (∃ W, owes (c : Thread nD τ) 0 W)
        -∗ wp frame (wpE (defs₀ (F := F)) 𝒱₀ (c : Thread nD τ) none) Set.univ k Q)
      -∗ wp frame (wpE (defs₀ (F := F)) 𝒱₀ (c : Thread nD τ) none) Set.univ (leave i arg2 harg2 arg3 harg3 arg4 harg4 arg5 harg5 arg6 harg6 arg7 harg7 arg10 harg10 arg12 harg12 h3 k (ST (i 0).val)) Q) := by
  have e : (i 0).val = (tb i).val := rfl
  unfold midAt gradAt flyAt leave
  rw [e, Hi_split (tabA c) (tb i), Hi_split (grA c) (tb i), Lo_split (grD c PT ST) (tb i)]
  iintro ⟨⟨⟨%X, HA, %hX⟩, HC, HL, ⟨%g, HG⟩, HH⟩, ⟨DL, DA, DH⟩, ⟨R0, R1, R2⟩, HW⟩ HK
  iapply (exec_cut _ _ _ (segC1_spec c i arg10 harg10 h3 X g W)) $$ [HA HG HC HW]
  · isplitl [HA]; · iexact HA
    isplitl [HG]; · iexact HG
    isplitl [HC]; · iexact HC
    iexact HW
  iintro %_ ⟨HA, HF, %W1, HW⟩
  iapply (exec_cut _ _ _ (segC2_spec c i arg2 harg2 arg3 harg3 arg4 harg4 arg5 harg5 arg6 harg6 arg7 harg7 arg10 harg10 arg12 harg12 (ST (tb i).val) h3 fullShare.left X W1)) $$ [HA R0 R1 R2 DA HW]
  · isplitl [HA]; · iexact HA
    isplitl [R0]; · iexact R0
    isplitl [R1]; · iexact R1
    isplitl [R2]; · iexact R2
    isplitl [DA]; · iexact DA
    iexact HW
  iintro %_ ⟨HA, R0, R1, R2, DN, HW⟩
  iapply HK
  isplitl [HA HF HL HH]
  · isplitl [HA HF]
    · iexists X; isplitl [HA]; · iexact HA
      isplitl [HF]; · iexact HF
      ipureintro; exact hX
    isplitl [HL]; · iexact HL
    iexact HH
  isplitl [DL DN DH]
  · isplitl [DN DL]
    · isplitl [DN]
      · iapply (eqE (congrArg (fun A => bigSep Finset.univ (doneP c (ST (tb i).val) A (tb i))) hX)); iexact DN
      iexact DL
    iexact DH
  isplitl [R0 R1 R2]
  · isplitl [R0]; · iexact R0
    isplitl [R1]; · iexact R1
    iexact R2
  iexact HW

/-! ## The five kinds of points -/

/-- All that a point changes, staged blocks apart. -/
abbrev sideAt (T C : ℕ) : sProp 𝕄 := iprop(fixAt c arg10 PT T C ∗ gradAt c PT ST T ∗ homes c ∗ anyScr c arg12)

abbrev before (C : ℕ) (W : Waits sig Unit) : sProp 𝕄 :=
  iprop(stP c arg2 arg3 arg4 arg5 arg6 arg7 X2 X3 X4 X5 X6 X7 ∗ sideAt c arg10 arg12 PT ST (i 0).val C ∗ owes (c : Thread nD τ) 0 W)
abbrev after (T C : ℕ) : sProp 𝕄 :=
  iprop(stP c arg2 arg3 arg4 arg5 arg6 arg7 X2 X3 X4 X5 X6 X7 ∗ sideAt c arg10 arg12 PT ST T C ∗ ∃ W, owes (c : Thread nD τ) 0 W)

/-- What the staged blocks, the partial counts and the steps are to each other. -/
structure PtOK (C : ℕ) : Prop where
  len : ∀ x, (arg2.view.read (Elt F) X2 x).toInt ≤ 384
  id : ∀ x, (arg5.view.read (Elt F) X5 x).toNat < 45000
  zero : ∀ T, PT T 0 = fun _ => 0#32
  next : ptAcc c i arg2 arg3 arg4 arg5 arg6 arg7 X2 X3 X4 X5 X6 X7 (PT (i 0).val C) = PT (i 0).val (C + 1)
  step : arg4.view.read (Elt F) X4 (stepAt i) = ST (i 0).val

/-- From within a table: the point's bags, then the rest. -/
theorem work_mid (C : ℕ) (ok : PtOK c i arg2 arg3 arg4 arg5 arg6 arg7 X2 X3 X4 X5 X6 X7 PT ST C)
    (k : Elt F .f32 → Prog (TpuEff nD τ sig (Elt F) Λ₀ .tc) PUnit) (Q : PUnit → sProp 𝕄) :
    (iprop(stP c arg2 arg3 arg4 arg5 arg6 arg7 X2 X3 X4 X5 X6 X7 ∗ anyScr c arg12 ∗ midAt c arg10 PT (i 0).val C) : sProp 𝕄)
    ⊢ iprop((stP c arg2 arg3 arg4 arg5 arg6 arg7 X2 X3 X4 X5 X6 X7 ∗ anyScr c arg12 ∗ midAt c arg10 PT (i 0).val (C + 1)
        -∗ wp frame (wpE (defs₀ (F := F)) 𝒱₀ (c : Thread nD τ) none) Set.univ (k (ST (i 0).val)) Q)
      -∗ wp frame (wpE (defs₀ (F := F)) 𝒱₀ (c : Thread nD τ) none) Set.univ (work i arg2 harg2 arg3 harg3 arg4 harg4 arg5 harg5 arg6 harg6 arg7 harg7 arg10 harg10 arg12 harg12 k) Q) := by
  unfold midAt
  rw [← ok.step, ← ok.next]
  iintro ⟨HS, H12, HA, HC, HL, HH⟩ HK
  iapply (work_spec c i arg2 harg2 arg3 harg3 arg4 harg4 arg5 harg5 arg6 harg6 arg7 harg7 arg10 harg10 arg12 harg12 X2 X3 X4 X5 X6 X7 ok.len ok.id _ k Q) $$ [HS H12 HA]
  · isplitl [HS]; · iexact HS
    isplitl [H12]; · iexact H12
    iexact HA
  iintro ⟨HS, H12, HA⟩
  iapply HK
  isplitl [HS]; · iexact HS
  isplitl [H12]; · iexact H12
  isplitl [HA]; · iexact HA
  isplitl [HC]; · iexact HC
  isplitl [HL]; · iexact HL
  iexact HH

theorem fix_mid {T C : ℕ} (h : 0 < C) : (fixAt c arg10 PT T C : sProp 𝕄) = midAt c arg10 PT T C := by
  unfold fixAt; rw [if_pos h]
theorem fix_idle {T : ℕ} (h : ¬ (0 < T ∧ T < 12)) : (fixAt c arg10 PT T 0 : sProp 𝕄) = idleAt c arg10 PT T := by
  unfold fixAt; rw [if_neg (show ¬ 0 < 0 by decide), if_neg h]
theorem fix_fly {T : ℕ} (h : 0 < T ∧ T < 12) : (fixAt c arg10 PT T 0 : sProp 𝕄) = flyAt c arg10 PT (Ring.bk 12 (T - 1)) := by
  unfold fixAt; rw [if_neg (show ¬ 0 < 0 by decide), if_pos h]

theorem pt_mid (hC : 0 < (i 1).val) (hC4 : (i 1).val < 4) (W : Waits sig Unit)
    (ok : PtOK c i arg2 arg3 arg4 arg5 arg6 arg7 X2 X3 X4 X5 X6 X7 PT ST (i 1).val) :
    before c i arg2 arg3 arg4 arg5 arg6 arg7 arg10 arg12 X2 X3 X4 X5 X6 X7 PT ST (i 1).val W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST (i 0).val ((i 1).val + 1)) := by
  rw [body_mid i arg2 harg2 arg3 harg3 arg4 harg4 arg5 harg5 arg6 harg6 arg7 harg7 arg10 harg10 arg12 harg12 (fun h => absurd ((cond1_iff i).mp h) (by omega)) (fun h => absurd ((cond3_iff i).mp h) (by omega))]
  unfold before after sideAt
  rw [fix_mid c arg10 PT hC, fix_mid c arg10 PT (Nat.succ_pos _)]
  iintro ⟨HS, ⟨HM, HG, HR, H12⟩, HW⟩
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  sl_step
  isplitl [HS]; · iexact HS
  isplitr [HW]
  · isplitl [HM]; · iexact HM
    isplitl [HG]; · iexact HG
    isplitl [HR]; · iexact HR
    iexact H12
  iexists _; iexact HW

theorem pt_first (hT : (i 0).val = 0) (hC : (i 1).val = 0) (W : Waits sig Unit)
    (ok : PtOK c i arg2 arg3 arg4 arg5 arg6 arg7 X2 X3 X4 X5 X6 X7 PT ST 0) :
    before c i arg2 arg3 arg4 arg5 arg6 arg7 arg10 arg12 X2 X3 X4 X5 X6 X7 PT ST 0 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST (i 0).val 1) := by
  rw [body_first i arg2 harg2 arg3 harg3 arg4 harg4 arg5 harg5 arg6 harg6 arg7 harg7 arg10 harg10 arg12 harg12 ((cond1_iff i).mpr hC) (fun h => absurd ((cond2_iff i).mp h) (by omega)) (fun h => absurd ((cond3_iff i).mp h) (by omega))]
  unfold before after sideAt
  rw [fix_idle c arg10 PT (by omega), fix_mid c arg10 PT (Nat.succ_pos _)]
  iintro ⟨HS, ⟨HM, HG, HR, H12⟩, HW⟩
  iapply (exec_cut _ _ _ (clear_mid c i arg2 harg2 arg3 harg3 arg4 harg4 arg5 harg5 arg6 harg6 arg7 harg7 arg10 harg10 arg12 harg12 PT ((cond1_iff i).mpr hC) ok.zero)) $$ [HM]
  · iexact HM
  iintro %_ HM
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  sl_step
  isplitl [HS]; · iexact HS
  isplitr [HW]
  · isplitl [HM]; · iexact HM
    isplitl [HG]; · iexact HG
    isplitl [HR]; · iexact HR
    iexact H12
  iexists _; iexact HW

theorem pt_next (hT : 0 < (i 0).val) (hC : (i 1).val = 0) (W : Waits sig Unit)
    (ok : PtOK c i arg2 arg3 arg4 arg5 arg6 arg7 X2 X3 X4 X5 X6 X7 PT ST 0) :
    before c i arg2 arg3 arg4 arg5 arg6 arg7 arg10 arg12 X2 X3 X4 X5 X6 X7 PT ST 0 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST (i 0).val 1) := by
  have hi := i0_lt i
  have hb : (Ring.bk 12 ((i 0).val - 1)).val = (i 0).val - 1 := Ring.bk_val (by omega)
  rw [body_wait i arg2 harg2 arg3 harg3 arg4 harg4 arg5 harg5 arg6 harg6 arg7 harg7 arg10 harg10 arg12 harg12 (Ring.bk 12 ((i 0).val - 1)) (by omega) ((cond1_iff i).mpr hC) ((cond2_iff i).mpr hT) (fun h => absurd ((cond3_iff i).mp h) (by omega))]
  unfold before after sideAt
  rw [fix_fly c arg10 PT ⟨hT, hi⟩, fix_mid c arg10 PT (Nat.succ_pos _)]
  have hw := wait_idle (F := F) c arg10 harg10 PT (Ring.bk 12 ((i 0).val - 1)) W
  rw [show (Ring.bk 12 ((i 0).val - 1)).val + 1 = (i 0).val by omega] at hw
  iintro ⟨HS, ⟨HM, HG, HR, H12⟩, HW⟩
  iapply (exec_cut _ _ _ hw) $$ [HM HW]
  · isplitl [HM]; · iexact HM
    iexact HW
  iintro %_ ⟨HM, %W1, HW⟩
  iapply (exec_cut _ _ _ (clear_mid c i arg2 harg2 arg3 harg3 arg4 harg4 arg5 harg5 arg6 harg6 arg7 harg7 arg10 harg10 arg12 harg12 PT ((cond1_iff i).mpr hC) ok.zero)) $$ [HM]
  · iexact HM
  iintro %_ HM
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  sl_step
  isplitl [HS]; · iexact HS
  isplitr [HW]
  · isplitl [HM]; · iexact HM
    isplitl [HG]; · iexact HG
    isplitl [HR]; · iexact HR
    iexact H12
  iexists _; iexact HW

theorem pt_leave (hT : (i 0).val < 11) (hC : (i 1).val = 4) (W : Waits sig Unit)
    (ok : PtOK c i arg2 arg3 arg4 arg5 arg6 arg7 X2 X3 X4 X5 X6 X7 PT ST 4) :
    before c i arg2 arg3 arg4 arg5 arg6 arg7 arg10 arg12 X2 X3 X4 X5 X6 X7 PT ST 4 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST ((i 0).val + 1) 0) := by
  have h3 := (cond3_iff i).mpr hC
  rw [body_leave i arg2 harg2 arg3 harg3 arg4 harg4 arg5 harg5 arg6 harg6 arg7 harg7 arg10 harg10 arg12 harg12 (fun h => absurd ((cond1_iff i).mp h) (by omega)) h3 (fun h => absurd ((cond5_iff i).mp h) (by omega))]
  unfold before after sideAt
  rw [fix_mid c arg10 PT (by decide), fix_fly c arg10 PT ⟨Nat.succ_pos _, by omega⟩,
    show Ring.bk 12 ((i 0).val + 1 - 1) = tb i from Fin.ext (Ring.bk_val (by omega))]
  iintro ⟨HS, ⟨HM, HG, HR, H12⟩, HW⟩
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  iapply (leave_fly c i arg2 harg2 arg3 harg3 arg4 harg4 arg5 harg5 arg6 harg6 arg7 harg7 arg10 harg10 arg12 harg12 PT ST h3 _ W _) $$ [HM HG HR HW]
  · isplitl [HM]; · iexact HM
    isplitl [HG]; · iexact HG
    isplitl [HR]; · iexact HR
    iexact HW
  iintro ⟨HM, HG, HR, HW⟩
  sl_step
  isplitl [HS]; · iexact HS
  isplitr [HW]
  · isplitl [HM]; · iexact HM
    isplitl [HG]; · iexact HG
    isplitl [HR]; · iexact HR
    iexact H12
  iexact HW

theorem pt_last (hT : (i 0).val = 11) (hC : (i 1).val = 4) (W : Waits sig Unit)
    (ok : PtOK c i arg2 arg3 arg4 arg5 arg6 arg7 X2 X3 X4 X5 X6 X7 PT ST 4) :
    before c i arg2 arg3 arg4 arg5 arg6 arg7 arg10 arg12 X2 X3 X4 X5 X6 X7 PT ST 4 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST ((i 0).val + 1) 0) := by
  have h3 := (cond3_iff i).mpr hC
  rw [body_last i arg2 harg2 arg3 harg3 arg4 harg4 arg5 harg5 arg6 harg6 arg7 harg7 arg10 harg10 arg12 harg12 (fun h => absurd ((cond1_iff i).mp h) (by omega)) h3 ((cond5_iff i).mpr hT)]
  unfold before after sideAt
  rw [fix_mid c arg10 PT (by decide), fix_idle c arg10 PT (by omega)]
  iintro ⟨HS, ⟨HM, HG, HR, H12⟩, HW⟩
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  iapply (leave_fly c i arg2 harg2 arg3 harg3 arg4 harg4 arg5 harg5 arg6 harg6 arg7 harg7 arg10 harg10 arg12 harg12 PT ST h3 _ W _) $$ [HM HG HR HW]
  · isplitl [HM]; · iexact HM
    isplitl [HG]; · iexact HG
    isplitl [HR]; · iexact HR
    iexact HW
  iintro ⟨HM, HG, HR, %W1, HW⟩
  iapply (exec_cut_last _ _ _ (wait_idle c arg10 harg10 PT (tb i) W1)) $$ [HM HW]
  · isplitl [HM]; · iexact HM
    iexact HW
  iintro %_ ⟨HM, HW⟩
  isplitl [HS]; · iexact HS
  isplitr [HW]
  · isplitl [HM]; · iexact HM
    isplitl [HG]; · iexact HG
    isplitl [HR]; · iexact HR
    iexact H12
  iexact HW
end Point

end Cert.Kernel.Hand

end
-- ==== Proof.BitsMem.lean ====
module

public import proofs.«01_k».proof.Proof.BitsPoint

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! # The two results and the staging buffer, cut in their parts and put together again -/

theorem sepMono {I : Type} {s : Finset I} {Φ Ψ : I → sProp 𝕄} (h : ∀ i ∈ s, Φ i ⊢ Ψ i) : bigSep s Φ ⊢ bigSep s Ψ := bigSep_mono h

section Blocks
variable {ℓ : Loc nD τ sig} {B : Type} [Fintype B] [DecidableEq B] (I : B → Finset (Idx ℓ))
/-- Parts that cover a buffer, each held at contents with a property of its own, are the buffer held whole at contents with all of them. -/
theorem blocks_join_ok (hd : ∀ b b', b ≠ b' → Disjoint (I b) (I b')) (hc : Finset.univ.biUnion I = Finset.univ)
    (φ : B → Buf (Elt F) ℓ → Prop) (hφ : ∀ b f g, (∀ i ∈ I b, g i = f i) → φ b f → φ b g) (f₀ : Buf (Elt F) ℓ) :
    bigSep Finset.univ (fun b => iprop(∃ f, (ℓ ↦[I b]{fullShare} f) ∗ ⌜φ b f⌝)) ⊢ (iprop(∃ g, (ℓ ↦{fullShare} g) ∗ ⌜∀ b, φ b g⌝) : sProp 𝕄) := by
  have : Nonempty (Buf (Elt F) ℓ) := ⟨f₀⟩
  refine (Idealize.SL.BI.bigSep_exists_pi Finset.univ (fun b (f : Buf (Elt F) ℓ) => (iprop((ℓ ↦[I b]{fullShare} f) ∗ ⌜φ b f⌝) : sProp 𝕄))).trans ?_
  iintro ⟨%fs, H⟩
  ihave H1 := (sepMono (F := F) (s := Finset.univ) (Φ := fun b => iprop((ℓ ↦[I b]{fullShare} fs b) ∗ ⌜φ b (fs b)⌝))
    (Ψ := fun b => iprop(⌜φ b (fs b)⌝ ∗ (ℓ ↦[I b]{fullShare} fs b))) (fun b _ => by
      iintro ⟨H, %h⟩; isplitr; · ipureintro; exact h
      iexact H)) $$ H
  ihave H2 := (bigSep_pure_sep (M := 𝕄) Finset.univ (fun b => φ b (fs b)) (fun b => (ℓ ↦[I b]{fullShare} fs b))) $$ H1
  icases H2 with ⟨%hp, H3⟩
  ihave H4 := (pointsTo_biUnion_join (Ix := Unit) (Name := ℕ) (U := UU nD τ) (Lvl := ℕ) (q := fullShare) Finset.univ I fs f₀ (fun b _ b' _ h => hd b b' h)) $$ H3
  icases H4 with ⟨%g, %hg, H5⟩
  iexists g
  isplitl [H5]
  · iapply (eqE (F := F) (congrArg (fun S => (ℓ ↦[S]{fullShare} g : sProp 𝕄)) hc)); iexact H5
  ipureintro
  exact fun b => hφ b (fs b) g (hg b (Finset.mem_univ b)) (hp b (Finset.mem_univ b))
end Blocks

/-! ## The element sets -/

abbrev GS (p : Fin 12 × Fin 45) : Finset S12x45000x128.Idx := (Rect.unit (s := S12x45000x128) (slabO p.1 p.2) S1x1000x128.size (slab_inb p.1 p.2)).set
abbrev FS (T : Fin 12) : Finset S12x45000x128.Idx := (Rect.unit (s := S12x45000x128) (tabOff T.val) S1x45000x128.size (tab_inb T)).set
abbrev SS (s : Fin 3) : Finset S3x1000x128.Idx := (Rect.unit (s := S3x1000x128) (slotOff s) S1x1000x128.size (slotOff_inb s)).set

theorem slab_set (T : Fin 12) (s : Fin 45) : (slab T s).view.set = GS (T, s) := (View.set_reshape _ _).trans (View.set_slice_whole _ _)
theorem ftab_set (T : Fin 12) : (ftab T).view.set = FS T := (View.set_reshape _ _).trans (View.set_slice_whole _ _)
theorem rslot_set (s : Fin 3) : (rslot s).view.set = SS s := (View.set_reshape _ _).trans (View.set_slice_whole _ _)

theorem mem_GS (p : Fin 12 × Fin 45) (y : S12x45000x128.Idx) : y ∈ GS p ↔ (y 0).val = p.1.val ∧ (y 1).val / 1000 = p.2.val := by
  rw [Rect.mem_set_unit]
  have h1 : (y 1).val < 45000 := (y 1).isLt
  have h2 : (y 2).val < 128 := (y 2).isLt
  constructor
  · intro H
    have a0 : p.1.val ≤ (y 0).val ∧ (y 0).val < p.1.val + 1 := H 0
    have a1 : 1000 * p.2.val ≤ (y 1).val ∧ (y 1).val < 1000 * p.2.val + 1000 := H 1
    omega
  · intro H i; fin_cases i
    · show p.1.val ≤ (y 0).val ∧ (y 0).val < p.1.val + 1; omega
    · show 1000 * p.2.val ≤ (y 1).val ∧ (y 1).val < 1000 * p.2.val + 1000; omega
    · show 0 ≤ (y 2).val ∧ (y 2).val < 0 + 128; omega
theorem mem_FS (T : Fin 12) (y : S12x45000x128.Idx) : y ∈ FS T ↔ (y 0).val = T.val := by
  rw [Rect.mem_set_unit]
  have h1 : (y 1).val < 45000 := (y 1).isLt
  have h2 : (y 2).val < 128 := (y 2).isLt
  constructor
  · intro H; have a0 : T.val ≤ (y 0).val ∧ (y 0).val < T.val + 1 := H 0; omega
  · intro H i; fin_cases i
    · show T.val ≤ (y 0).val ∧ (y 0).val < T.val + 1; omega
    · show 0 ≤ (y 1).val ∧ (y 1).val < 0 + 45000; omega
    · show 0 ≤ (y 2).val ∧ (y 2).val < 0 + 128; omega
theorem mem_SS (s : Fin 3) (y : S3x1000x128.Idx) : y ∈ SS s ↔ (y 0).val = s.val := by
  rw [Rect.mem_set_unit]
  have h1 : (y 1).val < 1000 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1000; omega
    · show 0 ≤ (y 2).val ∧ (y 2).val < 0 + 128; omega

theorem GS_disjoint : ∀ p p' : Fin 12 × Fin 45, p ≠ p' → Disjoint (GS p) (GS p') := by
  intro p p' hne; rw [Finset.disjoint_left]; intro y hy hy'; rw [mem_GS] at hy hy'
  exact hne (Prod.ext (Fin.ext (hy.1.symm.trans hy'.1)) (Fin.ext (hy.2.symm.trans hy'.2)))
theorem GS_cover : (Finset.univ : Finset (Fin 12 × Fin 45)).biUnion GS = Finset.univ := by
  ext y; simp only [Finset.mem_biUnion, Finset.mem_univ, true_and, iff_true]
  have h1 : (y 1).val < 45000 := (y 1).isLt
  exact ⟨((y 0).cast (by decide), ⟨(y 1).val / 1000, by omega⟩), by rw [mem_GS]; exact ⟨rfl, rfl⟩⟩
theorem FS_disjoint : ∀ T T' : Fin 12, T ≠ T' → Disjoint (FS T) (FS T') := by
  intro b b' hne; rw [Finset.disjoint_left]; intro y hy hy'; rw [mem_FS] at hy hy'; exact hne (Fin.ext (hy.symm.trans hy'))
theorem FS_cover : (Finset.univ : Finset (Fin 12)).biUnion FS = Finset.univ := by
  ext y; simp only [Finset.mem_biUnion, Finset.mem_univ, true_and, iff_true]; exact ⟨(y 0).cast (by decide), by rw [mem_FS]; rfl⟩
theorem SS_disjoint : ∀ s s' : Fin 3, s ≠ s' → Disjoint (SS s) (SS s') := by
  intro b b' hne; rw [Finset.disjoint_left]; intro y hy hy'; rw [mem_SS] at hy hy'; exact hne (Fin.ext (hy.symm.trans hy'))
theorem SS_cover : (Finset.univ : Finset (Fin 3)).biUnion SS = Finset.univ := by
  ext y; simp only [Finset.mem_biUnion, Finset.mem_univ, true_and, iff_true]; exact ⟨(y 0).cast (by decide), by rw [mem_SS]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

section Split
variable (c : Dev nD)
theorem slotP_eq (s : Fin 3) (f) : slotP c s f = (((c : Thread nD τ).loc cc0_scratch1) ↦[SS s]{fullShare} f : sProp 𝕄) :=
  congrArg (fun S => (_ ↦[S]{fullShare} f : sProp 𝕄)) (rslot_set s)
theorem slabP_eq (T : Fin 12) (s : Fin 45) (f) : slabP c T s f = (((c : Thread nD τ).loc main_v57_0) ↦[GS (T, s)]{fullShare} f : sProp 𝕄) :=
  congrArg (fun S => (_ ↦[S]{fullShare} f : sProp 𝕄)) (slab_set T s)
theorem tabP_eq (T : Fin 12) (f) : tabP c T f = (((c : Thread nD τ).loc main_v57_1) ↦[FS T]{fullShare} f : sProp 𝕄) :=
  congrArg (fun S => (_ ↦[S]{fullShare} f : sProp 𝕄)) (ftab_set T)

theorem grad_split (f : Buf (Elt F) ((c : Thread nD τ).loc main_v57_0)) :
    (((c : Thread nD τ).loc main_v57_0) ↦{fullShare} f : sProp 𝕄) ⊢ bigSep Finset.univ (grA c) := by
  rw [Ring.pointsTo_blocks (ℓ := (c : Thread nD τ).loc main_v57_0) GS GS_disjoint GS_cover, bigSep_univ_prod]
  refine sepMono fun T _ => sepMono fun s _ => ?_
  rw [show (((c : Thread nD τ).loc main_v57_0) ↦[GS (T, s)]{fullShare} f : sProp 𝕄) = slabP c T s f from (slabP_eq c T s f).symm]
  iintro H; iexists f; iexact H
theorem fix_split (f : Buf (Elt F) ((c : Thread nD τ).loc main_v57_1)) :
    (((c : Thread nD τ).loc main_v57_1) ↦{fullShare} f : sProp 𝕄) ⊢ bigSep Finset.univ (tabA c) := by
  rw [Ring.pointsTo_blocks (ℓ := (c : Thread nD τ).loc main_v57_1) FS FS_disjoint FS_cover]
  refine sepMono fun T _ => ?_
  rw [show (((c : Thread nD τ).loc main_v57_1) ↦[FS T]{fullShare} f : sProp 𝕄) = tabP c T f from (tabP_eq c T f).symm]
  iintro H; iexists f; iexact H
theorem stage_split :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ ∃ f, slotP c 2 f) : sProp 𝕄) := by
  iintro ⟨%f, H⟩
  ihave H2 := (eqE (F := F) ((Ring.pointsTo_blocks (Ix := Unit) (Name := ℕ) (U := UU nD τ) (Lvl := ℕ) (q := fullShare) (ℓ := (c : Thread nD τ).loc cc0_scratch1) SS SS_disjoint SS_cover f).trans (bigSep_fin3 _))) $$ H
  icases H2 with ⟨H0, H1, H2⟩
  isplitl [H0]
  · iexists f; iapply (eqE (F := F) (slotP_eq c 0 f).symm); iexact H0
  isplitl [H1]
  · iexists f; iapply (eqE (F := F) (slotP_eq c 1 f).symm); iexact H1
  · iexists f; iapply (eqE (F := F) (slotP_eq c 2 f).symm); iexact H2
theorem stage_join :
    iprop((∃ f, slotP c 0 f) ∗ (∃ f, slotP c 1 f) ∗ ∃ f, slotP c 2 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch1) SS SS_disjoint SS_cover f0)
  irw [bigSep_fin3]
  isplitl [H0]
  · iexists f0; iapply (eqE (F := F) (slotP_eq c 0 f0)); iexact H0
  isplitl [H1]
  · iexists f1; iapply (eqE (F := F) (slotP_eq c 1 f1)); iexact H1
  · iexists f2; iapply (eqE (F := F) (slotP_eq c 2 f2)); iexact H2

variable (PT : ℕ → ℕ → Acc) (ST : ℕ → Elt F .f32)
/-- What the whole results hold at the end, table by table and slab by slab. -/
def GradOK (g : Buf (Elt F) ((c : Thread nD τ).loc main_v57_0)) : Prop :=
  ∀ p : Fin 12 × Fin 45, (slab p.1 p.2).view.read (Elt F) g = gslab (ST p.1.val) (PT p.1.val 5) p.2
def FixOK (g : Buf (Elt F) ((c : Thread nD τ).loc main_v57_1)) : Prop :=
  ∀ T : Fin 12, (ftab T).view.read (Elt F) g = PT T.val 5

theorem grad_join (f₀ : Buf (Elt F) ((c : Thread nD τ).loc main_v57_0)) :
    bigSep Finset.univ (grD c PT ST) ⊢ (iprop(∃ g, (((c : Thread nD τ).loc main_v57_0) ↦{fullShare} g) ∗ ⌜GradOK c PT ST g⌝) : sProp 𝕄) := by
  refine (show _ ⊢ _ from ?_).trans (blocks_join_ok (ℓ := (c : Thread nD τ).loc main_v57_0) GS GS_disjoint GS_cover
    (fun p g => (slab p.1 p.2).view.read (Elt F) g = gslab (ST p.1.val) (PT p.1.val 5) p.2)
    (fun p f g h hf => (View.read_congr (v := (slab p.1 p.2).view) (fun i hi => h i (by rw [← slab_set]; exact hi))).trans hf) f₀)
  rw [bigSep_univ_prod]
  refine sepMono fun T _ => sepMono fun s _ => ?_
  iintro ⟨%g, H, %h⟩
  iexists g
  isplitl [H]; · iapply (eqE (F := F) (slabP_eq c T s g)); iexact H
  ipureintro; exact h
theorem fix_join (f₀ : Buf (Elt F) ((c : Thread nD τ).loc main_v57_1)) :
    bigSep Finset.univ (tabD c PT) ⊢ (iprop(∃ g, (((c : Thread nD τ).loc main_v57_1) ↦{fullShare} g) ∗ ⌜FixOK c PT g⌝) : sProp 𝕄) := by
  refine (show _ ⊢ _ from ?_).trans (blocks_join_ok (ℓ := (c : Thread nD τ).loc main_v57_1) FS FS_disjoint FS_cover
    (fun T g => (ftab T).view.read (Elt F) g = PT T.val 5)
    (fun T f g h hf => (View.read_congr (v := (ftab T).view) (fun i hi => h i (by rw [← ftab_set]; exact hi))).trans hf) f₀)
  refine sepMono fun T _ => ?_
  iintro ⟨%g, H, %h⟩
  iexists g
  isplitl [H]; · iapply (eqE (F := F) (tabP_eq c T g)); iexact H
  ipureintro; exact h
end Split

end Cert.Kernel.Hand

end
-- ==== Proof.BitsLaunch.lean ====
module

public import proofs.«01_k».proof.Proof.BitsMem
public import proofs.«01_k».proof.Proof.Gen.Kernel.Frame
public import Idealize.ShloMosaic.Lib.Pipeline.KitQuiescent

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## The kernel's own semaphores -/

abbrev osem : Fin 4 → SemLoc sig := fun | 0 => .dma cc0_scratch3.sem | 1 => .dma (csm 0).sem | 2 => .dma (csm 1).sem | 3 => .dma (csm 2).sem
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(fcell c ∗ cellP c 0 ∗ cellP c 1 ∗ cellP c 2) := by
  unfold Pipeline.ownSems0; rw [bigSep_fin4]

/-! ## The staged blocks of a point -/

abbrev st0 (t : Fin cfg0.N) : Memref sig .tc .smem S12x160 .i32 := win0_0.stage (cfg0.slots t 0)
abbrev st1 (t : Fin cfg0.N) : Memref sig .tc .smem S12x160 .f32 := win0_1.stage (cfg0.slots t 1)
abbrev st2 (t : Fin cfg0.N) : Memref sig .tc .smem S1x12 .f32 := win0_2.stage (cfg0.slots t 2)
abbrev st3 (t : Fin cfg0.N) : Memref sig .tc .smem S1x32x384 .i32 := win0_3.stage (cfg0.slots t 3)
abbrev st4 (t : Fin cfg0.N) : Memref sig .tc .vmem S1x32x128 .fp8e5m2 := win0_4.stage (cfg0.slots t 4)
abbrev st5 (t : Fin cfg0.N) : Memref sig .tc .vmem S1x32x48x128 .f32 := win0_5.stage (cfg0.slots t 5)

abbrev b0 (c : Dev nD) (t : Fin cfg0.N) : S12x160.Idx → Elt F .i32 := iblk m c 0 t
abbrev b1 (c : Dev nD) (t : Fin cfg0.N) : S12x160.Idx → Elt F .f32 := iblk m c 1 t
abbrev b2 (c : Dev nD) (t : Fin cfg0.N) : S1x12.Idx → Elt F .f32 := iblk m c 2 t
abbrev b3 (c : Dev nD) (t : Fin cfg0.N) : S1x32x384.Idx → Elt F .i32 := iblk m c 3 t
abbrev b4 (c : Dev nD) (t : Fin cfg0.N) : S1x32x128.Idx → Elt F .fp8e5m2 := iblk m c 4 t
abbrev b5 (c : Dev nD) (t : Fin cfg0.N) : S1x32x48x128.Idx → Elt F .f32 := iblk m c 5 t

/-! ## The points -/

theorem pt0 (t : Fin cfg0.N) : (grid0.coords t 0).val = t.val / 5 := by
  have h : t.val < 60 := t.isLt
  rw [show (grid0.coords t 0).val = t.val / 5 % 12 from Pipeline.Grid.coords_val t 0 (by decide) rfl]; omega
theorem pt1 (t : Fin cfg0.N) : (grid0.coords t 1).val = t.val % 5 := by
  rw [show (grid0.coords t 1).val = t.val / 1 % 5 from Pipeline.Grid.coords_val t 1 (by decide) rfl]; omega

/-- The point of table `T`'s group of bags `C`. -/
def pointOf (T C : ℕ) : Fin cfg0.N := ⟨(5 * T + C) % 60, Nat.mod_lt _ (by decide)⟩
theorem pointOf_eq (t : Fin cfg0.N) : pointOf (t.val / 5) (t.val % 5) = t := by
  have h : t.val < 60 := t.isLt
  exact Fin.ext (show (5 * (t.val / 5) + t.val % 5) % 60 = t.val by omega)

/-- One point's bags, off its blocks. -/
def ptStep (c : Dev nD) (t : Fin cfg0.N) (A : Acc) : Acc :=
  bags (b2 m c t (stepAt (grid0.coords t))) (fun b => b0 m c t (bagAt (grid0.coords t) b)) (fun b x => k0_pay2 (b4 m c t) (gfAt b (x 1)))
    (fun b => b1 m c t (bagAt (grid0.coords t) b)) (fun b p => b3 m c t (idAt b p)) (fun b p => b5 m c t (wAt b p)) A 32
/-- Table `T`'s counts after its first `C` groups of bags; -/
def PTm (c : Dev nD) (T : ℕ) : ℕ → Acc
  | 0 => fun _ => 0#32
  | C + 1 => ptStep m c (pointOf T C) (PTm c T C)
/-- its grid. -/
def STm (c : Dev nD) (T : ℕ) : Elt F .f32 := b2 m c (pointOf T 0) (stepAt (grid0.coords (pointOf T 0)))

/-- What the run asks of the lengths and of the ids as the region finds them. -/
structure InOK : Prop where
  len : ∀ (c : Dev nD) (x : S12x160.Idx), ((V m c main_v54 : S12x160.Idx → BitVec 32) x).toInt ≤ 384
  id : ∀ (c : Dev nD) (x : S12x160x384.Idx), ((V m c main_v49 : S12x160x384.Idx → BitVec 32) x).toNat < 45000

theorem b0_ok (h : InOK m) (c : Dev nD) (t : Fin cfg0.N) (x : S12x160.Idx) : (b0 m c t x).toInt ≤ 384 := by
  unfold b0 iblk; rw [View.read_apply]; exact h.len c _
theorem b3_ok (h : InOK m) (c : Dev nD) (t : Fin cfg0.N) (x : S1x32x384.Idx) : (b3 m c t x).toNat < 45000 := by
  unfold b3 iblk; rw [View.read_apply]; exact h.id c _

theorem step_eq (c : Dev nD) (t : Fin cfg0.N) : b2 m c t (stepAt (grid0.coords t)) = STm m c (t.val / 5) := by
  have h : t.val < 60 := t.isLt
  unfold STm
  have e : stepAt (grid0.coords (pointOf (t.val / 5) 0)) = stepAt (grid0.coords t) := by
    funext a
    have e0 : (grid0.coords (pointOf (t.val / 5) 0) 0).val = (grid0.coords t 0).val := by
      rw [pt0, pt0]; show (5 * (t.val / 5) + 0) % 60 / 5 = t.val / 5; omega
    unfold stepAt
    fin_cases a
    · rfl
    · exact Fin.ext (congrArg (fun n => n % 12) e0)
  rw [e]; rfl

theorem ptOK (h : InOK m) (c : Dev nD) (t : Fin cfg0.N) :
    PtOK c (grid0.coords t) (st0 t) (st1 t) (st2 t) (st3 t) (st4 t) (st5 t) ((st0 t).view.rep (b0 m c t)) ((st1 t).view.rep (b1 m c t))
      ((st2 t).view.rep (b2 m c t)) ((st3 t).view.rep (b3 m c t)) ((st4 t).view.rep (b4 m c t)) ((st5 t).view.rep (b5 m c t)) (PTm m c) (STm m c) (t.val % 5) where
  len x := by rw [View.read_rep]; exact b0_ok m h c t x
  id x := by rw [View.read_rep]; exact b3_ok m h c t x
  zero _ := rfl
  next := by
    unfold ptAcc bagsG ids wts
    simp only [View.read_rep]
    rw [pt0]
    show _ = ptStep m c (pointOf (t.val / 5) (t.val % 5)) (PTm m c (t.val / 5) (t.val % 5))
    rw [pointOf_eq]; rfl
  step := by rw [View.read_rep, pt0]; exact step_eq m c t

/-! ## The pipeline's proof data -/

/-- What holds before point `t` (after the last one at 60). -/
def ΦG (c : Dev nD) (n : ℕ) : sProp 𝕄 := sideAt c accM gfM (PTm m c) (STm m c) (n / 5) (n % 5)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := ΦG m c t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans
    (by unfold Dat.fetched Dat.blockOf iblk; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rfl) t d).trans
    (by unfold Dat.fetched Dat.blockOf iblk; rfl)
theorem before_w5 (c : Dev nD) (t : Fin cfg0.N) (d) : (dats m 0 c).before 5 t d = iblk m c 5 t :=
  ((dats m 0 c).before_in_eq_fetched 5 rfl (fun _ => rfl) (fun _ _ _ => rfl) (fun t => by rw [after_w5]; unfold Dat.blockOf iblk; rfl) t d).trans
    (by unfold Dat.fetched Dat.blockOf iblk; rfl)

/-! ## The body at a point -/

abbrev bodyOn (t : Fin cfg0.N) : Prog (TpuEff nD τ sig (Elt F) Λ₀ .tc) PUnit :=
  bodyP (grid0.coords t) (st0 t) (hstage0_0 ((cfg0.slots t 0).cast nbuf0_0)) (st1 t) (hstage0_1 ((cfg0.slots t 1).cast nbuf0_1)) (st2 t) (hstage0_2 ((cfg0.slots t 2).cast nbuf0_2))
    (st3 t) (hstage0_3 ((cfg0.slots t 3).cast nbuf0_3)) (st4 t) (hstage0_4 ((cfg0.slots t 4).cast nbuf0_4)) (st5 t) (hstage0_5 ((cfg0.slots t 5).cast nbuf0_5))
    accM (Memref.isWhole_whole _) gfM (Memref.isWhole_whole _)
theorem prog_eq (t : Fin cfg0.N) : (defs₀ (F := F)) .tc cfg0.body (cfg0.bodyArgs t (cfg0.slots t)) = bodyOn t :=
  (show (defs₀ (F := F)) .tc cfg0.body (cfg0.bodyArgs t (cfg0.slots t)) = bodyAt0 t by unfold defs₀; rw [Defs.onTc_tc]).trans
    (by unfold bodyAt0 bodyOn bodyP; rw [cc0_bag_scatter_eq_skeleton])

theorem point_run (h : InOK m) (c : Dev nD) (t : Fin cfg0.N) (W : Waits sig Unit) :
    (iprop(stP c (st0 t) (st1 t) (st2 t) (st3 t) (st4 t) (st5 t) ((st0 t).view.rep (b0 m c t)) ((st1 t).view.rep (b1 m c t))
        ((st2 t).view.rep (b2 m c t)) ((st3 t).view.rep (b3 m c t)) ((st4 t).view.rep (b4 m c t)) ((st5 t).view.rep (b5 m c t))
      ∗ ΦG m c t.val ∗ owes (c : Thread nD τ) 0 W) : sProp 𝕄)
    ⊢ wp frame (wpE (defs₀ (F := F)) 𝒱₀ (c : Thread nD τ) none) Set.univ (bodyOn t)
      (fun _ => iprop(stP c (st0 t) (st1 t) (st2 t) (st3 t) (st4 t) (st5 t) ((st0 t).view.rep (b0 m c t)) ((st1 t).view.rep (b1 m c t))
        ((st2 t).view.rep (b2 m c t)) ((st3 t).view.rep (b3 m c t)) ((st4 t).view.rep (b4 m c t)) ((st5 t).view.rep (b5 m c t))
      ∗ ΦG m c (t.val + 1) ∗ ∃ W, owes (c : Thread nD τ) 0 W)) := by
  have ht : t.val < 60 := t.isLt
  have ok := ptOK m h c t
  have p0 := pt0 t
  have p1 := pt1 t
  unfold ΦG
  by_cases hC : t.val % 5 = 0
  · rw [show (t.val + 1) / 5 = t.val / 5 by omega, show (t.val + 1) % 5 = 1 by omega, hC, ← p0]
    rw [hC] at ok
    by_cases hT : t.val / 5 = 0
    · exact pt_first c (grid0.coords t) _ _ _ _ _ _ _ _ _ _ _ _ _ _ _ _ _ _ _ _ _ _ _ _ (by omega) (by omega) W ok
    · exact pt_next c (grid0.coords t) _ _ _ _ _ _ _ _ _ _ _ _ _ _ _ _ _ _ _ _ _ _ _ _ (by omega) (by omega) W ok
  · by_cases hC4 : t.val % 5 = 4
    · rw [show (t.val + 1) / 5 = t.val / 5 + 1 by omega, show (t.val + 1) % 5 = 0 by omega, hC4, ← p0]
      rw [hC4] at ok
      by_cases hT : t.val / 5 = 11
      · exact pt_last c (grid0.coords t) _ _ _ _ _ _ _ _ _ _ _ _ _ _ _ _ _ _ _ _ _ _ _ _ (by omega) (by omega) W ok
      · exact pt_leave c (grid0.coords t) _ _ _ _ _ _ _ _ _ _ _ _ _ _ _ _ _ _ _ _ _ _ _ _ (by omega) (by omega) W ok
    · rw [show (t.val + 1) / 5 = t.val / 5 by omega, show (t.val + 1) % 5 = t.val % 5 + 1 by omega, ← p0, ← p1]
      rw [← p1] at ok
      exact pt_mid c (grid0.coords t) _ _ _ _ _ _ _ _ _ _ _ _ _ _ _ _ _ _ _ _ _ _ _ _ (by omega) (by omega) W ok

end Launch

end Cert.Kernel.Hand

end
-- ==== Proof.BitsRun.lean ====
module

public import proofs.«01_k».proof.Proof.BitsLaunch

@[expose] public section

set_option maxRecDepth 16384
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## The body obligation -/

set_option backward.isDefEq.respectTransparency.types false in
theorem body_obligation (h : InOK m) (c : Dev nD) : BodyObligation (dats m 0 c) (defs₀ (F := F)) 𝒱₀ () Set.univ := fun t => by
  rw [bigSep_W0, bigSep_W0]
  dsimp only
  simp only [before_w0, before_w1, before_w2, before_w3, before_w4, before_w5, after_w0, after_w1, after_w2, after_w3, after_w4, after_w5]
  rw [show (dats m 0 c).Φ t.castSucc = ΦG m c t.val from rfl, show (dats m 0 c).Φ t.succ = ΦG m c (t.val + 1) from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  ihave H4' := (pointsTo_rep_entails (c : Thread nD τ) (st4 t) g4 fullShare) $$ H4
  ihave H5' := (pointsTo_rep_entails (c : Thread nD τ) (st5 t) g5 fullShare) $$ H5
  rw [hg0, hg1, hg2, hg3, hg4, hg5]
  sl_rw [prog_eq t]
  iapply (wp_wand_r Idealize.ShloMosaic.frame (wpE (defs₀ (F := F)) 𝒱₀ (c : Thread nD τ) none) Set.univ)
  isplitl [HΦ HW H0' H1' H2' H3' H4' H5']
  · iapply (point_run m h c t W)
    isplitl [H0' H1' H2' H3' H4' H5']
    · isplitl [H0']; · iexact H0'
      isplitl [H1']; · iexact H1'
      isplitl [H2']; · iexact H2'
      isplitl [H3']; · iexact H3'
      isplitl [H4']; · iexact H4'
      iexact H5'
    isplitl [HΦ]; · iexact HΦ
    iexact HW
  iintro %_ ⟨⟨H0, H1, H2, H3, H4, H5⟩, HΦ, ⟨%W', HW⟩⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  iexists _; isplitr; · ipureintro; exact View.read_rep _ _
  iexact H5

/-! ## The run -/

/-- The two arrays the kernel writes itself. -/
def H2 : Finset (Ref sig .tc) := {main_v57_0, main_v57_1}
theorem H2_sub : H2 ⊆ Pipeline.restRefs sig spec0 := by decide
def rest2 : Finset (Ref sig .tc) := Pipeline.restRefs sig spec0 \ H2
theorem mem_rest2 {b : Ref sig .tc} (h : b ∈ Pipeline.restRefs sig spec0) (hn : b ∉ H2) : b ∈ rest2 := Finset.mem_sdiff.mpr ⟨h, hn⟩

theorem unscoped_eq (c : Dev nD) (V : (b : Ref sig .tc) → Buf (Elt F) ((c : Thread nD τ).loc b)) :
    (Pipeline.unscopedRest (Ix := Unit) (Name := ℕ) (U := UU nD τ) (Lvl := ℕ) spec0 c V : sProp 𝕄)
      = iprop(((((c : Thread nD τ).loc main_v57_0) ↦{fullShare} V main_v57_0) ∗ (((c : Thread nD τ).loc main_v57_1) ↦{fullShare} V main_v57_1))
          ∗ bigSep rest2 fun b => ((c : Thread nD τ).loc b) ↦{fullShare} V b) := by
  classical
  have e : (Pipeline.unscopedRest (Ix := Unit) (Name := ℕ) (U := UU nD τ) (Lvl := ℕ) spec0 c V : sProp 𝕄)
      = iprop((bigSep H2 fun b => ((c : Thread nD τ).loc b) ↦{fullShare} V b)
          ∗ bigSep rest2 fun b => ((c : Thread nD τ).loc b) ↦{fullShare} V b) := by
    unfold Pipeline.unscopedRest; exact BI.bigSep_sdiff_split H2_sub
  rw [e, BI.bigSep_eq_bigSepL_of_eq [main_v57_0, main_v57_1] (by decide) (by decide)]
  rfl

theorem Lo_zero : Lo 0 = ∅ := by decide
theorem Hi_zero : Hi 0 = Finset.univ := by decide
theorem Lo_all : Lo 12 = Finset.univ := by decide
theorem Hi_all : Hi 12 = ∅ := by decide

def intoΦ (c : Dev nD) : sProp 𝕄 :=
  iprop(((((c : Thread nD τ).loc main_v57_0) ↦{fullShare} V m c main_v57_0) ∗ (((c : Thread nD τ).loc main_v57_1) ↦{fullShare} V m c main_v57_1)) ∗ Pipeline.ownSems0 osem c)
def outOfΦ (c : Dev nD) : sProp 𝕄 :=
  iprop((∃ g, (((c : Thread nD τ).loc main_v57_0) ↦{fullShare} g) ∗ ⌜GradOK c (PTm m c) (STm m c) g⌝) ∗ (∃ g, (((c : Thread nD τ).loc main_v57_1) ↦{fullShare} g) ∗ ⌜FixOK c (PTm m c) g⌝))

theorem Φ_zero (c : Dev nD) : ΦG m c 0 = iprop((anyAcc c accM ∗ fcell c ∗ bigSep (Lo 0) (tabD c (PTm m c)) ∗ bigSep (Hi 0) (tabA c))
    ∗ (bigSep (Lo 0) (grD c (PTm m c) (STm m c)) ∗ bigSep (Hi 0) (grA c)) ∗ homes c ∗ anyScr c gfM) := by
  unfold ΦG sideAt fixAt
  rw [if_neg (by decide), if_neg (by decide)]; rfl
theorem Φ_last (c : Dev nD) : ΦG m c 60 = iprop((anyAcc c accM ∗ fcell c ∗ bigSep (Lo 12) (tabD c (PTm m c)) ∗ bigSep (Hi 12) (tabA c))
    ∗ (bigSep (Lo 12) (grD c (PTm m c) (STm m c)) ∗ bigSep (Hi 12) (grA c)) ∗ homes c ∗ anyScr c gfM) := by
  unfold ΦG sideAt fixAt
  rw [if_neg (by decide), if_neg (by decide)]; rfl

theorem into_Φ (c : Dev nD) : iprop(intoΦ m c ∗ Pipeline.scopedRest spec0 c) ⊢ ΦG m c 0 := by
  rw [scopedRest0_eq, Φ_zero, Lo_zero, Hi_zero, BI.bigSep_empty, BI.bigSep_empty]
  unfold intoΦ; rw [ownSems0_eq]
  iintro ⟨⟨⟨Hg, Hf⟩, Hfc, Hc0, Hc1, Hc2⟩, ⟨%a, Ha⟩, Hs, ⟨%s, Hscr⟩⟩
  ihave Hs3 := (stage_split c) $$ Hs
  icases Hs3 with ⟨Hs0, Hs1, Hs2⟩
  ihave Hg' := (grad_split c _) $$ Hg
  ihave Hf' := (fix_split c _) $$ Hf
  isplitl [Ha Hfc Hf']
  · isplitl [Ha]
    · iexists a; iapply (eqE (F := F) (show (((c : Thread nD τ).loc cc0_scratch0) ↦{fullShare} a : sProp 𝕄) = (accM.view.loc (c : Thread nD τ) ↦[accM.view.set]{fullShare} a) from by rw [View.set_whole])); iexact Ha
    isplitl [Hfc]; · iexact Hfc
    isplitr; · iempintro
    iexact Hf'
  isplitl [Hg']
  · isplitr; · iempintro
    iexact Hg'
  isplitl [Hc0 Hc1 Hc2 Hs0 Hs1 Hs2]
  · isplitl [Hc0 Hs0]
    · isplitl [Hs0]; · iexact Hs0
      iexact Hc0
    isplitl [Hc1 Hs1]
    · isplitl [Hs1]; · iexact Hs1
      iexact Hc1
    isplitl [Hs2]; · iexact Hs2
    iexact Hc2
  iexists s; iapply (eqE (F := F) (show (((c : Thread nD τ).loc cc0_scratch2) ↦{fullShare} s : sProp 𝕄) = (gfM.view.loc (c : Thread nD τ) ↦[gfM.view.set]{fullShare} s) from by rw [View.set_whole])); iexact Hscr

theorem out_Φ (c : Dev nD) : ΦG m c 60 ⊢ (iprop(outOfΦ m c ∗ Pipeline.ownSems0 osem c ∗ Pipeline.scopedRest spec0 c) : sProp 𝕄) := by
  rw [scopedRest0_eq, Φ_last, Lo_all, Hi_all, BI.bigSep_empty, BI.bigSep_empty]
  unfold outOfΦ; rw [ownSems0_eq]
  iintro ⟨⟨⟨%a, Ha⟩, Hfc, Hf, -⟩, ⟨Hg, -⟩, ⟨⟨Hs0, Hc0⟩, ⟨Hs1, Hc1⟩, ⟨Hs2, Hc2⟩⟩, ⟨%s, Hscr⟩⟩
  ihave Hg' := (grad_join c (PTm m c) (STm m c) (V m c main_v57_0)) $$ Hg
  ihave Hf' := (fix_join c (PTm m c) (V m c main_v57_1)) $$ Hf
  isplitl [Hg' Hf']
  · isplitl [Hg']; · iexact Hg'
    iexact Hf'
  isplitl [Hfc Hc0 Hc1 Hc2]
  · isplitl [Hfc]; · iexact Hfc
    isplitl [Hc0]; · iexact Hc0
    isplitl [Hc1]; · iexact Hc1
    iexact Hc2
  isplitl [Ha]
  · iexists a; iapply (eqE (F := F) (show (accM.view.loc (c : Thread nD τ) ↦[accM.view.set]{fullShare} a : sProp 𝕄) = (((c : Thread nD τ).loc cc0_scratch0) ↦{fullShare} a) from by rw [View.set_whole])); iexact Ha
  isplitl [Hs0 Hs1 Hs2]
  · iapply (stage_join c)
    isplitl [Hs0]; · iexact Hs0
    isplitl [Hs1]; · iexact Hs1
    iexact Hs2
  iexists s; iapply (eqE (F := F) (show (gfM.view.loc (c : Thread nD τ) ↦[gfM.view.set]{fullShare} s : sProp 𝕄) = (((c : Thread nD τ).loc cc0_scratch2) ↦{fullShare} s) from by rw [View.set_whole])); iexact Hscr

def u₀ : UU nD τ := (initOf (Pipeline.cells cfgs cellOf_inj) (Pipeline.launchToks cfgs cellOf_inj), 1)
/-- The two written arrays at the computed contents, every buffer that is neither theirs nor staged as the region finds it. -/
def QY (c : Dev nD) (s : MemSt nD τ sig (Elt F)) : Prop :=
  GradOK c (PTm m c) (STm m c) (s.mem ((c : Thread nD τ).loc main_v57_0)) ∧ FixOK c (PTm m c) (s.mem ((c : Thread nD τ).loc main_v57_1))
    ∧ ∀ b ∈ rest2, s.mem ((c : Thread nD τ).loc b) = V m c b

set_option maxHeartbeats 800000 in
theorem hmainU : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem hX (c : Dev nD) : iprop(Pipeline.unscopedRest spec0 c (V m c) ∗ Pipeline.ownSems0 osem c ∗ levels0 c ∗ prngReg c (ρ c) ∗ BI.emp)
    ⊢ (iprop(|={Set.univ}=> (intoΦ m c ∗ bigSep rest2 fun b => ((c : Thread nD τ).loc b) ↦{fullShare} V m c b)) : sProp 𝕄) := by
  rw [unscoped_eq c]
  unfold intoΦ
  iintro ⟨⟨H0, HZ⟩, HS, -, -, -⟩; imodintro
  isplitl [H0 HS]
  · isplitl [H0]; · iexact H0
    iexact HS
  iexact HZ
theorem hY (c : Dev nD) (s' : Phys nD τ sig (Elt F)) :
    iprop(outOfΦ m c ∗ (bigSep rest2 fun b => ((c : Thread nD τ).loc b) ↦{fullShare} V m c b) ∗ SI s')
    ⊢ (iprop(|={Set.univ}=> (⌜QY m c s'.mem⌝ ∗ SI s')) : sProp 𝕄) := by
  unfold outOfΦ
  iintro ⟨⟨⟨%g0, H0, %hg⟩, ⟨%g1, H1, %hf⟩⟩, HZ, HSI⟩
  ihave HZ' := (pointsTo_read_all rest2 (fun b => (c : Thread nD τ).loc b) (V m c) s') $$ [HZ HSI]
  · isplitl [HZ] <;> iassumption
  icases HZ' with ⟨%hZ, HSI⟩
  icombine HSI H0 gives %h0
  icombine HSI H1 gives %h1
  imodintro
  isplitr
  · ipureintro
    refine ⟨?_, ?_, hZ⟩
    · rw [Buf.eq_of_forall_mem_univ h0]; exact hg
    · rw [Buf.eq_of_forall_mem_univ h1]; exact hf
  iexact HSI

set_option backward.isDefEq.respectTransparency.types false in
set_option maxHeartbeats 4000000 in
/-- From any memory whose lengths are at most 384 and whose ids are rows: every weakly fair execution of @main ends, with
    the gradient and the fixed-point counts at the computed contents, the arguments as launched, every counter at zero. -/
theorem run_main (h : InOK m) : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := fun c => bigSep rest2 fun b => ((c : Thread nD τ).loc b) ↦{fullShare} V m c b)
    (hX := hX m ρ)
    (hin := into_Φ m)
    (hout := out_Φ m)
    (QY := QY m)
    (hY := hY m)
    (hQ := fun _ hh hz => ⟨fun c => (hh c).2, hz⟩)

end Launch

end Cert.Kernel.Hand

end
-- ==== Proof.BitsFrame.lean ====
module

public import proofs.«01_k».proof.Proof.BitsVals
public import proofs.«01_k».proof.Proof.BitsRun
public import proofs.«01_k».proof.Proof.Gen.Pre_ids_and_lengths_fit
public import Idealize.ShloMosaic.Lib.Affine
public import Idealize.ShloMosaic.Lib.Pointwise.ElementwiseCore
public import Idealize.ShloMosaic.Lib.ValueLayout

@[expose] public section

set_option maxRecDepth 16384
set_option maxHeartbeats 400000

noncomputable section

namespace Cert.Kernel.Hand

open Cert.Kernel Cert.Kernel.Gen
open Idealize.ShloMosaic Idealize.ShloMosaic.TcCoe Idealize.ShloMosaic.Tactic
open Idealize.SL.Sem
open Idealize.ShloMosaic.ValueIdx (ix2 ix3)

variable {F : FTy → Type} [FloatOps F]

/-- A word that is, read signed, between 0 and 44999 is below 45000 read unsigned. -/
theorem toNat_lt_of_toInt (w : BitVec 32) (h0 : 0 ≤ w.toInt) (h1 : w.toInt < 45000) : w.toNat < 45000 := by
  rw [BitVec.toInt_eq_toNat_cond] at h0 h1
  split at h0 <;> omega

/-- The condition on the arguments, read entry by entry: an id lies between 0 and 44999, and the length of its bag is at most 384. -/
theorem pre_entry (a0 : FVec F S160x12x128 .fp8e5m2) (a1 : FVec F S160x12 .f32) (a2 : IVec S160x12x384 32) (a3 : FVec F S160x12x384 .f32)
    (a4 : IVec S160x12 32) (a5 : FVec F S12 .f32) (h : Cert.Pre_ids_and_lengths_fit.fn a0 a1 a2 a3 a4 a5 = fun _ => 1#1) (i : S160x12x384.Idx) :
    0 ≤ (a2 i).toInt ∧ (a2 i).toInt < 45000 ∧ (a4 (ix2 (i 0) (i 1))).toInt ≤ 384 := by
  have hi : IntOp.andi (IntOp.andi (IntOp.cmpi .sge (a2 i) 0#32) (IntOp.cmpi .slt (a2 i) 45000#32))
      (broadcastInDim S160x12x384 ![0, 1, 2] Cert.Pre_ids_and_lengths_fit.Facts.bcast_S160x12x1_S160x12x384_0_1_2
        (broadcastInDim Cert.Pre_ids_and_lengths_fit.S160x12x1 ![0, 1] Cert.Pre_ids_and_lengths_fit.Facts.bcast_S160x12_S160x12x1_0_1
          (cmpi .sle a4 (fun _ => 384#32))) i) = 1#1 := congrFun h i
  obtain ⟨h1, h2⟩ := IntOp.andi_eq_one.mp hi
  obtain ⟨h3, h4⟩ := IntOp.andi_eq_one.mp h1
  have h5 : IntOp.cmpi .sle (a4 (ix2 (i 0) (i 1))) 384#32 = 1#1 :=
    ((broadcastInDim_apply _ _ _ i (ix3 (i 0) (i 1) (0 : Fin 1)) (by intro a; fin_cases a <;> rfl)).trans
      (broadcastInDim_apply _ _ (cmpi .sle a4 (fun _ => 384#32)) _ (ix2 (i 0) (i 1)) (by intro a; fin_cases a <;> rfl))).symm.trans h2
  exact ⟨IntOp.cmpi_sge.mp h3, IntOp.cmpi_slt.mp h4, IntOp.cmpi_sle.mp h5⟩

variable (m : (ℓ : Loc nD τ sig) → Buf (Elt F) ℓ) (ρ : Dev nD → PrngReg)

/-- The condition on the arguments, of a memory of the program. -/
def PreOK : Prop := ∀ c : Dev nD, Cert.Pre_ids_and_lengths_fit.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5)) = fun _ => 1#1

/-- Under it the region finds every id below 45000 and every length at most 384. -/
theorem inOK (h : PreOK m) : InOK m where
  len c x := by
    have e := congrFun (V_v54 m c) x
    rw [e]
    erw [transpose_apply _ _ _ x (ix2 (x 1) (x 0)) (by intro b; fin_cases b <;> rfl)]
    exact (pre_entry _ _ _ _ _ _ (h c) (ix3 (x 1) (x 0) (0 : Fin 384))).2.2
  id c x := by
    have e := congrFun (V_v49 m c) x
    rw [e]
    erw [transpose_apply _ _ _ x (ix3 (x 1) (x 0) (x 2)) (by intro b; fin_cases b <;> rfl)]
    obtain ⟨h0, h1, _⟩ := pre_entry _ _ _ _ _ _ (h c) (ix3 (x 1) (x 0) (x 2))
    exact toNat_lt_of_toInt _ h0 h1

/-- The program ends with its six arguments as launched and every semaphore at zero. -/
theorem frame (h : PreOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run_main m ρ (inOK m h)) fun r hr => ⟨fun c => by
    have hk := (hr.1 c).2.2
    refine ⟨?_, ?_, ?_, ?_, ?_, ?_⟩
    · exact (hk main_arg0 (by decide +kernel)).trans (V_main_arg0 m c)
    · exact (hk main_arg1 (by decide +kernel)).trans (V_main_arg1 m c)
    · exact (hk main_arg2 (by decide +kernel)).trans (V_main_arg2 m c)
    · exact (hk main_arg3 (by decide +kernel)).trans (V_main_arg3 m c)
    · exact (hk main_arg4 (by decide +kernel)).trans (V_main_arg4 m c)
    · exact (hk main_arg5 (by decide +kernel)).trans (V_main_arg5 m c), hr.2⟩

end Cert.Kernel.Hand

end
-- ==== Proof.IdealVals.lean ====
module

public import proofs.«01_k».proof.Proof.Gen.KernelIdeal.Frame
public import Idealize.ShloMosaic.Lib.StableHlo.RunRead
public import Idealize.ShloMosaic.Lib.Claim

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The lengths as the region finds them: the argument with its two axes exchanged. -/
theorem V_v54 (c : Dev nD) : V m c main_v54 = transpose S12x160 [1, 0] (m ((c : Thread nD τ).loc main_arg4)) transposes_S160x12_S12x160_1_0 := by
  unfold V
  simp only [List.flatten_cons, List.flatten_nil, List.append_nil, List.cons_append, List.nil_append]
  after_reads_simp
/-- The scales as the region finds them: the argument with its two axes exchanged. -/
theorem V_v55 (c : Dev nD) : V m c main_v55 = transpose S12x160 [1, 0] (m ((c : Thread nD τ).loc main_arg1)) transposes_S160x12_S12x160_1_0 := by
  unfold V
  simp only [List.flatten_cons, List.flatten_nil, List.append_nil, List.cons_append, List.nil_append]
  after_reads_simp
/-- The ids as the region finds them: the argument with its first two axes exchanged. -/
theorem V_v49 (c : Dev nD) : V m c main_v49 = transpose S12x160x384 [1, 0, 2] (m ((c : Thread nD τ).loc main_arg2)) transposes_S160x12x384_S12x160x384_1_0_2 := by
  unfold V
  simp only [List.flatten_cons, List.flatten_nil, List.append_nil, List.cons_append, List.nil_append]
  after_reads_simp
/-- The codes as the region finds them: the argument with its first two axes exchanged. -/
theorem V_v50 (c : Dev nD) : V m c main_v50 = transpose S12x160x128 [1, 0, 2] (m ((c : Thread nD τ).loc main_arg0)) transposes_S160x12x128_S12x160x128_1_0_2 := by
  unfold V
  simp only [List.flatten_cons, List.flatten_nil, List.append_nil, List.cons_append, List.nil_append]
  after_reads_simp

end Cert.KernelIdeal.Hand

end
-- ==== Proof.IdealChain.lean ====
/-
  The kernel's integer chains in closed form: where each loop trip reads and writes, that a bag length at most 384
  makes every position of the inner loops in range, and that the remainder loops run no trip.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic
public import Idealize.ShloMosaic.Lib.VecWindow
public import Idealize.ShloMosaic.Lib.WritesUnit

@[expose] public section

noncomputable section

namespace Cert.KernelIdeal.Hand

open Cert.KernelIdeal Cert.KernelIdeal.Gen
open Idealize.ShloMosaic
open Idealize.ShloMosaic.TcCoe Idealize.ShloMosaic.Tactic
open Affine

theorem toInt_of_isInt {x : BitVec 32} {e : Int} (h : IsInt x e) : x.toInt = e := by
  delta Affine.IsInt at h; exact h

/-! ## The bag's group count -/

/-- Division by eight toward zero, by cases of the sign. -/
theorem tdiv8 (a : Int) : (0 ≤ a ∧ a.tdiv 8 = a / 8) ∨ (a < 0 ∧ a.tdiv 8 = -((-a) / 8)) := by
  rcases Int.lt_or_le a 0 with h | h
  · refine Or.inr ⟨h, ?_⟩
    rw [← Int.tdiv_eq_ediv_of_nonneg (by omega : 0 ≤ -a), Int.neg_tdiv, Int.neg_neg]
  · exact Or.inl ⟨h, Int.tdiv_eq_ediv_of_nonneg h⟩

section Bag
variable (v : BitVec 32)

/-- The signed quotient of a bag's rounded-up length by eight. -/
theorem isInt_div8 (h : v.toInt ≤ 384) :
    IsInt (Scalar.divsi (Scalar.addi v 7#32) 8#32) ((v.toInt + 7).tdiv 8) := by
  have hr := word_range v; have hd := tdiv8 (v.toInt + 7)
  have h1 : IsInt (Scalar.addi v 7#32) (v.toInt + 7) :=
    addi (e := v.toInt + 7) (word v) (ofNat (e := 7) 7 ⟨rfl, by decide⟩) ⟨by omega, by omega, by omega⟩
  have h2 := toInt_of_isInt h1
  have hc : ¬IntOp.SDivCorner (Scalar.addi v 7#32) 8#32 := by
    rintro (h0 | ⟨-, h0⟩) <;> exact absurd h0 (by decide)
  delta Affine.IsInt
  rw [Scalar.divsi, IntOp.divsi, if_neg hc, BitVec.toInt_sdiv, h2]
  rw [show (8#32 : BitVec 32).toInt = 8 from by decide]
  have hb : -2 ^ 31 ≤ (v.toInt + 7).tdiv 8 ∧ (v.toInt + 7).tdiv 8 < 2 ^ 31 := by omega
  exact Int.bmod_eq_of_le (by omega) (by omega)

/-- The groups of eight positions the kernel walks in a bag of length `v`. -/
def grps : ℕ := ((v.toInt + 7).tdiv 8).toNat

theorem grps_le (h : v.toInt ≤ 384) : grps v ≤ 48 := by have hd := tdiv8 (v.toInt + 7); unfold grps; omega
/-- Every position below the length is in a group. -/
theorem lt_grps (p : ℕ) (h : (p : Int) < v.toInt) : p < 8 * grps v := by have hd := tdiv8 (v.toInt + 7); unfold grps; omega

theorem isInt_main (h : v.toInt ≤ 384) :
    IsInt (Scalar.addi 0#32 (Scalar.muli (Scalar.divsi (Scalar.subi (Scalar.divsi (Scalar.addi v 7#32) 8#32) 0#32) 1#32) 1#32)) ((v.toInt + 7).tdiv 8) := by
  have hr := word_range v; have hd := tdiv8 (v.toInt + 7)
  have h0 := isInt_div8 v h
  have h1 : IsInt (Scalar.subi (Scalar.divsi (Scalar.addi v 7#32) 8#32) 0#32) ((v.toInt + 7).tdiv 8) :=
    subi h0 (ofNat (e := 0) 0 ⟨rfl, by decide⟩) ⟨by omega, by omega, by omega⟩
  have h2 := divsi_one (e := (v.toInt + 7).tdiv 8) h1 (ofNat (e := 1) 1 ⟨rfl, by decide⟩) ⟨rfl, rfl⟩
  have h3 := muli (e := (v.toInt + 7).tdiv 8) h2 (ofNat (e := 1) 1 ⟨rfl, by decide⟩) ⟨by omega, by omega, by omega⟩
  exact addi (e := (v.toInt + 7).tdiv 8) (ofNat (e := 0) 0 ⟨rfl, by decide⟩) h3 ⟨by omega, by omega, by omega⟩
theorem isInt_rest (h : v.toInt ≤ 384) :
    IsInt (Scalar.addi 0#32 (Scalar.subi (Scalar.divsi (Scalar.addi v 7#32) 8#32) 0#32)) ((v.toInt + 7).tdiv 8) := by
  have hr := word_range v; have hd := tdiv8 (v.toInt + 7)
  have h1 : IsInt (Scalar.subi (Scalar.divsi (Scalar.addi v 7#32) 8#32) 0#32) ((v.toInt + 7).tdiv 8) :=
    subi (isInt_div8 v h) (ofNat (e := 0) 0 ⟨rfl, by decide⟩) ⟨by omega, by omega, by omega⟩
  exact addi (e := (v.toInt + 7).tdiv 8) (ofNat (e := 0) 0 ⟨rfl, by decide⟩) h1 ⟨by omega, by omega, by omega⟩

/-- The main loop runs one trip per group; -/
theorem trips3_eq (h : v.toInt ≤ 384) : (k0_t3_loop v).trips = grps v := by
  show Scf.trips 0#32 (Scalar.addi 0#32 (Scalar.muli (Scalar.divsi (Scalar.subi (Scalar.divsi (Scalar.addi v 7#32) 8#32) 0#32) 1#32) 1#32)) 1#32 = _
  unfold Scf.trips grps; rw [toInt_of_isInt (isInt_main v h)]; simp
/-- the remainder loop none. -/
theorem trips4_eq (h : v.toInt ≤ 384) : (k0_t4_loop v).trips = 0 := by
  show Scf.trips (Scalar.addi 0#32 (Scalar.muli (Scalar.divsi (Scalar.subi (Scalar.divsi (Scalar.addi v 7#32) 8#32) 0#32) 1#32) 1#32))
    (Scalar.addi 0#32 (Scalar.subi (Scalar.divsi (Scalar.addi v 7#32) 8#32) 0#32)) 1#32 = 0
  unfold Scf.trips; rw [toInt_of_isInt (isInt_main v h), toInt_of_isInt (isInt_rest v h)]; simp

theorem trips2_val : k0_t2_loop.trips = 32 := by decide
theorem t2_lt (b : Fin k0_t2_loop.trips) : b.val < 32 := Nat.lt_of_lt_of_eq b.isLt trips2_val

variable {v} (h : v.toInt ≤ 384)
include h

theorem t3_lt (k : Fin (k0_t3_loop v).trips) : k.val < 48 :=
  Nat.lt_of_lt_of_le (Nat.lt_of_lt_of_eq k.isLt (trips3_eq v h)) (grps_le v h)

omit h in
theorem isInt_iv (k : ℕ) (hk : k < 2 ^ 31) : IsInt (Scf.iv 0#32 1#32 k) k :=
  iv (e := k) (ofNat (e := 0) 0 ⟨rfl, by decide⟩) (ofNat (e := 1) 1 ⟨rfl, by decide⟩) k ⟨by omega, by omega, by omega⟩

theorem isInt_t3 (k : Fin (k0_t3_loop v).trips) : IsInt (Scf.iv 0#32 1#32 k.val) k.val :=
  isInt_iv _ (by have := t3_lt h k; omega)
omit h in
theorem isInt_t2 (b : Fin k0_t2_loop.trips) : IsInt (Scf.iv 0#32 1#32 b.val) b.val :=
  isInt_iv _ (by have := t2_lt b; omega)
/-- Trip `k`'s first position, -/
theorem isInt_base (k : Fin (k0_t3_loop v).trips) : IsInt (Scalar.muli (Scf.iv 0#32 1#32 k.val) 8#32) (8 * k.val : ℕ) := by
  have := t3_lt h k
  exact muli (e := (8 * k.val : ℕ)) (isInt_t3 h k) (ofNat (e := 8) 8 ⟨rfl, by decide⟩) ⟨by push_cast; omega, by omega, by omega⟩
/-- and its `s`-th. -/
theorem isInt_pos (k : Fin (k0_t3_loop v).trips) (s : ℕ) (hs : s < 8) :
    IsInt (Scalar.addi (Scalar.muli (Scf.iv 0#32 1#32 k.val) 8#32) (BitVec.ofNat 32 s)) (8 * k.val + s : ℕ) := by
  have := t3_lt h k
  exact addi (e := (8 * k.val + s : ℕ)) (isInt_base h k) (ofNat (e := (s : Int)) s ⟨rfl, by omega⟩) ⟨by push_cast; omega, by omega, by omega⟩

abbrev idOff (b p : ℕ) : Fin 3 → ℕ := ![0, b, p]
theorem off7_eq (b : Fin k0_t2_loop.trips) (k : Fin (k0_t3_loop v).trips) : k0_off7 b v k = idOff b.val (8 * k.val + 0) := by
  show (![0, _, _] : Fin 3 → ℕ) = ![0, _, _]
  rw [nat_eq (indexCast (isInt_t2 b)) _ rfl, nat_eq (indexCast (isInt_pos h k 0 (by decide))) _ rfl]
theorem off9_eq (b : Fin k0_t2_loop.trips) (k : Fin (k0_t3_loop v).trips) : k0_off9 b v k = idOff b.val (8 * k.val + 1) := by
  show (![0, _, _] : Fin 3 → ℕ) = ![0, _, _]
  rw [nat_eq (indexCast (isInt_t2 b)) _ rfl, nat_eq (indexCast (isInt_pos h k 1 (by decide))) _ rfl]
theorem off11_eq (b : Fin k0_t2_loop.trips) (k : Fin (k0_t3_loop v).trips) : k0_off11 b v k = idOff b.val (8 * k.val + 2) := by
  show (![0, _, _] : Fin 3 → ℕ) = ![0, _, _]
  rw [nat_eq (indexCast (isInt_t2 b)) _ rfl, nat_eq (indexCast (isInt_pos h k 2 (by decide))) _ rfl]
theorem off13_eq (b : Fin k0_t2_loop.trips) (k : Fin (k0_t3_loop v).trips) : k0_off13 b v k = idOff b.val (8 * k.val + 3) := by
  show (![0, _, _] : Fin 3 → ℕ) = ![0, _, _]
  rw [nat_eq (indexCast (isInt_t2 b)) _ rfl, nat_eq (indexCast (isInt_pos h k 3 (by decide))) _ rfl]
theorem off15_eq (b : Fin k0_t2_loop.trips) (k : Fin (k0_t3_loop v).trips) : k0_off15 b v k = idOff b.val (8 * k.val + 4) := by
  show (![0, _, _] : Fin 3 → ℕ) = ![0, _, _]
  rw [nat_eq (indexCast (isInt_t2 b)) _ rfl, nat_eq (indexCast (isInt_pos h k 4 (by decide))) _ rfl]
theorem off17_eq (b : Fin k0_t2_loop.trips) (k : Fin (k0_t3_loop v).trips) : k0_off17 b v k = idOff b.val (8 * k.val + 5) := by
  show (![0, _, _] : Fin 3 → ℕ) = ![0, _, _]
  rw [nat_eq (indexCast (isInt_t2 b)) _ rfl, nat_eq (indexCast (isInt_pos h k 5 (by decide))) _ rfl]
theorem off19_eq (b : Fin k0_t2_loop.trips) (k : Fin (k0_t3_loop v).trips) : k0_off19 b v k = idOff b.val (8 * k.val + 6) := by
  show (![0, _, _] : Fin 3 → ℕ) = ![0, _, _]
  rw [nat_eq (indexCast (isInt_t2 b)) _ rfl, nat_eq (indexCast (isInt_pos h k 6 (by decide))) _ rfl]
theorem off21_eq (b : Fin k0_t2_loop.trips) (k : Fin (k0_t3_loop v).trips) : k0_off21 b v k = idOff b.val (8 * k.val + 7) := by
  show (![0, _, _] : Fin 3 → ℕ) = ![0, _, _]
  rw [nat_eq (indexCast (isInt_t2 b)) _ rfl, nat_eq (indexCast (isInt_pos h k 7 (by decide))) _ rfl]
theorem off6_eq (b : Fin k0_t2_loop.trips) (k : Fin (k0_t3_loop v).trips) : k0_off6 b v k = ![0, b.val, k.val, 0] := by
  show (![0, _, _, 0] : Fin 4 → ℕ) = ![0, _, _, 0]
  rw [nat_eq (indexCast (isInt_t2 b)) _ rfl, nat_eq (indexCast (isInt_t3 h k)) _ rfl]

omit h in
theorem idOff_inb {b p : ℕ} (hb : b < 32) (hp : p < 384) : ∀ a, idOff b p a + S1x1x1.size a ≤ S1x32x384.size a := by
  intro a; fin_cases a
  · show 0 + 1 ≤ 1; omega
  · show b + 1 ≤ 32; omega
  · show p + 1 ≤ 384; omega

/-- A bag length at most 384 is what the body's check asks. -/
theorem chk1 (b : Fin k0_t2_loop.trips) : k0_chk1 b v := by
  have hb := t2_lt b
  have z : ∀ k : Fin (k0_t4_loop v).trips, False := fun k => Nat.not_lt_zero _ (Nat.lt_of_lt_of_eq k.isLt (trips4_eq v h))
  have hr := word_range v; have hd := tdiv8 (v.toInt + 7)
  refine ⟨?_, ?_, ?_, ?_, ?_, ?_, ?_, ?_, ?_, ?_, ?_, fun k => (z k).elim, fun k => (z k).elim, fun k => (z k).elim, fun k => (z k).elim,
    fun k => (z k).elim, fun k => (z k).elim, fun k => (z k).elim, fun k => (z k).elim, fun k => (z k).elim⟩
  · exact ok (ofNat (e := 0) 0 ⟨rfl, by decide⟩) (isInt_main v h) (ofNat (e := 1) 1 ⟨rfl, by decide⟩) ⟨by decide, by omega⟩
  · intro k; rw [off6_eq h]; have := t3_lt h k
    intro a; fin_cases a
    · show 0 + 1 ≤ 1; omega
    · show b.val + 1 ≤ 32; omega
    · show k.val + 1 ≤ 48; omega
    · show 0 + 128 ≤ 128; omega
  · intro k; rw [off7_eq h]; have := t3_lt h k; exact idOff_inb hb (by omega)
  · intro k; rw [off9_eq h]; have := t3_lt h k; exact idOff_inb hb (by omega)
  · intro k; rw [off11_eq h]; have := t3_lt h k; exact idOff_inb hb (by omega)
  · intro k; rw [off13_eq h]; have := t3_lt h k; exact idOff_inb hb (by omega)
  · intro k; rw [off15_eq h]; have := t3_lt h k; exact idOff_inb hb (by omega)
  · intro k; rw [off17_eq h]; have := t3_lt h k; exact idOff_inb hb (by omega)
  · intro k; rw [off19_eq h]; have := t3_lt h k; exact idOff_inb hb (by omega)
  · intro k; rw [off21_eq h]; have := t3_lt h k; exact idOff_inb hb (by omega)
  · exact ok (isInt_main v h) (isInt_rest v h) (ofNat (e := 1) 1 ⟨rfl, by decide⟩) ⟨by decide, by omega⟩

end Bag

/-! ## The offsets of the other loops and of the grid -/

section Grid
variable (i : grid0.Coords)

theorem i0_lt : (i 0).val < 12 := (i 0).isLt
theorem i1_lt : (i 1).val < 5 := (i 1).isLt
theorem isInt_i0 : IsInt (BitVec.ofNat 32 (i 0).val) (i 0).val := ofNat _ ⟨rfl, by have := i0_lt i; omega⟩
theorem isInt_i1 : IsInt (BitVec.ofNat 32 (i 1).val) (i 1).val := ofNat _ ⟨rfl, by have := i1_lt i; omega⟩

theorem off3_eq : k0_off3 i = ![0, (i 0).val] := by
  show (![0, _] : Fin 2 → ℕ) = ![0, _]
  rw [nat_eq (indexCast (isInt_i0 i)) _ rfl]
theorem off4_eq (b : Fin k0_t2_loop.trips) : k0_off4 i b = ![(i 0).val, 32 * (i 1).val + b.val] := by
  have h1 := i1_lt i; have hb := t2_lt b
  have e : IsInt (Scalar.addi (Scalar.muli (BitVec.ofNat 32 (i 1).val) 32#32) (Scf.iv 0#32 1#32 b.val)) (32 * (i 1).val + b.val : ℕ) :=
    addi (e := (32 * (i 1).val + b.val : ℕ))
      (muli (e := (32 * (i 1).val : ℕ)) (isInt_i1 i) (ofNat (e := 32) 32 ⟨rfl, by decide⟩) ⟨by push_cast; omega, by omega, by omega⟩)
      (isInt_t2 b) ⟨by push_cast; omega, by omega, by omega⟩
  show (![_, _] : Fin 2 → ℕ) = ![_, _]
  rw [nat_eq (indexCast (isInt_i0 i)) _ rfl, nat_eq (indexCast e) _ rfl]
theorem off5_eq (b : Fin k0_t2_loop.trips) : k0_off5 b = ![b.val, 0] := by
  show (![_, 0] : Fin 2 → ℕ) = ![_, 0]
  rw [nat_eq (indexCast (isInt_t2 b)) _ rfl]

theorem cond1_iff : k0_cond1 i = 1#1 ↔ (i 1).val = 0 := by
  have h := i1_lt i
  have : ∀ n : Fin 5, Scalar.cmpi .ne (Scalar.extui (Scalar.cmpi .eq (BitVec.ofNat 32 n.val) 0#32) : BitVec 32) 0#32 = 1#1 ↔ n.val = 0 := by decide
  exact this (i 1)
theorem cond3_iff : k0_cond3 i = 1#1 ↔ (i 1).val = 4 := by
  have : ∀ n : Fin 5, Scalar.cmpi .ne (Scalar.extui (Scalar.cmpi .eq (BitVec.ofNat 32 n.val) 4#32) : BitVec 32) 0#32 = 1#1 ↔ n.val = 4 := by decide
  exact this (i 1)
theorem cond2_iff : k0_cond2 i = 1#1 ↔ 0 < (i 0).val := by
  have : ∀ n : Fin 12, Scalar.cmpi .ne (Scalar.extui (Scalar.cmpi .sgt (BitVec.ofNat 32 n.val) 0#32) : BitVec 32) 0#32 = 1#1 ↔ 0 < n.val := by decide
  exact this (i 0)
theorem cond5_iff : k0_cond5 i = 1#1 ↔ (i 0).val = 11 := by
  have : ∀ n : Fin 12, Scalar.cmpi .ne (Scalar.extui (Scalar.cmpi .eq (BitVec.ofNat 32 n.val) 11#32) : BitVec 32) 0#32 = 1#1 ↔ n.val = 11 := by decide
  exact this (i 0)

abbrev tabOff (t : ℕ) : Fin 3 → ℕ := ![t, 0, 0]
theorem off1_eq (h : 0 < (i 0).val) : k0_off1 i = tabOff ((i 0).val - 1) := by
  have h0 := i0_lt i
  have e : IsInt (Scalar.subi (BitVec.ofNat 32 (i 0).val) 1#32) ((i 0).val - 1 : ℕ) :=
    subi (e := ((i 0).val - 1 : ℕ)) (isInt_i0 i) (ofNat (e := 1) 1 ⟨rfl, by decide⟩) ⟨by omega, by omega, by omega⟩
  show (![_, 0, 0] : Fin 3 → ℕ) = ![_, 0, 0]
  rw [nat_eq e _ rfl]
theorem off40_eq : k0_off40 i = tabOff (i 0).val := by
  show (![_, 0, 0] : Fin 3 → ℕ) = ![_, 0, 0]
  rw [nat_eq (isInt_i0 i) _ rfl]
theorem off52_eq : k0_off52 i = tabOff (i 0).val := off40_eq i

theorem trips1_val : k0_t1_loop.trips = 45 := by decide
theorem trips5_val : k0_t5_loop.trips = 45 := by decide
theorem t1_lt (k : Fin k0_t1_loop.trips) : k.val < 45 := Nat.lt_of_lt_of_eq k.isLt trips1_val
theorem t5_lt (k : Fin k0_t5_loop.trips) : k.val < 45 := Nat.lt_of_lt_of_eq k.isLt trips5_val

theorem isInt_k1000 (k : ℕ) (hk : k < 45) : IsInt (Scalar.muli (Scf.iv 0#32 1#32 k) 1000#32) (1000 * k : ℕ) :=
  muli (e := (1000 * k : ℕ)) (isInt_iv k (by omega)) (ofNat (e := 1000) 1000 ⟨rfl, by decide⟩) ⟨by push_cast; omega, by omega, by omega⟩
theorem isInt_k3 (k : ℕ) (hk : k < 45) : IsInt (Scalar.remsi (Scf.iv 0#32 1#32 k) 3#32) (k % 3 : ℕ) :=
  remsi (e := (k % 3 : ℕ)) (isInt_iv k (by omega)) (ofNat (e := 3) 3 ⟨rfl, by decide⟩) ⟨by omega, by omega, by omega⟩

theorem off2_eq (k : Fin k0_t1_loop.trips) : k0_off2 k = ![1000 * k.val, 0] := by
  show (![_, 0] : Fin 2 → ℕ) = ![_, 0]
  rw [nat_eq (indexCast (isInt_k1000 k.val (t1_lt k))) _ rfl]
theorem off44_eq (k : Fin k0_t5_loop.trips) : k0_off44 k = ![1000 * k.val, 0] := by
  show (![_, 0] : Fin 2 → ℕ) = ![_, 0]
  rw [nat_eq (indexCast (isInt_k1000 k.val (t5_lt k))) _ rfl]

abbrev slotOff (s : Fin 3) : Fin 3 → ℕ := ![s.val, 0, 0]
abbrev semOff (s : Fin 3) : Fin 1 → ℕ := ![s.val]
abbrev slabOff (t s : ℕ) : Fin 3 → ℕ := ![t, 1000 * s, 0]

theorem sl3_val (k : ℕ) : (Ring.sl 3 k).val = k % 3 := by simp [Ring.sl, Fin.ofNat]

theorem off41_eq (k : Fin k0_t5_loop.trips) : k0_off41 k = semOff (Ring.sl 3 k.val) := by
  show (![_] : Fin 1 → ℕ) = ![_]
  rw [nat_eq (isInt_k3 k.val (t5_lt k)) _ rfl, sl3_val]
theorem off46_eq (k : Fin k0_t5_loop.trips) : k0_off46 k = semOff (Ring.sl 3 k.val) := off41_eq k
theorem off43_eq (k : Fin k0_t5_loop.trips) : k0_off43 k = slotOff (Ring.sl 3 k.val) := by
  show (![_, 0, 0] : Fin 3 → ℕ) = ![_, 0, 0]
  rw [nat_eq (isInt_k3 k.val (t5_lt k)) _ rfl, sl3_val]
theorem off45_eq (k : Fin k0_t5_loop.trips) : k0_off45 k = slotOff (Ring.sl 3 k.val) := off43_eq k
theorem off48_eq (k : Fin k0_t5_loop.trips) : k0_off48 k = slotOff (Ring.sl 3 k.val) := off43_eq k
theorem off47_eq (k : Fin k0_t5_loop.trips) : k0_off47 i k = slabOff (i 0).val k.val := by
  show (![_, _, 0] : Fin 3 → ℕ) = ![_, _, 0]
  rw [nat_eq (isInt_i0 i) _ rfl, nat_eq (isInt_k1000 k.val (t5_lt k)) _ rfl]
theorem off42_eq (k : Fin k0_t5_loop.trips) (h3 : 3 ≤ k.val) : k0_off42 i k = slabOff (i 0).val (k.val - 3) := by
  have hk := t5_lt k
  have e : IsInt (Scalar.muli (Scalar.subi (Scf.iv 0#32 1#32 k.val) 3#32) 1000#32) (1000 * (k.val - 3) : ℕ) :=
    muli (e := (1000 * (k.val - 3) : ℕ))
      (subi (e := (k.val - 3 : ℕ)) (isInt_iv k.val (by omega)) (ofNat (e := 3) 3 ⟨rfl, by decide⟩) ⟨by omega, by omega, by omega⟩)
      (ofNat (e := 1000) 1000 ⟨rfl, by decide⟩) ⟨by push_cast; omega, by omega, by omega⟩
  show (![_, _, 0] : Fin 3 → ℕ) = ![_, _, 0]
  rw [nat_eq (isInt_i0 i) _ rfl, nat_eq e _ rfl]
theorem cond4_iff (k : Fin k0_t5_loop.trips) : k0_cond4 k = 1#1 ↔ 3 ≤ k.val := by
  have hk := t5_lt k
  unfold k0_cond4
  dsimp only
  show Scalar.cmpi .ne (Scalar.extui (Scalar.cmpi .sge (Scf.iv 0#32 1#32 k.val) 3#32) : BitVec 32) 0#32 = 1#1 ↔ _
  rw [show (Scf.iv 0#32 1#32 k.val) = BitVec.ofNat 32 k.val from eq_of (isInt_iv k.val (by omega)) _ rfl]
  have : ∀ n : Fin 45, Scalar.cmpi .ne (Scalar.extui (Scalar.cmpi .sge (BitVec.ofNat 32 n.val) 3#32) : BitVec 32) 0#32 = 1#1 ↔ 3 ≤ n.val := by decide
  exact this ⟨k.val, hk⟩

theorem off49_eq : k0_off49 i = slabOff (i 0).val 42 := by
  show (![_, 42000, 0] : Fin 3 → ℕ) = ![_, _, 0]
  rw [nat_eq (isInt_i0 i) _ rfl]
theorem off50_eq : k0_off50 i = slabOff (i 0).val 43 := by
  show (![_, 43000, 0] : Fin 3 → ℕ) = ![_, _, 0]
  rw [nat_eq (isInt_i0 i) _ rfl]
theorem off51_eq : k0_off51 i = slabOff (i 0).val 44 := by
  show (![_, 44000, 0] : Fin 3 → ℕ) = ![_, _, 0]
  rw [nat_eq (isInt_i0 i) _ rfl]

end Grid

end Cert.KernelIdeal.Hand

end
-- ==== Proof.IdealBody.lean ====
module

public import proofs.«01_k».proof.Proof.IdealChain
public import Idealize.ShloMosaic.Lib.Pipeline.Value

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev gradM : Memref sig .tc .hbm S12x45000x128 .f32 := Memref.whole main_v57_0
abbrev fixM : Memref sig .tc .hbm S12x45000x128 .i32 := Memref.whole main_v57_1
abbrev accM : Memref sig .tc .vmem S45000x128 .i32 := Memref.whole cc0_scratch0
abbrev stM : Memref sig .tc .vmem S3x1000x128 .f32 := Memref.whole cc0_scratch1
abbrev gfM : Memref sig .tc .vmem S32x128 .f32 := Memref.whole cc0_scratch2

/-! ## One token: its row of the accumulator, its code -/

def ixRow (l : Fin 128) : S1x128.Idx := fun | 0 => (0 : Fin 1) | 1 => l
def ix4 (l : Fin 128) : S1x1x1x128.Idx := fun | 0 => (0 : Fin 1) | 1 => (0 : Fin 1) | 2 => (0 : Fin 1) | 3 => l

abbrev Acc := S45000x128.Idx → BitVec 32

/-- The accumulator with the code `g` added to row `v`. -/
def tokv (v : BitVec 32) (g : S1x128.Idx → BitVec 32) (A : Acc) : Acc :=
  fun x => if (x 0).val = v.toNat then IntOp.addi (A x) (g (ixRow (x 1))) else A x

abbrev rowOff (v : BitVec 32) : Fin 2 → ℕ := ![v.toNat, 0]

theorem read_tok (A10 : Memref sig .tc .vmem S45000x128 .i32) (f : A10.view.ty.Contents (Elt F)) (L : List (View.Piece (Elt F) S45000x128 .i32))
    (v : BitVec 32) (g : S1x128.Idx → BitVec 32) (h : ∀ a, rowOff v a + S1x128.size a ≤ S45000x128.size a)
    (pay : (Rect.unit (s := S45000x128) (rowOff v) S1x128.size h).shape.Idx → Elt F .i32)
    (hp : ∀ x : S1x128.Idx, pay x = IntOp.addi (A10.view.readAt (Elt F) (Rect.unit (s := S45000x128) (rowOff v) S1x128.size h).toLoadRect (A10.view.writes (Elt F) f L) x) (g x)) :
    A10.view.read (Elt F) (A10.view.writes (Elt F) f (⟨Rect.unit (s := S45000x128) (rowOff v) S1x128.size h, pay⟩ :: L))
      = tokv v g (A10.view.read (Elt F) (A10.view.writes (Elt F) f L)) := by
  funext y
  unfold tokv
  by_cases hy : (y 0).val = v.toNat
  · rw [if_pos hy]
    have hx : ∀ a, (y a).val = rowOff v a + ((ixRow (y 1)) a).val := by
      intro a; fin_cases a
      · show (y 0).val = v.toNat + 0; omega
      · show (y 1).val = 0 + (y 1).val; omega
    rw [View.read_writes_cons_unit_of_mem A10.view f h pay L y (ixRow (y 1)) rfl hx]
    refine (hp _).trans (congrArg (fun w => IntOp.addi w (g (ixRow (y 1)))) ?_)
    refine congrArg (A10.view.read (Elt F) (A10.view.writes (Elt F) f L)) (funext fun a => Fin.ext ?_)
    show rowOff v a + 1 * ((ixRow (y 1)) a).val = (y a).val
    rw [hx a, Nat.one_mul]
  · rw [if_neg hy]
    refine View.read_writes_cons_unit_of_not_mem A10.view f h pay L y (off' := rowOff v) rfl 0 ?_
    show (y 0).val < v.toNat ∨ v.toNat + 1 ≤ (y 0).val
    omega

theorem read_step (A10 : Memref sig .tc .vmem S45000x128 .i32) (f : A10.view.ty.Contents (Elt F)) (L : List (View.Piece (Elt F) S45000x128 .i32))
    (v v' : BitVec 32) (g : S1x128.Idx → BitVec 32) (h : ∀ a, rowOff v a + S1x128.size a ≤ S45000x128.size a)
    (pay : (Rect.unit (s := S45000x128) (rowOff v) S1x128.size h).shape.Idx → Elt F .i32)
    (hp : ∀ x : S1x128.Idx, pay x = IntOp.addi (A10.view.readAt (Elt F) (Rect.unit (s := S45000x128) (rowOff v) S1x128.size h).toLoadRect (A10.view.writes (Elt F) f L) x) (g x))
    (e : v = v') {B : Acc} (hB : A10.view.read (Elt F) (A10.view.writes (Elt F) f L) = B) :
    A10.view.read (Elt F) (A10.view.writes (Elt F) f (⟨Rect.unit (s := S45000x128) (rowOff v) S1x128.size h, pay⟩ :: L)) = tokv v' g B := by
  rw [read_tok A10 f L v g h pay hp, e, hB]

/-- The first `n` tokens of a bag, in order. -/
def toks (ids : ℕ → BitVec 32) (code : ℕ → S1x128.Idx → BitVec 32) (A : Acc) : ℕ → Acc
  | 0 => A
  | n + 1 => tokv (ids n) (code n) (toks ids code A n)

/-- A token's code, from the bag's scaled row, the token's weight and the column's grid. -/
@[irreducible] def codev (v21 : Vec F S1x128 .f32) (v26 w v4 : Elt F .f32) : IVec S1x128 32 :=
  fptosi 32 (roundeven (mulf (mulf (mulf v21 (broadcast S1x128 v26)) (broadcast S1x128 w)) (broadcast S1x128 v4)))
/-- The same, nothing past the bag's length. -/
def code (v21 : Vec F S1x128 .f32) (v26 v4 : Elt F .f32) (n : BitVec 32) (w : ℕ → Elt F .f32) (p : ℕ) : S1x128.Idx → BitVec 32 :=
  if (p : Int) < n.toInt then codev v21 v26 (w p) v4 else fun _ => 0#32

theorem row0 (v21 : Vec F S1x128 .f32) (v26 : Elt F .f32) (h) :
    extractStridedSlice S1x128 ![0, 0] (k0_pay3 v21 v26) h = mulf v21 (broadcast S1x128 v26) := by
  funext x
  have h0 : (x 0).val = 0 := Nat.lt_one_iff.mp (x 0).isLt
  show extractStridedSlice S1x128 ![0, 0] (broadcastTo S8x128 (shapeCast S1x128 (mulf v21 (broadcast S1x128 v26)) shapeCasts_S1x128_S1x128) broadcasts_S1x128_S8x128) h x = _
  rw [shapeCast_self]
  refine congrArg (mulf v21 (broadcast S1x128 v26)) (funext fun a => Fin.ext ?_)
  fin_cases a
  · exact h0.symm
  · show 0 + (x 1).val = (x 1).val; omega

theorem lane (v43 : FVec F S1x128 .f32) (j : Fin 128) (h) (h' h'') :
    broadcastTo S1x128 (shapeCast S1x1 (extractStridedSlice S1x1 ![0, j.val] v43 h) h') h'' = broadcast S1x128 (v43 (ixRow j)) := by
  funext x
  rw [shapeCast_self]
  refine congrArg v43 (funext fun a => Fin.ext ?_)
  fin_cases a
  · rfl
  · show j.val + 0 = j.val; omega

theorem mask {v19 : BitVec 32} (hl : v19.toInt ≤ 384) (k : Fin (k0_t3_loop v19).trips) (s : ℕ) (hs : s < 8) (w : S1x128.Idx → BitVec 32) :
    Scalar.select (Scalar.cmpi .slt (Scalar.addi (Scalar.muli (Scf.iv 0#32 1#32 k.val) 8#32) (BitVec.ofNat 32 s)) v19) w (broadcast S1x128 0#32)
      = if ((8 * k.val + s : ℕ) : Int) < v19.toInt then w else fun _ => 0#32 := by
  have e := toInt_of_isInt (isInt_pos hl k s hs)
  have hc : Scalar.cmpi .slt (Scalar.addi (Scalar.muli (Scf.iv 0#32 1#32 k.val) 8#32) (BitVec.ofNat 32 s)) v19 = 1#1 ↔ ((8 * k.val + s : ℕ) : Int) < v19.toInt := by
    rw [← e]; exact IntOp.cmpi_slt
  unfold Scalar.select
  by_cases h : ((8 * k.val + s : ℕ) : Int) < v19.toInt
  · rw [if_pos h]; exact if_pos (hc.mpr h)
  · rw [if_neg h]; exact if_neg (fun hh => h (hc.mp hh))

/-- The place of position `p` of bag `b` in the block of ids, -/
def idAt (b p : ℕ) : S1x32x384.Idx := fun | 0 => (0 : Fin 1) | 1 => Fin.ofNat 32 b | 2 => Fin.ofNat 384 p
/-- and in the block of weights. -/
def wAt (b p : ℕ) : S1x32x48x128.Idx := fun | 0 => (0 : Fin 1) | 1 => Fin.ofNat 32 b | 2 => Fin.ofNat 48 (p / 8) | 3 => Fin.ofNat 128 (p % 8)

theorem read_id (A5 : Memref sig .tc .smem S1x32x384 .i32) (X : A5.view.ty.Contents (Elt F)) {off : Fin 3 → ℕ} {b p : ℕ} (e : off = idOff b p) (hb : b < 32) (hp : p < 384)
    (h : ∀ a, off a + S1x1x1.size a ≤ S1x32x384.size a) (z : S1x1x1.Idx) :
    A5.view.readAt (Elt F) (Rect.unit (s := S1x32x384) off S1x1x1.size h).toLoadRect X z = A5.view.read (Elt F) X (idAt b p) := by
  subst e
  refine congrArg (A5.view.read (Elt F) X) (funext fun a => Fin.ext ?_)
  show idOff b p a + 1 * (z a).val = _
  have hz : (z a).val = 0 := by
    have := (z a).isLt; fin_cases a <;> exact Nat.lt_one_iff.mp this
  rw [hz]
  fin_cases a
  · rfl
  · show b + 0 = b % 32; omega
  · show p + 0 = p % 384; omega

theorem read_w (A7 : Memref sig .tc .vmem S1x32x48x128 .f32) (X : A7.view.ty.Contents (Elt F)) {off : Fin 4 → ℕ} {b k : ℕ} (e : off = ![0, b, k, 0]) (hb : b < 32) (hk : k < 48)
    (h : ∀ a, off a + S1x1x1x128.size a ≤ S1x32x48x128.size a) (s : ℕ) (hs : s < 8) :
    k0_pay7 (A7.view.readAt (Elt F) (Rect.unit (s := S1x32x48x128) off S1x1x1x128.size h).toLoadRect X) (ixRow ⟨s, by omega⟩)
      = A7.view.read (Elt F) X (wAt b (8 * k + s)) := by
  subst e
  show shapeCast S1x128 (A7.view.readAt (Elt F) _ X) shapeCasts_S1x1x1x128_S1x128 _ = _
  rw [shapeCast_apply _ _ _ (ix4 ⟨s, by omega⟩) (by rw [Shape.rowMajor_val_four, Shape.rowMajor_val_two]; rfl)]
  refine congrArg (A7.view.read (Elt F) X) (funext fun a => Fin.ext ?_)
  show (![0, b, k, 0] : Fin 4 → ℕ) a + 1 * ((ix4 ⟨s, by omega⟩) a).val = _
  fin_cases a
  · rfl
  · show b + 1 * 0 = b % 32; omega
  · show k + 1 * 0 = (8 * k + s) / 8 % 48; omega
  · show 0 + 1 * s = (8 * k + s) % 8 % 128; omega

theorem codev_eq (v21 : Vec F S1x128 .f32) (v26 v4 : Elt F .f32) (v43 : FVec F S1x128 .f32) (j : Fin 128) (h h1 h2 h3) :
    fptosi 32 (roundeven (mulf (mulf (extractStridedSlice S1x128 ![0, 0] (k0_pay3 v21 v26) h)
      (broadcastTo S1x128 (shapeCast S1x1 (extractStridedSlice S1x1 ![0, j.val] v43 h1) h2) h3)) (broadcast S1x128 v4)))
      = codev v21 v26 (v43 (ixRow j)) v4 := by
  rw [row0, lane]; unfold codev; rfl

section Pays
variable {v19 : BitVec 32} (hl : v19.toInt ≤ 384) (k : Fin (k0_t3_loop v19).trips) (v21 : Vec F S1x128 .f32) (v26 v4 : Elt F .f32) (w : ℕ → Elt F .f32)
include hl

theorem code_of (v43 : FVec F S1x128 .f32) (s : ℕ) (hs : s < 8) (hw : v43 (ixRow ⟨s, by omega⟩) = w (8 * k.val + s)) (h h1 h2 h3) :
    Scalar.select (Scalar.cmpi .slt (Scalar.addi (Scalar.muli (Scf.iv 0#32 1#32 k.val) 8#32) (BitVec.ofNat 32 s)) v19)
      (fptosi 32 (roundeven (mulf (mulf (extractStridedSlice S1x128 ![0, 0] (k0_pay3 v21 v26) h)
      (broadcastTo S1x128 (shapeCast S1x1 (extractStridedSlice S1x1 ![0, s] v43 h1) h2) h3)) (broadcast S1x128 v4)))) (broadcast S1x128 0#32)
      = code v21 v26 v4 v19 w (8 * k.val + s) := by
  rw [mask hl k s hs, codev_eq v21 v26 v4 v43 ⟨s, by omega⟩ h h1 h2 h3, hw]; rfl

theorem add_of (v63 : IVec S1x128 32) (g g' : S1x128.Idx → BitVec 32) (e : g = g') (h) (x : S1x128.Idx) :
    shapeCast S1x128 (addi v63 g) h x = IntOp.addi (v63 x) (g' x) := by
  rw [shapeCast_self, e]; rfl

variable (v43 : FVec F S1x128 .f32) (hw : ∀ s (hs : s < 8), v43 (ixRow ⟨s, by omega⟩) = w (8 * k.val + s))
include hw

theorem tok0 (v42 : Vec F S1x1x1x128 .f32) (e7 : v43 = k0_pay7 v42) (v63 : Vec F S1x128 .i32) (x : S1x128.Idx) :
    k0_pay8 v4 v19 (k0_pay3 v21 v26) 0#32 1#32 k v42 v63 x = IntOp.addi (v63 x) (code v21 v26 v4 v19 w (8 * k.val + 0) x) :=
  add_of hl v63 _ _ (code_of hl k v21 v26 v4 w (k0_pay7 v42) 0 (by decide) ((e7 ▸ hw) 0 (by decide)) _ _ _ _) _ x

theorem tok1 (v42 : Vec F S1x1x1x128 .f32) (e7 : v43 = k0_pay7 v42) (v63 : Vec F S1x128 .i32) (x : S1x128.Idx) :
    k0_pay10 (F := F) (k0_pay9 v4 v19 (k0_pay3 v21 v26) 0#32 1#32 k v42) v63 x = IntOp.addi (v63 x) (code v21 v26 v4 v19 w (8 * k.val + 1) x) :=
  add_of hl v63 _ _ (code_of hl k v21 v26 v4 w (k0_pay7 v42) 1 (by decide) ((e7 ▸ hw) 1 (by decide)) _ _ _ _) _ x

theorem tok2  (v63 : Vec F S1x128 .i32) (x : S1x128.Idx) :
    k0_pay11 v4 v19 (k0_pay3 v21 v26) v43 (Scalar.muli (Scf.iv 0#32 1#32 k.val) 8#32) v63 x = IntOp.addi (v63 x) (code v21 v26 v4 v19 w (8 * k.val + 2) x) :=
  add_of hl v63 _ _ (code_of hl k v21 v26 v4 w v43 2 (by decide) (hw 2 (by decide)) _ _ _ _) _ x

theorem tok3  (v63 : Vec F S1x128 .i32) (x : S1x128.Idx) :
    k0_pay13 (F := F) (k0_pay12 v4 v19 (k0_pay3 v21 v26) v43 (Scalar.muli (Scf.iv 0#32 1#32 k.val) 8#32)) v63 x = IntOp.addi (v63 x) (code v21 v26 v4 v19 w (8 * k.val + 3) x) :=
  add_of hl v63 _ _ (code_of hl k v21 v26 v4 w v43 3 (by decide) (hw 3 (by decide)) _ _ _ _) _ x

theorem tok4  (v63 : Vec F S1x128 .i32) (x : S1x128.Idx) :
    k0_pay14 v4 v19 (k0_pay3 v21 v26) v43 (Scalar.muli (Scf.iv 0#32 1#32 k.val) 8#32) v63 x = IntOp.addi (v63 x) (code v21 v26 v4 v19 w (8 * k.val + 4) x) :=
  add_of hl v63 _ _ (code_of hl k v21 v26 v4 w v43 4 (by decide) (hw 4 (by decide)) _ _ _ _) _ x

theorem tok5  (v63 : Vec F S1x128 .i32) (x : S1x128.Idx) :
    k0_pay16 (F := F) v19 (k0_pay15 v4 (k0_pay3 v21 v26) v43) (Scalar.addi (Scalar.muli (Scf.iv 0#32 1#32 k.val) 8#32) 5#32) v63 x = IntOp.addi (v63 x) (code v21 v26 v4 v19 w (8 * k.val + 5) x) :=
  add_of hl v63 _ _ (code_of hl k v21 v26 v4 w v43 5 (by decide) (hw 5 (by decide)) _ _ _ _) _ x

theorem tok6  (v63 : Vec F S1x128 .i32) (x : S1x128.Idx) :
    k0_pay17 v4 v19 (k0_pay3 v21 v26) v43 (Scalar.muli (Scf.iv 0#32 1#32 k.val) 8#32) v63 x = IntOp.addi (v63 x) (code v21 v26 v4 v19 w (8 * k.val + 6) x) :=
  add_of hl v63 _ _ (code_of hl k v21 v26 v4 w v43 6 (by decide) (hw 6 (by decide)) _ _ _ _) _ x

theorem tok7  (v63 : Vec F S1x128 .i32) (x : S1x128.Idx) :
    k0_pay4 v19 (Scalar.muli (Scf.iv 0#32 1#32 k.val) 8#32) (k0_pay18 v4 (k0_pay3 v21 v26) v43) v63 x = IntOp.addi (v63 x) (code v21 v26 v4 v19 w (8 * k.val + 7) x) :=
  add_of hl v63 _ _ (code_of hl k v21 v26 v4 w v43 7 (by decide) (hw 7 (by decide)) _ _ _ _) _ x

end Pays

section T3
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32) (b : Fin k0_t2_loop.trips) (arg15 : BitVec 32) (v19 : Elt F .i32) (hw : k0_chk1 b v19)
  (v21 : Vec F S1x128 .f32) (v26 : Elt F .f32)

abbrev t3G (k : Fin (k0_t3_loop v19).trips) (a : BitVec 32) : Prog (TpuEff nD τ sig (Elt F) Λ₀ .tc) (BitVec 32) :=
  k0_t3_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 b arg15 v19 hw v21 v26 k a

instance (v : BitVec 32) : ClosedOff (k0_off8 v) := ⟨rowOff v, rfl⟩
instance (v : BitVec 32) : ClosedOff (k0_off10 v) := ⟨rowOff v, rfl⟩
instance (v : BitVec 32) : ClosedOff (k0_off12 v) := ⟨rowOff v, rfl⟩
instance (v : BitVec 32) : ClosedOff (k0_off14 v) := ⟨rowOff v, rfl⟩
instance (v : BitVec 32) : ClosedOff (k0_off16 v) := ⟨rowOff v, rfl⟩
instance (v : BitVec 32) : ClosedOff (k0_off18 v) := ⟨rowOff v, rfl⟩
instance (v : BitVec 32) : ClosedOff (k0_off20 v) := ⟨rowOff v, rfl⟩
instance (v : BitVec 32) : ClosedOff (k0_off22 v) := ⟨rowOff v, rfl⟩

theorem row_chk {v : BitVec 32} (h : v.toNat < 45000) : ∀ a, (![v.toNat, 0] : Fin 2 → ℕ) a + S1x128.size a ≤ S45000x128.size a := by
  intro a; fin_cases a
  · show v.toNat + 1 ≤ 45000; omega
  · show 0 + 128 ≤ 128; omega

abbrev ids (X5 : Buf (Elt F) (arg5.view.loc (c : Thread nD τ))) (b : ℕ) : ℕ → BitVec 32 := fun p => arg5.view.read (Elt F) X5 (idAt b p)
abbrev wts (X7 : Buf (Elt F) (arg7.view.loc (c : Thread nD τ))) (b : ℕ) : ℕ → Elt F .f32 := fun p => arg7.view.read (Elt F) X7 (wAt b p)

theorem t3trip (k : Fin (k0_t3_loop v19).trips) (a : BitVec 32) (hl : v19.toInt ≤ 384)
    (X5 : Buf (Elt F) (arg5.view.loc (c : Thread nD τ))) (X7 : Buf (Elt F) (arg7.view.loc (c : Thread nD τ)))
    (hid : ∀ x, (arg5.view.read (Elt F) X5 x).toNat < 45000)
    (f : Buf (Elt F) (arg10.view.loc (c : Thread nD τ))) (A : Acc)
    (hf : arg10.view.read (Elt F) f = toks (ids c arg5 X5 b.val) (code v21 v26 v4 v19 (wts c arg7 X7 b.val)) A (8 * k.val)) :
    (iprop((arg5.view.loc (c : Thread nD τ) ↦[arg5.view.set]{fullShare} X5) ∗ (arg7.view.loc (c : Thread nD τ) ↦[arg7.view.set]{fullShare} X7)
      ∗ (arg10.view.loc (c : Thread nD τ) ↦[arg10.view.set]{fullShare} f)) : sProp 𝕄)
    ⊢ wp frame (wpE (defs₀ (F := F)) 𝒱₀ (c : Thread nD τ) none) Set.univ (t3G i arg2 harg2 arg3 harg3 arg4 harg4 arg5 harg5 arg6 harg6 arg7 harg7 arg10 harg10 arg12 harg12 v4 b arg15 v19 hw v21 v26 k a)
        (fun _ => iprop((arg5.view.loc (c : Thread nD τ) ↦[arg5.view.set]{fullShare} X5) ∗ (arg7.view.loc (c : Thread nD τ) ↦[arg7.view.set]{fullShare} X7)
      ∗ ∃ f', (arg10.view.loc (c : Thread nD τ) ↦[arg10.view.set]{fullShare} f')
        ∗ ⌜arg10.view.read (Elt F) f' = toks (ids c arg5 X5 b.val) (code v21 v26 v4 v19 (wts c arg7 X7 b.val)) A (8 * (k.val + 1))⌝)) := by
  have hk := t3_lt hl k
  have hb := t2_lt b
  have hwt : ∀ s (hs : s < 8), k0_pay7 (arg7.view.readAt (Elt F) (Rect.unit (s := S1x32x48x128) (k0_off6 b v19 k) S1x1x1x128.size (k0_off6_inb b v19 hw k)).toLoadRect X7) (ixRow ⟨s, by omega⟩)
      = wts c arg7 X7 b.val (8 * k.val + s) := fun s hs => read_w arg7 X7 (off6_eq hl b k) hb hk _ s hs
  iintro ⟨H5, H7, HA⟩
  dsimp only [t3G]
  sl_unfold [k0_t3_body]
  sl_exec (disch := exact row_chk (hid _))
  sl_step
  isplitl [H5]; · iexact H5
  isplitl [H7]; · iexact H7
  iexists _; isplitl [HA]; · iexact HA
  ipureintro
  show _ = tokv _ _ (tokv _ _ (tokv _ _ (tokv _ _ (tokv _ _ (tokv _ _ (tokv _ _ (tokv _ _ (toks _ _ A (8 * k.val)))))))))
  rw [← hf]
  refine read_step arg10 _ _ _ _ _ _ _ (tok7 hl k v21 v26 v4 _ _ hwt _) (read_id arg5 X5 (off21_eq hl b k) hb (by omega) _ _) ?_
  refine read_step arg10 _ _ _ _ _ _ _ (tok6 hl k v21 v26 v4 _ _ hwt _) (read_id arg5 X5 (off19_eq hl b k) hb (by omega) _ _) ?_
  refine read_step arg10 _ _ _ _ _ _ _ (tok5 hl k v21 v26 v4 _ _ hwt _) (read_id arg5 X5 (off17_eq hl b k) hb (by omega) _ _) ?_
  refine read_step arg10 _ _ _ _ _ _ _ (tok4 hl k v21 v26 v4 _ _ hwt _) (read_id arg5 X5 (off15_eq hl b k) hb (by omega) _ _) ?_
  refine read_step arg10 _ _ _ _ _ _ _ (tok3 hl k v21 v26 v4 _ _ hwt _) (read_id arg5 X5 (off13_eq hl b k) hb (by omega) _ _) ?_
  refine read_step arg10 _ _ _ _ _ _ _ (tok2 hl k v21 v26 v4 _ _ hwt _) (read_id arg5 X5 (off11_eq hl b k) hb (by omega) _ _) ?_
  refine read_step arg10 _ _ _ _ _ _ _ (tok1 hl k v21 v26 v4 _ _ hwt _ rfl _) (read_id arg5 X5 (off9_eq hl b k) hb (by omega) _ _) ?_
  have t0 := tok0 hl k v21 v26 v4 _ _ hwt _ rfl
  have i0 := read_id arg5 X5 (off7_eq hl b k) hb (by omega) (k0_off7_inb b v19 hw k) (Shape.Idx.first (by decide))
  rw [Nat.add_zero] at t0 i0
  change _ = tokv (ids c arg5 X5 b.val (8 * k.val)) (code v21 v26 v4 v19 (wts c arg7 X7 b.val) (8 * k.val)) _
  delta t3trip.sl.HA_1
  refine read_step arg10 _ _ _ _ _ _ _ (fun x => ?_) i0 ?_
  · rw [View.writes_nil]; exact t0 _ x
  · rw [View.writes_nil]

end T3

end Cert.KernelIdeal.Hand

end
-- ==== Proof.IdealRing.lean ====
module

public import proofs.«01_k».proof.Proof.IdealBody
public import Idealize.ShloMosaic.Lib.Ring

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Canonical names: a table's slab of the gradient, a slot of the staging buffer, its cell, a table's counts -/

abbrev slabO (T : Fin 12) (s : Fin 45) : Fin 3 → ℕ := slabOff T.val s.val
theorem slab_inb (T : Fin 12) (s : Fin 45) : ∀ a, slabO T s a + S1x1000x128.size a ≤ S12x45000x128.size a := by
  have := T.isLt; have := s.isLt; intro a; fin_cases a
  · show T.val + 1 ≤ 12; omega
  · show 1000 * s.val + 1000 ≤ 45000; omega
  · show 0 + 128 ≤ 128; omega
theorem slotOff_inb (s : Fin 3) : ∀ a, slotOff s a + S1x1000x128.size a ≤ S3x1000x128.size a := by
  have := s.isLt; intro a; fin_cases a
  · show s.val + 1 ≤ 3; omega
  · show 0 + 1000 ≤ 1000; omega
  · show 0 + 128 ≤ 128; omega
theorem semOff_inb (s : Fin 3) : ∀ a, semOff s a + S1.size a ≤ S3.size a := by
  have := s.isLt; intro a; fin_cases a; show s.val + 1 ≤ 3; omega
theorem tab_inb (T : Fin 12) : ∀ a, tabOff T.val a + S1x45000x128.size a ≤ S12x45000x128.size a := by
  have := T.isLt; intro a; fin_cases a
  · show T.val + 1 ≤ 12; omega
  · show 0 + 45000 ≤ 45000; omega
  · show 0 + 128 ≤ 128; omega

def slab (T : Fin 12) (s : Fin 45) : Memref sig .tc .hbm S1000x128 .f32 :=
  (gradM.slice (Rect.unit (s := S12x45000x128) (slabO T s) S1x1000x128.size (slab_inb T s)) (fun _ => rfl)).squeeze S1000x128 squeezes_S1x1000x128_S1000x128
def rslot (s : Fin 3) : Memref sig .tc .vmem S1000x128 .f32 :=
  (stM.slice (Rect.unit (s := S3x1000x128) (slotOff s) S1x1000x128.size (slotOff_inb s)) (fun _ => rfl)).squeeze S1000x128 squeezes_S1x1000x128_S1000x128
def csm (s : Fin 3) : DmaSems sig S_ := (cc0_scratch4.slice (Rect.unit (s := S3) (semOff s) S1.size (semOff_inb s))).squeeze S_ squeezes_S1_S_
def ftab (T : Fin 12) : Memref sig .tc .hbm S45000x128 .i32 :=
  (fixM.slice (Rect.unit (s := S12x45000x128) (tabOff T.val) S1x45000x128.size (tab_inb T)) (fun _ => rfl)).squeeze S45000x128 squeezes_S1x45000x128_S45000x128

abbrev tb (i : grid0.Coords) : Fin 12 := ⟨(i 0).val, i0_lt i⟩

instance (s : Fin 3) : ClosedOff (slotOff s) := ⟨slotOff s, rfl⟩
instance (T : Fin 12) (s : Fin 45) : ClosedOff (slabO T s) := ⟨slabO T s, rfl⟩
instance (k : Fin k0_t5_loop.trips) : ClosedOff (k0_off45 k) := ⟨slotOff (Ring.sl 3 k.val), off45_eq k⟩
instance (k : Fin k0_t5_loop.trips) : ClosedOff (k0_off44 k) := ⟨![1000 * k.val, 0], off44_eq k⟩

theorem csm_congr {off : Fin 1 → ℕ} {s : Fin 3} (e : off = semOff s) (hh) :
    (cc0_scratch4.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → ℕ} {s : Fin 3} (e : off = slotOff s) (hh hs) :
    (stM.slice (Rect.unit (s := S3x1000x128) off S1x1000x128.size hh) hs).squeeze S1000x128 squeezes_S1x1000x128_S1000x128 = rslot s :=
  congrArg (fun M : Memref sig .tc .vmem S1x1000x128 .f32 => M.squeeze S1000x128 squeezes_S1x1000x128_S1000x128) (Memref.slice_unit_congr _ e _ _ _ _)
theorem slab_congr {off : Fin 3 → ℕ} {T : Fin 12} {s : Fin 45} (e : off = slabO T s) (hh hs) :
    (gradM.slice (Rect.unit (s := S12x45000x128) off S1x1000x128.size hh) hs).squeeze S1000x128 squeezes_S1x1000x128_S1000x128 = slab T s :=
  congrArg (fun M : Memref sig .tc .hbm S1x1000x128 .f32 => M.squeeze S1000x128 squeezes_S1x1000x128_S1000x128) (Memref.slice_unit_congr _ e _ _ _ _)
theorem ftab_congr {off : Fin 3 → ℕ} {T : Fin 12} (e : off = tabOff T.val) (hh hs) :
    (fixM.slice (Rect.unit (s := S12x45000x128) off S1x45000x128.size hh) hs).squeeze S45000x128 squeezes_S1x45000x128_S45000x128 = ftab T :=
  congrArg (fun M : Memref sig .tc .hbm S1x45000x128 .i32 => M.squeeze S45000x128 squeezes_S1x45000x128_S45000x128) (Memref.slice_unit_congr _ e _ _ _ _)

section Canon
variable (i : grid0.Coords) (k : Fin k0_t5_loop.trips)
theorem bk45 : (Ring.bk 45 k.val).val = k.val := Ring.bk_val (t5_lt k)
@[sl_canon] theorem sem41 (hh) : (cc0_scratch4.slice (Rect.unit (s := S3) (k0_off41 k) S1.size hh)).squeeze S_ squeezes_S1_S_ = csm (Ring.sl 3 k.val) := csm_congr (off41_eq k) _
@[sl_canon] theorem sem46 (hh) : (cc0_scratch4.slice (Rect.unit (s := S3) (k0_off46 k) S1.size hh)).squeeze S_ squeezes_S1_S_ = csm (Ring.sl 3 k.val) := csm_congr (off46_eq k) _
@[sl_canon] theorem slot43 (hh hs) : (stM.slice (Rect.unit (s := S3x1000x128) (k0_off43 k) S1x1000x128.size hh) hs).squeeze S1000x128 squeezes_S1x1000x128_S1000x128 = rslot (Ring.sl 3 k.val) := rslot_congr (off43_eq k) _ _
@[sl_canon] theorem slot48 (hh hs) : (stM.slice (Rect.unit (s := S3x1000x128) (k0_off48 k) S1x1000x128.size hh) hs).squeeze S1000x128 squeezes_S1x1000x128_S1000x128 = rslot (Ring.sl 3 k.val) := rslot_congr (off48_eq k) _ _
@[sl_canon] theorem slab47 (hh hs) : (gradM.slice (Rect.unit (s := S12x45000x128) (k0_off47 i k) S1x1000x128.size hh) hs).squeeze S1000x128 squeezes_S1x1000x128_S1000x128 = slab (tb i) (Ring.bk 45 k.val) :=
  slab_congr ((off47_eq i k).trans (by rw [slabO, bk45])) _ _
@[sl_canon] theorem slab42 (h3 : 3 ≤ k.val) (hh hs) : (gradM.slice (Rect.unit (s := S12x45000x128) (k0_off42 i k) S1x1000x128.size hh) hs).squeeze S1000x128 squeezes_S1x1000x128_S1000x128 = slab (tb i) (Ring.bk 45 (k.val - 3)) :=
  slab_congr ((off42_eq i k h3).trans (by rw [slabO, Ring.bk_val (by have := t5_lt k; omega)])) _ _
@[sl_canon] theorem semL0 (hh) : (cc0_scratch4.slice (Rect.unit (s := S3) ![0] S1.size hh)).squeeze S_ squeezes_S1_S_ = csm 0 := csm_congr (by decide) _
@[sl_canon] theorem semL1 (hh) : (cc0_scratch4.slice (Rect.unit (s := S3) ![1] S1.size hh)).squeeze S_ squeezes_S1_S_ = csm 1 := csm_congr (by decide) _
@[sl_canon] theorem semL2 (hh) : (cc0_scratch4.slice (Rect.unit (s := S3) ![2] S1.size hh)).squeeze S_ squeezes_S1_S_ = csm 2 := csm_congr (by decide) _
@[sl_canon] theorem slotL0 (hh hs) : (stM.slice (Rect.unit (s := S3x1000x128) ![0, 0, 0] S1x1000x128.size hh) hs).squeeze S1000x128 squeezes_S1x1000x128_S1000x128 = rslot 0 := rslot_congr (by decide) _ _
@[sl_canon] theorem slotL1 (hh hs) : (stM.slice (Rect.unit (s := S3x1000x128) ![1, 0, 0] S1x1000x128.size hh) hs).squeeze S1000x128 squeezes_S1x1000x128_S1000x128 = rslot 1 := rslot_congr (by decide) _ _
@[sl_canon] theorem slotL2 (hh hs) : (stM.slice (Rect.unit (s := S3x1000x128) ![2, 0, 0] S1x1000x128.size hh) hs).squeeze S1000x128 squeezes_S1x1000x128_S1000x128 = rslot 2 := rslot_congr (by decide) _ _
@[sl_canon] theorem slab49 (hh hs) : (gradM.slice (Rect.unit (s := S12x45000x128) (k0_off49 i) S1x1000x128.size hh) hs).squeeze S1000x128 squeezes_S1x1000x128_S1000x128 = slab (tb i) 42 := slab_congr (off49_eq i) _ _
@[sl_canon] theorem slab50 (hh hs) : (gradM.slice (Rect.unit (s := S12x45000x128) (k0_off50 i) S1x1000x128.size hh) hs).squeeze S1000x128 squeezes_S1x1000x128_S1000x128 = slab (tb i) 43 := slab_congr (off50_eq i) _ _
@[sl_canon] theorem slab51 (hh hs) : (gradM.slice (Rect.unit (s := S12x45000x128) (k0_off51 i) S1x1000x128.size hh) hs).squeeze S1000x128 squeezes_S1x1000x128_S1000x128 = slab (tb i) 44 := slab_congr (off51_eq i) _ _
@[sl_canon] theorem ftab40 (hh hs) : (fixM.slice (Rect.unit (s := S12x45000x128) (k0_off40 i) S1x45000x128.size hh) hs).squeeze S45000x128 squeezes_S1x45000x128_S45000x128 = ftab (tb i) := ftab_congr (off40_eq i) _ _
@[sl_canon] theorem ftab52 (hh hs) : (fixM.slice (Rect.unit (s := S12x45000x128) (k0_off52 i) S1x45000x128.size hh) hs).squeeze S45000x128 squeezes_S1x45000x128_S45000x128 = ftab (tb i) := ftab_congr (off52_eq i) _ _
end Canon

/-! ## Pieces -/

section Pieces
variable (c : Dev nD)
abbrev cellP (s : Fin 3) : sProp 𝕄 := semVal ((c : Thread nD τ), SemLoc.dma (csm s).sem) 0
abbrev slotP (s : Fin 3) (f : Buf (Elt F) ((rslot s).view.loc (c : Thread nD τ))) : sProp 𝕄 := (rslot s).view.loc (c : Thread nD τ) ↦[(rslot s).view.set]{fullShare} f
abbrev slabP (T : Fin 12) (s : Fin 45) (f : Buf (Elt F) ((slab T s).view.loc (c : Thread nD τ))) : sProp 𝕄 := (slab T s).view.loc (c : Thread nD τ) ↦[(slab T s).view.set]{fullShare} f

def accAt (s : Fin 45) (x : S1000x128.Idx) : S45000x128.Idx := fun | 0 => Fin.ofNat 45000 (1000 * s.val + (x 0).val) | 1 => x 1
/-- Slab `s` of a table's gradient, off the table's counts. -/
def gslab (v4 : Elt F .f32) (A : Acc) (s : Fin 45) : S1000x128.Idx → Elt F .f32 :=
  fun x => mulf (sitofp .f32 (fun x => A (accAt s x) : IVec S1000x128 32)) (broadcast S1000x128 (Scalar.divf (Scalar.ofBits .f32 0x3F800000#32) v4)) x

abbrev slabOK (v4 : Elt F .f32) (A : Acc) (T : Fin 12) (s : Fin 45) (g : Buf (Elt F) ((slab T s).view.loc (c : Thread nD τ))) : Prop :=
  (slab T s).view.read (Elt F) g = gslab v4 A s
abbrev doneP (v4 : Elt F .f32) (A : Acc) (T : Fin 12) (s : Fin 45) : sProp 𝕄 := iprop(∃ g, slabP c T s g ∗ ⌜slabOK c v4 A T s g⌝)
abbrev homeR (s : Fin 3) : sProp 𝕄 := iprop((∃ f, slotP c s f) ∗ cellP c s)
abbrev flR (v4 : Elt F .f32) (A : Acc) (T : Fin 12) (s : Fin 3) (b : Fin 45) : sProp 𝕄 :=
  iprop(∃ g f, Transfers.Flight countersEmb (c : Thread nD τ) (SemLoc.dma (csm s).sem) () 16000 iprop(slabP c T b g ∗ slotP c s f) ∗ ⌜slabOK c v4 A T b g⌝)
end Pieces

theorem read_landed {sp : Space} {s : Shape} {e : EltTy} (M : Memref sig .tc sp s e) (g : M.view.ty.Contents (Elt F)) (w : s.Idx → Elt F e) :
    M.view.read (Elt F) (M.view.writes (Elt F) g [⟨Rect.whole s, w⟩]) = w := by
  rw [← View.write_univ_eq_writes_whole]; exact View.read_write_univ _ _

theorem read_slot {off : Fin 3 → ℕ} {s : Fin 3} (e : off = slotOff s) (h : ∀ a, off a + S1x1000x128.size a ≤ S3x1000x128.size a)
    (f : stM.view.ty.Contents (Elt F)) (v50 : S1000x128.Idx → Elt F .f32) (hc) :
    (rslot s).view.read (Elt F) (View.write (Elt F) (stM.access (Rect.unit (s := S3x1000x128) off S1x1000x128.size h)) f (shapeCast S1x1000x128 v50 hc) Finset.univ) = v50 := by
  subst e
  funext x
  have h1 := congrFun (View.read_write_univ (Val := Elt F) (v := stM.access (Rect.unit (s := S3x1000x128) (slotOff s) S1x1000x128.size h)) f (shapeCast S1x1000x128 v50 hc))
    (Shape.reshapeEquiv (squeezes_S1x1000x128_S1000x128).numel_eq x)
  refine Eq.trans (b := shapeCast S1x1000x128 v50 hc (Shape.reshapeEquiv (squeezes_S1x1000x128_S1000x128).numel_eq x)) h1 ?_
  show v50 (Shape.reshapeEquiv _ (Shape.reshapeEquiv _ x)) = v50 x
  rw [Shape.reshapeEquiv_reshapeEquiv, Shape.reshapeEquiv_self]

theorem read_acc (A10 : Memref sig .tc .vmem S45000x128 .i32) (X : A10.view.ty.Contents (Elt F)) (k : Fin k0_t5_loop.trips)
    (h : ∀ a, k0_off44 k a + S1000x128.size a ≤ S45000x128.size a) :
    (A10.view.readAt (Elt F) (Rect.unit (s := S45000x128) (k0_off44 k) S1000x128.size h).toLoadRect X : IVec S1000x128 32)
      = fun x => A10.view.read (Elt F) X (accAt (Ring.bk 45 k.val) x) := by
  funext x
  refine congrArg (A10.view.read (Elt F) X) (funext fun a => Fin.ext ?_)
  have e : k0_off44 k a + 1 * (x a).val = (![1000 * k.val, 0] : Fin 2 → ℕ) a + 1 * (x a).val := by
    rw [← off44_eq k]
  refine e.trans ?_
  have hk := t5_lt k
  have hb := bk45 k
  have hx : (x 0).val < 1000 := (x 0).isLt
  fin_cases a
  · show 1000 * k.val + 1 * (x 0).val = (1000 * (Ring.bk 45 k.val).val + (x 0).val) % 45000; rw [hb]; omega
  · show 0 + 1 * (x 1).val = (x 1).val; omega

theorem read_out (A10 : Memref sig .tc .vmem S45000x128 .i32) (X : A10.view.ty.Contents (Elt F)) (v4 : Elt F .f32) (T : Fin 12) (k : Fin k0_t5_loop.trips)
    (g : (slab T (Ring.bk 45 k.val)).view.ty.Contents (Elt F)) (f : stM.view.ty.Contents (Elt F)) (h h') :
    (slab T (Ring.bk 45 k.val)).view.read (Elt F) ((slab T (Ring.bk 45 k.val)).view.writes (Elt F) g
      [⟨Rect.whole S1000x128,
          ReadAs.same.apply
            (View.read (Elt F) (rslot (Ring.sl 3 k.val)).view
              (View.write (Elt F) (stM.access (Rect.unit (s := S3x1000x128) (k0_off45 k) S1x1000x128.size h)) f
                (k0_pay6 v4 (View.readAt (Elt F) A10.view (Rect.unit (s := S45000x128) (k0_off44 k) S1000x128.size h').toLoadRect X))
                Finset.univ))⟩]) = gslab v4 (A10.view.read (Elt F) X) (Ring.bk 45 k.val) := by
  rw [read_landed]
  show View.read (Elt F) (rslot (Ring.sl 3 k.val)).view _ = _
  unfold k0_pay6
  rw [read_acc]
  exact read_slot (off45_eq k) h f _ _

section Trip
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32) (h3 : k0_cond3 i = 1#1)

abbrev t5G (k : Fin k0_t5_loop.trips) : Prog (TpuEff nD τ sig (Elt F) Λ₀ .tc) Unit :=
  k0_t5_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 h3 k ()

theorem t5lo (k : Fin k0_t5_loop.trips) (hk : ¬ 3 ≤ k.val) (q : PosShare TreeShare) (X : Buf (Elt F) (arg10.view.loc (c : Thread nD τ)))
    (f : Buf (Elt F) ((rslot (Ring.sl 3 k.val)).view.loc (c : Thread nD τ))) (g : Buf (Elt F) ((slab (tb i) (Ring.bk 45 k.val)).view.loc (c : Thread nD τ))) (W : Waits sig Unit) :
    (iprop((arg10.view.loc (c : Thread nD τ) ↦[arg10.view.set]{q} X) ∗ slotP c (Ring.sl 3 k.val) f ∗ cellP c (Ring.sl 3 k.val) ∗ slabP c (tb i) (Ring.bk 45 k.val) g ∗ owes (c : Thread nD τ) 0 W) : sProp 𝕄)
    ⊢ wp frame (wpE (defs₀ (F := F)) 𝒱₀ (c : Thread nD τ) none) Set.univ (t5G i arg2 harg2 arg3 harg3 arg4 harg4 arg5 harg5 arg6 harg6 arg7 harg7 arg10 harg10 arg12 harg12 v4 h3 k)
      (fun _ => iprop((arg10.view.loc (c : Thread nD τ) ↦[arg10.view.set]{q} X) ∗ flR c v4 (arg10.view.read (Elt F) X) (tb i) (Ring.sl 3 k.val) (Ring.bk 45 k.val) ∗ ∃ W, owes (c : Thread nD τ) 0 W)) := by
  have h4 : ¬ k0_cond4 k = 1#1 := fun h => hk ((cond4_iff k).mp h)
  iintro ⟨HA, HS, HC, HG, HW⟩
  dsimp only [t5G]
  sl_unfold [k0_t5_body]
  sl_exec
  sl_step
  isplitl [HA]; · iexact HA
  isplitl [HC]
  · iexists _, _; isplitl [HC]; · iexact HC
    ipureintro
    delta t5lo.sl.dma3 t5lo.sl.HS_w1
    exact read_out arg10 X v4 (tb i) k g f _ _
  iexists _; iexact HW

theorem t5hi (k : Fin k0_t5_loop.trips) (hk : 3 ≤ k.val) (q : PosShare TreeShare) (X : Buf (Elt F) (arg10.view.loc (c : Thread nD τ))) (A : Acc)
    (g : Buf (Elt F) ((slab (tb i) (Ring.bk 45 k.val)).view.loc (c : Thread nD τ))) (W : Waits sig Unit) :
    (iprop((arg10.view.loc (c : Thread nD τ) ↦[arg10.view.set]{q} X) ∗ flR c v4 A (tb i) (Ring.sl 3 k.val) (Ring.bk 45 (k.val - 3)) ∗ slabP c (tb i) (Ring.bk 45 k.val) g ∗ owes (c : Thread nD τ) 0 W) : sProp 𝕄)
    ⊢ wp frame (wpE (defs₀ (F := F)) 𝒱₀ (c : Thread nD τ) none) Set.univ (t5G i arg2 harg2 arg3 harg3 arg4 harg4 arg5 harg5 arg6 harg6 arg7 harg7 arg10 harg10 arg12 harg12 v4 h3 k)
      (fun _ => iprop((arg10.view.loc (c : Thread nD τ) ↦[arg10.view.set]{q} X) ∗ doneP c v4 A (tb i) (Ring.bk 45 (k.val - 3))
        ∗ flR c v4 (arg10.view.read (Elt F) X) (tb i) (Ring.sl 3 k.val) (Ring.bk 45 k.val) ∗ ∃ W, owes (c : Thread nD τ) 0 W)) := by
  have h4 : k0_cond4 k = 1#1 := (cond4_iff k).mpr hk
  iintro ⟨HA, ⟨%g0, %f0, HF, %hg0⟩, HG, HW⟩
  dsimp only [t5G]
  sl_unfold [k0_t5_body]
  sl_exec
  sl_step
  isplitl [HA]; · iexact HA
  isplitl [HF_dst]
  · iexists g0; isplitl [HF_dst]; · iexact HF_dst
    ipureintro; exact hg0
  isplitl [HF]
  · iexists _, _; isplitl [HF]; · iexact HF
    ipureintro
    delta t5hi.sl.dma3 t5hi.sl.HF_src_w1
    exact read_out arg10 X v4 (tb i) k g f0 _ _
  iexists _; iexact HW
end Trip

end Cert.KernelIdeal.Hand

end
-- ==== Proof.IdealLoops.lean ====
module

public import proofs.«01_k».proof.Proof.IdealBody

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- Bag `b` of the grid point `i` in the tables of lengths and of scales. -/
def bagAt (i : grid0.Coords) (b : ℕ) : S12x160.Idx := fun | 0 => Fin.ofNat 12 (i 0).val | 1 => Fin.ofNat 160 (32 * (i 1).val + b)
def gfAt (b : ℕ) (l : Fin 128) : S32x128.Idx := fun | 0 => Fin.ofNat 32 b | 1 => l

theorem read_bag {sp : Space} {e : EltTy} (A2 : Memref sig .tc sp S12x160 e) (X : A2.view.ty.Contents (Elt F)) (i : grid0.Coords) (b : Fin k0_t2_loop.trips)
    (h : ∀ a, k0_off4 i b a + S1x1.size a ≤ S12x160.size a) (z : S1x1.Idx) :
    A2.view.readAt (Elt F) (Rect.unit (s := S12x160) (k0_off4 i b) S1x1.size h).toLoadRect X z = A2.view.read (Elt F) X (bagAt i b.val) := by
  refine congrArg (A2.view.read (Elt F) X) (funext fun a => Fin.ext ?_)
  show k0_off4 i b a + 1 * (z a).val = _
  have hz : (z a).val = 0 := by
    have := (z a).isLt; fin_cases a <;> exact Nat.lt_one_iff.mp this
  rw [hz, off4_eq]
  have hb := t2_lt b
  have h0 := i0_lt i
  have h1 := i1_lt i
  fin_cases a
  · show (i 0).val + 0 = (i 0).val % 12; omega
  · show 32 * (i 1).val + b.val + 0 = (32 * (i 1).val + b.val) % 160; omega

theorem read_gf (A12 : Memref sig .tc .vmem S32x128 .f32) (X : A12.view.ty.Contents (Elt F)) (b : Fin k0_t2_loop.trips)
    (h : ∀ a, k0_off5 b a + S1x128.size a ≤ S32x128.size a) :
    (A12.view.readAt (Elt F) (Rect.unit (s := S32x128) (k0_off5 b) S1x128.size h).toLoadRect X : Vec F S1x128 .f32)
      = fun x => A12.view.read (Elt F) X (gfAt b.val (x 1)) := by
  funext x
  refine congrArg (A12.view.read (Elt F) X) (funext fun a => Fin.ext ?_)
  have e : k0_off5 b a + 1 * (x a).val = (![b.val, 0] : Fin 2 → ℕ) a + 1 * (x a).val := by
    rw [← off5_eq b]
  refine e.trans ?_
  have hb := t2_lt b
  have hz : (x 0).val = 0 := Nat.lt_one_iff.mp (x 0).isLt
  fin_cases a
  · show b.val + 1 * (x 0).val = b.val % 32; omega
  · show 0 + 1 * (x 1).val = (x 1).val; omega

section
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32)

/-- What holds before trip `k` of a bag's loop over groups of eight tokens. -/
abbrev inv3 (b : ℕ) (v19 : Elt F .i32) (v21 : Vec F S1x128 .f32) (v26 : Elt F .f32)
    (X5 : Buf (Elt F) (arg5.view.loc (c : Thread nD τ))) (X7 : Buf (Elt F) (arg7.view.loc (c : Thread nD τ))) (A : Acc) (k : ℕ) : sProp 𝕄 :=
  iprop((arg5.view.loc (c : Thread nD τ) ↦[arg5.view.set]{fullShare} X5) ∗ (arg7.view.loc (c : Thread nD τ) ↦[arg7.view.set]{fullShare} X7)
      ∗ ∃ f', (arg10.view.loc (c : Thread nD τ) ↦[arg10.view.set]{fullShare} f')
        ∗ ⌜arg10.view.read (Elt F) f' = toks (ids c arg5 X5 b) (code v21 v26 v4 v19 (wts c arg7 X7 b)) A (8 * k)⌝)

/-- The accumulator after the first `n` bags of a grid point. -/
def bags (len : ℕ → BitVec 32) (rw_ : ℕ → Vec F S1x128 .f32) (sc : ℕ → Elt F .f32) (id : ℕ → ℕ → BitVec 32) (w : ℕ → ℕ → Elt F .f32) (A : Acc) : ℕ → Acc
  | 0 => A
  | b + 1 => toks (id b) (code (rw_ b) (sc b) v4 (len b) (w b)) (bags len rw_ sc id w A b) (8 * grps (len b))

abbrev bagsG (X2 : Buf (Elt F) (arg2.view.loc (c : Thread nD τ))) (X3 : Buf (Elt F) (arg3.view.loc (c : Thread nD τ)))
    (X5 : Buf (Elt F) (arg5.view.loc (c : Thread nD τ))) (X7 : Buf (Elt F) (arg7.view.loc (c : Thread nD τ)))
    (G : ℕ → Vec F S1x128 .f32) (A : Acc) (n : ℕ) : Acc :=
  bags v4 (fun b => arg2.view.read (Elt F) X2 (bagAt i b)) G
    (fun b => arg3.view.read (Elt F) X3 (bagAt i b)) (ids c arg5 X5) (wts c arg7 X7) A n

abbrev t2G (k : Fin k0_t2_loop.trips) : Prog (TpuEff nD τ sig (Elt F) Λ₀ .tc) Unit :=
  k0_t2_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 k ()

abbrev t3F (b : Fin k0_t2_loop.trips) (arg15 : BitVec 32) (v19 : Elt F .i32) (hw : k0_chk1 b v19) (v21 : Vec F S1x128 .f32) (v26 : Elt F .f32) :=
  k0_t3_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 b arg15 v19 hw v21 v26
abbrev t4F (b : Fin k0_t2_loop.trips) (arg15 : BitVec 32) (v19 : Elt F .i32) (hw : k0_chk1 b v19) (v21 : Vec F S1x128 .f32) (v26 : Elt F .f32) (v37 : BitVec 32) :=
  k0_t4_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 b arg15 v19 hw v21 v26 v37

/-- A bag's two inner loops. -/
def t2tail (b : Fin k0_t2_loop.trips) (v19 : Elt F .i32) (hw : k0_chk1 b v19) (v21 : Vec F S1x128 .f32) (v26 : Elt F .f32) : Prog (TpuEff nD τ sig (Elt F) Λ₀ .tc) Unit := do
  let v38 ← Scf.Loop.for (k0_t3_loop v19) (k0_t3_ok b v19 hw) 0#32 (t3F i arg2 harg2 arg3 harg3 arg4 harg4 arg5 harg5 arg6 harg6 arg7 harg7 arg10 harg10 arg12 harg12 v4 b (Scf.iv 0#32 1#32 b) v19 hw v21 v26)
  let v39 ← Scf.Loop.for (k0_t4_loop v19) (k0_t4_ok b v19 hw) v38 (t4F i arg2 harg2 arg3 harg3 arg4 harg4 arg5 harg5 arg6 harg6 arg7 harg7 arg10 harg10 arg12 harg12 v4 b (Scf.iv 0#32 1#32 b) v19 hw v21 v26 (Scalar.addi 0#32 (Scalar.muli (Scalar.divsi (Scalar.subi (Scalar.divsi (Scalar.addi v19 7#32) 8#32) 0#32) 1#32) 1#32)))
  pure ⟨⟩

/-- Trip `b`: the bag's length, scale and row, then the two loops. -/
def t2head (b : Fin k0_t2_loop.trips) : Prog (TpuEff nD τ sig (Elt F) Λ₀ .tc) ((v19 : Elt F .i32) × PLift (k0_chk1 b v19) × Vec F S1x128 .f32 × Elt F .f32) := do
  let v19 : Elt F .i32 ← smemLoad arg2 (Rect.unit (s := S12x160) (k0_off4 i b) S1x1.size (k0_off4_inb i b)) numel1_S1x1 rfl
  let hw ← Prog.lift (TpuEff.assume (k0_chk1 b v19) (k0_chk1.dec b v19))
  let v21 : Vec F S1x128 .f32 ← Prog.lift (.load arg12 (Rect.unit (s := S32x128) (k0_off5 b) S1x128.size (k0_off5_inb b)).toLoadRect (View.loadsAt_vmem h_S1x128))
  let v26 : Elt F .f32 ← smemLoad arg3 (Rect.unit (s := S12x160) (k0_off4 i b) S1x1.size (k0_off4_inb i b)) numel1_S1x1 rfl
  pure ⟨v19, hw, v21, v26⟩

theorem t2split (b : Fin k0_t2_loop.trips) :
    t2G i arg2 harg2 arg3 harg3 arg4 harg4 arg5 harg5 arg6 harg6 arg7 harg7 arg10 harg10 arg12 harg12 v4 b
      = t2head i arg2 arg3 arg12 b >>= fun r => t2tail i arg2 harg2 arg3 harg3 arg4 harg4 arg5 harg5 arg6 harg6 arg7 harg7 arg10 harg10 arg12 harg12 v4 b r.1 r.2.1.down r.2.2.1 r.2.2.2 := rfl

theorem t2tail_spec (b : Fin k0_t2_loop.trips) (v19 : Elt F .i32) (hw : k0_chk1 b v19) (v21 : Vec F S1x128 .f32) (v26 : Elt F .f32) (hl : v19.toInt ≤ 384)
    (X5 : Buf (Elt F) (arg5.view.loc (c : Thread nD τ))) (X7 : Buf (Elt F) (arg7.view.loc (c : Thread nD τ)))
    (hid : ∀ x, (arg5.view.read (Elt F) X5 x).toNat < 45000)
    (f : Buf (Elt F) (arg10.view.loc (c : Thread nD τ))) :
    (iprop((arg5.view.loc (c : Thread nD τ) ↦[arg5.view.set]{fullShare} X5) ∗ (arg7.view.loc (c : Thread nD τ) ↦[arg7.view.set]{fullShare} X7) ∗ (arg10.view.loc (c : Thread nD τ) ↦[arg10.view.set]{fullShare} f)) : sProp 𝕄)
    ⊢ wp frame (wpE (defs₀ (F := F)) 𝒱₀ (c : Thread nD τ) none) Set.univ (t2tail i arg2 harg2 arg3 harg3 arg4 harg4 arg5 harg5 arg6 harg6 arg7 harg7 arg10 harg10 arg12 harg12 v4 b v19 hw v21 v26)
      (fun _ => iprop((arg5.view.loc (c : Thread nD τ) ↦[arg5.view.set]{fullShare} X5) ∗ (arg7.view.loc (c : Thread nD τ) ↦[arg7.view.set]{fullShare} X7)
      ∗ ∃ f', (arg10.view.loc (c : Thread nD τ) ↦[arg10.view.set]{fullShare} f')
        ∗ ⌜arg10.view.read (Elt F) f' = toks (ids c arg5 X5 b.val) (code v21 v26 v4 v19 (wts c arg7 X7 b.val)) (arg10.view.read (Elt F) f) (8 * grps v19)⌝)) := by
  unfold t2tail
  iintro ⟨H5, H7, HA⟩
  iapply (Scf.wp_for_bind _ _ _ _ _ _ _ _ _ (fun k _ => inv3 c arg5 arg7 arg10 v4 b.val v19 v21 v26 X5 X7 (arg10.view.read (Elt F) f) k) ?step3) $$ [H5 H7 HA]
  case step3 =>
    intro k a
    iintro ⟨H5, H7, %f, HA, %hf⟩
    iapply (t3trip c i arg2 harg2 arg3 harg3 arg4 harg4 arg5 harg5 arg6 harg6 arg7 harg7 arg10 harg10 arg12 harg12 v4 b (Scf.iv 0#32 1#32 b) v19 hw v21 v26 k a hl X5 X7 hid f _ hf)
    isplitl [H5]; · iexact H5
    isplitl [H7]; · iexact H7
    iexact HA
  · isplitl [H5]; · iexact H5
    isplitl [H7]; · iexact H7
    iexists f; isplitl [HA]; · iexact HA
    ipureintro; rfl
  iintro %v38 ⟨H5, H7, %f', HA, %hf⟩
  iapply (Scf.wp_for_bind _ _ _ _ _ _ _ _ _ (fun _ _ => iprop(emp)) ?step4) $$ []
  case step4 =>
    intro k a
    exact absurd k.isLt (by have e := trips4_eq v19 hl; intro h; exact Nat.not_lt_zero _ (lt_of_lt_of_eq h e))
  · iempintro
  iintro %v39 He
  sl_step
  isplitl [H5]; · iexact H5
  isplitl [H7]; · iexact H7
  iexists f'; isplitl [HA]; · iexact HA
  ipureintro
  rw [← trips3_eq v19 hl]; exact hf

theorem t2head_spec (b : Fin k0_t2_loop.trips)
    (X2 : Buf (Elt F) (arg2.view.loc (c : Thread nD τ))) (X3 : Buf (Elt F) (arg3.view.loc (c : Thread nD τ)))
    (X12 : Buf (Elt F) (arg12.view.loc (c : Thread nD τ)))
    (hlen : ∀ x, (arg2.view.read (Elt F) X2 x).toInt ≤ 384) :
    (iprop((arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12)) : sProp 𝕄)
    ⊢ wp frame (wpE (defs₀ (F := F)) 𝒱₀ (c : Thread nD τ) none) Set.univ (t2head i arg2 arg3 arg12 b)
      (fun r => iprop(⌜r.1 = arg2.view.read (Elt F) X2 (bagAt i b.val) ∧ r.2.2.1 = (fun x => arg12.view.read (Elt F) X12 (gfAt b.val (x 1))) ∧ r.2.2.2 = arg3.view.read (Elt F) X3 (bagAt i b.val)⌝
        ∗ (arg2.view.loc (c : Thread nD τ) ↦[arg2.view.set]{fullShare} X2) ∗ (arg3.view.loc (c : Thread nD τ) ↦[arg3.view.set]{fullShare} X3) ∗ (arg12.view.loc (c : Thread nD τ) ↦[arg12.view.set]{fullShare} X12))) := by
  have e2 := read_bag arg2 X2 i b (k0_off4_inb i b) (Shape.Idx.first (show 0 < S1x1.numel from by decide))
  have e3 := read_bag arg3 X3 i b (k0_off4_inb i b) (Shape.Idx.first (show 0 < S1x1.numel from by decide))
  have e12 := read_gf arg12 X12 b (k0_off5_inb b)
  have hl := hlen (bagAt i b.val)
  unfold t2head
  iintro ⟨H2, H3, H12⟩
  rw [← e2] at hl
  sl_exec (disch := exact chk1 hl b)
  sl_step
  isplitl []
  · ipureintro
    exact ⟨e2, rfl, e3⟩
  isplitl [H2]; · iexact H2
  isplitl [H3]; · iexact H3
  iexact H12

theorem t2trip (b : Fin k0_t2_loop.trips)
    (X2 : Buf (Elt F) (arg2.view.loc (c : Thread nD τ))) (X3 : Buf (Elt F) (arg3.view.loc (c : Thread nD τ)))
    (X5 : Buf (Elt F) (arg5.view.loc (c : Thread nD τ))) (X7 : Buf (Elt F) (arg7.view.loc (c : Thread nD τ)))
    (X12 : Buf (Elt F) (arg12.view.loc (c : Thread nD τ)))
    (hlen : ∀ x, (arg2.view.read (Elt F) X2 x).toInt ≤ 384)
    (hid : ∀ x, (arg5.view.read (Elt F) X5 x).toNat < 45000)
    (f : Buf (Elt F) (arg10.view.loc (c : Thread nD τ))) (A : Acc)
    (hf : arg10.view.read (Elt F) f = bagsG c i arg2 arg3 arg5 arg7 v4 X2 X3 X5 X7 (fun b x => arg12.view.read (Elt F) X12 (gfAt b (x 1))) A b.val) :
    (iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ (arg10.view.loc (c : Thread nD τ) ↦[arg10.view.set]{fullShare} f)) : sProp 𝕄)
    ⊢ wp frame (wpE (defs₀ (F := F)) 𝒱₀ (c : Thread nD τ) none) Set.univ (t2G i arg2 harg2 arg3 harg3 arg4 harg4 arg5 harg5 arg6 harg6 arg7 harg7 arg10 harg10 arg12 harg12 v4 b)
        (fun _ => iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ ∃ f', (arg10.view.loc (c : Thread nD τ) ↦[arg10.view.set]{fullShare} f')
        ∗ ⌜arg10.view.read (Elt F) f' = bagsG c i arg2 arg3 arg5 arg7 v4 X2 X3 X5 X7 (fun b x => arg12.view.read (Elt F) X12 (gfAt b (x 1))) A (b.val + 1)⌝)) := by
  rw [t2split]
  iintro ⟨H2, H3, H5, H7, H12, HA⟩
  iapply (exec_cut _ _ _ (t2head_spec c i arg2 arg3 arg12 b X2 X3 X12 hlen)) $$ [H2 H3 H12]
  · isplitl [H2]; · iexact H2
    isplitl [H3]; · iexact H3
    iexact H12
  iintro %r ⟨%hr, H2, H3, H12⟩
  obtain ⟨v19, hw, v21, v26⟩ := r
  obtain ⟨h19, h21, h26⟩ := hr
  have hl : v19.toInt ≤ 384 := le_of_eq_of_le (congrArg BitVec.toInt h19) (hlen _)
  iapply (exec_cut_last _ _ _ (t2tail_spec c i arg2 harg2 arg3 harg3 arg4 harg4 arg5 harg5 arg6 harg6 arg7 harg7 arg10 harg10 arg12 harg12 v4 b v19 hw.down v21 v26 hl X5 X7 hid f)) $$ [H5 H7 HA]
  · isplitl [H5]; · iexact H5
    isplitl [H7]; · iexact H7
    iexact HA
  iintro %_ ⟨H5, H7, %f', HA, %hf'⟩
  isplitl [H2]; · iexact H2
  isplitl [H3]; · iexact H3
  isplitl [H5]; · iexact H5
  isplitl [H7]; · iexact H7
  isplitl [H12]; · iexact H12
  iexists f'; isplitl [HA]; · iexact HA
  ipureintro
  rw [hf', hf]
  change v19 = _ at h19
  change v21 = _ at h21
  change v26 = _ at h26
  rw [h19, h21, h26]
  rfl

end

end Cert.KernelIdeal.Hand

end
-- ==== Proof.IdealSegs.lean ====
module

public import proofs.«01_k».proof.Proof.IdealRing
public import proofs.«01_k».proof.Proof.IdealLoops

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Ring
variable (c : Dev nD)
/-- Slot `k mod 3` before trip `k`: home for the first three trips, then in flight with the slab three before. -/
def roleP (v4 : Elt F .f32) (A : Acc) (T : Fin 12) (k : ℕ) : sProp 𝕄 :=
  if 3 ≤ k then flR c v4 A T (Ring.sl 3 k) (Ring.bk 45 (k - 3)) else homeR c (Ring.sl 3 k)
def Dset (k : ℕ) : Finset (Fin 45) := Finset.univ.filter fun s => s.val + 3 < k
def Uset (k : ℕ) : Finset (Fin 45) := Finset.univ.filter fun s => k ≤ s.val
abbrev anyP (T : Fin 12) (s : Fin 45) : sProp 𝕄 := iprop(∃ g, slabP c T s g)

theorem Dset_lo {k : ℕ} (h : ¬ 3 ≤ k) : Dset (k + 1) = Dset k := by
  ext s; simp only [Dset, Finset.mem_filter, Finset.mem_univ, true_and]; omega
theorem Dset_hi {k : ℕ} (h : 3 ≤ k) (hk : k < 45) : Dset (k + 1) = insert (Ring.bk 45 (k - 3)) (Dset k) := by
  ext s; simp only [Dset, Finset.mem_filter, Finset.mem_univ, true_and, Finset.mem_insert, Fin.ext_iff, Ring.bk_val (show k - 3 < 45 by omega)]; omega
theorem Dset_nm {k : ℕ} (h : 3 ≤ k) (hk : k < 45) : Ring.bk 45 (k - 3) ∉ Dset k := by
  simp only [Dset, Finset.mem_filter, Finset.mem_univ, true_and, Ring.bk_val (show k - 3 < 45 by omega)]; omega
theorem Uset_eq {k : ℕ} (hk : k < 45) : Uset k = insert (Ring.bk 45 k) (Uset (k + 1)) := by
  ext s; simp only [Uset, Finset.mem_filter, Finset.mem_univ, true_and, Finset.mem_insert, Fin.ext_iff, Ring.bk_val hk]; omega
theorem Uset_nm {k : ℕ} (hk : k < 45) : Ring.bk 45 k ∉ Uset (k + 1) := by
  simp only [Uset, Finset.mem_filter, Finset.mem_univ, true_and, Ring.bk_val hk]; omega
theorem U_split (P : Fin 45 → sProp 𝕄) {k : ℕ} (hk : k < 45) : bigSep (Uset k) P = iprop(P (Ring.bk 45 k) ∗ bigSep (Uset (k + 1)) P) := by
  rw [Uset_eq hk, bigSep_insert (Uset_nm hk)]; rfl
theorem D_split (P : Fin 45 → sProp 𝕄) {k : ℕ} (h : 3 ≤ k) (hk : k < 45) : bigSep (Dset (k + 1)) P = iprop(P (Ring.bk 45 (k - 3)) ∗ bigSep (Dset k) P) := by
  rw [Dset_hi h hk, bigSep_insert (Dset_nm h hk)]; rfl
theorem role_next (v4 : Elt F .f32) (A : Acc) (T : Fin 12) (k : ℕ) : roleP c v4 A T (k + 1 + 2) = flR c v4 A T (Ring.sl 3 k) (Ring.bk 45 k) := by
  have e : Ring.sl 3 (k + 1 + 2) = Ring.sl 3 k := by rw [show k + 1 + 2 = k + 3 from rfl, Ring.sl_add]
  unfold roleP; rw [if_pos (by omega), e, show k + 1 + 2 - 3 = k by omega]

variable (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (v4 : Elt F .f32) (h3 : k0_cond3 i = 1#1)

/-- What holds before trip `k` of the loop that writes the gradient. -/
abbrev inv5 (q : PosShare TreeShare) (X : Buf (Elt F) (arg10.view.loc (c : Thread nD τ))) (k : ℕ) : sProp 𝕄 :=
  iprop((arg10.view.loc (c : Thread nD τ) ↦[arg10.view.set]{q} X)
    ∗ roleP c v4 (arg10.view.read (Elt F) X) (tb i) k ∗ roleP c v4 (arg10.view.read (Elt F) X) (tb i) (k + 1) ∗ roleP c v4 (arg10.view.read (Elt F) X) (tb i) (k + 2)
    ∗ bigSep (Dset k) (doneP c v4 (arg10.view.read (Elt F) X) (tb i)) ∗ bigSep (Uset k) (anyP c (tb i)) ∗ ∃ W, owes (c : Thread nD τ) 0 W)

theorem t5step (q : PosShare TreeShare) (X : Buf (Elt F) (arg10.view.loc (c : Thread nD τ))) (k : Fin k0_t5_loop.trips) :
    inv5 c i arg10 v4 q X k.val
    ⊢ wp frame (wpE (defs₀ (F := F)) 𝒱₀ (c : Thread nD τ) none) Set.univ (t5G i arg2 harg2 arg3 harg3 arg4 harg4 arg5 harg5 arg6 harg6 arg7 harg7 arg10 harg10 arg12 harg12 v4 h3 k)
      (fun _ => inv5 c i arg10 v4 q X (k.val + 1)) := by
  have hk := t5_lt k
  unfold inv5
  rw [role_next, U_split _ hk]
  by_cases h : 3 ≤ k.val
  · rw [D_split _ h hk]
    rw [show roleP c v4 (arg10.view.read (Elt F) X) (tb i) k.val = flR c v4 (arg10.view.read (Elt F) X) (tb i) (Ring.sl 3 k.val) (Ring.bk 45 (k.val - 3)) from if_pos h]
    iintro ⟨HA, H0, H1, H2, HD, ⟨⟨%g, HG⟩, HU⟩, %W, HW⟩
    iapply (wp_wand_r Idealize.ShloMosaic.frame (wpE (defs₀ (F := F)) 𝒱₀ (c : Thread nD τ) none) Set.univ)
    isplitl [HA H0 HG HW]
    · iapply (t5hi c i arg2 harg2 arg3 harg3 arg4 harg4 arg5 harg5 arg6 harg6 arg7 harg7 arg10 harg10 arg12 harg12 v4 h3 k h q X (arg10.view.read (Elt F) X) g W)
      isplitl [HA]; · iexact HA
      isplitl [H0]; · iexact H0
      isplitl [HG]; · iexact HG
      iexact HW
    iintro %_ ⟨HA, HN, HF, HW⟩
    isplitl [HA]; · iexact HA
    isplitl [H1]; · iexact H1
    isplitl [H2]; · iexact H2
    isplitl [HF]; · iexact HF
    isplitl [HN HD]
    · isplitl [HN]; · iexact HN
      iexact HD
    isplitl [HU]; · iexact HU
    iexact HW
  · rw [Dset_lo h]
    rw [show roleP c v4 (arg10.view.read (Elt F) X) (tb i) k.val = homeR c (Ring.sl 3 k.val) from if_neg h]
    iintro ⟨HA, H0, H1, H2, HD, ⟨⟨%g, HG⟩, HU⟩, %W, HW⟩
    icases H0 with ⟨⟨%f, HS⟩, HC⟩
    iapply (wp_wand_r Idealize.ShloMosaic.frame (wpE (defs₀ (F := F)) 𝒱₀ (c : Thread nD τ) none) Set.univ)
    isplitl [HA HS HC HG HW]
    · iapply (t5lo c i arg2 harg2 arg3 harg3 arg4 harg4 arg5 harg5 arg6 harg6 arg7 harg7 arg10 harg10 arg12 harg12 v4 h3 k h q X f g W)
      isplitl [HA]; · iexact HA
      isplitl [HS]; · iexact HS
      isplitl [HC]; · iexact HC
      isplitl [HG]; · iexact HG
      iexact HW
    iintro %_ ⟨HA, HF, HW⟩
    isplitl [HA]; · iexact HA
    isplitl [H1]; · iexact H1
    isplitl [H2]; · iexact H2
    isplitl [HF]; · iexact HF
    isplitl [HD]; · iexact HD
    isplitl [HU]; · iexact HU
    iexact HW

/-! ## The last point of a table: the copy of the counts, the gradient's slabs, the drain -/

def segC1 (h3 : k0_cond3 i = 1#1) : Prog (TpuEff nD τ sig (Elt F) Λ₀ .tc) PUnit := do
  let v15 : Memref sig .tc .hbm S1x45000x128 .i32 := fixM.slice (Rect.unit (s := S12x45000x128) (k0_off40 i) S1x45000x128.size (k0_off40_inb i h3)) (fun _ => rfl)
  let v16 : Memref sig .tc .hbm S45000x128 .i32 := v15.squeeze S45000x128 squeezes_S1x45000x128_S45000x128
  Prog.lift (.enqueueDma arg10 (.here v16) (.dma cc0_scratch3.sem) harg10.wordExact ((View.wordExact_bits rfl).reshape _ _) ⟨Or.inl rfl, trivial⟩)

abbrev fcell : sProp 𝕄 := semVal ((c : Thread nD τ), SemLoc.dma cc0_scratch3.sem) 0
abbrev tabP (T : Fin 12) (g : Buf (Elt F) ((ftab T).view.loc (c : Thread nD τ))) : sProp 𝕄 := (ftab T).view.loc (c : Thread nD τ) ↦[(ftab T).view.set]{fullShare} g
/-- The counts of table `T` on their way out of the accumulator, which keeps half a share. -/
abbrev fixFl (T : Fin 12) (X : Buf (Elt F) (arg10.view.loc (c : Thread nD τ))) : sProp 𝕄 :=
  iprop(∃ g, Transfers.Flight countersEmb (c : Thread nD τ) (SemLoc.dma cc0_scratch3.sem) () 720000
    iprop(tabP c T g ∗ (arg10.view.loc (c : Thread nD τ) ↦[arg10.view.set]{fullShare.right} X)) ∗ ⌜(ftab T).view.read (Elt F) g = arg10.view.read (Elt F) X⌝)

theorem segC1_spec (X : Buf (Elt F) (arg10.view.loc (c : Thread nD τ))) (g : Buf (Elt F) ((ftab (tb i)).view.loc (c : Thread nD τ))) (W : Waits sig Unit) :
    (iprop((arg10.view.loc (c : Thread nD τ) ↦[arg10.view.set]{fullShare} X) ∗ tabP c (tb i) g ∗ fcell c ∗ owes (c : Thread nD τ) 0 W) : sProp 𝕄)
    ⊢ wp frame (wpE (defs₀ (F := F)) 𝒱₀ (c : Thread nD τ) none) Set.univ (segC1 (F := F) i arg10 harg10 h3)
      (fun _ => iprop((arg10.view.loc (c : Thread nD τ) ↦[arg10.view.set]{fullShare.left} X) ∗ fixFl c arg10 (tb i) X ∗ ∃ W, owes (c : Thread nD τ) 0 W)) := by
  iintro ⟨HA, HG, HC, HW⟩
  unfold segC1
  set_option sl_exec.lendShare "HA" in sl_exec
  sl_step
  isplitl [HA]; · iexact HA
  isplitl [HC]
  · iexists _; isplitl [HC]; · iexact HC
    ipureintro
    exact read_landed _ _ _
  iexists _; iexact HW

/-- The three waits after the loop. -/
def segC3 (h3 : k0_cond3 i = 1#1) : Prog (TpuEff nD τ sig (Elt F) Λ₀ .tc) PUnit := do
  let v19 : DmaSems sig S1 := cc0_scratch4.slice (Rect.unit (s := S3) ![0] S1.size inb_S3_S1_0)
  let v20 : DmaSems sig S_ := v19.squeeze S_ squeezes_S1_S_
  let v21 : Memref sig .tc .hbm S1x1000x128 .f32 := gradM.slice (Rect.unit (s := S12x45000x128) (k0_off49 i) S1x1000x128.size (k0_off49_inb i h3)) (fun _ => rfl)
  let v22 : Memref sig .tc .hbm S1000x128 .f32 := v21.squeeze S1000x128 squeezes_S1x1000x128_S1000x128
  let v23 : Memref sig .tc .vmem S1x1000x128 .f32 := stM.slice (Rect.unit (s := S3x1000x128) ![0, 0, 0] S1x1000x128.size inb_S3x1000x128_S1x1000x128_0_0_0) (fun _ => rfl)
  let v24 : Memref sig .tc .vmem S1000x128 .f32 := v23.squeeze S1000x128 squeezes_S1x1000x128_S1000x128
  Prog.lift (.waitDma2 v20.sem v24 v22 ((View.wordExact_bits rfl).reshape _ _) ((View.wordExact_bits rfl).reshape _ _))
  let v25 : DmaSems sig S1 := cc0_scratch4.slice (Rect.unit (s := S3) ![1] S1.size inb_S3_S1_1)
  let v26 : DmaSems sig S_ := v25.squeeze S_ squeezes_S1_S_
  let v27 : Memref sig .tc .hbm S1x1000x128 .f32 := gradM.slice (Rect.unit (s := S12x45000x128) (k0_off50 i) S1x1000x128.size (k0_off50_inb i h3)) (fun _ => rfl)
  let v28 : Memref sig .tc .hbm S1000x128 .f32 := v27.squeeze S1000x128 squeezes_S1x1000x128_S1000x128
  let v29 : Memref sig .tc .vmem S1x1000x128 .f32 := stM.slice (Rect.unit (s := S3x1000x128) ![1, 0, 0] S1x1000x128.size inb_S3x1000x128_S1x1000x128_1_0_0) (fun _ => rfl)
  let v30 : Memref sig .tc .vmem S1000x128 .f32 := v29.squeeze S1000x128 squeezes_S1x1000x128_S1000x128
  Prog.lift (.waitDma2 v26.sem v30 v28 ((View.wordExact_bits rfl).reshape _ _) ((View.wordExact_bits rfl).reshape _ _))
  let v31 : DmaSems sig S1 := cc0_scratch4.slice (Rect.unit (s := S3) ![2] S1.size inb_S3_S1_2)
  let v32 : DmaSems sig S_ := v31.squeeze S_ squeezes_S1_S_
  let v33 : Memref sig .tc .hbm S1x1000x128 .f32 := gradM.slice (Rect.unit (s := S12x45000x128) (k0_off51 i) S1x1000x128.size (k0_off51_inb i h3)) (fun _ => rfl)
  let v34 : Memref sig .tc .hbm S1000x128 .f32 := v33.squeeze S1000x128 squeezes_S1x1000x128_S1000x128
  let v35 : Memref sig .tc .vmem S1x1000x128 .f32 := stM.slice (Rect.unit (s := S3x1000x128) ![2, 0, 0] S1x1000x128.size inb_S3x1000x128_S1x1000x128_2_0_0) (fun _ => rfl)
  let v36 : Memref sig .tc .vmem S1000x128 .f32 := v35.squeeze S1000x128 squeezes_S1x1000x128_S1000x128
  Prog.lift (.waitDma2 v32.sem v36 v34 ((View.wordExact_bits rfl).reshape _ _) ((View.wordExact_bits rfl).reshape _ _))

theorem segC3_spec (A : Acc) (W : Waits sig Unit) :
    (iprop(flR c v4 A (tb i) 0 42 ∗ flR c v4 A (tb i) 1 43 ∗ flR c v4 A (tb i) 2 44 ∗ owes (c : Thread nD τ) 0 W) : sProp 𝕄)
    ⊢ wp frame (wpE (defs₀ (F := F)) 𝒱₀ (c : Thread nD τ) none) Set.univ (segC3 (F := F) i h3)
      (fun _ => iprop(homeR c 0 ∗ homeR c 1 ∗ homeR c 2 ∗ doneP c v4 A (tb i) 42 ∗ doneP c v4 A (tb i) 43 ∗ doneP c v4 A (tb i) 44 ∗ ∃ W, owes (c : Thread nD τ) 0 W)) := by
  iintro ⟨⟨%g0, %f0, H0, %h0⟩, ⟨%g1, %f1, H1, %h1⟩, ⟨%g2, %f2, H2, %h2⟩, HW⟩
  unfold segC3
  sl_exec
  sl_step
  isplitl [H0_src H0]
  · isplitl [H0_src]; · iexists _; iexact H0_src
    iexact H0
  isplitl [H1_src H1]
  · isplitl [H1_src]; · iexists _; iexact H1_src
    iexact H1
  isplitl [H2_src H2]
  · isplitl [H2_src]; · iexists _; iexact H2_src
    iexact H2
  isplitl [H0_dst]
  · iexists g0; isplitl [H0_dst]; · iexact H0_dst
    ipureintro; exact h0
  isplitl [H1_dst]
  · iexists g1; isplitl [H1_dst]; · iexact H1_dst
    ipureintro; exact h1
  isplitl [H2_dst]
  · iexists g2; isplitl [H2_dst]; · iexact H2_dst
    ipureintro; exact h2
  iexists _; iexact HW

/-- The wait for a table's counts. -/
def waitF (T : Fin 12) : Prog (TpuEff nD τ sig (Elt F) Λ₀ .tc) PUnit :=
  Prog.lift (.waitDma2 cc0_scratch3.sem arg10 (ftab T) harg10.wordExact ((View.wordExact_bits rfl).reshape _ _))

abbrev tabDone (A : Acc) (T : Fin 12) : sProp 𝕄 := iprop(∃ g, tabP c T g ∗ ⌜(ftab T).view.read (Elt F) g = A⌝)

theorem waitF_spec (T : Fin 12) (X : Buf (Elt F) (arg10.view.loc (c : Thread nD τ))) (W : Waits sig Unit) :
    (iprop((arg10.view.loc (c : Thread nD τ) ↦[arg10.view.set]{fullShare.left} X) ∗ fixFl c arg10 T X ∗ owes (c : Thread nD τ) 0 W) : sProp 𝕄)
    ⊢ wp frame (wpE (defs₀ (F := F)) 𝒱₀ (c : Thread nD τ) none) Set.univ (waitF (F := F) arg10 harg10 T)
      (fun _ => iprop((arg10.view.loc (c : Thread nD τ) ↦[arg10.view.set]{fullShare} X) ∗ tabDone c (arg10.view.read (Elt F) X) T ∗ fcell c ∗ ∃ W, owes (c : Thread nD τ) 0 W)) := by
  iintro ⟨HA, ⟨%g, HF, %hg⟩, HW⟩
  unfold waitF
  sl_exec
  sl_step
  ihave HA := (pointsTo_share (PosShare.mem_left_op_right fullShare)).2 $$ [HA HF_src]
  · isplitl [HA] <;> iassumption
  isplitl [HA]; · iexact HA
  isplitl [HF_dst]
  · iexists g; isplitl [HF_dst]; · iexact HF_dst
    ipureintro; exact hg
  isplitl [HF]; · iexact HF
  iexists _; iexact HW

theorem sl3_0 : Ring.sl 3 0 = 0 := Fin.ext (by rfl)
theorem sl3_1 : Ring.sl 3 (0 + 1) = 1 := Fin.ext (by rfl)
theorem sl3_2 : Ring.sl 3 (0 + 2) = 2 := Fin.ext (by rfl)

/-- The loop over a table's slabs, and the drain. -/
def segC2 : Prog (TpuEff nD τ sig (Elt F) Λ₀ .tc) PUnit := do
  Scf.Loop.for k0_t5_loop (k0_t5_ok i h3) ⟨⟩ (k0_t5_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4 h3)
  segC3 (F := F) i h3

theorem D_last (P : Fin 45 → sProp 𝕄) : bigSep Finset.univ P = iprop(P 44 ∗ P 43 ∗ P 42 ∗ bigSep (Dset 45) P) := by
  have e : (Finset.univ : Finset (Fin 45)) = Dset 48 := by
    ext s; simp only [Dset, Finset.mem_filter, Finset.mem_univ, true_and, true_iff]; omega
  have h (k : ℕ) (h3 : 3 ≤ k) (hk : k < 48) : bigSep (Dset (k + 1)) P = iprop(P (Ring.bk 45 (k - 3)) ∗ bigSep (Dset k) P) := by
    have e : Dset (k + 1) = insert (Ring.bk 45 (k - 3)) (Dset k) := by
      ext s; simp only [Dset, Finset.mem_filter, Finset.mem_univ, true_and, Finset.mem_insert, Fin.ext_iff, Ring.bk_val (show k - 3 < 45 by omega)]; omega
    have hn : Ring.bk 45 (k - 3) ∉ Dset k := by
      simp only [Dset, Finset.mem_filter, Finset.mem_univ, true_and, Ring.bk_val (show k - 3 < 45 by omega)]; omega
    rw [e, bigSep_insert hn]; rfl
  rw [e, h 47 (by decide) (by decide), h 46 (by decide) (by decide), h 45 (by decide) (by decide)]; rfl

theorem segC2_spec (q : PosShare TreeShare) (X : Buf (Elt F) (arg10.view.loc (c : Thread nD τ))) (W : Waits sig Unit) :
    (iprop((arg10.view.loc (c : Thread nD τ) ↦[arg10.view.set]{q} X) ∗ homeR c 0 ∗ homeR c 1 ∗ homeR c 2 ∗ bigSep Finset.univ (anyP c (tb i)) ∗ owes (c : Thread nD τ) 0 W) : sProp 𝕄)
    ⊢ wp frame (wpE (defs₀ (F := F)) 𝒱₀ (c : Thread nD τ) none) Set.univ
      (segC2 i arg2 harg2 arg3 harg3 arg4 harg4 arg5 harg5 arg6 harg6 arg7 harg7 arg10 harg10 arg12 harg12 v4 h3)
      (fun _ => iprop((arg10.view.loc (c : Thread nD τ) ↦[arg10.view.set]{q} X) ∗ homeR c 0 ∗ homeR c 1 ∗ homeR c 2
        ∗ bigSep Finset.univ (doneP c v4 (arg10.view.read (Elt F) X) (tb i)) ∗ ∃ W, owes (c : Thread nD τ) 0 W)) := by
  rw [D_last (doneP c v4 (arg10.view.read (Elt F) X) (tb i))]
  have eU : Uset 0 = Finset.univ := by ext s; simp [Uset]
  have eD : Dset 0 = ∅ := by ext s; simp [Dset]
  have r0 : roleP c v4 (arg10.view.read (Elt F) X) (tb i) 0 = homeR c 0 := by unfold roleP; rw [if_neg (by decide), sl3_0]
  have r1 : roleP c v4 (arg10.view.read (Elt F) X) (tb i) (0 + 1) = homeR c 1 := by unfold roleP; rw [if_neg (by decide), sl3_1]
  have r2 : roleP c v4 (arg10.view.read (Elt F) X) (tb i) (0 + 2) = homeR c 2 := by unfold roleP; rw [if_neg (by decide), sl3_2]
  unfold segC2
  have hstart : (iprop((arg10.view.loc (c : Thread nD τ) ↦[arg10.view.set]{q} X) ∗ homeR c 0 ∗ homeR c 1 ∗ homeR c 2 ∗ bigSep Finset.univ (anyP c (tb i)) ∗ owes (c : Thread nD τ) 0 W) : sProp 𝕄)
      ⊢ inv5 c i arg10 v4 q X 0 := by
    unfold inv5; rw [r0, r1, r2, eU, eD, bigSep_empty]
    iintro ⟨HA, H0, H1, H2, HU, HW⟩
    isplitl [HA]; · iexact HA
    isplitl [H0]; · iexact H0
    isplitl [H1]; · iexact H1
    isplitl [H2]; · iexact H2
    isplitl []; · iempintro
    isplitl [HU]; · iexact HU
    iexists _; iexact HW
  have e0 : roleP c v4 (arg10.view.read (Elt F) X) (tb i) 45 = flR c v4 (arg10.view.read (Elt F) X) (tb i) 0 42 := by
    unfold roleP; rw [if_pos (by decide)]; rfl
  have e1 : roleP c v4 (arg10.view.read (Elt F) X) (tb i) (45 + 1) = flR c v4 (arg10.view.read (Elt F) X) (tb i) 1 43 := by
    unfold roleP; rw [if_pos (by decide)]; rfl
  have e2 : roleP c v4 (arg10.view.read (Elt F) X) (tb i) (45 + 2) = flR c v4 (arg10.view.read (Elt F) X) (tb i) 2 44 := by
    unfold roleP; rw [if_pos (by decide)]; rfl
  have hend : inv5 c i arg10 v4 q X (Scf.trips k0_t5_loop.lb k0_t5_loop.ub k0_t5_loop.st) ⊢ (iprop((arg10.view.loc (c : Thread nD τ) ↦[arg10.view.set]{q} X)
      ∗ flR c v4 (arg10.view.read (Elt F) X) (tb i) 0 42 ∗ flR c v4 (arg10.view.read (Elt F) X) (tb i) 1 43 ∗ flR c v4 (arg10.view.read (Elt F) X) (tb i) 2 44
      ∗ bigSep (Dset 45) (doneP c v4 (arg10.view.read (Elt F) X) (tb i)) ∗ ∃ W, owes (c : Thread nD τ) 0 W) : sProp 𝕄) := by
    rw [show Scf.trips k0_t5_loop.lb k0_t5_loop.ub k0_t5_loop.st = 45 from trips5_val]
    unfold inv5; rw [e0, e1, e2]
    iintro ⟨HA, H0, H1, H2, HD, -, HW⟩
    isplitl [HA]; · iexact HA
    isplitl [H0]; · iexact H0
    isplitl [H1]; · iexact H1
    isplitl [H2]; · iexact H2
    isplitl [HD]; · iexact HD
    iexact HW
  iintro H
  iapply (Scf.wp_for_bind _ _ _ _ _ _ _ _ _ (fun k _ => inv5 c i arg10 v4 q X k) ?step5) $$ [H]
  case step5 =>
    intro k a
    exact t5step c i arg2 harg2 arg3 harg3 arg4 harg4 arg5 harg5 arg6 harg6 arg7 harg7 arg10 harg10 arg12 harg12 v4 h3 q X k
  · iapply hstart; iexact H
  iintro %_ H
  ihave H := hend $$ H
  icases H with ⟨HA, H0, H1, H2, HD, %W', HW⟩
  iapply (wp_wand_r Idealize.ShloMosaic.frame (wpE (defs₀ (F := F)) 𝒱₀ (c : Thread nD τ) none) Set.univ)
  isplitl [H0 H1 H2 HW]
  · iapply (segC3_spec c i v4 h3 (arg10.view.read (Elt F) X) W')
    isplitl [H0]; · iexact H0
    isplitl [H1]; · iexact H1
    isplitl [H2]; · iexact H2
    iexact HW
  iintro %_ ⟨H0, H1, H2, D0, D1, D2, HW⟩
  isplitl [HA]; · iexact HA
  isplitl [H0]; · iexact H0
  isplitl [H1]; · iexact H1
  isplitl [H2]; · iexact H2
  isplitl [D0 D1 D2 HD]
  · isplitl [D2]; · iexact D2
    isplitl [D1]; · iexact D1
    isplitl [D0]; · iexact D0
    iexact HD
  iexact HW
end Ring

end Cert.KernelIdeal.Hand

end
-- ==== Proof.IdealBlock.lean ====
module

public import proofs.«01_k».proof.Proof.IdealSegs
public import Idealize.ShloMosaic.Lib.VecWindow

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section Block
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)

/-! ## Clearing the accumulator -/

abbrev t1G (h1 : k0_cond1 i = 1#1) (k : Fin k0_t1_loop.trips) : Prog (TpuEff nD τ sig (Elt F) Λ₀ .tc) Unit :=
  k0_t1_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 h1 k ()

/-- The first `n` rows of the accumulator are zero. -/
abbrev zeroTo (A : Acc) (n : ℕ) : Prop := ∀ y : S45000x128.Idx, (y 0).val < n → A y = 0#32

theorem t1trip (h1 : k0_cond1 i = 1#1) (k : Fin k0_t1_loop.trips) (f : Buf (Elt F) (arg10.view.loc (c : Thread nD τ)))
    (hf : zeroTo (arg10.view.read (Elt F) f) (1000 * k.val)) :
    (iprop(arg10.view.loc (c : Thread nD τ) ↦[arg10.view.set]{fullShare} f) : sProp 𝕄)
    ⊢ wp frame (wpE (defs₀ (F := F)) 𝒱₀ (c : Thread nD τ) none) Set.univ (t1G i arg2 harg2 arg3 harg3 arg4 harg4 arg5 harg5 arg6 harg6 arg7 harg7 arg10 harg10 arg12 harg12 h1 k)
      (fun _ => iprop(∃ f', (arg10.view.loc (c : Thread nD τ) ↦[arg10.view.set]{fullShare} f') ∗ ⌜zeroTo (arg10.view.read (Elt F) f') (1000 * (k.val + 1))⌝)) := by
  iintro HA
  dsimp only [t1G]
  sl_unfold [k0_t1_body]
  sl_exec
  sl_step
  iexists _; isplitl [HA]; · iexact HA
  ipureintro
  intro y hy
  have ho := off2_eq k
  by_cases h : (y 0).val < 1000 * k.val
  · refine Eq.trans ?_ (hf y h)
    exact View.read_writes_cons_rows_of_not_mem arg10.view f (k0_off2_inb i k h1) k0_pay1 [] y ho rfl (Or.inl h)
  · have hx : (y 0).val - 1000 * k.val < 1000 := by omega
    refine (View.read_writes_cons_rows_of_mem arg10.view f (k0_off2_inb i k h1) k0_pay1 [] y (fun | 0 => (⟨_, hx⟩ : Fin 1000) | 1 => y 1) ho ?_ rfl).trans ?_
    · show (y 0).val = 1000 * k.val + ((y 0).val - 1000 * k.val); omega
    · rfl

/-- The loop that clears the accumulator. -/
def clear (h1 : k0_cond1 i = 1#1) : Prog (TpuEff nD τ sig (Elt F) Λ₀ .tc) PUnit :=
  Scf.Loop.for k0_t1_loop (k0_t1_ok i h1) ⟨⟩ (k0_t1_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 h1)

theorem clear_spec (h1 : k0_cond1 i = 1#1) (f : Buf (Elt F) (arg10.view.loc (c : Thread nD τ))) :
    (iprop(arg10.view.loc (c : Thread nD τ) ↦[arg10.view.set]{fullShare} f) : sProp 𝕄)
    ⊢ wp frame (wpE (defs₀ (F := F)) 𝒱₀ (c : Thread nD τ) none) Set.univ (clear i arg2 harg2 arg3 harg3 arg4 harg4 arg5 harg5 arg6 harg6 arg7 harg7 arg10 harg10 arg12 harg12 h1)
      (fun _ => iprop(∃ f', (arg10.view.loc (c : Thread nD τ) ↦[arg10.view.set]{fullShare} f') ∗ ⌜arg10.view.read (Elt F) f' = fun _ => 0#32⌝)) := by
  unfold clear
  iintro HA
  iapply (Scf.wp_for _ _ _ _ _ _ _ _ _ (fun k _ => iprop(∃ f', (arg10.view.loc (c : Thread nD τ) ↦[arg10.view.set]{fullShare} f') ∗ ⌜zeroTo (arg10.view.read (Elt F) f') (1000 * k)⌝)) ?step1)
  case step1 =>
    intro k a
    iintro ⟨%f, HA, %hf⟩
    iapply (t1trip c i arg2 harg2 arg3 harg3 arg4 harg4 arg5 harg5 arg6 harg6 arg7 harg7 arg10 harg10 arg12 harg12 h1 k f hf)
    iexact HA
  isplitl [HA]
  · iexists f; isplitl [HA]; · iexact HA
    ipureintro
    intro y hy; exact absurd hy (by omega)
  iintro %_ ⟨%f', HA, %hf⟩
  iexists f'; isplitl [HA]; · iexact HA
  ipureintro
  funext y
  refine hf y ?_
  have e : Scf.trips k0_t1_loop.lb k0_t1_loop.ub k0_t1_loop.st = 45 := trips1_val
  rw [e]
  have : (y 0).val < 45000 := (y 0).isLt
  omega

/-! ## A point's bags -/

def stepAt : S1x12.Idx := fun | 0 => (0 : Fin 1) | 1 => Fin.ofNat 12 (i 0).val

/-- The step of the point's table, and the point's rows widened. -/
def rowsIn : Prog (TpuEff nD τ sig (Elt F) Λ₀ .tc) (Elt F .f32) := do
  let v4 : Elt F .f32 ← smemLoad arg4 (Rect.unit (s := S1x12) (k0_off3 i) S1x1.size (k0_off3_inb i)) numel1_S1x1 rfl
  let v5 : Vec F S1x32x128 .fp8e5m2 ← Prog.lift (.load arg6 (Rect.unit (s := S1x32x128) ![0, 0, 0] S1x32x128.size inb_S1x32x128_S1x32x128_0_0_0).toLoadRect (View.loadsAt_vmem h_S1x32x128))
  let v8 : Vec F S32x128 .f32 ← Prog.lift (.load arg12 (Rect.unit (s := S32x128) ![0, 0] S32x128.size inb_S32x128_S32x128_0_0).toLoadRect (View.loadsAt_vmem h_S32x128))
  Prog.lift (.store arg12 (Rect.unit (s := S32x128) ![0, 0] S32x128.size inb_S32x128_S32x128_0_0) (k0_pay2 v5) Finset.univ (View.stores_vmem_bits_univ h_S32x128 rfl) (.inl rfl))
  pure v4

theorem rowsIn_spec (X4 : Buf (Elt F) (arg4.view.loc (c : Thread nD τ))) (X6 : Buf (Elt F) (arg6.view.loc (c : Thread nD τ))) (f : Buf (Elt F) (arg12.view.loc (c : Thread nD τ))) :
    (iprop((arg4.view.loc (c : Thread nD τ) ↦[arg4.view.set]{fullShare} X4) ∗ (arg6.view.loc (c : Thread nD τ) ↦[arg6.view.set]{fullShare} X6)
      ∗ (arg12.view.loc (c : Thread nD τ) ↦[arg12.view.set]{fullShare} f)) : sProp 𝕄)
    ⊢ wp frame (wpE (defs₀ (F := F)) 𝒱₀ (c : Thread nD τ) none) Set.univ (rowsIn i arg4 arg6 arg12)
      (fun r => iprop(⌜r = arg4.view.read (Elt F) X4 (stepAt i)⌝ ∗ (arg4.view.loc (c : Thread nD τ) ↦[arg4.view.set]{fullShare} X4) ∗ (arg6.view.loc (c : Thread nD τ) ↦[arg6.view.set]{fullShare} X6)
        ∗ ∃ f', (arg12.view.loc (c : Thread nD τ) ↦[arg12.view.set]{fullShare} f') ∗ ⌜arg12.view.read (Elt F) f' = k0_pay2 (arg6.view.read (Elt F) X6)⌝)) := by
  unfold rowsIn
  iintro ⟨H4, H6, H12⟩
  sl_exec
  sl_step
  isplitl []
  · ipureintro
    refine congrArg (arg4.view.read (Elt F) X4) (funext fun a => Fin.ext ?_)
    have e : k0_off3 i a + 1 * 0 = (![0, (i 0).val] : Fin 2 → ℕ) a + 1 * 0 := by rw [← off3_eq i]
    have h0 := i0_lt i
    fin_cases a
    · rfl
    · refine e.trans ?_
      show (i 0).val + 1 * 0 = (i 0).val % 12; omega
  isplitl [H4]; · iexact H4
  isplitl [H6]; · iexact H6
  iexists _; isplitl [H12]; · iexact H12
  ipureintro
  refine (View.read_writes_full arg12.view f inb_S32x128_S32x128_0_0 _ []).trans ?_
  exact congrArg k0_pay2 (View.readAt_full arg6.view X6 inb_S1x32x128_S1x32x128_0_0_0)

/-- The loop over a point's bags. -/
def bagLoop (v4 : Elt F .f32) : Prog (TpuEff nD τ sig (Elt F) Λ₀ .tc) PUnit :=
  Scf.Loop.for k0_t2_loop k0_t2_ok ⟨⟩ (k0_t2_body (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4 v4)

theorem bagLoop_spec (v4 : Elt F .f32)
    (X2 : Buf (Elt F) (arg2.view.loc (c : Thread nD τ))) (X3 : Buf (Elt F) (arg3.view.loc (c : Thread nD τ)))
    (X5 : Buf (Elt F) (arg5.view.loc (c : Thread nD τ))) (X7 : Buf (Elt F) (arg7.view.loc (c : Thread nD τ)))
    (X12 : Buf (Elt F) (arg12.view.loc (c : Thread nD τ)))
    (hlen : ∀ x, (arg2.view.read (Elt F) X2 x).toInt ≤ 384)
    (hid : ∀ x, (arg5.view.read (Elt F) X5 x).toNat < 45000)
    (f : Buf (Elt F) (arg10.view.loc (c : Thread nD τ))) :
    (iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ (arg10.view.loc (c : Thread nD τ) ↦[arg10.view.set]{fullShare} f)) : sProp 𝕄)
    ⊢ wp frame (wpE (defs₀ (F := F)) 𝒱₀ (c : Thread nD τ) none) Set.univ (bagLoop i arg2 harg2 arg3 harg3 arg4 harg4 arg5 harg5 arg6 harg6 arg7 harg7 arg10 harg10 arg12 harg12 v4)
        (fun _ => iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ ∃ f', (arg10.view.loc (c : Thread nD τ) ↦[arg10.view.set]{fullShare} f')
        ∗ ⌜arg10.view.read (Elt F) f' = bagsG c i arg2 arg3 arg5 arg7 v4 X2 X3 X5 X7 (fun b x => arg12.view.read (Elt F) X12 (gfAt b (x 1))) (arg10.view.read (Elt F) f) 32⌝)) := by
  have e32 : Scf.trips k0_t2_loop.lb k0_t2_loop.ub k0_t2_loop.st = 32 := trips2_val
  unfold bagLoop
  iintro H
  iapply (Scf.wp_for _ _ _ _ _ _ _ _ _ (fun k _ => iprop((arg2.view.loc (c : Thread nD τ) ↦[arg2.view.set]{fullShare} X2) ∗ (arg3.view.loc (c : Thread nD τ) ↦[arg3.view.set]{fullShare} X3)
      ∗ (arg5.view.loc (c : Thread nD τ) ↦[arg5.view.set]{fullShare} X5) ∗ (arg7.view.loc (c : Thread nD τ) ↦[arg7.view.set]{fullShare} X7)
      ∗ (arg12.view.loc (c : Thread nD τ) ↦[arg12.view.set]{fullShare} X12)
      ∗ ∃ f', (arg10.view.loc (c : Thread nD τ) ↦[arg10.view.set]{fullShare} f')
        ∗ ⌜arg10.view.read (Elt F) f' = bagsG c i arg2 arg3 arg5 arg7 v4 X2 X3 X5 X7 (fun b x => arg12.view.read (Elt F) X12 (gfAt b (x 1))) (arg10.view.read (Elt F) f) k⌝)) ?step2)
  case step2 =>
    intro k a
    iintro ⟨H2, H3, H5, H7, H12, %f', HA, %hf⟩
    iapply (t2trip c i arg2 harg2 arg3 harg3 arg4 harg4 arg5 harg5 arg6 harg6 arg7 harg7 arg10 harg10 arg12 harg12 v4 k X2 X3 X5 X7 X12 hlen hid f' _ hf)
    isplitl [H2]; · iexact H2
    isplitl [H3]; · iexact H3
    isplitl [H5]; · iexact H5
    isplitl [H7]; · iexact H7
    isplitl [H12]; · iexact H12
    iexact HA
  isplitl [H]
  · icases H with ⟨H2, H3, H5, H7, H12, HA⟩
    isplitl [H2]; · iexact H2
    isplitl [H3]; · iexact H3
    isplitl [H5]; · iexact H5
    isplitl [H7]; · iexact H7
    isplitl [H12]; · iexact H12
    iexists f; isplitl [HA]; · iexact HA
    ipureintro; rfl
  iintro %_ ⟨H2, H3, H5, H7, H12, %f', HA, %hf⟩
  isplitl [H2]; · iexact H2
  isplitl [H3]; · iexact H3
  isplitl [H5]; · iexact H5
  isplitl [H7]; · iexact H7
  isplitl [H12]; · iexact H12
  iexists f'; isplitl [HA]; · iexact HA
  ipureintro
  rw [e32] at hf; exact hf

/-! ## The body, cut -/

abbrev bodyP : Prog (TpuEff nD τ sig (Elt F) Λ₀ .tc) PUnit :=
  cc0_bag_scatter_skel (F := F) i arg2 harg2 arg3 harg3 arg4 harg4 arg5 harg5 arg6 harg6 arg7 harg7 gradM (Memref.isWhole_whole _) fixM (Memref.isWhole_whole _)
    arg10 harg10 stM (Memref.isWhole_whole _) arg12 harg12 cc0_scratch3 cc0_scratch4

/-- Rows in, bags, then the rest. -/
def work (k : Elt F .f32 → Prog (TpuEff nD τ sig (Elt F) Λ₀ .tc) PUnit) : Prog (TpuEff nD τ sig (Elt F) Λ₀ .tc) PUnit :=
  rowsIn (F := F) i arg4 arg6 arg12 >>= fun v4 => bagLoop i arg2 harg2 arg3 harg3 arg4 harg4 arg5 harg5 arg6 harg6 arg7 harg7 arg10 harg10 arg12 harg12 v4 >>= fun _ => k v4

/-- A table's results leave. -/
def leave (h3 : k0_cond3 i = 1#1) (k : Prog (TpuEff nD τ sig (Elt F) Λ₀ .tc) PUnit) (v4 : Elt F .f32) : Prog (TpuEff nD τ sig (Elt F) Λ₀ .tc) PUnit :=
  segC1 (F := F) i arg10 harg10 h3 >>= fun _ => segC2 i arg2 harg2 arg3 harg3 arg4 harg4 arg5 harg5 arg6 harg6 arg7 harg7 arg10 harg10 arg12 harg12 v4 h3 >>= fun _ => k

theorem wait_congr {M M' : Memref sig .tc .hbm S45000x128 .i32} (e : M = M') (h h' h'') :
    (Prog.lift (.waitDma2 cc0_scratch3.sem arg10 M h h') : Prog (TpuEff nD τ sig (Elt F) Λ₀ .tc) PUnit) = Prog.lift (.waitDma2 cc0_scratch3.sem arg10 M' h h'') := by
  subst e; rfl

theorem body_first (h1 : k0_cond1 i = 1#1) (h2 : ¬ k0_cond2 i = 1#1) (h3 : ¬ k0_cond3 i = 1#1) :
    bodyP (F := F) i arg2 harg2 arg3 harg3 arg4 harg4 arg5 harg5 arg6 harg6 arg7 harg7 arg10 harg10 arg12 harg12
      = (clear i arg2 harg2 arg3 harg3 arg4 harg4 arg5 harg5 arg6 harg6 arg7 harg7 arg10 harg10 arg12 harg12 h1 >>= fun _ =>
          work i arg2 harg2 arg3 harg3 arg4 harg4 arg5 harg5 arg6 harg6 arg7 harg7 arg10 harg10 arg12 harg12 fun _ => pure ⟨⟩) := by
  unfold bodyP cc0_bag_scatter_skel
  simp only [dif_pos h1, dif_neg h2, dif_neg h3]
  rfl

theorem body_wait (T : Fin 12) (hT : T.val + 1 = (i 0).val) (h1 : k0_cond1 i = 1#1) (h2 : k0_cond2 i = 1#1) (h3 : ¬ k0_cond3 i = 1#1) :
    bodyP (F := F) i arg2 harg2 arg3 harg3 arg4 harg4 arg5 harg5 arg6 harg6 arg7 harg7 arg10 harg10 arg12 harg12
      = (waitF arg10 harg10 T >>= fun _ => clear i arg2 harg2 arg3 harg3 arg4 harg4 arg5 harg5 arg6 harg6 arg7 harg7 arg10 harg10 arg12 harg12 h1 >>= fun _ =>
          work i arg2 harg2 arg3 harg3 arg4 harg4 arg5 harg5 arg6 harg6 arg7 harg7 arg10 harg10 arg12 harg12 fun _ => pure ⟨⟩) := by
  have e : waitF (F := F) arg10 harg10 T = _ := (wait_congr arg10 (ftab_congr (T := T) ((off1_eq i (by omega)).trans (by rw [show (i 0).val - 1 = T.val by omega])) (k0_off1_inb i h1 h2) (fun _ => rfl)) harg10.wordExact ((View.wordExact_bits rfl).reshape _ _) _).symm
  rw [e]
  unfold bodyP cc0_bag_scatter_skel
  simp only [dif_pos h1, dif_pos h2, dif_neg h3]
  rfl

theorem body_mid (h1 : ¬ k0_cond1 i = 1#1) (h3 : ¬ k0_cond3 i = 1#1) :
    bodyP (F := F) i arg2 harg2 arg3 harg3 arg4 harg4 arg5 harg5 arg6 harg6 arg7 harg7 arg10 harg10 arg12 harg12
      = (work i arg2 harg2 arg3 harg3 arg4 harg4 arg5 harg5 arg6 harg6 arg7 harg7 arg10 harg10 arg12 harg12 fun _ => pure ⟨⟩) := by
  unfold bodyP cc0_bag_scatter_skel
  simp only [dif_neg h1, dif_neg h3]
  rfl

theorem body_leave (h1 : ¬ k0_cond1 i = 1#1) (h3 : k0_cond3 i = 1#1) (h5 : ¬ k0_cond5 i = 1#1) :
    bodyP (F := F) i arg2 harg2 arg3 harg3 arg4 harg4 arg5 harg5 arg6 harg6 arg7 harg7 arg10 harg10 arg12 harg12
      = (work i arg2 harg2 arg3 harg3 arg4 harg4 arg5 harg5 arg6 harg6 arg7 harg7 arg10 harg10 arg12 harg12
          (leave i arg2 harg2 arg3 harg3 arg4 harg4 arg5 harg5 arg6 harg6 arg7 harg7 arg10 harg10 arg12 harg12 h3 (pure ⟨⟩))) := by
  unfold bodyP cc0_bag_scatter_skel
  simp only [dif_neg h1, dif_pos h3, dif_neg h5]
  unfold leave segC2
  simp only [bind_assoc]
  rfl

theorem body_last (h1 : ¬ k0_cond1 i = 1#1) (h3 : k0_cond3 i = 1#1) (h5 : k0_cond5 i = 1#1) :
    bodyP (F := F) i arg2 harg2 arg3 harg3 arg4 harg4 arg5 harg5 arg6 harg6 arg7 harg7 arg10 harg10 arg12 harg12
      = (work i arg2 harg2 arg3 harg3 arg4 harg4 arg5 harg5 arg6 harg6 arg7 harg7 arg10 harg10 arg12 harg12
          (leave i arg2 harg2 arg3 harg3 arg4 harg4 arg5 harg5 arg6 harg6 arg7 harg7 arg10 harg10 arg12 harg12 h3 (waitF arg10 harg10 (tb i)))) := by
  have e : waitF (F := F) arg10 harg10 (tb i) = _ := (wait_congr arg10 (ftab_congr (off52_eq i) (k0_off52_inb i h3 h5) (fun _ => rfl)) harg10.wordExact ((View.wordExact_bits rfl).reshape _ _) _).symm
  rw [e]
  unfold bodyP cc0_bag_scatter_skel
  simp only [dif_neg h1, dif_pos h3, dif_pos h5]
  unfold leave segC2
  simp only [bind_assoc]
  rfl

end Block

end Cert.KernelIdeal.Hand

end
-- ==== Proof.IdealPoint.lean ====
module

public import proofs.«01_k».proof.Proof.IdealBlock

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

theorem eqE {P Q : sProp 𝕄} (e : P = Q) : P ⊢ Q := e ▸ .rfl

section Point
variable (c : Dev nD) (i : grid0.Coords)
  (arg2 : Memref sig .tc .smem S12x160 .i32) (harg2 : arg2.IsWhole) (arg3 : Memref sig .tc .smem S12x160 .f32) (harg3 : arg3.IsWhole)
  (arg4 : Memref sig .tc .smem S1x12 .f32) (harg4 : arg4.IsWhole) (arg5 : Memref sig .tc .smem S1x32x384 .i32) (harg5 : arg5.IsWhole)
  (arg6 : Memref sig .tc .vmem S1x32x128 .fp8e5m2) (harg6 : arg6.IsWhole) (arg7 : Memref sig .tc .vmem S1x32x48x128 .f32) (harg7 : arg7.IsWhole)
  (arg10 : Memref sig .tc .vmem S45000x128 .i32) (harg10 : arg10.IsWhole)
  (arg12 : Memref sig .tc .vmem S32x128 .f32) (harg12 : arg12.IsWhole)
  (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (X7 : Buf (Elt F) (arg7.view.loc (c : Thread nD τ)))

/-- The six staged blocks of a point. -/
abbrev stP : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7))
abbrev anyScr : sProp 𝕄 := iprop(∃ f, arg12.view.loc (c : Thread nD τ) ↦[arg12.view.set]{fullShare} f)
abbrev anyAcc : sProp 𝕄 := iprop(∃ f, arg10.view.loc (c : Thread nD τ) ↦[arg10.view.set]{fullShare} f)
abbrev accIs (A : Acc) : sProp 𝕄 := iprop(∃ f, (arg10.view.loc (c : Thread nD τ) ↦[arg10.view.set]{fullShare} f) ∗ ⌜arg10.view.read (Elt F) f = A⌝)

/-- The accumulator after a point's bags. -/
abbrev ptAcc (A : Acc) : Acc :=
  bagsG c i arg2 arg3 arg5 arg7 (arg4.view.read (Elt F) X4 (stepAt i)) X2 X3 X5 X7 (fun b x => k0_pay2 (arg6.view.read (Elt F) X6) (gfAt b (x 1))) A 32

theorem work_spec (hlen : ∀ x, (arg2.view.read (Elt F) X2 x).toInt ≤ 384)
    (hid : ∀ x, (arg5.view.read (Elt F) X5 x).toNat < 45000) (A : Acc) (k : Elt F .f32 → Prog (TpuEff nD τ sig (Elt F) Λ₀ .tc) PUnit) (Q : PUnit → sProp 𝕄) :
    (iprop(stP c arg2 arg3 arg4 arg5 arg6 arg7 X2 X3 X4 X5 X6 X7 ∗ anyScr c arg12 ∗ accIs c arg10 A) : sProp 𝕄)
    ⊢ iprop((stP c arg2 arg3 arg4 arg5 arg6 arg7 X2 X3 X4 X5 X6 X7 ∗ anyScr c arg12 ∗ accIs c arg10 (ptAcc c i arg2 arg3 arg4 arg5 arg6 arg7 X2 X3 X4 X5 X6 X7 A)
        -∗ wp frame (wpE (defs₀ (F := F)) 𝒱₀ (c : Thread nD τ) none) Set.univ (k (arg4.view.read (Elt F) X4 (stepAt i))) Q)
      -∗ wp frame (wpE (defs₀ (F := F)) 𝒱₀ (c : Thread nD τ) none) Set.univ (work i arg2 harg2 arg3 harg3 arg4 harg4 arg5 harg5 arg6 harg6 arg7 harg7 arg10 harg10 arg12 harg12 k) Q) := by
  unfold work
  iintro ⟨⟨H2, H3, H4, H5, H6, H7⟩, ⟨%f12, H12⟩, %f, HA, %hf⟩ HK
  iapply (exec_cut _ _ _ (rowsIn_spec c i arg4 arg6 arg12 X4 X6 f12)) $$ [H4 H6 H12]
  · isplitl [H4]; · iexact H4
    isplitl [H6]; · iexact H6
    iexact H12
  iintro %v4 ⟨%hv, H4, H6, %X12, H12, %h12⟩
  subst hv
  iapply (exec_cut _ _ _ (bagLoop_spec c i arg2 harg2 arg3 harg3 arg4 harg4 arg5 harg5 arg6 harg6 arg7 harg7 arg10 harg10 arg12 harg12 _ X2 X3 X5 X7 X12 hlen hid f)) $$ [H2 H3 H5 H7 H12 HA]
  · isplitl [H2]; · iexact H2
    isplitl [H3]; · iexact H3
    isplitl [H5]; · iexact H5
    isplitl [H7]; · iexact H7
    isplitl [H12]; · iexact H12
    iexact HA
  iintro %_ ⟨H2, H3, H5, H7, H12, %f', HA, %hf'⟩
  iapply HK
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H12]; · iexists _; iexact H12
  iexists f'; isplitl [HA]; · iexact HA
  ipureintro
  rw [hf', h12, hf]

/-! ## What is where between the points -/

variable (PT : ℕ → ℕ → Acc) (ST : ℕ → Elt F .f32)

def Lo (n : ℕ) : Finset (Fin 12) := Finset.univ.filter fun T => T.val < n
def Hi (n : ℕ) : Finset (Fin 12) := Finset.univ.filter fun T => n ≤ T.val

theorem Lo_split (P : Fin 12 → sProp 𝕄) (T : Fin 12) : bigSep (Lo (T.val + 1)) P = iprop(P T ∗ bigSep (Lo T.val) P) := by
  have e : Lo (T.val + 1) = insert T (Lo T.val) := by
    ext s; simp only [Lo, Finset.mem_filter, Finset.mem_univ, true_and, Finset.mem_insert, Fin.ext_iff]; omega
  have hn : T ∉ Lo T.val := by simp only [Lo, Finset.mem_filter, Finset.mem_univ, true_and]; omega
  rw [e, bigSep_insert hn]; rfl
theorem Hi_split (P : Fin 12 → sProp 𝕄) (T : Fin 12) : bigSep (Hi T.val) P = iprop(P T ∗ bigSep (Hi (T.val + 1)) P) := by
  have e : Hi T.val = insert T (Hi (T.val + 1)) := by
    ext s; simp only [Hi, Finset.mem_filter, Finset.mem_univ, true_and, Finset.mem_insert, Fin.ext_iff]; omega
  have hn : T ∉ Hi (T.val + 1) := by simp only [Hi, Finset.mem_filter, Finset.mem_univ, true_and]; omega
  rw [e, bigSep_insert hn]; rfl

abbrev tabD (T : Fin 12) : sProp 𝕄 := tabDone c (PT T.val 5) T
abbrev tabA (T : Fin 12) : sProp 𝕄 := iprop(∃ g, tabP c T g)
abbrev grD (T : Fin 12) : sProp 𝕄 := bigSep Finset.univ (doneP c (ST T.val) (PT T.val 5) T)
abbrev grA (T : Fin 12) : sProp 𝕄 := bigSep Finset.univ (anyP c T)

/-- Within table `T`: the accumulator at the table's partial counts, the counts of the tables before it out. -/
def midAt (T C : ℕ) : sProp 𝕄 := iprop(accIs c arg10 (PT T C) ∗ fcell c ∗ bigSep (Lo T) (tabD c PT) ∗ bigSep (Hi T) (tabA c))
/-- Before the first point and after the last one. -/
def idleAt (T : ℕ) : sProp 𝕄 := iprop(anyAcc c arg10 ∗ fcell c ∗ bigSep (Lo T) (tabD c PT) ∗ bigSep (Hi T) (tabA c))
/-- Between table `T` and the next: its counts on their way out. -/
def flyAt (T : Fin 12) : sProp 𝕄 :=
  iprop((∃ X, (arg10.view.loc (c : Thread nD τ) ↦[arg10.view.set]{fullShare.left} X) ∗ fixFl c arg10 T X ∗ ⌜arg10.view.read (Elt F) X = PT T.val 5⌝)
    ∗ bigSep (Lo T.val) (tabD c PT) ∗ bigSep (Hi (T.val + 1)) (tabA c))
def fixAt (T C : ℕ) : sProp 𝕄 :=
  if 0 < C then midAt c arg10 PT T C else if 0 < T ∧ T < 12 then flyAt c arg10 PT (Ring.bk 12 (T - 1)) else idleAt c arg10 PT T
def gradAt (T : ℕ) : sProp 𝕄 := iprop(bigSep (Lo T) (grD c PT ST) ∗ bigSep (Hi T) (grA c))
abbrev homes : sProp 𝕄 := iprop(homeR c 0 ∗ homeR c 1 ∗ homeR c 2)

theorem clear_mid (h1 : k0_cond1 i = 1#1) (h0 : ∀ T, PT T 0 = fun _ => 0#32) :
    idleAt c arg10 PT (i 0).val ⊢ wp frame (wpE (defs₀ (F := F)) 𝒱₀ (c : Thread nD τ) none) Set.univ
      (clear i arg2 harg2 arg3 harg3 arg4 harg4 arg5 harg5 arg6 harg6 arg7 harg7 arg10 harg10 arg12 harg12 h1) (fun _ => midAt c arg10 PT (i 0).val 0) := by
  unfold idleAt midAt
  rw [h0]
  iintro ⟨⟨%f, HA⟩, HC, HL, HH⟩
  iapply (exec_cut_last _ _ _ (clear_spec c i arg2 harg2 arg3 harg3 arg4 harg4 arg5 harg5 arg6 harg6 arg7 harg7 arg10 harg10 arg12 harg12 h1 f)) $$ [HA]
  · iexact HA
  iintro %_ HA
  isplitl [HA]; · iexact HA
  isplitl [HC]; · iexact HC
  isplitl [HL]; · iexact HL
  iexact HH

theorem wait_idle (T : Fin 12) (W : Waits sig Unit) :
    (iprop(flyAt c arg10 PT T ∗ owes (c : Thread nD τ) 0 W) : sProp 𝕄) ⊢ wp frame (wpE (defs₀ (F := F)) 𝒱₀ (c : Thread nD τ) none) Set.univ
      (waitF (F := F) arg10 harg10 T) (fun _ => iprop(idleAt c arg10 PT (T.val + 1) ∗ ∃ W, owes (c : Thread nD τ) 0 W)) := by
  unfold flyAt idleAt
  rw [Lo_split]
  iintro ⟨⟨⟨%X, HA, HF, %hX⟩, HL, HH⟩, HW⟩
  iapply (exec_cut_last _ _ _ (waitF_spec c arg10 harg10 T X W)) $$ [HA HF HW]
  · isplitl [HA]; · iexact HA
    isplitl [HF]; · iexact HF
    iexact HW
  rw [hX]
  iintro %_ ⟨HA, HD, HC, HW⟩
  isplitr [HW]
  · isplitl [HA]; · iexists _; iexact HA
    isplitl [HC]; · iexact HC
    isplitl [HD HL]
    · isplitl [HD]; · iexact HD
      iexact HL
    iexact HH
  iexact HW

theorem leave_fly (h3 : k0_cond3 i = 1#1) (k : Prog (TpuEff nD τ sig (Elt F) Λ₀ .tc) PUnit) (W : Waits sig Unit) (Q : PUnit → sProp 𝕄) :
    (iprop(midAt c arg10 PT (i 0).val 5 ∗ gradAt c PT ST (i 0).val ∗ homes c ∗ owes (c : Thread nD τ) 0 W) : sProp 𝕄)
    ⊢ iprop((flyAt c arg10 PT (tb i) ∗ gradAt c PT ST ((i 0).val + 1) ∗ homes c ∗ (∃ W, owes (c : Thread nD τ) 0 W)
        -∗ wp frame (wpE (defs₀ (F := F)) 𝒱₀ (c : Thread nD τ) none) Set.univ k Q)
      -∗ wp frame (wpE (defs₀ (F := F)) 𝒱₀ (c : Thread nD τ) none) Set.univ (leave i arg2 harg2 arg3 harg3 arg4 harg4 arg5 harg5 arg6 harg6 arg7 harg7 arg10 harg10 arg12 harg12 h3 k (ST (i 0).val)) Q) := by
  have e : (i 0).val = (tb i).val := rfl
  unfold midAt gradAt flyAt leave
  rw [e, Hi_split (tabA c) (tb i), Hi_split (grA c) (tb i), Lo_split (grD c PT ST) (tb i)]
  iintro ⟨⟨⟨%X, HA, %hX⟩, HC, HL, ⟨%g, HG⟩, HH⟩, ⟨DL, DA, DH⟩, ⟨R0, R1, R2⟩, HW⟩ HK
  iapply (exec_cut _ _ _ (segC1_spec c i arg10 harg10 h3 X g W)) $$ [HA HG HC HW]
  · isplitl [HA]; · iexact HA
    isplitl [HG]; · iexact HG
    isplitl [HC]; · iexact HC
    iexact HW
  iintro %_ ⟨HA, HF, %W1, HW⟩
  iapply (exec_cut _ _ _ (segC2_spec c i arg2 harg2 arg3 harg3 arg4 harg4 arg5 harg5 arg6 harg6 arg7 harg7 arg10 harg10 arg12 harg12 (ST (tb i).val) h3 fullShare.left X W1)) $$ [HA R0 R1 R2 DA HW]
  · isplitl [HA]; · iexact HA
    isplitl [R0]; · iexact R0
    isplitl [R1]; · iexact R1
    isplitl [R2]; · iexact R2
    isplitl [DA]; · iexact DA
    iexact HW
  iintro %_ ⟨HA, R0, R1, R2, DN, HW⟩
  iapply HK
  isplitl [HA HF HL HH]
  · isplitl [HA HF]
    · iexists X; isplitl [HA]; · iexact HA
      isplitl [HF]; · iexact HF
      ipureintro; exact hX
    isplitl [HL]; · iexact HL
    iexact HH
  isplitl [DL DN DH]
  · isplitl [DN DL]
    · isplitl [DN]
      · iapply (eqE (congrArg (fun A => bigSep Finset.univ (doneP c (ST (tb i).val) A (tb i))) hX)); iexact DN
      iexact DL
    iexact DH
  isplitl [R0 R1 R2]
  · isplitl [R0]; · iexact R0
    isplitl [R1]; · iexact R1
    iexact R2
  iexact HW

/-! ## The five kinds of points -/

/-- All that a point changes, staged blocks apart. -/
abbrev sideAt (T C : ℕ) : sProp 𝕄 := iprop(fixAt c arg10 PT T C ∗ gradAt c PT ST T ∗ homes c ∗ anyScr c arg12)

abbrev before (C : ℕ) (W : Waits sig Unit) : sProp 𝕄 :=
  iprop(stP c arg2 arg3 arg4 arg5 arg6 arg7 X2 X3 X4 X5 X6 X7 ∗ sideAt c arg10 arg12 PT ST (i 0).val C ∗ owes (c : Thread nD τ) 0 W)
abbrev after (T C : ℕ) : sProp 𝕄 :=
  iprop(stP c arg2 arg3 arg4 arg5 arg6 arg7 X2 X3 X4 X5 X6 X7 ∗ sideAt c arg10 arg12 PT ST T C ∗ ∃ W, owes (c : Thread nD τ) 0 W)

/-- What the staged blocks, the partial counts and the steps are to each other. -/
structure PtOK (C : ℕ) : Prop where
  len : ∀ x, (arg2.view.read (Elt F) X2 x).toInt ≤ 384
  id : ∀ x, (arg5.view.read (Elt F) X5 x).toNat < 45000
  zero : ∀ T, PT T 0 = fun _ => 0#32
  next : ptAcc c i arg2 arg3 arg4 arg5 arg6 arg7 X2 X3 X4 X5 X6 X7 (PT (i 0).val C) = PT (i 0).val (C + 1)
  step : arg4.view.read (Elt F) X4 (stepAt i) = ST (i 0).val

/-- From within a table: the point's bags, then the rest. -/
theorem work_mid (C : ℕ) (ok : PtOK c i arg2 arg3 arg4 arg5 arg6 arg7 X2 X3 X4 X5 X6 X7 PT ST C)
    (k : Elt F .f32 → Prog (TpuEff nD τ sig (Elt F) Λ₀ .tc) PUnit) (Q : PUnit → sProp 𝕄) :
    (iprop(stP c arg2 arg3 arg4 arg5 arg6 arg7 X2 X3 X4 X5 X6 X7 ∗ anyScr c arg12 ∗ midAt c arg10 PT (i 0).val C) : sProp 𝕄)
    ⊢ iprop((stP c arg2 arg3 arg4 arg5 arg6 arg7 X2 X3 X4 X5 X6 X7 ∗ anyScr c arg12 ∗ midAt c arg10 PT (i 0).val (C + 1)
        -∗ wp frame (wpE (defs₀ (F := F)) 𝒱₀ (c : Thread nD τ) none) Set.univ (k (ST (i 0).val)) Q)
      -∗ wp frame (wpE (defs₀ (F := F)) 𝒱₀ (c : Thread nD τ) none) Set.univ (work i arg2 harg2 arg3 harg3 arg4 harg4 arg5 harg5 arg6 harg6 arg7 harg7 arg10 harg10 arg12 harg12 k) Q) := by
  unfold midAt
  rw [← ok.step, ← ok.next]
  iintro ⟨HS, H12, HA, HC, HL, HH⟩ HK
  iapply (work_spec c i arg2 harg2 arg3 harg3 arg4 harg4 arg5 harg5 arg6 harg6 arg7 harg7 arg10 harg10 arg12 harg12 X2 X3 X4 X5 X6 X7 ok.len ok.id _ k Q) $$ [HS H12 HA]
  · isplitl [HS]; · iexact HS
    isplitl [H12]; · iexact H12
    iexact HA
  iintro ⟨HS, H12, HA⟩
  iapply HK
  isplitl [HS]; · iexact HS
  isplitl [H12]; · iexact H12
  isplitl [HA]; · iexact HA
  isplitl [HC]; · iexact HC
  isplitl [HL]; · iexact HL
  iexact HH

theorem fix_mid {T C : ℕ} (h : 0 < C) : (fixAt c arg10 PT T C : sProp 𝕄) = midAt c arg10 PT T C := by
  unfold fixAt; rw [if_pos h]
theorem fix_idle {T : ℕ} (h : ¬ (0 < T ∧ T < 12)) : (fixAt c arg10 PT T 0 : sProp 𝕄) = idleAt c arg10 PT T := by
  unfold fixAt; rw [if_neg (show ¬ 0 < 0 by decide), if_neg h]
theorem fix_fly {T : ℕ} (h : 0 < T ∧ T < 12) : (fixAt c arg10 PT T 0 : sProp 𝕄) = flyAt c arg10 PT (Ring.bk 12 (T - 1)) := by
  unfold fixAt; rw [if_neg (show ¬ 0 < 0 by decide), if_pos h]

theorem pt_mid (hC : 0 < (i 1).val) (hC4 : (i 1).val < 4) (W : Waits sig Unit)
    (ok : PtOK c i arg2 arg3 arg4 arg5 arg6 arg7 X2 X3 X4 X5 X6 X7 PT ST (i 1).val) :
    before c i arg2 arg3 arg4 arg5 arg6 arg7 arg10 arg12 X2 X3 X4 X5 X6 X7 PT ST (i 1).val W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST (i 0).val ((i 1).val + 1)) := by
  rw [body_mid i arg2 harg2 arg3 harg3 arg4 harg4 arg5 harg5 arg6 harg6 arg7 harg7 arg10 harg10 arg12 harg12 (fun h => absurd ((cond1_iff i).mp h) (by omega)) (fun h => absurd ((cond3_iff i).mp h) (by omega))]
  unfold before after sideAt
  rw [fix_mid c arg10 PT hC, fix_mid c arg10 PT (Nat.succ_pos _)]
  iintro ⟨HS, ⟨HM, HG, HR, H12⟩, HW⟩
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  sl_step
  isplitl [HS]; · iexact HS
  isplitr [HW]
  · isplitl [HM]; · iexact HM
    isplitl [HG]; · iexact HG
    isplitl [HR]; · iexact HR
    iexact H12
  iexists _; iexact HW

theorem pt_first (hT : (i 0).val = 0) (hC : (i 1).val = 0) (W : Waits sig Unit)
    (ok : PtOK c i arg2 arg3 arg4 arg5 arg6 arg7 X2 X3 X4 X5 X6 X7 PT ST 0) :
    before c i arg2 arg3 arg4 arg5 arg6 arg7 arg10 arg12 X2 X3 X4 X5 X6 X7 PT ST 0 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST (i 0).val 1) := by
  rw [body_first i arg2 harg2 arg3 harg3 arg4 harg4 arg5 harg5 arg6 harg6 arg7 harg7 arg10 harg10 arg12 harg12 ((cond1_iff i).mpr hC) (fun h => absurd ((cond2_iff i).mp h) (by omega)) (fun h => absurd ((cond3_iff i).mp h) (by omega))]
  unfold before after sideAt
  rw [fix_idle c arg10 PT (by omega), fix_mid c arg10 PT (Nat.succ_pos _)]
  iintro ⟨HS, ⟨HM, HG, HR, H12⟩, HW⟩
  iapply (exec_cut _ _ _ (clear_mid c i arg2 harg2 arg3 harg3 arg4 harg4 arg5 harg5 arg6 harg6 arg7 harg7 arg10 harg10 arg12 harg12 PT ((cond1_iff i).mpr hC) ok.zero)) $$ [HM]
  · iexact HM
  iintro %_ HM
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  sl_step
  isplitl [HS]; · iexact HS
  isplitr [HW]
  · isplitl [HM]; · iexact HM
    isplitl [HG]; · iexact HG
    isplitl [HR]; · iexact HR
    iexact H12
  iexists _; iexact HW

theorem pt_next (hT : 0 < (i 0).val) (hC : (i 1).val = 0) (W : Waits sig Unit)
    (ok : PtOK c i arg2 arg3 arg4 arg5 arg6 arg7 X2 X3 X4 X5 X6 X7 PT ST 0) :
    before c i arg2 arg3 arg4 arg5 arg6 arg7 arg10 arg12 X2 X3 X4 X5 X6 X7 PT ST 0 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST (i 0).val 1) := by
  have hi := i0_lt i
  have hb : (Ring.bk 12 ((i 0).val - 1)).val = (i 0).val - 1 := Ring.bk_val (by omega)
  rw [body_wait i arg2 harg2 arg3 harg3 arg4 harg4 arg5 harg5 arg6 harg6 arg7 harg7 arg10 harg10 arg12 harg12 (Ring.bk 12 ((i 0).val - 1)) (by omega) ((cond1_iff i).mpr hC) ((cond2_iff i).mpr hT) (fun h => absurd ((cond3_iff i).mp h) (by omega))]
  unfold before after sideAt
  rw [fix_fly c arg10 PT ⟨hT, hi⟩, fix_mid c arg10 PT (Nat.succ_pos _)]
  have hw := wait_idle (F := F) c arg10 harg10 PT (Ring.bk 12 ((i 0).val - 1)) W
  rw [show (Ring.bk 12 ((i 0).val - 1)).val + 1 = (i 0).val by omega] at hw
  iintro ⟨HS, ⟨HM, HG, HR, H12⟩, HW⟩
  iapply (exec_cut _ _ _ hw) $$ [HM HW]
  · isplitl [HM]; · iexact HM
    iexact HW
  iintro %_ ⟨HM, %W1, HW⟩
  iapply (exec_cut _ _ _ (clear_mid c i arg2 harg2 arg3 harg3 arg4 harg4 arg5 harg5 arg6 harg6 arg7 harg7 arg10 harg10 arg12 harg12 PT ((cond1_iff i).mpr hC) ok.zero)) $$ [HM]
  · iexact HM
  iintro %_ HM
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  sl_step
  isplitl [HS]; · iexact HS
  isplitr [HW]
  · isplitl [HM]; · iexact HM
    isplitl [HG]; · iexact HG
    isplitl [HR]; · iexact HR
    iexact H12
  iexists _; iexact HW

theorem pt_leave (hT : (i 0).val < 11) (hC : (i 1).val = 4) (W : Waits sig Unit)
    (ok : PtOK c i arg2 arg3 arg4 arg5 arg6 arg7 X2 X3 X4 X5 X6 X7 PT ST 4) :
    before c i arg2 arg3 arg4 arg5 arg6 arg7 arg10 arg12 X2 X3 X4 X5 X6 X7 PT ST 4 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST ((i 0).val + 1) 0) := by
  have h3 := (cond3_iff i).mpr hC
  rw [body_leave i arg2 harg2 arg3 harg3 arg4 harg4 arg5 harg5 arg6 harg6 arg7 harg7 arg10 harg10 arg12 harg12 (fun h => absurd ((cond1_iff i).mp h) (by omega)) h3 (fun h => absurd ((cond5_iff i).mp h) (by omega))]
  unfold before after sideAt
  rw [fix_mid c arg10 PT (by decide), fix_fly c arg10 PT ⟨Nat.succ_pos _, by omega⟩,
    show Ring.bk 12 ((i 0).val + 1 - 1) = tb i from Fin.ext (Ring.bk_val (by omega))]
  iintro ⟨HS, ⟨HM, HG, HR, H12⟩, HW⟩
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  iapply (leave_fly c i arg2 harg2 arg3 harg3 arg4 harg4 arg5 harg5 arg6 harg6 arg7 harg7 arg10 harg10 arg12 harg12 PT ST h3 _ W _) $$ [HM HG HR HW]
  · isplitl [HM]; · iexact HM
    isplitl [HG]; · iexact HG
    isplitl [HR]; · iexact HR
    iexact HW
  iintro ⟨HM, HG, HR, HW⟩
  sl_step
  isplitl [HS]; · iexact HS
  isplitr [HW]
  · isplitl [HM]; · iexact HM
    isplitl [HG]; · iexact HG
    isplitl [HR]; · iexact HR
    iexact H12
  iexact HW

theorem pt_last (hT : (i 0).val = 11) (hC : (i 1).val = 4) (W : Waits sig Unit)
    (ok : PtOK c i arg2 arg3 arg4 arg5 arg6 arg7 X2 X3 X4 X5 X6 X7 PT ST 4) :
    before c i arg2 arg3 arg4 arg5 arg6 arg7 arg10 arg12 X2 X3 X4 X5 X6 X7 PT ST 4 W
    ⊢ wp frame (wpE (defs₀ (F := F)) 𝒱₀ (c : Thread nD τ) none) Set.univ (bodyP i arg2 harg2 arg3 harg3 arg4 harg4 arg5 harg5 arg6 harg6 arg7 harg7 arg10 harg10 arg12 harg12)
      (fun _ => after c arg2 arg3 arg4 arg5 arg6 arg7 arg10 arg12 X2 X3 X4 X5 X6 X7 PT ST ((i 0).val + 1) 0) := by
  have h3 := (cond3_iff i).mpr hC
  rw [body_last i arg2 harg2 arg3 harg3 arg4 harg4 arg5 harg5 arg6 harg6 arg7 harg7 arg10 harg10 arg12 harg12 (fun h => absurd ((cond1_iff i).mp h) (by omega)) h3 ((cond5_iff i).mpr hT)]
  unfold before after sideAt
  rw [fix_mid c arg10 PT (by decide), fix_idle c arg10 PT (by omega)]
  iintro ⟨HS, ⟨HM, HG, HR, H12⟩, HW⟩
  iapply (work_mid c i arg2 harg2 arg3 harg3 arg4 harg4 arg5 harg5 arg6 harg6 arg7 harg7 arg10 harg10 arg12 harg12 X2 X3 X4 X5 X6 X7 PT ST _ ok _ _) $$ [HS H12 HM]
  · isplitl [HS]; · iexact HS
    isplitl [H12]; · iexact H12
    iexact HM
  iintro ⟨HS, H12, HM⟩
  iapply (leave_fly c i arg2 harg2 arg3 harg3 arg4 harg4 arg5 harg5 arg6 harg6 arg7 harg7 arg10 harg10 arg12 harg12 PT ST h3 _ W _) $$ [HM HG HR HW]
  · isplitl [HM]; · iexact HM
    isplitl [HG]; · iexact HG
    isplitl [HR]; · iexact HR
    iexact HW
  iintro ⟨HM, HG, HR, %W1, HW⟩
  iapply (exec_cut_last _ _ _ (wait_idle c arg10 harg10 PT (tb i) W1)) $$ [HM HW]
  · isplitl [HM]; · iexact HM
    iexact HW
  iintro %_ ⟨HM, HW⟩
  isplitl [HS]; · iexact HS
  isplitr [HW]
  · isplitl [HM]; · iexact HM
    isplitl [HG]; · iexact HG
    isplitl [HR]; · iexact HR
    iexact H12
  iexact HW
end Point

end Cert.KernelIdeal.Hand

end
-- ==== Proof.IdealMem.lean ====
module

public import proofs.«01_k».proof.Proof.IdealPoint

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! # The two results and the staging buffer, cut in their parts and put together again -/

theorem sepMono {I : Type} {s : Finset I} {Φ Ψ : I → sProp 𝕄} (h : ∀ i ∈ s, Φ i ⊢ Ψ i) : bigSep s Φ ⊢ bigSep s Ψ := bigSep_mono h

section Blocks
variable {ℓ : Loc nD τ sig} {B : Type} [Fintype B] [DecidableEq B] (I : B → Finset (Idx ℓ))
/-- Parts that cover a buffer, each held at contents with a property of its own, are the buffer held whole at contents with all of them. -/
theorem blocks_join_ok (hd : ∀ b b', b ≠ b' → Disjoint (I b) (I b')) (hc : Finset.univ.biUnion I = Finset.univ)
    (φ : B → Buf (Elt F) ℓ → Prop) (hφ : ∀ b f g, (∀ i ∈ I b, g i = f i) → φ b f → φ b g) (f₀ : Buf (Elt F) ℓ) :
    bigSep Finset.univ (fun b => iprop(∃ f, (ℓ ↦[I b]{fullShare} f) ∗ ⌜φ b f⌝)) ⊢ (iprop(∃ g, (ℓ ↦{fullShare} g) ∗ ⌜∀ b, φ b g⌝) : sProp 𝕄) := by
  have : Nonempty (Buf (Elt F) ℓ) := ⟨f₀⟩
  refine (Idealize.SL.BI.bigSep_exists_pi Finset.univ (fun b (f : Buf (Elt F) ℓ) => (iprop((ℓ ↦[I b]{fullShare} f) ∗ ⌜φ b f⌝) : sProp 𝕄))).trans ?_
  iintro ⟨%fs, H⟩
  ihave H1 := (sepMono (F := F) (s := Finset.univ) (Φ := fun b => iprop((ℓ ↦[I b]{fullShare} fs b) ∗ ⌜φ b (fs b)⌝))
    (Ψ := fun b => iprop(⌜φ b (fs b)⌝ ∗ (ℓ ↦[I b]{fullShare} fs b))) (fun b _ => by
      iintro ⟨H, %h⟩; isplitr; · ipureintro; exact h
      iexact H)) $$ H
  ihave H2 := (bigSep_pure_sep (M := 𝕄) Finset.univ (fun b => φ b (fs b)) (fun b => (ℓ ↦[I b]{fullShare} fs b))) $$ H1
  icases H2 with ⟨%hp, H3⟩
  ihave H4 := (pointsTo_biUnion_join (Ix := Unit) (Name := ℕ) (U := UU nD τ) (Lvl := ℕ) (q := fullShare) Finset.univ I fs f₀ (fun b _ b' _ h => hd b b' h)) $$ H3
  icases H4 with ⟨%g, %hg, H5⟩
  iexists g
  isplitl [H5]
  · iapply (eqE (F := F) (congrArg (fun S => (ℓ ↦[S]{fullShare} g : sProp 𝕄)) hc)); iexact H5
  ipureintro
  exact fun b => hφ b (fs b) g (hg b (Finset.mem_univ b)) (hp b (Finset.mem_univ b))
end Blocks

/-! ## The element sets -/

abbrev GS (p : Fin 12 × Fin 45) : Finset S12x45000x128.Idx := (Rect.unit (s := S12x45000x128) (slabO p.1 p.2) S1x1000x128.size (slab_inb p.1 p.2)).set
abbrev FS (T : Fin 12) : Finset S12x45000x128.Idx := (Rect.unit (s := S12x45000x128) (tabOff T.val) S1x45000x128.size (tab_inb T)).set
abbrev SS (s : Fin 3) : Finset S3x1000x128.Idx := (Rect.unit (s := S3x1000x128) (slotOff s) S1x1000x128.size (slotOff_inb s)).set

theorem slab_set (T : Fin 12) (s : Fin 45) : (slab T s).view.set = GS (T, s) := (View.set_reshape _ _).trans (View.set_slice_whole _ _)
theorem ftab_set (T : Fin 12) : (ftab T).view.set = FS T := (View.set_reshape _ _).trans (View.set_slice_whole _ _)
theorem rslot_set (s : Fin 3) : (rslot s).view.set = SS s := (View.set_reshape _ _).trans (View.set_slice_whole _ _)

theorem mem_GS (p : Fin 12 × Fin 45) (y : S12x45000x128.Idx) : y ∈ GS p ↔ (y 0).val = p.1.val ∧ (y 1).val / 1000 = p.2.val := by
  rw [Rect.mem_set_unit]
  have h1 : (y 1).val < 45000 := (y 1).isLt
  have h2 : (y 2).val < 128 := (y 2).isLt
  constructor
  · intro H
    have a0 : p.1.val ≤ (y 0).val ∧ (y 0).val < p.1.val + 1 := H 0
    have a1 : 1000 * p.2.val ≤ (y 1).val ∧ (y 1).val < 1000 * p.2.val + 1000 := H 1
    omega
  · intro H i; fin_cases i
    · show p.1.val ≤ (y 0).val ∧ (y 0).val < p.1.val + 1; omega
    · show 1000 * p.2.val ≤ (y 1).val ∧ (y 1).val < 1000 * p.2.val + 1000; omega
    · show 0 ≤ (y 2).val ∧ (y 2).val < 0 + 128; omega
theorem mem_FS (T : Fin 12) (y : S12x45000x128.Idx) : y ∈ FS T ↔ (y 0).val = T.val := by
  rw [Rect.mem_set_unit]
  have h1 : (y 1).val < 45000 := (y 1).isLt
  have h2 : (y 2).val < 128 := (y 2).isLt
  constructor
  · intro H; have a0 : T.val ≤ (y 0).val ∧ (y 0).val < T.val + 1 := H 0; omega
  · intro H i; fin_cases i
    · show T.val ≤ (y 0).val ∧ (y 0).val < T.val + 1; omega
    · show 0 ≤ (y 1).val ∧ (y 1).val < 0 + 45000; omega
    · show 0 ≤ (y 2).val ∧ (y 2).val < 0 + 128; omega
theorem mem_SS (s : Fin 3) (y : S3x1000x128.Idx) : y ∈ SS s ↔ (y 0).val = s.val := by
  rw [Rect.mem_set_unit]
  have h1 : (y 1).val < 1000 := (y 1).isLt
  have h2 : (y 2).val < 128 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1000; omega
    · show 0 ≤ (y 2).val ∧ (y 2).val < 0 + 128; omega

theorem GS_disjoint : ∀ p p' : Fin 12 × Fin 45, p ≠ p' → Disjoint (GS p) (GS p') := by
  intro p p' hne; rw [Finset.disjoint_left]; intro y hy hy'; rw [mem_GS] at hy hy'
  exact hne (Prod.ext (Fin.ext (hy.1.symm.trans hy'.1)) (Fin.ext (hy.2.symm.trans hy'.2)))
theorem GS_cover : (Finset.univ : Finset (Fin 12 × Fin 45)).biUnion GS = Finset.univ := by
  ext y; simp only [Finset.mem_biUnion, Finset.mem_univ, true_and, iff_true]
  have h1 : (y 1).val < 45000 := (y 1).isLt
  exact ⟨((y 0).cast (by decide), ⟨(y 1).val / 1000, by omega⟩), by rw [mem_GS]; exact ⟨rfl, rfl⟩⟩
theorem FS_disjoint : ∀ T T' : Fin 12, T ≠ T' → Disjoint (FS T) (FS T') := by
  intro b b' hne; rw [Finset.disjoint_left]; intro y hy hy'; rw [mem_FS] at hy hy'; exact hne (Fin.ext (hy.symm.trans hy'))
theorem FS_cover : (Finset.univ : Finset (Fin 12)).biUnion FS = Finset.univ := by
  ext y; simp only [Finset.mem_biUnion, Finset.mem_univ, true_and, iff_true]; exact ⟨(y 0).cast (by decide), by rw [mem_FS]; rfl⟩
theorem SS_disjoint : ∀ s s' : Fin 3, s ≠ s' → Disjoint (SS s) (SS s') := by
  intro b b' hne; rw [Finset.disjoint_left]; intro y hy hy'; rw [mem_SS] at hy hy'; exact hne (Fin.ext (hy.symm.trans hy'))
theorem SS_cover : (Finset.univ : Finset (Fin 3)).biUnion SS = Finset.univ := by
  ext y; simp only [Finset.mem_biUnion, Finset.mem_univ, true_and, iff_true]; exact ⟨(y 0).cast (by decide), by rw [mem_SS]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

section Split
variable (c : Dev nD)
theorem slotP_eq (s : Fin 3) (f) : slotP c s f = (((c : Thread nD τ).loc cc0_scratch1) ↦[SS s]{fullShare} f : sProp 𝕄) :=
  congrArg (fun S => (_ ↦[S]{fullShare} f : sProp 𝕄)) (rslot_set s)
theorem slabP_eq (T : Fin 12) (s : Fin 45) (f) : slabP c T s f = (((c : Thread nD τ).loc main_v57_0) ↦[GS (T, s)]{fullShare} f : sProp 𝕄) :=
  congrArg (fun S => (_ ↦[S]{fullShare} f : sProp 𝕄)) (slab_set T s)
theorem tabP_eq (T : Fin 12) (f) : tabP c T f = (((c : Thread nD τ).loc main_v57_1) ↦[FS T]{fullShare} f : sProp 𝕄) :=
  congrArg (fun S => (_ ↦[S]{fullShare} f : sProp 𝕄)) (ftab_set T)

theorem grad_split (f : Buf (Elt F) ((c : Thread nD τ).loc main_v57_0)) :
    (((c : Thread nD τ).loc main_v57_0) ↦{fullShare} f : sProp 𝕄) ⊢ bigSep Finset.univ (grA c) := by
  rw [Ring.pointsTo_blocks (ℓ := (c : Thread nD τ).loc main_v57_0) GS GS_disjoint GS_cover, bigSep_univ_prod]
  refine sepMono fun T _ => sepMono fun s _ => ?_
  rw [show (((c : Thread nD τ).loc main_v57_0) ↦[GS (T, s)]{fullShare} f : sProp 𝕄) = slabP c T s f from (slabP_eq c T s f).symm]
  iintro H; iexists f; iexact H
theorem fix_split (f : Buf (Elt F) ((c : Thread nD τ).loc main_v57_1)) :
    (((c : Thread nD τ).loc main_v57_1) ↦{fullShare} f : sProp 𝕄) ⊢ bigSep Finset.univ (tabA c) := by
  rw [Ring.pointsTo_blocks (ℓ := (c : Thread nD τ).loc main_v57_1) FS FS_disjoint FS_cover]
  refine sepMono fun T _ => ?_
  rw [show (((c : Thread nD τ).loc main_v57_1) ↦[FS T]{fullShare} f : sProp 𝕄) = tabP c T f from (tabP_eq c T f).symm]
  iintro H; iexists f; iexact H
theorem stage_split :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ ∃ f, slotP c 2 f) : sProp 𝕄) := by
  iintro ⟨%f, H⟩
  ihave H2 := (eqE (F := F) ((Ring.pointsTo_blocks (Ix := Unit) (Name := ℕ) (U := UU nD τ) (Lvl := ℕ) (q := fullShare) (ℓ := (c : Thread nD τ).loc cc0_scratch1) SS SS_disjoint SS_cover f).trans (bigSep_fin3 _))) $$ H
  icases H2 with ⟨H0, H1, H2⟩
  isplitl [H0]
  · iexists f; iapply (eqE (F := F) (slotP_eq c 0 f).symm); iexact H0
  isplitl [H1]
  · iexists f; iapply (eqE (F := F) (slotP_eq c 1 f).symm); iexact H1
  · iexists f; iapply (eqE (F := F) (slotP_eq c 2 f).symm); iexact H2
theorem stage_join :
    iprop((∃ f, slotP c 0 f) ∗ (∃ f, slotP c 1 f) ∗ ∃ f, slotP c 2 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch1) SS SS_disjoint SS_cover f0)
  irw [bigSep_fin3]
  isplitl [H0]
  · iexists f0; iapply (eqE (F := F) (slotP_eq c 0 f0)); iexact H0
  isplitl [H1]
  · iexists f1; iapply (eqE (F := F) (slotP_eq c 1 f1)); iexact H1
  · iexists f2; iapply (eqE (F := F) (slotP_eq c 2 f2)); iexact H2

variable (PT : ℕ → ℕ → Acc) (ST : ℕ → Elt F .f32)
/-- What the whole results hold at the end, table by table and slab by slab. -/
def GradOK (g : Buf (Elt F) ((c : Thread nD τ).loc main_v57_0)) : Prop :=
  ∀ p : Fin 12 × Fin 45, (slab p.1 p.2).view.read (Elt F) g = gslab (ST p.1.val) (PT p.1.val 5) p.2
def FixOK (g : Buf (Elt F) ((c : Thread nD τ).loc main_v57_1)) : Prop :=
  ∀ T : Fin 12, (ftab T).view.read (Elt F) g = PT T.val 5

theorem grad_join (f₀ : Buf (Elt F) ((c : Thread nD τ).loc main_v57_0)) :
    bigSep Finset.univ (grD c PT ST) ⊢ (iprop(∃ g, (((c : Thread nD τ).loc main_v57_0) ↦{fullShare} g) ∗ ⌜GradOK c PT ST g⌝) : sProp 𝕄) := by
  refine (show _ ⊢ _ from ?_).trans (blocks_join_ok (ℓ := (c : Thread nD τ).loc main_v57_0) GS GS_disjoint GS_cover
    (fun p g => (slab p.1 p.2).view.read (Elt F) g = gslab (ST p.1.val) (PT p.1.val 5) p.2)
    (fun p f g h hf => (View.read_congr (v := (slab p.1 p.2).view) (fun i hi => h i (by rw [← slab_set]; exact hi))).trans hf) f₀)
  rw [bigSep_univ_prod]
  refine sepMono fun T _ => sepMono fun s _ => ?_
  iintro ⟨%g, H, %h⟩
  iexists g
  isplitl [H]; · iapply (eqE (F := F) (slabP_eq c T s g)); iexact H
  ipureintro; exact h
theorem fix_join (f₀ : Buf (Elt F) ((c : Thread nD τ).loc main_v57_1)) :
    bigSep Finset.univ (tabD c PT) ⊢ (iprop(∃ g, (((c : Thread nD τ).loc main_v57_1) ↦{fullShare} g) ∗ ⌜FixOK c PT g⌝) : sProp 𝕄) := by
  refine (show _ ⊢ _ from ?_).trans (blocks_join_ok (ℓ := (c : Thread nD τ).loc main_v57_1) FS FS_disjoint FS_cover
    (fun T g => (ftab T).view.read (Elt F) g = PT T.val 5)
    (fun T f g h hf => (View.read_congr (v := (ftab T).view) (fun i hi => h i (by rw [← ftab_set]; exact hi))).trans hf) f₀)
  refine sepMono fun T _ => ?_
  iintro ⟨%g, H, %h⟩
  iexists g
  isplitl [H]; · iapply (eqE (F := F) (tabP_eq c T g)); iexact H
  ipureintro; exact h
end Split

end Cert.KernelIdeal.Hand

end
-- ==== Proof.IdealLaunch.lean ====
module

public import proofs.«01_k».proof.Proof.IdealMem
public import proofs.«01_k».proof.Proof.Gen.KernelIdeal.Frame
public import Idealize.ShloMosaic.Lib.Pipeline.KitQuiescent

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## The kernel's own semaphores -/

abbrev osem : Fin 4 → SemLoc sig := fun | 0 => .dma cc0_scratch3.sem | 1 => .dma (csm 0).sem | 2 => .dma (csm 1).sem | 3 => .dma (csm 2).sem
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(fcell c ∗ cellP c 0 ∗ cellP c 1 ∗ cellP c 2) := by
  unfold Pipeline.ownSems0; rw [bigSep_fin4]

/-! ## The staged blocks of a point -/

abbrev st0 (t : Fin cfg0.N) : Memref sig .tc .smem S12x160 .i32 := win0_0.stage (cfg0.slots t 0)
abbrev st1 (t : Fin cfg0.N) : Memref sig .tc .smem S12x160 .f32 := win0_1.stage (cfg0.slots t 1)
abbrev st2 (t : Fin cfg0.N) : Memref sig .tc .smem S1x12 .f32 := win0_2.stage (cfg0.slots t 2)
abbrev st3 (t : Fin cfg0.N) : Memref sig .tc .smem S1x32x384 .i32 := win0_3.stage (cfg0.slots t 3)
abbrev st4 (t : Fin cfg0.N) : Memref sig .tc .vmem S1x32x128 .fp8e5m2 := win0_4.stage (cfg0.slots t 4)
abbrev st5 (t : Fin cfg0.N) : Memref sig .tc .vmem S1x32x48x128 .f32 := win0_5.stage (cfg0.slots t 5)

abbrev b0 (c : Dev nD) (t : Fin cfg0.N) : S12x160.Idx → Elt F .i32 := iblk m c 0 t
abbrev b1 (c : Dev nD) (t : Fin cfg0.N) : S12x160.Idx → Elt F .f32 := iblk m c 1 t
abbrev b2 (c : Dev nD) (t : Fin cfg0.N) : S1x12.Idx → Elt F .f32 := iblk m c 2 t
abbrev b3 (c : Dev nD) (t : Fin cfg0.N) : S1x32x384.Idx → Elt F .i32 := iblk m c 3 t
abbrev b4 (c : Dev nD) (t : Fin cfg0.N) : S1x32x128.Idx → Elt F .fp8e5m2 := iblk m c 4 t
abbrev b5 (c : Dev nD) (t : Fin cfg0.N) : S1x32x48x128.Idx → Elt F .f32 := iblk m c 5 t

/-! ## The points -/

theorem pt0 (t : Fin cfg0.N) : (grid0.coords t 0).val = t.val / 5 := by
  have h : t.val < 60 := t.isLt
  rw [show (grid0.coords t 0).val = t.val / 5 % 12 from Pipeline.Grid.coords_val t 0 (by decide) rfl]; omega
theorem pt1 (t : Fin cfg0.N) : (grid0.coords t 1).val = t.val % 5 := by
  rw [show (grid0.coords t 1).val = t.val / 1 % 5 from Pipeline.Grid.coords_val t 1 (by decide) rfl]; omega

/-- The point of table `T`'s group of bags `C`. -/
def pointOf (T C : ℕ) : Fin cfg0.N := ⟨(5 * T + C) % 60, Nat.mod_lt _ (by decide)⟩
theorem pointOf_eq (t : Fin cfg0.N) : pointOf (t.val / 5) (t.val % 5) = t := by
  have h : t.val < 60 := t.isLt
  exact Fin.ext (show (5 * (t.val / 5) + t.val % 5) % 60 = t.val by omega)

/-- One point's bags, off its blocks. -/
def ptStep (c : Dev nD) (t : Fin cfg0.N) (A : Acc) : Acc :=
  bags (b2 m c t (stepAt (grid0.coords t))) (fun b => b0 m c t (bagAt (grid0.coords t) b)) (fun b x => k0_pay2 (b4 m c t) (gfAt b (x 1)))
    (fun b => b1 m c t (bagAt (grid0.coords t) b)) (fun b p => b3 m c t (idAt b p)) (fun b p => b5 m c t (wAt b p)) A 32
/-- Table `T`'s counts after its first `C` groups of bags; -/
def PTm (c : Dev nD) (T : ℕ) : ℕ → Acc
  | 0 => fun _ => 0#32
  | C + 1 => ptStep m c (pointOf T C) (PTm c T C)
/-- its grid. -/
def STm (c : Dev nD) (T : ℕ) : Elt F .f32 := b2 m c (pointOf T 0) (stepAt (grid0.coords (pointOf T 0)))

/-- What the run asks of the lengths and of the ids as the region finds them. -/
structure InOK : Prop where
  len : ∀ (c : Dev nD) (x : S12x160.Idx), ((V m c main_v54 : S12x160.Idx → BitVec 32) x).toInt ≤ 384
  id : ∀ (c : Dev nD) (x : S12x160x384.Idx), ((V m c main_v49 : S12x160x384.Idx → BitVec 32) x).toNat < 45000

theorem b0_ok (h : InOK m) (c : Dev nD) (t : Fin cfg0.N) (x : S12x160.Idx) : (b0 m c t x).toInt ≤ 384 := by
  unfold b0 iblk; rw [View.read_apply]; exact h.len c _
theorem b3_ok (h : InOK m) (c : Dev nD) (t : Fin cfg0.N) (x : S1x32x384.Idx) : (b3 m c t x).toNat < 45000 := by
  unfold b3 iblk; rw [View.read_apply]; exact h.id c _

theorem step_eq (c : Dev nD) (t : Fin cfg0.N) : b2 m c t (stepAt (grid0.coords t)) = STm m c (t.val / 5) := by
  have h : t.val < 60 := t.isLt
  unfold STm
  have e : stepAt (grid0.coords (pointOf (t.val / 5) 0)) = stepAt (grid0.coords t) := by
    funext a
    have e0 : (grid0.coords (pointOf (t.val / 5) 0) 0).val = (grid0.coords t 0).val := by
      rw [pt0, pt0]; show (5 * (t.val / 5) + 0) % 60 / 5 = t.val / 5; omega
    unfold stepAt
    fin_cases a
    · rfl
    · exact Fin.ext (congrArg (fun n => n % 12) e0)
  rw [e]; rfl

theorem ptOK (h : InOK m) (c : Dev nD) (t : Fin cfg0.N) :
    PtOK c (grid0.coords t) (st0 t) (st1 t) (st2 t) (st3 t) (st4 t) (st5 t) ((st0 t).view.rep (b0 m c t)) ((st1 t).view.rep (b1 m c t))
      ((st2 t).view.rep (b2 m c t)) ((st3 t).view.rep (b3 m c t)) ((st4 t).view.rep (b4 m c t)) ((st5 t).view.rep (b5 m c t)) (PTm m c) (STm m c) (t.val % 5) where
  len x := by rw [View.read_rep]; exact b0_ok m h c t x
  id x := by rw [View.read_rep]; exact b3_ok m h c t x
  zero _ := rfl
  next := by
    unfold ptAcc bagsG ids wts
    simp only [View.read_rep]
    rw [pt0]
    show _ = ptStep m c (pointOf (t.val / 5) (t.val % 5)) (PTm m c (t.val / 5) (t.val % 5))
    rw [pointOf_eq]; rfl
  step := by rw [View.read_rep, pt0]; exact step_eq m c t

/-! ## The pipeline's proof data -/

/-- What holds before point `t` (after the last one at 60). -/
def ΦG (c : Dev nD) (n : ℕ) : sProp 𝕄 := sideAt c accM gfM (PTm m c) (STm m c) (n / 5) (n % 5)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := ΦG m c t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans
    (by unfold Dat.fetched Dat.blockOf iblk; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rfl) t d).trans
    (by unfold Dat.fetched Dat.blockOf iblk; rfl)
theorem before_w5 (c : Dev nD) (t : Fin cfg0.N) (d) : (dats m 0 c).before 5 t d = iblk m c 5 t :=
  ((dats m 0 c).before_in_eq_fetched 5 rfl (fun _ => rfl) (fun _ _ _ => rfl) (fun t => by rw [after_w5]; unfold Dat.blockOf iblk; rfl) t d).trans
    (by unfold Dat.fetched Dat.blockOf iblk; rfl)

/-! ## The body at a point -/

abbrev bodyOn (t : Fin cfg0.N) : Prog (TpuEff nD τ sig (Elt F) Λ₀ .tc) PUnit :=
  bodyP (grid0.coords t) (st0 t) (hstage0_0 ((cfg0.slots t 0).cast nbuf0_0)) (st1 t) (hstage0_1 ((cfg0.slots t 1).cast nbuf0_1)) (st2 t) (hstage0_2 ((cfg0.slots t 2).cast nbuf0_2))
    (st3 t) (hstage0_3 ((cfg0.slots t 3).cast nbuf0_3)) (st4 t) (hstage0_4 ((cfg0.slots t 4).cast nbuf0_4)) (st5 t) (hstage0_5 ((cfg0.slots t 5).cast nbuf0_5))
    accM (Memref.isWhole_whole _) gfM (Memref.isWhole_whole _)
theorem prog_eq (t : Fin cfg0.N) : (defs₀ (F := F)) .tc cfg0.body (cfg0.bodyArgs t (cfg0.slots t)) = bodyOn t :=
  (show (defs₀ (F := F)) .tc cfg0.body (cfg0.bodyArgs t (cfg0.slots t)) = bodyAt0 t by unfold defs₀; rw [Defs.onTc_tc]).trans
    (by unfold bodyAt0 bodyOn bodyP; rw [cc0_bag_scatter_eq_skeleton])

theorem point_run (h : InOK m) (c : Dev nD) (t : Fin cfg0.N) (W : Waits sig Unit) :
    (iprop(stP c (st0 t) (st1 t) (st2 t) (st3 t) (st4 t) (st5 t) ((st0 t).view.rep (b0 m c t)) ((st1 t).view.rep (b1 m c t))
        ((st2 t).view.rep (b2 m c t)) ((st3 t).view.rep (b3 m c t)) ((st4 t).view.rep (b4 m c t)) ((st5 t).view.rep (b5 m c t))
      ∗ ΦG m c t.val ∗ owes (c : Thread nD τ) 0 W) : sProp 𝕄)
    ⊢ wp frame (wpE (defs₀ (F := F)) 𝒱₀ (c : Thread nD τ) none) Set.univ (bodyOn t)
      (fun _ => iprop(stP c (st0 t) (st1 t) (st2 t) (st3 t) (st4 t) (st5 t) ((st0 t).view.rep (b0 m c t)) ((st1 t).view.rep (b1 m c t))
        ((st2 t).view.rep (b2 m c t)) ((st3 t).view.rep (b3 m c t)) ((st4 t).view.rep (b4 m c t)) ((st5 t).view.rep (b5 m c t))
      ∗ ΦG m c (t.val + 1) ∗ ∃ W, owes (c : Thread nD τ) 0 W)) := by
  have ht : t.val < 60 := t.isLt
  have ok := ptOK m h c t
  have p0 := pt0 t
  have p1 := pt1 t
  unfold ΦG
  by_cases hC : t.val % 5 = 0
  · rw [show (t.val + 1) / 5 = t.val / 5 by omega, show (t.val + 1) % 5 = 1 by omega, hC, ← p0]
    rw [hC] at ok
    by_cases hT : t.val / 5 = 0
    · exact pt_first c (grid0.coords t) _ _ _ _ _ _ _ _ _ _ _ _ _ _ _ _ _ _ _ _ _ _ _ _ (by omega) (by omega) W ok
    · exact pt_next c (grid0.coords t) _ _ _ _ _ _ _ _ _ _ _ _ _ _ _ _ _ _ _ _ _ _ _ _ (by omega) (by omega) W ok
  · by_cases hC4 : t.val % 5 = 4
    · rw [show (t.val + 1) / 5 = t.val / 5 + 1 by omega, show (t.val + 1) % 5 = 0 by omega, hC4, ← p0]
      rw [hC4] at ok
      by_cases hT : t.val / 5 = 11
      · exact pt_last c (grid0.coords t) _ _ _ _ _ _ _ _ _ _ _ _ _ _ _ _ _ _ _ _ _ _ _ _ (by omega) (by omega) W ok
      · exact pt_leave c (grid0.coords t) _ _ _ _ _ _ _ _ _ _ _ _ _ _ _ _ _ _ _ _ _ _ _ _ (by omega) (by omega) W ok
    · rw [show (t.val + 1) / 5 = t.val / 5 by omega, show (t.val + 1) % 5 = t.val % 5 + 1 by omega, ← p0, ← p1]
      rw [← p1] at ok
      exact pt_mid c (grid0.coords t) _ _ _ _ _ _ _ _ _ _ _ _ _ _ _ _ _ _ _ _ _ _ _ _ (by omega) (by omega) W ok

end Launch

end Cert.KernelIdeal.Hand

end
-- ==== Proof.IdealRun.lean ====
module

public import proofs.«01_k».proof.Proof.IdealLaunch

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

/-! ## The body obligation -/

set_option backward.isDefEq.respectTransparency.types false in
theorem body_obligation (h : InOK m) (c : Dev nD) : BodyObligation (dats m 0 c) (defs₀ (F := F)) 𝒱₀ () Set.univ := fun t => by
  rw [bigSep_W0, bigSep_W0]
  dsimp only
  simp only [before_w0, before_w1, before_w2, before_w3, before_w4, before_w5, after_w0, after_w1, after_w2, after_w3, after_w4, after_w5]
  rw [show (dats m 0 c).Φ t.castSucc = ΦG m c t.val from rfl, show (dats m 0 c).Φ t.succ = ΦG m c (t.val + 1) from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  ihave H0' := (pointsTo_rep_entails (c : Thread nD τ) (st0 t) g0 fullShare) $$ H0
  ihave H1' := (pointsTo_rep_entails (c : Thread nD τ) (st1 t) g1 fullShare) $$ H1
  ihave H2' := (pointsTo_rep_entails (c : Thread nD τ) (st2 t) g2 fullShare) $$ H2
  ihave H3' := (pointsTo_rep_entails (c : Thread nD τ) (st3 t) g3 fullShare) $$ H3
  ihave H4' := (pointsTo_rep_entails (c : Thread nD τ) (st4 t) g4 fullShare) $$ H4
  ihave H5' := (pointsTo_rep_entails (c : Thread nD τ) (st5 t) g5 fullShare) $$ H5
  rw [hg0, hg1, hg2, hg3, hg4, hg5]
  sl_rw [prog_eq t]
  iapply (wp_wand_r Idealize.ShloMosaic.frame (wpE (defs₀ (F := F)) 𝒱₀ (c : Thread nD τ) none) Set.univ)
  isplitl [HΦ HW H0' H1' H2' H3' H4' H5']
  · iapply (point_run m h c t W)
    isplitl [H0' H1' H2' H3' H4' H5']
    · isplitl [H0']; · iexact H0'
      isplitl [H1']; · iexact H1'
      isplitl [H2']; · iexact H2'
      isplitl [H3']; · iexact H3'
      isplitl [H4']; · iexact H4'
      iexact H5'
    isplitl [HΦ]; · iexact HΦ
    iexact HW
  iintro %_ ⟨⟨H0, H1, H2, H3, H4, H5⟩, HΦ, ⟨%W', HW⟩⟩
  isplitl [HΦ]; · iexact HΦ
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  iexists _; isplitr; · ipureintro; exact View.read_rep _ _
  iexact H5

/-! ## The run -/

/-- The two arrays the kernel writes itself. -/
def H2 : Finset (Ref sig .tc) := {main_v57_0, main_v57_1}
theorem H2_sub : H2 ⊆ Pipeline.restRefs sig spec0 := by decide
def rest2 : Finset (Ref sig .tc) := Pipeline.restRefs sig spec0 \ H2
theorem mem_rest2 {b : Ref sig .tc} (h : b ∈ Pipeline.restRefs sig spec0) (hn : b ∉ H2) : b ∈ rest2 := Finset.mem_sdiff.mpr ⟨h, hn⟩

theorem unscoped_eq (c : Dev nD) (V : (b : Ref sig .tc) → Buf (Elt F) ((c : Thread nD τ).loc b)) :
    (Pipeline.unscopedRest (Ix := Unit) (Name := ℕ) (U := UU nD τ) (Lvl := ℕ) spec0 c V : sProp 𝕄)
      = iprop(((((c : Thread nD τ).loc main_v57_0) ↦{fullShare} V main_v57_0) ∗ (((c : Thread nD τ).loc main_v57_1) ↦{fullShare} V main_v57_1))
          ∗ bigSep rest2 fun b => ((c : Thread nD τ).loc b) ↦{fullShare} V b) := by
  classical
  have e : (Pipeline.unscopedRest (Ix := Unit) (Name := ℕ) (U := UU nD τ) (Lvl := ℕ) spec0 c V : sProp 𝕄)
      = iprop((bigSep H2 fun b => ((c : Thread nD τ).loc b) ↦{fullShare} V b)
          ∗ bigSep rest2 fun b => ((c : Thread nD τ).loc b) ↦{fullShare} V b) := by
    unfold Pipeline.unscopedRest; exact BI.bigSep_sdiff_split H2_sub
  rw [e, BI.bigSep_eq_bigSepL_of_eq [main_v57_0, main_v57_1] (by decide) (by decide)]
  rfl

theorem Lo_zero : Lo 0 = ∅ := by decide
theorem Hi_zero : Hi 0 = Finset.univ := by decide
theorem Lo_all : Lo 12 = Finset.univ := by decide
theorem Hi_all : Hi 12 = ∅ := by decide

def intoΦ (c : Dev nD) : sProp 𝕄 :=
  iprop(((((c : Thread nD τ).loc main_v57_0) ↦{fullShare} V m c main_v57_0) ∗ (((c : Thread nD τ).loc main_v57_1) ↦{fullShare} V m c main_v57_1)) ∗ Pipeline.ownSems0 osem c)
def outOfΦ (c : Dev nD) : sProp 𝕄 :=
  iprop((∃ g, (((c : Thread nD τ).loc main_v57_0) ↦{fullShare} g) ∗ ⌜GradOK c (PTm m c) (STm m c) g⌝) ∗ (∃ g, (((c : Thread nD τ).loc main_v57_1) ↦{fullShare} g) ∗ ⌜FixOK c (PTm m c) g⌝))

theorem Φ_zero (c : Dev nD) : ΦG m c 0 = iprop((anyAcc c accM ∗ fcell c ∗ bigSep (Lo 0) (tabD c (PTm m c)) ∗ bigSep (Hi 0) (tabA c))
    ∗ (bigSep (Lo 0) (grD c (PTm m c) (STm m c)) ∗ bigSep (Hi 0) (grA c)) ∗ homes c ∗ anyScr c gfM) := by
  unfold ΦG sideAt fixAt
  rw [if_neg (by decide), if_neg (by decide)]; rfl
theorem Φ_last (c : Dev nD) : ΦG m c 60 = iprop((anyAcc c accM ∗ fcell c ∗ bigSep (Lo 12) (tabD c (PTm m c)) ∗ bigSep (Hi 12) (tabA c))
    ∗ (bigSep (Lo 12) (grD c (PTm m c) (STm m c)) ∗ bigSep (Hi 12) (grA c)) ∗ homes c ∗ anyScr c gfM) := by
  unfold ΦG sideAt fixAt
  rw [if_neg (by decide), if_neg (by decide)]; rfl

theorem into_Φ (c : Dev nD) : iprop(intoΦ m c ∗ Pipeline.scopedRest spec0 c) ⊢ ΦG m c 0 := by
  rw [scopedRest0_eq, Φ_zero, Lo_zero, Hi_zero, BI.bigSep_empty, BI.bigSep_empty]
  unfold intoΦ; rw [ownSems0_eq]
  iintro ⟨⟨⟨Hg, Hf⟩, Hfc, Hc0, Hc1, Hc2⟩, ⟨%a, Ha⟩, Hs, ⟨%s, Hscr⟩⟩
  ihave Hs3 := (stage_split c) $$ Hs
  icases Hs3 with ⟨Hs0, Hs1, Hs2⟩
  ihave Hg' := (grad_split c _) $$ Hg
  ihave Hf' := (fix_split c _) $$ Hf
  isplitl [Ha Hfc Hf']
  · isplitl [Ha]
    · iexists a; iapply (eqE (F := F) (show (((c : Thread nD τ).loc cc0_scratch0) ↦{fullShare} a : sProp 𝕄) = (accM.view.loc (c : Thread nD τ) ↦[accM.view.set]{fullShare} a) from by rw [View.set_whole])); iexact Ha
    isplitl [Hfc]; · iexact Hfc
    isplitr; · iempintro
    iexact Hf'
  isplitl [Hg']
  · isplitr; · iempintro
    iexact Hg'
  isplitl [Hc0 Hc1 Hc2 Hs0 Hs1 Hs2]
  · isplitl [Hc0 Hs0]
    · isplitl [Hs0]; · iexact Hs0
      iexact Hc0
    isplitl [Hc1 Hs1]
    · isplitl [Hs1]; · iexact Hs1
      iexact Hc1
    isplitl [Hs2]; · iexact Hs2
    iexact Hc2
  iexists s; iapply (eqE (F := F) (show (((c : Thread nD τ).loc cc0_scratch2) ↦{fullShare} s : sProp 𝕄) = (gfM.view.loc (c : Thread nD τ) ↦[gfM.view.set]{fullShare} s) from by rw [View.set_whole])); iexact Hscr

theorem out_Φ (c : Dev nD) : ΦG m c 60 ⊢ (iprop(outOfΦ m c ∗ Pipeline.ownSems0 osem c ∗ Pipeline.scopedRest spec0 c) : sProp 𝕄) := by
  rw [scopedRest0_eq, Φ_last, Lo_all, Hi_all, BI.bigSep_empty, BI.bigSep_empty]
  unfold outOfΦ; rw [ownSems0_eq]
  iintro ⟨⟨⟨%a, Ha⟩, Hfc, Hf, -⟩, ⟨Hg, -⟩, ⟨⟨Hs0, Hc0⟩, ⟨Hs1, Hc1⟩, ⟨Hs2, Hc2⟩⟩, ⟨%s, Hscr⟩⟩
  ihave Hg' := (grad_join c (PTm m c) (STm m c) (V m c main_v57_0)) $$ Hg
  ihave Hf' := (fix_join c (PTm m c) (V m c main_v57_1)) $$ Hf
  isplitl [Hg' Hf']
  · isplitl [Hg']; · iexact Hg'
    iexact Hf'
  isplitl [Hfc Hc0 Hc1 Hc2]
  · isplitl [Hfc]; · iexact Hfc
    isplitl [Hc0]; · iexact Hc0
    isplitl [Hc1]; · iexact Hc1
    iexact Hc2
  isplitl [Ha]
  · iexists a; iapply (eqE (F := F) (show (accM.view.loc (c : Thread nD τ) ↦[accM.view.set]{fullShare} a : sProp 𝕄) = (((c : Thread nD τ).loc cc0_scratch0) ↦{fullShare} a) from by rw [View.set_whole])); iexact Ha
  isplitl [Hs0 Hs1 Hs2]
  · iapply (stage_join c)
    isplitl [Hs0]; · iexact Hs0
    isplitl [Hs1]; · iexact Hs1
    iexact Hs2
  iexists s; iapply (eqE (F := F) (show (gfM.view.loc (c : Thread nD τ) ↦[gfM.view.set]{fullShare} s : sProp 𝕄) = (((c : Thread nD τ).loc cc0_scratch2) ↦{fullShare} s) from by rw [View.set_whole])); iexact Hscr

def u₀ : UU nD τ := (initOf (Pipeline.cells cfgs cellOf_inj) (Pipeline.launchToks cfgs cellOf_inj), 1)
/-- The two written arrays at the computed contents, every buffer that is neither theirs nor staged as the region finds it. -/
def QY (c : Dev nD) (s : MemSt nD τ sig (Elt F)) : Prop :=
  GradOK c (PTm m c) (STm m c) (s.mem ((c : Thread nD τ).loc main_v57_0)) ∧ FixOK c (PTm m c) (s.mem ((c : Thread nD τ).loc main_v57_1))
    ∧ ∀ b ∈ rest2, s.mem ((c : Thread nD τ).loc b) = V m c b

set_option maxHeartbeats 800000 in
theorem hmainU : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

theorem hX (c : Dev nD) : iprop(Pipeline.unscopedRest spec0 c (V m c) ∗ Pipeline.ownSems0 osem c ∗ levels0 c ∗ prngReg c (ρ c) ∗ BI.emp)
    ⊢ (iprop(|={Set.univ}=> (intoΦ m c ∗ bigSep rest2 fun b => ((c : Thread nD τ).loc b) ↦{fullShare} V m c b)) : sProp 𝕄) := by
  rw [unscoped_eq c]
  unfold intoΦ
  iintro ⟨⟨H0, HZ⟩, HS, -, -, -⟩; imodintro
  isplitl [H0 HS]
  · isplitl [H0]; · iexact H0
    iexact HS
  iexact HZ
theorem hY (c : Dev nD) (s' : Phys nD τ sig (Elt F)) :
    iprop(outOfΦ m c ∗ (bigSep rest2 fun b => ((c : Thread nD τ).loc b) ↦{fullShare} V m c b) ∗ SI s')
    ⊢ (iprop(|={Set.univ}=> (⌜QY m c s'.mem⌝ ∗ SI s')) : sProp 𝕄) := by
  unfold outOfΦ
  iintro ⟨⟨⟨%g0, H0, %hg⟩, ⟨%g1, H1, %hf⟩⟩, HZ, HSI⟩
  ihave HZ' := (pointsTo_read_all rest2 (fun b => (c : Thread nD τ).loc b) (V m c) s') $$ [HZ HSI]
  · isplitl [HZ] <;> iassumption
  icases HZ' with ⟨%hZ, HSI⟩
  icombine HSI H0 gives %h0
  icombine HSI H1 gives %h1
  imodintro
  isplitr
  · ipureintro
    refine ⟨?_, ?_, hZ⟩
    · rw [Buf.eq_of_forall_mem_univ h0]; exact hg
    · rw [Buf.eq_of_forall_mem_univ h1]; exact hf
  iexact HSI

set_option backward.isDefEq.respectTransparency.types false in
set_option maxHeartbeats 4000000 in
/-- From any memory whose lengths are at most 384 and whose ids are rows: every weakly fair execution of @main ends, with
    the gradient and the fixed-point counts at the computed contents, the arguments as launched, every counter at zero. -/
theorem run_main (h : InOK m) : θ_run defs (onTc (τ := τ) (main (F := F))) (s₀ m ρ) (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmainU m)
    (hA := fun _ _ => rfl)
    (X := intoΦ m) (Y := outOfΦ m) (Z := fun c => bigSep rest2 fun b => ((c : Thread nD τ).loc b) ↦{fullShare} V m c b)
    (hX := hX m ρ)
    (hin := into_Φ m)
    (hout := out_Φ m)
    (QY := QY m)
    (hY := hY m)
    (hQ := fun _ hh hz => ⟨fun c => (hh c).2, hz⟩)

end Launch

end Cert.KernelIdeal.Hand

end
-- ==== Proof.IdealFrame.lean ====
module

public import proofs.«01_k».proof.Proof.IdealVals
public import proofs.«01_k».proof.Proof.IdealRun
public import proofs.«01_k».proof.Proof.Gen.Pre_ids_and_lengths_fit
public import Idealize.ShloMosaic.Lib.Affine
public import Idealize.ShloMosaic.Lib.Pointwise.ElementwiseCore
public import Idealize.ShloMosaic.Lib.ValueLayout

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx (ix2 ix3)

variable {F : FTy → Type} [FloatOps F]

/-- A word that is, read signed, between 0 and 44999 is below 45000 read unsigned. -/
theorem toNat_lt_of_toInt (w : BitVec 32) (h0 : 0 ≤ w.toInt) (h1 : w.toInt < 45000) : w.toNat < 45000 := by
  rw [BitVec.toInt_eq_toNat_cond] at h0 h1
  split at h0 <;> omega

/-- The condition on the arguments, read entry by entry: an id lies between 0 and 44999, and the length of its bag is at most 384. -/
theorem pre_entry (a0 : FVec F S160x12x128 .fp8e5m2) (a1 : FVec F S160x12 .f32) (a2 : IVec S160x12x384 32) (a3 : FVec F S160x12x384 .f32)
    (a4 : IVec S160x12 32) (a5 : FVec F S12 .f32) (h : Cert.Pre_ids_and_lengths_fit.fn a0 a1 a2 a3 a4 a5 = fun _ => 1#1) (i : S160x12x384.Idx) :
    0 ≤ (a2 i).toInt ∧ (a2 i).toInt < 45000 ∧ (a4 (ix2 (i 0) (i 1))).toInt ≤ 384 := by
  have hi : IntOp.andi (IntOp.andi (IntOp.cmpi .sge (a2 i) 0#32) (IntOp.cmpi .slt (a2 i) 45000#32))
      (broadcastInDim S160x12x384 ![0, 1, 2] Cert.Pre_ids_and_lengths_fit.Facts.bcast_S160x12x1_S160x12x384_0_1_2
        (broadcastInDim Cert.Pre_ids_and_lengths_fit.S160x12x1 ![0, 1] Cert.Pre_ids_and_lengths_fit.Facts.bcast_S160x12_S160x12x1_0_1
          (cmpi .sle a4 (fun _ => 384#32))) i) = 1#1 := congrFun h i
  obtain ⟨h1, h2⟩ := IntOp.andi_eq_one.mp hi
  obtain ⟨h3, h4⟩ := IntOp.andi_eq_one.mp h1
  have h5 : IntOp.cmpi .sle (a4 (ix2 (i 0) (i 1))) 384#32 = 1#1 :=
    ((broadcastInDim_apply _ _ _ i (ix3 (i 0) (i 1) (0 : Fin 1)) (by intro a; fin_cases a <;> rfl)).trans
      (broadcastInDim_apply _ _ (cmpi .sle a4 (fun _ => 384#32)) _ (ix2 (i 0) (i 1)) (by intro a; fin_cases a <;> rfl))).symm.trans h2
  exact ⟨IntOp.cmpi_sge.mp h3, IntOp.cmpi_slt.mp h4, IntOp.cmpi_sle.mp h5⟩

variable (m : (ℓ : Loc nD τ sig) → Buf (Elt F) ℓ) (ρ : Dev nD → PrngReg)

/-- The condition on the arguments, of a memory of the program. -/
def PreOK : Prop := ∀ c : Dev nD, Cert.Pre_ids_and_lengths_fit.fn (F := F) (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4)) (m ((c.tc : Thread nD τ).loc main_arg5)) = fun _ => 1#1

/-- Under it the region finds every id below 45000 and every length at most 384. -/
theorem inOK (h : PreOK m) : InOK m where
  len c x := by
    have e := congrFun (V_v54 m c) x
    rw [e]
    erw [transpose_apply _ _ _ x (ix2 (x 1) (x 0)) (by intro b; fin_cases b <;> rfl)]
    exact (pre_entry _ _ _ _ _ _ (h c) (ix3 (x 1) (x 0) (0 : Fin 384))).2.2
  id c x := by
    have e := congrFun (V_v49 m c) x
    rw [e]
    erw [transpose_apply _ _ _ x (ix3 (x 1) (x 0) (x 2)) (by intro b; fin_cases b <;> rfl)]
    obtain ⟨h0, h1, _⟩ := pre_entry _ _ _ _ _ _ (h c) (ix3 (x 1) (x 0) (x 2))
    exact toNat_lt_of_toInt _ h0 h1

/-- The program ends with its six arguments as launched and every semaphore at zero. -/
theorem frame (h : PreOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run_main m ρ (inOK m h)) fun r hr => ⟨fun c => by
    have hk := (hr.1 c).2.2
    refine ⟨?_, ?_, ?_, ?_, ?_, ?_⟩
    · exact (hk main_arg0 (by decide +kernel)).trans (V_main_arg0 m c)
    · exact (hk main_arg1 (by decide +kernel)).trans (V_main_arg1 m c)
    · exact (hk main_arg2 (by decide +kernel)).trans (V_main_arg2 m c)
    · exact (hk main_arg3 (by decide +kernel)).trans (V_main_arg3 m c)
    · exact (hk main_arg4 (by decide +kernel)).trans (V_main_arg4 m c)
    · exact (hk main_arg5 (by decide +kernel)).trans (V_main_arg5 m c), hr.2⟩

end Cert.KernelIdeal.Hand

end
-- ==== Proof.IdealSum.lean ====
module

public import proofs.«01_k».proof.Proof.IdealLoops
public import Mathlib.Algebra.BigOperators.Intervals
public import Mathlib.Data.BitVec

@[expose] public section

set_option maxHeartbeats 400000

noncomputable section

/-! The kernel's accumulator as a sum.

The accumulator of a table is built one token after another. Addition of 32-bit words is commutative, so what is left in
a row is what stood there plus the sum, over the tokens that name the row, of their codes. -/

namespace Cert.KernelIdeal.Hand
open Cert.KernelIdeal Cert.KernelIdeal.Gen
open Idealize.ShloMosaic
open scoped BigOperators

variable {F : FTy → Type} [FloatOps F]

/-- After `n` tokens an entry has grown by the codes of those of them that name its row. -/
theorem toks_apply (id : ℕ → BitVec 32) (cd : ℕ → IVec S1x128 32) (A : Acc) (n : ℕ) (x : S45000x128.Idx) :
    toks id cd A n x = A x + ∑ p ∈ Finset.range n, (if (x 0).val = (id p).toNat then cd p (ixRow (x 1)) else 0) := by
  induction n with
  | zero => simp [toks]
  | succ n ih =>
    rw [Finset.sum_range_succ, ← add_assoc, ← ih]
    show tokv (id n) (cd n) (toks id cd A n) x = _
    unfold tokv
    split
    · rfl
    · rw [add_zero]

/-- What the token at position `p` of a bag adds to row `r`: its code if it lies below the bag's length and names the row. -/
def tokenAdds (len : BitVec 32) (id : ℕ → BitVec 32) (cd : ℕ → BitVec 32) (r p : ℕ) : BitVec 32 :=
  if (p : Int) < len.toInt ∧ r = (id p).toNat then cd p else 0

/-- After `n` bags, each at most 384 long, an entry has grown by what their tokens add; the positions run up to 384
    whatever the length, those past it adding nothing. -/
theorem bags_apply (v4 : Elt F .f32) (len : ℕ → BitVec 32) (hlen : ∀ b, (len b).toInt ≤ 384) (rw_ : ℕ → Vec F S1x128 .f32) (sc : ℕ → Elt F .f32)
    (id : ℕ → ℕ → BitVec 32) (w : ℕ → ℕ → Elt F .f32) (A : Acc) (n : ℕ) (x : S45000x128.Idx) :
    bags v4 len rw_ sc id w A n x = A x + ∑ b ∈ Finset.range n, ∑ p ∈ Finset.range 384,
      tokenAdds (len b) (id b) (fun p => codev (rw_ b) (sc b) (w b p) v4 (ixRow (x 1))) (x 0).val p := by
  induction n with
  | zero => simp [bags]
  | succ n ih =>
    rw [Finset.sum_range_succ, ← add_assoc, ← ih]
    show toks (id n) (code (rw_ n) (sc n) v4 (len n) (w n)) (bags v4 len rw_ sc id w A n) (8 * grps (len n)) x = _
    rw [toks_apply]
    refine congrArg (HAdd.hAdd _) ?_
    have hg := grps_le (len n) (hlen n)
    refine (Finset.sum_congr rfl ?_).trans (Finset.sum_subset (s₁ := Finset.range (8 * grps (len n)))
      (fun p hp => by rw [Finset.mem_range] at hp ⊢; omega) ?_)
    · intro p _
      unfold tokenAdds code
      by_cases h1 : (p : Int) < (len n).toInt
      · by_cases h2 : (x 0).val = (id n p).toNat
        · simp [h1, h2]
        · simp [h1, h2]
      · simp [h1]
    · intro p _ hp
      unfold tokenAdds
      rw [if_neg]
      rintro ⟨h, -⟩
      exact hp (Finset.mem_range.2 (lt_grps (len n) p h))

end Cert.KernelIdeal.Hand
-- ==== Proof.IdealPtSum.lean ====
module

public import proofs.«01_k».proof.Proof.IdealSum
public import proofs.«01_k».proof.Proof.IdealFrame
public import Idealize.ShloMosaic.Lib.Pipeline.ValueKit

@[expose] public section

set_option maxRecDepth 16384
set_option maxHeartbeats 400000

noncomputable section

/-! The windows' blocks at a point, entry by entry, and a table's counts after its five groups of bags, as one sum over
    the table's 160 bags and their positions. -/

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx (ix2)
open scoped BigOperators

variable {F : FTy → Type} [FloatOps F]
variable (m : (ℓ : Loc nD τ sig) → Buf (Elt F) ℓ)

/-- Where the windows' blocks stand at every point. -/
theorem winIdx (t : Fin cfg0.N) :
    win0_0.index t = ![0, 0] ∧ win0_1.index t = ![0, 0] ∧ win0_2.index t = ![0, 0]
      ∧ win0_3.index t = ![t.val / 5, t.val % 5, 0] ∧ win0_4.index t = ![t.val / 5, t.val % 5, 0]
      ∧ win0_5.index t = ![t.val / 5, t.val % 5, 0, 0] := by
  revert t; decide +kernel

theorem b0_at (c : Dev nD) (t : Fin cfg0.N) (x : S12x160.Idx) : b0 m c t x = (V m c main_v54 : S12x160.Idx → BitVec 32) x := by
  obtain ⟨e, -⟩ := winIdx t
  unfold b0
  blk_ext [iblk, e]
theorem b1_at (c : Dev nD) (t : Fin cfg0.N) (x : S12x160.Idx) : b1 m c t x = (V m c main_v55 : S12x160.Idx → Elt F .f32) x := by
  obtain ⟨-, e, -⟩ := winIdx t
  unfold b1
  blk_ext [iblk, e]
theorem b2_at (c : Dev nD) (t : Fin cfg0.N) (x : S1x12.Idx) : b2 m c t x = (V m c main_v56 : S1x12.Idx → Elt F .f32) x := by
  obtain ⟨-, -, e, -⟩ := winIdx t
  unfold b2
  blk_ext [iblk, e]
theorem b3_at (c : Dev nD) (t : Fin cfg0.N) (b : Fin 32) (p : Fin 384) (T : Fin 12) (B : Fin 160) (hT : T.val = t.val / 5) (hB : B.val = 32 * (t.val % 5) + b.val) :
    b3 m c t (ValueIdx.ix3 (0 : Fin 1) b p) = (V m c main_v49 : S12x160x384.Idx → BitVec 32) (ValueIdx.ix3 T B p) := by
  obtain ⟨-, -, -, e, -⟩ := winIdx t
  unfold b3
  blk_ext [iblk, e]
  · exact hT.symm
  · show t.val % 5 * 32 + b.val = B.val; omega
theorem b4_at (c : Dev nD) (t : Fin cfg0.N) (b : Fin 32) (l : Fin 128) (T : Fin 12) (B : Fin 160) (hT : T.val = t.val / 5) (hB : B.val = 32 * (t.val % 5) + b.val) :
    b4 m c t (ValueIdx.ix3 (0 : Fin 1) b l) = (V m c main_v50 : S12x160x128.Idx → Elt F .fp8e5m2) (ValueIdx.ix3 T B l) := by
  obtain ⟨-, -, -, -, e, -⟩ := winIdx t
  unfold b4
  blk_ext [iblk, e]
  · exact hT.symm
  · show t.val % 5 * 32 + b.val = B.val; omega
theorem b5_at (c : Dev nD) (t : Fin cfg0.N) (b : Fin 32) (q : Fin 48) (l : Fin 128) (T : Fin 12) (B : Fin 160) (hT : T.val = t.val / 5) (hB : B.val = 32 * (t.val % 5) + b.val) :
    b5 m c t (ValueIdx.ix4 (0 : Fin 1) b q l) = (V m c main_v53 : S12x160x48x128.Idx → Elt F .f32) (ValueIdx.ix4 T B q l) := by
  obtain ⟨-, -, -, -, -, e⟩ := winIdx t
  unfold b5
  blk_ext [iblk, e]
  · exact hT.symm
  · show t.val % 5 * 32 + b.val = B.val; omega

/-- The point's widened codes, entry by entry. -/
theorem gf_at (X : Vec F S1x32x128 .fp8e5m2) (b : Fin 32) (l : Fin 128) :
    k0_pay2 X (ValueIdx.ix2 b l) = extf .f32 X bitsLt_fp8e5m2_f32 (ValueIdx.ix3 (0 : Fin 1) b l) := by
  unfold k0_pay2
  rw [shapeCast_self]
  exact congrArg (FloatOps.extf .f32 bitsLt_fp8e5m2_f32) (shapeCast_apply X shapeCasts_S1x32x128_S32x128 _ (ValueIdx.ix3 (0 : Fin 1) b l) (by
    rw [rowMajor_val3 _ (32 * 128) 128 rfl rfl, rowMajor_val2 _ 128 rfl]; simp))

/-- What the token at position `p` of bag `B` of table `T` adds to column `l` of row `r`, off the buffers the region finds. -/
def tableAdds (c : Dev nD) (T : Fin 12) (r : ℕ) (l : Fin 128) (B p : ℕ) : BitVec 32 :=
  tokenAdds ((V m c main_v54 : S12x160.Idx → BitVec 32) (ValueIdx.ix2 T (Fin.ofNat 160 B)))
    (fun p => (V m c main_v49 : S12x160x384.Idx → BitVec 32) (ValueIdx.ix3 T (Fin.ofNat 160 B) (Fin.ofNat 384 p)))
    (fun p => codev (fun y => extf .f32 (V m c main_v50 : S12x160x128.Idx → Elt F .fp8e5m2) bitsLt_fp8e5m2_f32 (ValueIdx.ix3 T (Fin.ofNat 160 B) (y 1)))
      ((V m c main_v55 : S12x160.Idx → Elt F .f32) (ValueIdx.ix2 T (Fin.ofNat 160 B)))
      ((V m c main_v53 : S12x160x48x128.Idx → Elt F .f32) (ValueIdx.ix4 T (Fin.ofNat 160 B) (Fin.ofNat 48 (p / 8)) (Fin.ofNat 128 (p % 8))))
      ((V m c main_v56 : S1x12.Idx → Elt F .f32) (ValueIdx.ix2 (0 : Fin 1) T)) (ixRow l)) r p

/-- A point adds to a row what the tokens of its 32 bags add. -/
theorem ptStep_apply (h : InOK m) (c : Dev nD) (T : Fin 12) (C : ℕ) (hC : C < 5) (A : Acc) (x : S45000x128.Idx) :
    ptStep m c (pointOf T.val C) A x = A x + ∑ b ∈ Finset.range 32, ∑ p ∈ Finset.range 384, tableAdds m c T (x 0).val (x 1) (32 * C + b) p := by
  have hT := T.isLt
  have ht : (pointOf T.val C).val = 5 * T.val + C := by show (5 * T.val + C) % 60 = _; omega
  have q0 : (grid0.coords (pointOf T.val C) 0).val = T.val := by rw [pt0, ht]; omega
  have q1 : (grid0.coords (pointOf T.val C) 1).val = C := by rw [pt1, ht]; omega
  unfold ptStep
  rw [bags_apply _ _ (fun b => b0_ok m h c _ _)]
  refine congrArg (HAdd.hAdd _) (Finset.sum_congr rfl fun b hb => Finset.sum_congr rfl fun p hp => ?_)
  rw [Finset.mem_range] at hb hp
  have eB : (Fin.ofNat 160 (32 * C + b)).val = 32 * ((pointOf T.val C).val % 5) + (Fin.ofNat 32 b).val := by
    show (32 * C + b) % 160 = 32 * ((pointOf T.val C).val % 5) + b % 32
    rw [ht]; omega
  have eT : T.val = (pointOf T.val C).val / 5 := by rw [ht]; omega
  have ebag : bagAt (grid0.coords (pointOf T.val C)) b = ValueIdx.ix2 T (Fin.ofNat 160 (32 * C + b)) := by
    funext a
    fin_cases a
    · exact Fin.ext (by show (grid0.coords (pointOf T.val C) 0).val % 12 = T.val; rw [q0]; omega)
    · exact Fin.ext (by show (32 * (grid0.coords (pointOf T.val C) 1).val + b) % 160 = (32 * C + b) % 160; rw [q1])
  have estep : stepAt (grid0.coords (pointOf T.val C)) = ValueIdx.ix2 (0 : Fin 1) T := by
    funext a
    fin_cases a
    · rfl
    · exact Fin.ext (by show (grid0.coords (pointOf T.val C) 0).val % 12 = T.val; rw [q0]; omega)
  have eid : ∀ p, idAt b p = ValueIdx.ix3 (0 : Fin 1) (Fin.ofNat 32 b) (Fin.ofNat 384 p) := fun p => by funext a; fin_cases a <;> rfl
  have ew : wAt b p = ValueIdx.ix4 (0 : Fin 1) (Fin.ofNat 32 b) (Fin.ofNat 48 (p / 8)) (Fin.ofNat 128 (p % 8)) := by funext a; fin_cases a <;> rfl
  have eg : ∀ y : S1x128.Idx, gfAt b (y 1) = ValueIdx.ix2 (Fin.ofNat 32 b) (y 1) := fun y => by funext a; fin_cases a <;> rfl
  have e0 := b0_at m c (pointOf T.val C) (ValueIdx.ix2 T (Fin.ofNat 160 (32 * C + b)))
  have e1 := b1_at m c (pointOf T.val C) (ValueIdx.ix2 T (Fin.ofNat 160 (32 * C + b)))
  have e2 := b2_at m c (pointOf T.val C) (ValueIdx.ix2 (0 : Fin 1) T)
  have e3 : ∀ p, b3 m c (pointOf T.val C) (ValueIdx.ix3 (0 : Fin 1) (Fin.ofNat 32 b) (Fin.ofNat 384 p)) = _ :=
    fun p => b3_at m c (pointOf T.val C) (Fin.ofNat 32 b) (Fin.ofNat 384 p) T (Fin.ofNat 160 (32 * C + b)) eT eB
  have e4 : ∀ l, b4 m c (pointOf T.val C) (ValueIdx.ix3 (0 : Fin 1) (Fin.ofNat 32 b) l) = _ :=
    fun l => b4_at m c (pointOf T.val C) (Fin.ofNat 32 b) l T (Fin.ofNat 160 (32 * C + b)) eT eB
  have e5 := b5_at m c (pointOf T.val C) (Fin.ofNat 32 b) (Fin.ofNat 48 (p / 8)) (Fin.ofNat 128 (p % 8)) T (Fin.ofNat 160 (32 * C + b)) eT eB
  have e4' : (fun y : S1x128.Idx => k0_pay2 (b4 m c (pointOf T.val C)) (gfAt b (y 1)))
      = fun y => extf .f32 (V m c main_v50 : S12x160x128.Idx → Elt F .fp8e5m2) bitsLt_fp8e5m2_f32 (ValueIdx.ix3 T (Fin.ofNat 160 (32 * C + b)) (y 1)) :=
    funext fun y => by
      rw [eg]
      exact (gf_at _ (Fin.ofNat 32 b) (y 1)).trans (congrArg (FloatOps.extf .f32 bitsLt_fp8e5m2_f32) (e4 (y 1)))
  unfold tableAdds tokenAdds
  simp only [ebag, estep, eid, ew, e0, e1, e2, e3, e5, e4']

/-- A table's counts after `C` groups of 32 bags: the sum, over the bags so far and their positions, of what the tokens add. -/
theorem PTm_apply (h : InOK m) (c : Dev nD) (T : Fin 12) (C : ℕ) (hC : C ≤ 5) (x : S45000x128.Idx) :
    PTm m c T.val C x = ∑ B ∈ Finset.range (32 * C), ∑ p ∈ Finset.range 384, tableAdds m c T (x 0).val (x 1) B p := by
  induction C with
  | zero => simp [PTm]
  | succ C ih =>
    show ptStep m c (pointOf T.val C) (PTm m c T.val C) x = _
    rw [ptStep_apply m h c T C (by omega), ih (by omega), Nat.mul_succ, Finset.sum_range_add]

end Cert.KernelIdeal.Hand
-- ==== Proof.IdealScale.lean ====
module

public import proofs.«01_k».proof.Proof.Gen.KernelIdeal.Frame
public import Idealize.ShloMosaic.Lib.StableHlo.RunRead
public import Idealize.ShloMosaic.Lib.Claim

@[expose] public section

set_option maxRecDepth 16384
set_option maxHeartbeats 1000000

noncomputable section

/-! The exponent and the two powers of two, as the host computes them off the bounds, and the padded weights. -/

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- How many of the listed powers of two each bound reaches. -/
def countV (a : FVec F S12 .f32) : IVec S12 32 :=
  Host.reduce IntOp.addi
    (extui 32 (cmpf .oge (broadcastInDim S12x277 ![0, 1] bcast_S12x1_S12x277_0_1 (broadcastInDim S12x1 ![0] bcast_S12_S12x1_0 (Host.absf a)))
      (broadcastInDim S12x277 ![0, 1] bcast_S1x277_S12x277_0_1 (broadcastInDim S1x277 ![1] bcast_S277_S1x277_1
        (fun i : S277.Idx => (FloatOps.ofBits .f32 (lit0 (S277.rowMajor i)) : F .f32))))) natLt_1_32)
    (constantI S_ 32 0#32) reducesTo_S12x277_S12_d1 h_S_
/-- A word at all twelve entries. -/
abbrev bc12 (w : BitVec 32) : IVec S12 32 := broadcastInDim S12 ![] bcast_S_S12 (constantI S_ 32 w)
/-- The number of bits each table is scaled by. -/
def kV (a : FVec F S12 .f32) : IVec S12 32 :=
  subi (bc12 30#32) (select
    (andi (cmpf .ogt (Host.absf a) (broadcastInDim S12 ![] bcast_S_S12 (constant S_ .f32 0x00000000#32)))
      (cmpf .olt (Host.absf a) (broadcastInDim S12 ![] bcast_S_S12 (constant S_ .f32 0x7F800000#32))))
    (subi (countV a) (bc12 149#32)) (bc12 0#32))
/-- The number clamped, -/
def clipV (k : IVec S12 32) : IVec S12 32 := minsi (bc12 252#32) (maxsi (bc12 4294967044#32) k)
/-- its half, rounded down, -/
def halfV (k : IVec S12 32) : IVec S12 32 := Host.shrsi (clipV k) (bc12 1#32)
/-- a power of two spelt by its bits, -/
def bitsV (e : IVec S12 32) : FVec F S12 .f32 := bitcastToFloat .f32 (Host.shli (addi e (bc12 127#32)) (bc12 23#32))
/-- and the power of two. -/
def pow2V (k : IVec S12 32) : FVec F S12 .f32 := mulf (bitsV (halfV k)) (bitsV (subi (clipV k) (halfV k)))

variable (m : (ℓ : Loc nD τ sig) → Buf (Elt F) ℓ)

/-- The row scales as the kernel leaves them. -/
theorem V_v33 (c : Dev nD) : V m c main_v33 = pow2V (negi (kV (m ((c : Thread nD τ).loc main_arg5)))) := by
  unfold V
  simp only [List.flatten_cons, List.flatten_nil, List.append_nil, List.cons_append, List.nil_append]
  after_reads_simp
  rfl
/-- The grids as the region finds them. -/
theorem V_v56 (c : Dev nD) : V m c main_v56 = broadcastInDim S1x12 ![1] bcast_S12_S1x12_1 (pow2V (kV (m ((c : Thread nD τ).loc main_arg5)))) := by
  unfold V
  simp only [List.flatten_cons, List.flatten_nil, List.append_nil, List.cons_append, List.nil_append]
  after_reads_simp
  rfl
/-- The weights as the region finds them: eight to a group, each group padded to 128 lanes. -/
theorem V_v53 (c : Dev nD) : V m c main_v53 = pad S12x160x48x128 ![0, 0, 0, 0] ![0, 0, 0, 120] ![0, 0, 0, 0]
    (shapeCast S12x160x48x8 (transpose S12x160x384 [1, 0, 2] (m ((c : Thread nD τ).loc main_arg3)) transposes_S160x12x384_S12x160x384_1_0_2) shapeCasts_S12x160x384_S12x160x48x8)
    (sitofp .f32 (constantI S_ 32 0#32)) pads_S12x160x48x8_S12x160x48x128_000_000_000_01200 h_S_ := by
  unfold V
  simp only [List.flatten_cons, List.flatten_nil, List.append_nil, List.cons_append, List.nil_append]
  after_reads_simp
  rfl

end Cert.KernelIdeal.Hand

end
-- ==== Proof.IdealArgs.lean ====
module

public import proofs.«01_k».proof.Proof.IdealPtSum
public import proofs.«01_k».proof.Proof.IdealScale
public import Idealize.ShloMosaic.Lib.KernelVsHost
public import Idealize.ShloMosaic.Lib.Pointwise.Reshape

@[expose] public section

set_option maxRecDepth 16384
set_option maxHeartbeats 1000000

noncomputable section

/-! What the region finds, entry by entry, off the arguments; and the results' entries off the tables and the slabs. -/

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

theorem v54_at (c : Dev nD) (T : Fin 12) (B : Fin 160) :
    (V m c main_v54 : S12x160.Idx → BitVec 32) (ValueIdx.ix2 T B) = (m ((c : Thread nD τ).loc main_arg4) : S160x12.Idx → BitVec 32) (ValueIdx.ix2 B T) :=
  (congrFun (V_v54 m c) _).trans (transpose_apply _ _ _ _ (ValueIdx.ix2 B T) (by intro b; fin_cases b <;> rfl))
theorem v55_at (c : Dev nD) (T : Fin 12) (B : Fin 160) :
    (V m c main_v55 : S12x160.Idx → Elt F .f32) (ValueIdx.ix2 T B) = (m ((c : Thread nD τ).loc main_arg1) : S160x12.Idx → Elt F .f32) (ValueIdx.ix2 B T) :=
  (congrFun (V_v55 m c) _).trans (transpose_apply _ _ _ _ (ValueIdx.ix2 B T) (by intro b; fin_cases b <;> rfl))
theorem v49_at (c : Dev nD) (T : Fin 12) (B : Fin 160) (p : Fin 384) :
    (V m c main_v49 : S12x160x384.Idx → BitVec 32) (ValueIdx.ix3 T B p) = (m ((c : Thread nD τ).loc main_arg2) : S160x12x384.Idx → BitVec 32) (ValueIdx.ix3 B T p) :=
  (congrFun (V_v49 m c) _).trans (transpose_apply _ _ _ _ (ValueIdx.ix3 B T p) (by intro b; fin_cases b <;> rfl))
theorem v50_at (c : Dev nD) (T : Fin 12) (B : Fin 160) (l : Fin 128) :
    (V m c main_v50 : S12x160x128.Idx → Elt F .fp8e5m2) (ValueIdx.ix3 T B l) = (m ((c : Thread nD τ).loc main_arg0) : S160x12x128.Idx → Elt F .fp8e5m2) (ValueIdx.ix3 B T l) :=
  (congrFun (V_v50 m c) _).trans (transpose_apply _ _ _ _ (ValueIdx.ix3 B T l) (by intro b; fin_cases b <;> rfl))
theorem v56_at (c : Dev nD) (T : Fin 12) :
    (V m c main_v56 : S1x12.Idx → Elt F .f32) (ValueIdx.ix2 (0 : Fin 1) T) = pow2V (kV (m ((c : Thread nD τ).loc main_arg5))) (ValueIdx.ix1 T) :=
  (congrFun (V_v56 m c) _).trans (broadcastInDim_apply _ _ _ _ (ValueIdx.ix1 T) (by intro a; fin_cases a; rfl))
/-- The weights: position `p` of a bag is lane `p % 8` of group `p / 8`. -/
theorem v53_at (c : Dev nD) (T : Fin 12) (B : Fin 160) (p : ℕ) (hp : p < 384) :
    (V m c main_v53 : S12x160x48x128.Idx → Elt F .f32) (ValueIdx.ix4 T B (Fin.ofNat 48 (p / 8)) (Fin.ofNat 128 (p % 8)))
      = (m ((c : Thread nD τ).loc main_arg3) : S160x12x384.Idx → Elt F .f32) (ValueIdx.ix3 B T (Fin.ofNat 384 p)) := by
  refine (congrFun (V_v53 m c) _).trans ((pad_apply_of_inside _ _ _ _ _ _ _ _ (ValueIdx.ix4 T B (Fin.ofNat 48 (p / 8)) (Fin.ofNat 8 (p % 8))) ?_).trans
    ((shapeCast_apply _ _ _ (ValueIdx.ix3 T B (Fin.ofNat 384 p)) ?_).trans
      (transpose_apply _ _ _ _ (ValueIdx.ix3 B T (Fin.ofNat 384 p)) (by intro b; fin_cases b <;> rfl))))
  · intro a
    fin_cases a
    · show T.val = 0 + T.val * (0 + 1); omega
    · show B.val = 0 + B.val * (0 + 1); omega
    · show p / 8 % 48 = 0 + p / 8 % 48 * (0 + 1); omega
    · show p % 8 % 128 = 0 + p % 8 % 8 * (0 + 1); omega
  · refine (rowMajor_val3 (ValueIdx.ix3 T B (Fin.ofNat 384 p)) (160 * 384) 384 rfl rfl).trans (Eq.trans ?_
      (rowMajor_val4 (ValueIdx.ix4 T B (Fin.ofNat 48 (p / 8)) (Fin.ofNat 8 (p % 8))) (160 * (48 * 8)) (48 * 8) 8 rfl rfl rfl).symm)
    show T.val * (160 * 384) + B.val * 384 + p % 384 = T.val * (160 * (48 * 8)) + B.val * (48 * 8) + p / 8 % 48 * 8 + p % 8 % 8
    omega

/-- What a position of a bag adds, off the arguments. -/
theorem tableAdds_args (c : Dev nD) (T : Fin 12) (r : ℕ) (l : Fin 128) (B p : ℕ) (hp : p < 384) :
    tableAdds m c T r l B p = tokenAdds ((m ((c : Thread nD τ).loc main_arg4) : S160x12.Idx → BitVec 32) (ValueIdx.ix2 (Fin.ofNat 160 B) T))
      (fun p => (m ((c : Thread nD τ).loc main_arg2) : S160x12x384.Idx → BitVec 32) (ValueIdx.ix3 (Fin.ofNat 160 B) T (Fin.ofNat 384 p)))
      (fun p => codev (fun y => extf .f32 (m ((c : Thread nD τ).loc main_arg0) : S160x12x128.Idx → Elt F .fp8e5m2) bitsLt_fp8e5m2_f32 (ValueIdx.ix3 (Fin.ofNat 160 B) T (y 1)))
        ((m ((c : Thread nD τ).loc main_arg1) : S160x12.Idx → Elt F .f32) (ValueIdx.ix2 (Fin.ofNat 160 B) T))
        ((m ((c : Thread nD τ).loc main_arg3) : S160x12x384.Idx → Elt F .f32) (ValueIdx.ix3 (Fin.ofNat 160 B) T (Fin.ofNat 384 p)))
        (pow2V (kV (m ((c : Thread nD τ).loc main_arg5))) (ValueIdx.ix1 T)) (ixRow l)) r p := by
  have e50 : (fun y : S1x128.Idx => extf .f32 (V m c main_v50 : S12x160x128.Idx → Elt F .fp8e5m2) bitsLt_fp8e5m2_f32 (ValueIdx.ix3 T (Fin.ofNat 160 B) (y 1)))
      = fun y => extf .f32 (m ((c : Thread nD τ).loc main_arg0) : S160x12x128.Idx → Elt F .fp8e5m2) bitsLt_fp8e5m2_f32 (ValueIdx.ix3 (Fin.ofNat 160 B) T (y 1)) :=
    funext fun y => congrArg (FloatOps.extf .f32 bitsLt_fp8e5m2_f32) (v50_at m c T (Fin.ofNat 160 B) (y 1))
  unfold tableAdds tokenAdds
  beta_reduce
  rw [v54_at, v49_at, v55_at, v53_at m c T _ p hp, v56_at, e50]

theorem resh_tab (h : S45000x128.numel = S1x45000x128.numel) (x : S45000x128.Idx) :
    Shape.reshapeEquiv h x = ValueIdx.ix3 (0 : Fin 1) (x 0 : Fin 45000) (x 1 : Fin 128) :=
  Shape.reshapeEquiv_eq_of_rowMajor h ((rowMajor_val3 (ValueIdx.ix3 (0 : Fin 1) (x 0 : Fin 45000) (x 1 : Fin 128)) (45000 * 128) 128 rfl rfl).trans
    (Eq.trans (by show 0 * (45000 * 128) + (x 0).val * 128 + (x 1).val = (x 0).val * 128 + (x 1).val; omega) (rowMajor_val2 x 128 rfl).symm))
theorem resh_slab (h : S1000x128.numel = S1x1000x128.numel) (x : S1000x128.Idx) :
    Shape.reshapeEquiv h x = ValueIdx.ix3 (0 : Fin 1) (x 0 : Fin 1000) (x 1 : Fin 128) :=
  Shape.reshapeEquiv_eq_of_rowMajor h ((rowMajor_val3 (ValueIdx.ix3 (0 : Fin 1) (x 0 : Fin 1000) (x 1 : Fin 128)) (1000 * 128) 128 rfl rfl).trans
    (Eq.trans (by show 0 * (1000 * 128) + (x 0).val * 128 + (x 1).val = (x 0).val * 128 + (x 1).val; omega) (rowMajor_val2 x 128 rfl).symm))

/-- Where an entry of a table stands in the counts. -/
theorem ftab_emb (T : Fin 12) (r : Fin 45000) (l : Fin 128) : (ftab T).view.emb (ValueIdx.ix2 r l) = ValueIdx.ix3 T r l := by
  show (Rect.unit (s := S12x45000x128) (tabOff T.val) S1x45000x128.size (tab_inb T)).idx
    (Shape.reshapeEquiv (squeezes_S1x45000x128_S45000x128).numel_eq (ValueIdx.ix2 r l)) = _
  rw [resh_tab]
  funext a
  apply Fin.ext
  fin_cases a
  · show T.val + 1 * 0 = T.val; omega
  · show 0 + 1 * r.val = r.val; omega
  · show 0 + 1 * l.val = l.val; omega
/-- Where an entry of a slab stands in the gradient. -/
theorem slab_emb (T : Fin 12) (s : Fin 45) (r : Fin 1000) (l : Fin 128) :
    (slab T s).view.emb (ValueIdx.ix2 r l) = ValueIdx.ix3 T (⟨1000 * s.val + r.val, by omega⟩ : Fin 45000) l := by
  show (Rect.unit (s := S12x45000x128) (slabO T s) S1x1000x128.size (slab_inb T s)).idx
    (Shape.reshapeEquiv (squeezes_S1x1000x128_S1000x128).numel_eq (ValueIdx.ix2 r l)) = _
  rw [resh_slab]
  funext a
  apply Fin.ext
  fin_cases a
  · show T.val + 1 * 0 = T.val; omega
  · show 1000 * s.val + 1 * r.val = 1000 * s.val + r.val; omega
  · show 0 + 1 * l.val = l.val; omega

/-- An entry of the counts, off its table. -/
theorem fix_at (c : Dev nD) (PT : ℕ → ℕ → Acc) (g : Buf (Elt F) ((c : Thread nD τ).loc main_v57_1)) (h : FixOK c PT g) (T : Fin 12) (r : Fin 45000) (l : Fin 128) :
    (g : S12x45000x128.Idx → BitVec 32) (ValueIdx.ix3 T r l) = PT T.val 5 (ValueIdx.ix2 r l) :=
  (congrArg (g : S12x45000x128.Idx → BitVec 32) (ftab_emb T r l)).symm.trans (congrFun (h T) (ValueIdx.ix2 r l))
/-- An entry of the gradient, off its table's counts and grid. -/
theorem grad_at (c : Dev nD) (PT : ℕ → ℕ → Acc) (ST : ℕ → Elt F .f32) (g : Buf (Elt F) ((c : Thread nD τ).loc main_v57_0)) (h : GradOK c PT ST g)
    (T : Fin 12) (r : Fin 45000) (l : Fin 128) :
    (g : S12x45000x128.Idx → Elt F .f32) (ValueIdx.ix3 T r l)
      = FloatOps.mulf (FloatOps.sitofp .f32 (PT T.val 5 (ValueIdx.ix2 r l))) (Scalar.divf (Scalar.ofBits .f32 0x3F800000#32) (ST T.val)) := by
  obtain ⟨s, y, hy, rfl⟩ : ∃ (s : Fin 45) (y : Fin 1000) (hy : 1000 * s.val + y.val < 45000), r = ⟨1000 * s.val + y.val, hy⟩ :=
    ⟨⟨r.val / 1000, by have := r.isLt; omega⟩, ⟨r.val % 1000, by omega⟩, by show 1000 * (r.val / 1000) + r.val % 1000 < 45000; have := r.isLt; omega,
      Fin.ext (by show r.val = 1000 * (r.val / 1000) + r.val % 1000; omega)⟩
  have ea : accAt s (ValueIdx.ix2 y l) = ValueIdx.ix2 (⟨1000 * s.val + y.val, hy⟩ : Fin 45000) l := by
    funext a
    apply Fin.ext
    fin_cases a
    · show (1000 * s.val + y.val) % 45000 = 1000 * s.val + y.val; omega
    · rfl
  refine (congrArg (g : S12x45000x128.Idx → Elt F .f32) (slab_emb T s y l)).symm.trans ((congrFun (h (T, s)) (ValueIdx.ix2 y l)).trans ?_)
  exact congrArg (fun x => FloatOps.mulf (FloatOps.sitofp .f32 (PT T.val 5 x)) (Scalar.divf (Scalar.ofBits .f32 0x3F800000#32) (ST T.val))) ea

end Cert.KernelIdeal.Hand

end
-- ==== Proof.RefVals.lean ====
module

public import proofs.«01_k».proof.Proof.Gen.ReferenceIdeal.Frame
public import proofs.«01_k».proof.Proof.IdealScale

@[expose] public section

set_option maxRecDepth 16384
set_option maxHeartbeats 2000000

noncomputable section

/-! What the reference's host lines compute, as terms of the arguments and of the widened codes. -/

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (pow2V kV)

variable {F : FTy → Type} [FloatOps F]

/-- Every token's code. -/
def codesV (g : FVec F S160x12x128 .f32) (sc : FVec F S160x12 .f32) (w : FVec F S160x12x384 .f32) (st : FVec F S12 .f32) : IVec S160x12x384x128 32 :=
  fptosi 32 (Host.roundeven (mulf
    (mulf (broadcastInDim S160x12x384x128 ![0, 1, 2, 3] bcast_S160x12x1x128_S160x12x384x128_0_1_2_3
        (broadcastInDim S160x12x1x128 ![0, 1, 3] bcast_S160x12x128_S160x12x1x128_0_1_3
          (mulf g (broadcastInDim S160x12x128 ![0, 1, 2] bcast_S160x12x1_S160x12x128_0_1_2 (broadcastInDim S160x12x1 ![0, 1] bcast_S160x12_S160x12x1_0_1 sc)))))
      (broadcastInDim S160x12x384x128 ![0, 1, 2, 3] bcast_S160x12x384x1_S160x12x384x128_0_1_2_3
        (broadcastInDim S160x12x384x1 ![0, 1, 2] bcast_S160x12x384_S160x12x384x1_0_1_2 w)))
    (broadcastInDim S160x12x384x128 ![0, 1, 2, 3] bcast_S1x12x1x1_S160x12x384x128_0_1_2_3 (broadcastInDim S1x12x1x1 ![1] bcast_S12_S1x12x1x1_1 st))))
/-- Every token's segment: its table's rows begin at 45000 times the table; a token past its bag's length has none. -/
def segV (len : IVec S160x12 32) (ids : IVec S160x12x384 32) : IVec S160x12x384 32 :=
  select
    (cmpi .slt (broadcastInDim S160x12x384 ![0, 1, 2] bcast_S1x1x384_S160x12x384_0_1_2 (broadcastInDim S1x1x384 ![2] bcast_S384_S1x1x384_2 (iotaInDim S384 32 0)))
      (broadcastInDim S160x12x384 ![0, 1, 2] bcast_S160x12x1_S160x12x384_0_1_2 (broadcastInDim S160x12x1 ![0, 1] bcast_S160x12_S160x12x1_0_1 len)))
    (addi (broadcastInDim S160x12x384 ![0, 1, 2] bcast_S1x12x1_S160x12x384_0_1_2
        (muli (broadcastInDim S1x12x1 ![1] bcast_S12_S1x12x1_1 (iotaInDim S12 32 0)) (broadcastInDim S1x12x1 ![] bcast_S_S1x12x1 (constantI S_ 32 45000#32)))) ids)
    (broadcastInDim S160x12x384 ![] bcast_S_S160x12x384 (constantI S_ 32 540000#32))
/-- The codes added up by segment. -/
def fixedV (codes : IVec S160x12x384x128 32) (seg : IVec S160x12x384 32) : IVec S12x45000x128 32 :=
  shapeCast S12x45000x128
    (Host.scatter scatter_S540000x128_S737280x1_S737280x128_1_0_0_1 IntOp.addi
      (broadcastInDim S540000x128 ![] bcast_S_S540000x128 (constantI S_ 32 0#32))
      (broadcastInDim S737280x1 ![0] bcast_S737280_S737280x1_0 (shapeCast S737280 seg shapeCasts_S160x12x384_S737280))
      (shapeCast S737280x128 codes shapeCasts_S160x12x384x128_S737280x128))
    shapeCasts_S540000x128_S12x45000x128
/-- The counts on their table's grid. -/
def gradV (fx : IVec S12x45000x128 32) (st : FVec F S12 .f32) : FVec F S12x45000x128 .f32 :=
  mulf (sitofp .f32 fx) (broadcastInDim S12x45000x128 ![0, 1, 2] bcast_S12x1x1_S12x45000x128_0_1_2 (broadcastInDim S12x1x1 ![0] bcast_S12_S12x1x1_0 st))

abbrev tailOps : List (List (HloOp τ sig (Elt F))) := [hostOps1, hostOps1_1, hostOps1_2, hostOps1_3, hostOps1_4, hostOps1_5, hostOps1_6, hostOps1_7, hostOps1_8, hostOps1_9, hostOps1_10]

variable (X : Valuation τ sig (Elt F))

/-- The row scales off the bounds. -/
theorem tail_v42 (hc : X (Proc.devRef .tc main_cst) = fun i : S277.Idx => (FloatOps.ofBits .f32 (lit0 (S277.rowMajor i)) : F .f32)) :
    StableHlo.after (tailOps (F := F)).flatten X (Proc.devRef .tc main_v42) = pow2V (negi (kV (X (Proc.devRef .tc main_arg5)))) := by
  simp only [List.flatten_cons, List.flatten_nil, List.append_nil, List.cons_append, List.nil_append]
  after_reads_simp
  rw [hc]
  rfl
/-- The counts off the arguments and the widened codes. -/
theorem tail_v81 (hc : X (Proc.devRef .tc main_cst) = fun i : S277.Idx => (FloatOps.ofBits .f32 (lit0 (S277.rowMajor i)) : F .f32)) :
    StableHlo.after (tailOps (F := F)).flatten X (Proc.devRef .tc main_v81)
      = fixedV (codesV (X (Proc.devRef .tc main_v0)) (X (Proc.devRef .tc main_arg1)) (X (Proc.devRef .tc main_arg3)) (pow2V (kV (X (Proc.devRef .tc main_arg5)))))
          (segV (X (Proc.devRef .tc main_arg4)) (X (Proc.devRef .tc main_arg2))) := by
  simp only [List.flatten_cons, List.flatten_nil, List.append_nil, List.cons_append, List.nil_append]
  after_reads_simp
  rw [hc]
  rfl
/-- The counts in floats off the arguments and the widened codes. -/
theorem tail_v85 (hc : X (Proc.devRef .tc main_cst) = fun i : S277.Idx => (FloatOps.ofBits .f32 (lit0 (S277.rowMajor i)) : F .f32)) :
    StableHlo.after (tailOps (F := F)).flatten X (Proc.devRef .tc main_v85)
      = gradV (fixedV (codesV (X (Proc.devRef .tc main_v0)) (X (Proc.devRef .tc main_arg1)) (X (Proc.devRef .tc main_arg3)) (pow2V (kV (X (Proc.devRef .tc main_arg5)))))
          (segV (X (Proc.devRef .tc main_arg4)) (X (Proc.devRef .tc main_arg2)))) (pow2V (negi (kV (X (Proc.devRef .tc main_arg5))))) := by
  simp only [List.flatten_cons, List.flatten_nil, List.append_nil, List.cons_append, List.nil_append]
  after_reads_simp
  rw [hc]
  rfl

end Cert.ReferenceIdeal.Hand

end
-- ==== Proof.RefSum.lean ====
module

public import proofs.«01_k».proof.Proof.RefVals
public import proofs.«01_k».proof.Proof.IdealSum
public import Mathlib.Data.BitVec
public import Mathlib.Algebra.BigOperators.Intervals
public import Idealize.ShloMosaic.Lib.Routing.OpsPair
public import Idealize.ShloMosaic.Lib.Pointwise.Index
public import Idealize.ShloMosaic.Lib.Pointwise.Reshape
public import Idealize.ShloMosaic.Lib.Pointwise.ElementwiseCore
public import Idealize.ShloMosaic.Lib.ValueLayout

@[expose] public section

set_option maxRecDepth 16384
set_option maxHeartbeats 400000

noncomputable section

/-! The reference's scatter as a sum: an entry of the counts is what the tokens of the table's 160 bags add to it. -/

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (tokenAdds)
open scoped BigOperators

/-- Adding, along a list, the entries that meet a condition is adding their sum. -/
theorem foldl_if_add {α : Type} (L : List α) (P : α → Prop) [DecidablePred P] (f : α → BitVec 32) (z : BitVec 32) :
    L.foldl (fun a n => if P n then IntOp.addi a (f n) else a) z = z + (L.map (fun n => if P n then f n else 0)).sum := by
  induction L generalizing z with
  | nil => simp
  | cons a L ih =>
    rw [List.foldl_cons, ih, List.map_cons, List.sum_cons]
    split_ifs
    · exact add_assoc _ _ _
    · rw [zero_add]

/-- An adding scatter, read at an index: what stood there and the sum of the updates that land there. -/
theorem scatter_sum {s si u : Shape} (d : ScatterDims s si u) (x0 : IVec s 32) (idx : IVec si 32) (upd : IVec u 32) (ι : s.Idx) :
    Host.scatter d IntOp.addi x0 idx upd ι = x0 ι + ∑ k : u.Idx, if d.resultIdx? k idx = some ι then upd k else 0 := by
  rw [Routing.scatter_at, foldl_if_add _ (fun n => d.resultIdx? (u.rowMajor.symm n) idx = some ι) (fun n => upd (u.rowMajor.symm n)), ← Fin.sum_univ_def,
    Equiv.sum_comp u.rowMajor.symm (fun k => if d.resultIdx? k idx = some ι then upd k else 0)]

/-- An update of the reference's scatter lands in the row its index names and in its own column. -/
theorem lands (idx : IVec S737280x1 32) (k : S737280x128.Idx) (s : Fin 540000) (l : Fin 128) :
    scatter_S540000x128_S737280x1_S737280x128_1_0_0_1.resultIdx? k idx = some (ValueIdx.ix2 s l)
      ↔ (idx (ValueIdx.ix2 (k 0) (0 : Fin 1))).toInt = (s.val : Int) ∧ (k 1).val = l.val := by
  have w0 : scatter_S540000x128_S737280x1_S737280x128_1_0_0_1.window k 0 = 0 := rfl
  have w1 : scatter_S540000x128_S737280x1_S737280x128_1_0_0_1.window k 1 = (k 1).val := rfl
  have s1 : scatter_S540000x128_S737280x1_S737280x128_1_0_0_1.start k idx 1 = 0 := rfl
  have s0 : scatter_S540000x128_S737280x1_S737280x128_1_0_0_1.start k idx 0 = (idx (ValueIdx.ix2 (k 0) (0 : Fin 1))).toInt := by
    refine congrArg (fun i => (idx i).toInt) (funext fun b => Fin.ext ?_)
    fin_cases b <;> rfl
  refine (Routing.resultIdx?_ix2 _ k idx s l).trans ?_
  rw [s0, s1, w0, w1]
  omega

/-- A token's segment, entry by entry. -/
theorem segV_at (len : IVec S160x12 32) (ids : IVec S160x12x384 32) (b : Fin 160) (t : Fin 12) (j : Fin 384) :
    segV len ids (ValueIdx.ix3 b t j) = Scalar.select (IntOp.cmpi .slt (BitVec.ofNat 32 j.val) (len (ValueIdx.ix2 b t)))
      (IntOp.addi (IntOp.muli (BitVec.ofNat 32 t.val) 45000#32) (ids (ValueIdx.ix3 b t j))) 540000#32 := by
  have e1 : broadcastInDim S160x12x384 ![0, 1, 2] bcast_S1x1x384_S160x12x384_0_1_2 (broadcastInDim S1x1x384 ![2] bcast_S384_S1x1x384_2 (iotaInDim S384 32 0)) (ValueIdx.ix3 b t j)
      = BitVec.ofNat 32 j.val :=
    (broadcastInDim_apply _ _ _ _ (ValueIdx.ix3 (0 : Fin 1) (0 : Fin 1) j) (by intro a; fin_cases a <;> rfl)).trans
      ((broadcastInDim_apply _ _ _ _ (ValueIdx.ix1 j) (by intro a; fin_cases a <;> rfl)).trans rfl)
  have e2 : broadcastInDim S160x12x384 ![0, 1, 2] bcast_S160x12x1_S160x12x384_0_1_2 (broadcastInDim S160x12x1 ![0, 1] bcast_S160x12_S160x12x1_0_1 len) (ValueIdx.ix3 b t j)
      = len (ValueIdx.ix2 b t) :=
    (broadcastInDim_apply _ _ _ _ (ValueIdx.ix3 b t (0 : Fin 1)) (by intro a; fin_cases a <;> rfl)).trans
      (broadcastInDim_apply _ _ _ _ (ValueIdx.ix2 b t) (by intro a; fin_cases a <;> rfl))
  have e3 : broadcastInDim S160x12x384 ![0, 1, 2] bcast_S1x12x1_S160x12x384_0_1_2
        (muli (broadcastInDim S1x12x1 ![1] bcast_S12_S1x12x1_1 (iotaInDim S12 32 0)) (broadcastInDim S1x12x1 ![] bcast_S_S1x12x1 (constantI S_ 32 45000#32))) (ValueIdx.ix3 b t j)
      = IntOp.muli (BitVec.ofNat 32 t.val) 45000#32 :=
    (broadcastInDim_apply _ _ _ _ (ValueIdx.ix3 (0 : Fin 1) t (0 : Fin 1)) (by intro a; fin_cases a <;> rfl)).trans
      (congrArg₂ IntOp.muli ((broadcastInDim_apply _ _ _ _ (ValueIdx.ix1 t) (by intro a; fin_cases a <;> rfl)).trans rfl) rfl)
  exact congr (congrArg₂ Scalar.select (congrArg₂ (IntOp.cmpi .slt) e1 e2) (congrArg (fun z => IntOp.addi z (ids (ValueIdx.ix3 b t j))) e3)) rfl

/-- A token falls in row `r` of table `T` exactly when it is one of the table's, lies below its bag's length and names the row. -/
theorem seg_iff (len id : BitVec 32) (hid : id.toNat < 45000) (t T : Fin 12) (j : Fin 384) (r : Fin 45000) :
    (Scalar.select (IntOp.cmpi .slt (BitVec.ofNat 32 j.val) len) (IntOp.addi (IntOp.muli (BitVec.ofNat 32 t.val) 45000#32) id) 540000#32).toInt
        = ((T.val * 45000 + r.val : ℕ) : Int)
      ↔ t = T ∧ ((j.val : Int) < len.toInt ∧ r.val = id.toNat) := by
  have ht := t.isLt
  have hT := T.isLt
  have hj := j.isLt
  have hr := r.isLt
  have hjt : (BitVec.ofNat 32 j.val).toInt = (j.val : Int) := by
    rw [BitVec.toInt_eq_toNat_of_lt] <;> rw [BitVec.toNat_ofNat] <;> omega
  have hn : (IntOp.addi (IntOp.muli (BitVec.ofNat 32 t.val) 45000#32) id).toNat = t.val * 45000 + id.toNat := by
    show (BitVec.ofNat 32 t.val * 45000#32 + id).toNat = _
    rw [BitVec.toNat_add, BitVec.toNat_mul, BitVec.toNat_ofNat, BitVec.toNat_ofNat]
    omega
  have hi : (IntOp.addi (IntOp.muli (BitVec.ofNat 32 t.val) 45000#32) id).toInt = ((t.val * 45000 + id.toNat : ℕ) : Int) := by
    rw [BitVec.toInt_eq_toNat_of_lt (by rw [hn]; omega), hn]
  unfold Scalar.select
  split
  · rename_i hc
    have hc' := IntOp.cmpi_slt.mp hc
    rw [hjt] at hc'
    rw [hi, Fin.ext_iff]
    omega
  · rename_i hc
    have hc' : ¬ ((j.val : Int) < len.toInt) := fun h => hc (IntOp.cmpi_slt.mpr (by rw [hjt]; exact h))
    have h5 : (540000#32 : BitVec 32).toInt = 540000 := by decide
    rw [h5]
    omega

/-- The row of the flattened updates where a token stands. -/
def flat (b : Fin 160) (t : Fin 12) (j : Fin 384) : Fin 737280 := ⟨(b.val * 12 + t.val) * 384 + j.val, by omega⟩

theorem rm_upd (b : Fin 160) (t : Fin 12) (j : Fin 384) (e : Fin 128) :
    (S160x12x384x128.rowMajor (ValueIdx.ix4 b t j e) : ℕ) = S737280x128.rowMajor (ValueIdx.ix2 (flat b t j) e) :=
  (rowMajor_val4 (ValueIdx.ix4 b t j e) (12 * (384 * 128)) (384 * 128) 128 rfl rfl rfl).trans
    (Eq.trans (by show b.val * (12 * (384 * 128)) + t.val * (384 * 128) + j.val * 128 + e.val = ((b.val * 12 + t.val) * 384 + j.val) * 128 + e.val; ring)
      (rowMajor_val2 (ValueIdx.ix2 (flat b t j) e) 128 rfl).symm)

/-- A sum over the flattened updates, bag by bag, table by table, position by position, column by column. -/
theorem sum_upd (f : S737280x128.Idx → BitVec 32) :
    ∑ k : S737280x128.Idx, f k = ∑ b : Fin 160, ∑ t : Fin 12, ∑ j : Fin 384, ∑ e : Fin 128, f (ValueIdx.ix2 (flat b t j) e) := by
  have hh : S160x12x384x128.numel = S737280x128.numel := shapeCasts_S160x12x384x128_S737280x128.symm
  refine (Equiv.sum_comp (Shape.reshapeEquiv hh) f).symm.trans ((sum_idx4 (fun q : S160x12x384x128.Idx => f (Shape.reshapeEquiv hh q))).trans ?_)
  refine Finset.sum_congr rfl fun b _ => Finset.sum_congr rfl fun t _ => Finset.sum_congr rfl fun j _ => Finset.sum_congr rfl fun e _ => congrArg f ?_
  exact Shape.reshapeEquiv_eq_of_rowMajor hh (rm_upd b t j e).symm

/-- The reference's scatter read at a row and a column. -/
theorem scatter_rows (z : IVec S540000x128 32) (idx : IVec S737280x1 32) (upd : IVec S737280x128 32) (s : Fin 540000) (l : Fin 128) :
    Host.scatter scatter_S540000x128_S737280x1_S737280x128_1_0_0_1 IntOp.addi z idx upd (ValueIdx.ix2 s l)
      = z (ValueIdx.ix2 s l) + ∑ b : Fin 160, ∑ t : Fin 12, ∑ j : Fin 384,
        if (idx (ValueIdx.ix2 (flat b t j) (0 : Fin 1))).toInt = (s.val : Int) then upd (ValueIdx.ix2 (flat b t j) l) else 0 := by
  refine (scatter_sum _ _ _ _ _).trans (congrArg (HAdd.hAdd _) ((sum_upd _).trans ?_))
  refine Finset.sum_congr rfl fun b _ => Finset.sum_congr rfl fun t _ => Finset.sum_congr rfl fun j _ => ?_
  refine (Finset.sum_eq_single l (fun e _ hne => if_neg fun h => hne (Fin.ext ((lands _ _ _ _).mp h).2)) (fun h => absurd (Finset.mem_univ _) h)).trans ?_
  exact if_congr ((lands idx (ValueIdx.ix2 (flat b t j) l) s l).trans (and_iff_left rfl)) rfl rfl

/-- An update is its token's code, -/
theorem upd_at (codes : IVec S160x12x384x128 32) (b : Fin 160) (t : Fin 12) (j : Fin 384) (e : Fin 128) :
    shapeCast S737280x128 codes shapeCasts_S160x12x384x128_S737280x128 (ValueIdx.ix2 (flat b t j) e) = codes (ValueIdx.ix4 b t j e) :=
  shapeCast_apply _ _ _ (ValueIdx.ix4 b t j e) (rm_upd b t j e)
/-- and its index its token's segment. -/
theorem idx_at (seg : IVec S160x12x384 32) (b : Fin 160) (t : Fin 12) (j : Fin 384) :
    broadcastInDim S737280x1 ![0] bcast_S737280_S737280x1_0 (shapeCast S737280 seg shapeCasts_S160x12x384_S737280) (ValueIdx.ix2 (flat b t j) (0 : Fin 1))
      = seg (ValueIdx.ix3 b t j) :=
  (broadcastInDim_apply _ _ _ _ (ValueIdx.ix1 (flat b t j)) (by intro a; fin_cases a; rfl)).trans
    (shapeCast_apply _ _ _ (ValueIdx.ix3 b t j) ((rowMajor_val3 (ValueIdx.ix3 b t j) (12 * 384) 384 rfl rfl).trans
      (Eq.trans (by show b.val * (12 * 384) + t.val * 384 + j.val = (b.val * 12 + t.val) * 384 + j.val; ring)
        (rowMajor_val1 (ValueIdx.ix1 (flat b t j))).symm)))

/-- The row of the flattened counts where a table's row stands. -/
def rowOf (T : Fin 12) (r : Fin 45000) : Fin 540000 := ⟨T.val * 45000 + r.val, by omega⟩

/-- An entry of the reference's counts is what the tokens of the table's bags add to it. -/
theorem fixedV_apply (codes : IVec S160x12x384x128 32) (len : IVec S160x12 32) (ids : IVec S160x12x384 32) (hid : ∀ i, (ids i).toNat < 45000)
    (T : Fin 12) (r : Fin 45000) (l : Fin 128) :
    fixedV codes (segV len ids) (ValueIdx.ix3 T r l) = ∑ B ∈ Finset.range 160, ∑ p ∈ Finset.range 384,
      tokenAdds (len (ValueIdx.ix2 (Fin.ofNat 160 B) T)) (fun p => ids (ValueIdx.ix3 (Fin.ofNat 160 B) T (Fin.ofNat 384 p)))
        (fun p => codes (ValueIdx.ix4 (Fin.ofNat 160 B) T (Fin.ofNat 384 p) l)) r.val p := by
  unfold fixedV
  refine (shapeCast_apply _ _ _ (ValueIdx.ix2 (rowOf T r) l) ((rowMajor_val2 (ValueIdx.ix2 (rowOf T r) l) 128 rfl).trans
      (Eq.trans (by show (T.val * 45000 + r.val) * 128 + l.val = T.val * (45000 * 128) + r.val * 128 + l.val; ring)
        (rowMajor_val3 (ValueIdx.ix3 T r l) (45000 * 128) 128 rfl rfl).symm))).trans ?_
  refine (scatter_rows _ _ _ _ _).trans ((zero_add (M := BitVec 32) _).trans ?_)
  rw [Finset.sum_range]
  refine Finset.sum_congr rfl fun b _ => ?_
  have hiff : ∀ (t : Fin 12) (j : Fin 384), (broadcastInDim S737280x1 ![0] bcast_S737280_S737280x1_0 (shapeCast S737280 (segV len ids) shapeCasts_S160x12x384_S737280)
        (ValueIdx.ix2 (flat b t j) (0 : Fin 1))).toInt = ((rowOf T r).val : Int)
      ↔ t = T ∧ ((j.val : Int) < (len (ValueIdx.ix2 b t)).toInt ∧ r.val = (ids (ValueIdx.ix3 b t j)).toNat) := fun t j => by
    rw [(idx_at (segV len ids) b t j).trans (segV_at len ids b t j)]
    exact seg_iff _ _ (hid _) t T j r
  refine (Finset.sum_eq_single T (fun t _ hne => Finset.sum_eq_zero fun j _ => if_neg fun h => hne ((hiff t j).mp h).1) (fun h => absurd (Finset.mem_univ _) h)).trans ?_
  rw [Finset.sum_range]
  refine Finset.sum_congr rfl fun j _ => ?_
  have eb : Fin.ofNat 160 b.val = b := Fin.ext (Nat.mod_eq_of_lt b.isLt)
  have ej : Fin.ofNat 384 j.val = j := Fin.ext (Nat.mod_eq_of_lt j.isLt)
  unfold tokenAdds
  beta_reduce
  rw [eb, ej]
  exact if_congr ((hiff T j).trans (and_iff_right rfl)) (upd_at codes b T j l) rfl

end Cert.ReferenceIdeal.Hand

end
-- ==== Proof.IdealCode.lean ====
module

public import proofs.«01_k».proof.Proof.RefSum
public import proofs.«01_k».proof.Proof.IdealBody
public import Idealize.ShloMosaic.PureOps.Ideal

@[expose] public section

set_option maxRecDepth 16384
set_option maxHeartbeats 1000000

noncomputable section

/-! The reference's code of a token, entry by entry, is the kernel's. -/

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (codev ixRow)

/-- At the extended reals, the reference's code of a token is the kernel's, off the same gradient row, scale, weight and grid. -/
theorem codesV_at (g : FVec Ideal S160x12x128 .f32) (sc : FVec Ideal S160x12 .f32) (w : FVec Ideal S160x12x384 .f32) (st : FVec Ideal S12 .f32)
    (b : Fin 160) (t : Fin 12) (j : Fin 384) (l : Fin 128) :
    codesV g sc w st (ValueIdx.ix4 b t j l)
      = codev (F := Ideal) (fun y => g (ValueIdx.ix3 b t (y 1))) (sc (ValueIdx.ix2 b t)) (w (ValueIdx.ix3 b t j)) (st (ValueIdx.ix1 t)) (ixRow l) := by
  have e1 : broadcastInDim S160x12x384x128 ![0, 1, 2, 3] bcast_S160x12x1x128_S160x12x384x128_0_1_2_3
        (broadcastInDim S160x12x1x128 ![0, 1, 3] bcast_S160x12x128_S160x12x1x128_0_1_3
          (mulf g (broadcastInDim S160x12x128 ![0, 1, 2] bcast_S160x12x1_S160x12x128_0_1_2 (broadcastInDim S160x12x1 ![0, 1] bcast_S160x12_S160x12x1_0_1 sc))))
        (ValueIdx.ix4 b t j l) = FloatOps.mulf (g (ValueIdx.ix3 b t l)) (sc (ValueIdx.ix2 b t)) :=
    (broadcastInDim_apply _ _ _ _ (ValueIdx.ix4 b t (0 : Fin 1) l) (by intro a; fin_cases a <;> rfl)).trans
      ((broadcastInDim_apply _ _ _ _ (ValueIdx.ix3 b t l) (by intro a; fin_cases a <;> rfl)).trans
        (congrArg (FloatOps.mulf (g (ValueIdx.ix3 b t l)))
          ((broadcastInDim_apply _ _ _ _ (ValueIdx.ix3 b t (0 : Fin 1)) (by intro a; fin_cases a <;> rfl)).trans
            (broadcastInDim_apply _ _ _ _ (ValueIdx.ix2 b t) (by intro a; fin_cases a <;> rfl)))))
  have e2 : broadcastInDim S160x12x384x128 ![0, 1, 2, 3] bcast_S160x12x384x1_S160x12x384x128_0_1_2_3
        (broadcastInDim S160x12x384x1 ![0, 1, 2] bcast_S160x12x384_S160x12x384x1_0_1_2 w) (ValueIdx.ix4 b t j l) = w (ValueIdx.ix3 b t j) :=
    (broadcastInDim_apply _ _ _ _ (ValueIdx.ix4 b t j (0 : Fin 1)) (by intro a; fin_cases a <;> rfl)).trans
      (broadcastInDim_apply _ _ _ _ (ValueIdx.ix3 b t j) (by intro a; fin_cases a <;> rfl))
  have e3 : broadcastInDim S160x12x384x128 ![0, 1, 2, 3] bcast_S1x12x1x1_S160x12x384x128_0_1_2_3 (broadcastInDim S1x12x1x1 ![1] bcast_S12_S1x12x1x1_1 st)
        (ValueIdx.ix4 b t j l) = st (ValueIdx.ix1 t) :=
    (broadcastInDim_apply _ _ _ _ (ValueIdx.ix4 (0 : Fin 1) t (0 : Fin 1) (0 : Fin 1)) (by intro a; fin_cases a <;> rfl)).trans
      (broadcastInDim_apply _ _ _ _ (ValueIdx.ix1 t) (by intro a; fin_cases a <;> rfl))
  unfold codev
  exact congrArg (fun z : Ideal .f32 => FloatOps.fptosi 32 (FloatOps.hostUnary .roundeven z)) (congrArg₂ FloatOps.mulf (congrArg₂ FloatOps.mulf e1 e2) e3)

/-- An entry of the reference's counts in floats. -/
theorem gradV_at (fx : IVec S12x45000x128 32) (st : FVec Ideal S12 .f32) (T : Fin 12) (r : Fin 45000) (l : Fin 128) :
    gradV fx st (ValueIdx.ix3 T r l) = FloatOps.mulf (FloatOps.sitofp .f32 (fx (ValueIdx.ix3 T r l))) (st (ValueIdx.ix1 T)) :=
  congrArg (FloatOps.mulf (FloatOps.sitofp .f32 (fx (ValueIdx.ix3 T r l))))
    ((broadcastInDim_apply _ _ _ _ (ValueIdx.ix3 T (0 : Fin 1) (0 : Fin 1)) (by intro a; fin_cases a <;> rfl)).trans
      (broadcastInDim_apply _ _ _ _ (ValueIdx.ix1 T) (by intro a; fin_cases a <;> rfl)))

end Cert.ReferenceIdeal.Hand

end
-- ==== Proof.IdealPow.lean ====
module

public import proofs.«01_k».proof.Proof.IdealScale
public import Idealize.ShloMosaic.PureOps.Ideal
public import Mathlib.Data.EReal.Inv

@[expose] public section

set_option maxRecDepth 16384
set_option maxHeartbeats 1000000

noncomputable section

/-! The two powers of two are each other's inverses. -/

namespace Cert.KernelIdeal.Hand

open Cert.KernelIdeal Cert.KernelIdeal.Gen
open Idealize.ShloMosaic

/-- The bits of a float with exponent `e` and nothing else read as two to the `e`. -/
theorem ofBits_exp (e : BitVec 32) (h0 : -126 ≤ e.toInt) (h1 : e.toInt ≤ 127) :
    Ideal.ofBits .f32 (IntOp.shli .host (IntOp.addi e 127#32) 23#32) = (((2 : ℝ) ^ e.toInt : ℝ) : EReal) := by
  have hw : ((e + 127#32) <<< (23#32 : BitVec 32)).toNat = (e.toInt + 127).toNat * 2 ^ 23 ∧ 1 ≤ (e.toInt + 127).toNat ∧ (e.toInt + 127).toNat ≤ 254 := by
    have he : (e + 127#32).toNat = (e.toInt + 127).toNat := by
      rw [BitVec.toNat_add]
      have hc := BitVec.toInt_eq_toNat_cond e
      have hl := e.isLt
      show (e.toNat + 127) % 4294967296 = _
      split at hc <;> omega
    refine ⟨?_, by omega, by omega⟩
    rw [BitVec.shiftLeft_eq', BitVec.toNat_shiftLeft, he, Nat.shiftLeft_eq]
    show _ * 2 ^ 23 % 2 ^ 32 = _
    omega
  obtain ⟨hw, n1, n2⟩ := hw
  have hs : IntOp.shli .host (IntOp.addi e 127#32) 23#32 = (e + 127#32) <<< (23#32 : BitVec 32) := rfl
  rw [hs]
  generalize (e + 127#32) <<< (23#32 : BitVec 32) = w at hw
  generalize hn : (e.toInt + 127).toNat = n at *
  have x1 : (w.extractLsb' 31 1).toNat = 0 := by rw [BitVec.extractLsb'_toNat, hw, Nat.shiftRight_eq_div_pow]; omega
  have x2 : (w.extractLsb' 23 8).toNat = n := by rw [BitVec.extractLsb'_toNat, hw, Nat.shiftRight_eq_div_pow]; omega
  have x3 : (w.extractLsb' 0 23).toNat = 0 := by rw [BitVec.extractLsb'_toNat, hw, Nat.shiftRight_eq_div_pow]; omega
  have x1' : w.extractLsb' 31 1 = 0#1 := BitVec.eq_of_toNat_eq x1
  show Ideal.ieee 8 23 w = _
  unfold Ideal.ieee
  simp only [Nat.reduceAdd, x1', x2, x3]
  rw [if_neg (by omega), if_neg (by omega)]
  congr 1
  have ez : ((n : Int) - (2 ^ (8 - 1) - 1) - (23 : ℕ)) = e.toInt - 23 := by norm_num; omega
  rw [ez, zpow_sub₀ (by norm_num : (2 : ℝ) ≠ 0)]
  norm_num
  ring

/-- The clamped word, read signed. -/
theorem clip_toInt (k : BitVec 32) : (IntOp.minsi 252#32 (IntOp.maxsi 4294967044#32 k)).toInt = max (-252) (min 252 k.toInt) := by
  have e1 : (4294967044#32 : BitVec 32).toInt = -252 := by decide
  have e2 : (252#32 : BitVec 32).toInt = 252 := by decide
  unfold IntOp.minsi IntOp.maxsi
  simp only [BitVec.slt, decide_eq_true_eq]
  repeat' split
  all_goals omega

/-- The scalar power of two. -/
def pow2 (k : BitVec 32) : EReal :=
  let h := IntOp.shrsi .host (IntOp.minsi 252#32 (IntOp.maxsi 4294967044#32 k)) 1#32
  Ideal.ofBits .f32 (IntOp.shli .host (IntOp.addi h 127#32) 23#32)
    * Ideal.ofBits .f32 (IntOp.shli .host (IntOp.addi (IntOp.subi (IntOp.minsi 252#32 (IntOp.maxsi 4294967044#32 k)) h) 127#32) 23#32)

theorem pow2_eq (k : BitVec 32) : pow2 k = (((2 : ℝ) ^ max (-252) (min 252 k.toInt) : ℝ) : EReal) := by
  have hc := clip_toInt k
  unfold pow2
  generalize IntOp.minsi 252#32 (IntOp.maxsi 4294967044#32 k) = q at hc
  have hh : (IntOp.shrsi .host q 1#32).toInt = q.toInt / 2 := by
    show (q.sshiftRight' 1#32).toInt = _
    rw [BitVec.sshiftRight', BitVec.toInt_sshiftRight, Int.shiftRight_eq_div_pow]
    rfl
  have hd : (IntOp.subi q (IntOp.shrsi .host q 1#32)).toInt = q.toInt - q.toInt / 2 := by
    show (q - IntOp.shrsi .host q 1#32).toInt = _
    rw [BitVec.toInt_sub, hh]
    exact Int.bmod_eq_of_le (by omega) (by omega)
  dsimp only
  rw [ofBits_exp _ (by rw [hh]; omega) (by rw [hh]; omega), ofBits_exp _ (by rw [hd]; omega) (by rw [hd]; omega), hh, hd, ← EReal.coe_mul,
    ← zpow_add₀ (by norm_num : (2 : ℝ) ≠ 0)]
  congr 2
  omega

theorem pow2V_apply (k : IVec S12 32) (i : S12.Idx) : (pow2V (F := Ideal) k) i = pow2 (k i) := rfl

/-- A fold of additions of words at most one comes to at most the number of the words. -/
theorem foldl_le {α : Type} (f : α → BitVec 32) (hf : ∀ a, (f a).toNat ≤ 1) (l : List α) (z : BitVec 32) :
    (l.foldl (fun r a => IntOp.addi r (f a)) z).toNat ≤ z.toNat + l.length := by
  induction l generalizing z with
  | nil => simp
  | cons a l ih =>
    rw [List.foldl_cons, List.length_cons]
    refine (ih _).trans ?_
    have h1 : (IntOp.addi z (f a)).toNat ≤ z.toNat + (f a).toNat := by
      show (z + f a).toNat ≤ _
      rw [BitVec.toNat_add]; exact Nat.mod_le _ _
    have := hf a
    omega

/-- At most all 12 × 277 comparisons are counted. -/
theorem countV_le (a : FVec Ideal S12 .f32) (i : S12.Idx) : (countV a i).toNat ≤ 3324 := by
  unfold countV Host.reduce
  refine (foldl_le _ (fun n => ?_) _ _).trans ?_
  · show (BitVec.setWidth 32 (_ : BitVec 1)).toNat ≤ 1
    rw [BitVec.toNat_setWidth]
    have := (cmpf (F := Ideal) .oge (broadcastInDim S12x277 ![0, 1] bcast_S12x1_S12x277_0_1 (broadcastInDim S12x1 ![0] bcast_S12_S12x1_0 (Host.absf a)))
      (broadcastInDim S12x277 ![0, 1] bcast_S1x277_S12x277_0_1 (broadcastInDim S1x277 ![1] bcast_S277_S1x277_1
        (fun i : S277.Idx => (FloatOps.ofBits .f32 (lit0 (S277.rowMajor i)) : Ideal .f32)))) (S12x277.rowMajor.symm n)).isLt
    omega
  · refine (Nat.add_le_add_left ((List.length_filter_le _ _)) _).trans ?_
    rw [List.length_finRange]
    show 0 + S12x277.numel ≤ 3324
    decide +kernel

/-- The number of bits is not the least word. -/
theorem kV_range (a : FVec Ideal S12 .f32) (i : S12.Idx) : -4000 ≤ (kV a i).toInt ∧ (kV a i).toInt ≤ 4000 := by
  have hc := countV_le a i
  have h30 : (30#32 : BitVec 32).toInt = 30 := by decide
  have h149 : (149#32 : BitVec 32).toInt = 149 := by decide
  have hci : (countV a i).toInt = (countV a i).toNat := BitVec.toInt_eq_toNat_of_lt (by omega)
  have key : ∀ b : BitVec 1, -4000 ≤ (30#32 - Scalar.select b (countV a i - 149#32) 0#32).toInt ∧ (30#32 - Scalar.select b (countV a i - 149#32) 0#32).toInt ≤ 4000 := by
    intro b
    have hs : (countV a i - 149#32).toInt = (countV a i).toInt - 149 := by
      rw [BitVec.toInt_sub, h149]; exact Int.bmod_eq_of_le (by omega) (by omega)
    have hz : (30#32 - (countV a i - 149#32)).toInt = 30 - ((countV a i).toInt - 149) := by
      rw [BitVec.toInt_sub, h30, hs]; exact Int.bmod_eq_of_le (by omega) (by omega)
    have hz' : (30#32 - 0#32 : BitVec 32).toInt = 30 := by decide
    unfold Scalar.select
    split
    · rw [hz]; omega
    · rw [hz']; omega
  exact key _

/-- One over the power of two is the power of two at the negated exponent. -/
theorem inv_pow2 (k : BitVec 32) (h0 : -4000 ≤ k.toInt) (h1 : k.toInt ≤ 4000) : Ideal.div 1 (pow2 k) = pow2 (-k) := by
  have hn : (-k).toInt = -k.toInt := by
    rw [BitVec.toInt_neg]; exact Int.bmod_eq_of_le (by omega) (by omega)
  rw [pow2_eq, pow2_eq, hn]
  have e : max (-252) (min 252 (-k.toInt)) = -(max (-252) (min 252 k.toInt)) := by omega
  rw [e]
  have hp : (0 : ℝ) < (2 : ℝ) ^ max (-252) (min 252 k.toInt) := by positivity
  unfold Ideal.div
  rw [if_neg (by exact_mod_cast hp.ne'), one_mul, ← EReal.coe_inv, zpow_neg]

end Cert.KernelIdeal.Hand

end
-- ==== Proof.RefRun.lean ====
module

public import proofs.«01_k».proof.Proof.RefVals
public import Idealize.ShloMosaic.Lib.Pipeline.ValueKit

@[expose] public section

set_option maxRecDepth 16384
set_option maxHeartbeats 2000000

noncomputable section

/-! What the reference's run leaves in its three results, as terms of its arguments. -/

namespace Cert.ReferenceIdeal.Hand

open Cert.ReferenceIdeal Cert.ReferenceIdeal.Gen
open Idealize.ShloMosaic Idealize.ShloMosaic.TcCoe Idealize.ShloMosaic.Tactic
open Idealize.SL.Sem
open Cert.KernelIdeal.Hand (pow2V kV)

variable {F : FTy → Type} [FloatOps F]
variable (m : (ℓ : Loc nD τ sig) → Buf (Elt F) ℓ) (ρ : Dev nD → PrngReg)

/-- The buffers where the region ends. -/
abbrev XV (c : Dev nD) : Valuation τ sig (Elt F) := Pipeline.withArrays (cfgs 0).spec c (V0 m c) fun w => (dats m 0 c).arrAt w (cfgs 0).N

/-- The region's two windows are whole. -/
theorem winIdx (t : Fin cfg0.N) : win0_0.index t = ![0, 0, 0] ∧ win0_1.index t = ![0, 0, 0] := by revert t; decide +kernel

/-- The region widens the codes. -/
theorem arr_v0 (c : Dev nD) : (dats m 0 c).arrAt 1 (cfgs 0).N = extf .f32 (m ((c : Thread nD τ).loc main_arg0)) bitsLt_fp8e5m2_f32 := by
  refine (dats m 0 c).arrAt_eq_of_covers 1 _ (by decide +kernel) fun t hf y => ?_
  blk_simp
  rw [after0_1]
  frame_out
  show FloatOps.extf .f32 bitsLt_fp8e5m2_f32 (iblk m c 0 t y) = FloatOps.extf .f32 bitsLt_fp8e5m2_f32 _
  refine congrArg (FloatOps.extf .f32 bitsLt_fp8e5m2_f32) ?_
  obtain ⟨e0, e1⟩ := winIdx t
  rw [← V_main_arg0 m c]
  blk_ext [iblk, e0, e1]

theorem XV_v0 (c : Dev nD) : XV m c (Proc.devRef .tc main_v0) = extf .f32 (m ((c : Thread nD τ).loc main_arg0)) bitsLt_fp8e5m2_f32 :=
  (Pipeline.withArrays_arr (cfgs 0).spec (by decide : Function.Injective (Pipeline.arrRef spec0)) c _ _ 1).trans (arr_v0 m c)
theorem XV_cst (c : Dev nD) : XV m c (Proc.devRef .tc main_cst) = fun i : S277.Idx => (FloatOps.ofBits .f32 (lit0 (S277.rowMajor i)) : F .f32) := by
  refine (Pipeline.withArrays_of_ne _ c _ _ main_cst (by decide : ∀ w, Pipeline.arrRef spec0 w ≠ main_cst)).trans ?_
  unfold V0
  simp only [List.flatten_cons, List.flatten_nil, List.append_nil, List.cons_append, List.nil_append]
  after_reads_simp
  rfl
theorem XV_arg1 (c : Dev nD) : XV m c (Proc.devRef .tc main_arg1) = m ((c : Thread nD τ).loc main_arg1) :=
  (Pipeline.withArrays_of_ne _ c _ _ main_arg1 (by decide : ∀ w, Pipeline.arrRef spec0 w ≠ main_arg1)).trans (V_main_arg1 m c)
theorem XV_arg2 (c : Dev nD) : XV m c (Proc.devRef .tc main_arg2) = m ((c : Thread nD τ).loc main_arg2) :=
  (Pipeline.withArrays_of_ne _ c _ _ main_arg2 (by decide : ∀ w, Pipeline.arrRef spec0 w ≠ main_arg2)).trans (V_main_arg2 m c)
theorem XV_arg3 (c : Dev nD) : XV m c (Proc.devRef .tc main_arg3) = m ((c : Thread nD τ).loc main_arg3) :=
  (Pipeline.withArrays_of_ne _ c _ _ main_arg3 (by decide : ∀ w, Pipeline.arrRef spec0 w ≠ main_arg3)).trans (V_main_arg3 m c)
theorem XV_arg4 (c : Dev nD) : XV m c (Proc.devRef .tc main_arg4) = m ((c : Thread nD τ).loc main_arg4) :=
  (Pipeline.withArrays_of_ne _ c _ _ main_arg4 (by decide : ∀ w, Pipeline.arrRef spec0 w ≠ main_arg4)).trans (V_main_arg4 m c)
theorem XV_arg5 (c : Dev nD) : XV m c (Proc.devRef .tc main_arg5) = m ((c : Thread nD τ).loc main_arg5) :=
  (Pipeline.withArrays_of_ne _ c _ _ main_arg5 (by decide : ∀ w, Pipeline.arrRef spec0 w ≠ main_arg5)).trans (V_main_arg5 m c)

/-- The counts the reference ends with. -/
def FX (c : Dev nD) : IVec S12x45000x128 32 :=
  fixedV (codesV (extf .f32 (m ((c : Thread nD τ).loc main_arg0)) bitsLt_fp8e5m2_f32) (m ((c : Thread nD τ).loc main_arg1)) (m ((c : Thread nD τ).loc main_arg3))
      (pow2V (kV (m ((c : Thread nD τ).loc main_arg5)))))
    (segV (m ((c : Thread nD τ).loc main_arg4)) (m ((c : Thread nD τ).loc main_arg2)))

theorem out_v42 (c : Dev nD) : StableHlo.after (tailOps (F := F)).flatten (XV m c) (Proc.devRef .tc main_v42) = pow2V (negi (kV (m ((c : Thread nD τ).loc main_arg5)))) := by
  rw [tail_v42 _ (XV_cst m c), XV_arg5]
theorem out_v81 (c : Dev nD) : StableHlo.after (tailOps (F := F)).flatten (XV m c) (Proc.devRef .tc main_v81) = FX m c := by
  rw [tail_v81 _ (XV_cst m c), XV_v0, XV_arg1, XV_arg2, XV_arg3, XV_arg4, XV_arg5]; rfl
theorem out_v85 (c : Dev nD) : StableHlo.after (tailOps (F := F)).flatten (XV m c) (Proc.devRef .tc main_v85)
    = gradV (FX m c) (pow2V (negi (kV (m ((c : Thread nD τ).loc main_arg5))))) := by
  rw [tail_v85 _ (XV_cst m c), XV_v0, XV_arg1, XV_arg2, XV_arg3, XV_arg4, XV_arg5]; rfl

/-- The reference runs to the end with the counts, the counts in floats and the row scales in its results, and its arguments as launched. -/
theorem run_vals : θ_run defs (onTc (τ := τ) (main (F := F))) ⟨m, fun _ => 0, ρ⟩ (fun r => ∀ c : Dev nD,
      r.2.mem ((c.tc : Thread nD τ).loc main_v85) = gradV (FX m c) (pow2V (negi (kV (m ((c.tc : Thread nD τ).loc main_arg5)))))
      ∧ r.2.mem ((c.tc : Thread nD τ).loc main_v81) = FX m c
      ∧ r.2.mem ((c.tc : Thread nD τ).loc main_v42) = pow2V (negi (kV (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h.2 c).2 main_v85 (Pipeline.mem_restRefs_of main_v85 (by decide) (by decide))).trans (out_v85 m c),
      ((h.2 c).2 main_v81 (Pipeline.mem_restRefs_of main_v81 (by decide) (by decide))).trans (out_v81 m c),
      ((h.2 c).2 main_v42 (Pipeline.mem_restRefs_of main_v42 (by decide) (by decide))).trans (out_v42 m c),
      h.1 c⟩) (θ_run_and (unchanged m ρ) (run_main m ρ))

end Cert.ReferenceIdeal.Hand

end
-- ==== Proof.Algebraic.lean ====
module

public import proofs.«01_k».proof.Defs
public import proofs.«01_k».proof.Proof.IdealArgs
public import proofs.«01_k».proof.Proof.IdealCode
public import proofs.«01_k».proof.Proof.IdealPow
public import proofs.«01_k».proof.Proof.RefRun
public import proofs.«01_k».proof.Proof.RefSum

@[expose] public section

set_option maxRecDepth 16384
set_option maxHeartbeats 1000000

noncomputable section

/-! At the extended reals the kernel's three results are the reference's. -/

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The counts the reference computes, off the kernel's arguments. -/
def refCounts (c : Dev nD) : IVec S12x45000x128 32 :=
  Cert.ReferenceIdeal.Hand.fixedV (Cert.ReferenceIdeal.Hand.codesV (F := Ideal)
      (extf .f32 (m ((c.tc : Thread nD τ).loc main_arg0) : FVec Ideal S160x12x128 .fp8e5m2) bitsLt_fp8e5m2_f32) (m ((c.tc : Thread nD τ).loc main_arg1)) (m ((c.tc : Thread nD τ).loc main_arg3))
      (pow2V (F := Ideal) (kV (F := Ideal) (m ((c.tc : Thread nD τ).loc main_arg5)))))
    (Cert.ReferenceIdeal.Hand.segV (m ((c.tc : Thread nD τ).loc main_arg4)) (m ((c.tc : Thread nD τ).loc main_arg2)))
/-- The grid of every table, inverted, off the kernel's arguments. -/
def refScale (c : Dev nD) : FVec Ideal S12 .f32 := pow2V (F := Ideal) (negi (kV (F := Ideal) (m ((c.tc : Thread nD τ).loc main_arg5))))

/-- A table's counts are the reference's. -/
theorem counts_eq (h : PreOK m) (c : Dev nD) (T : Fin 12) (r : Fin 45000) (l : Fin 128) :
    PTm m c T.val 5 (ValueIdx.ix2 r l) = refCounts m c (ValueIdx.ix3 T r l) := by
  refine (PTm_apply m (inOK m h) c T 5 le_rfl (ValueIdx.ix2 r l)).trans (Eq.trans ?_
    (Cert.ReferenceIdeal.Hand.fixedV_apply _ _ _ (fun i => toNat_lt_of_toInt _ (pre_entry _ _ _ _ _ _ (h c) i).1 (pre_entry _ _ _ _ _ _ (h c) i).2.1) T r l).symm)
  refine Finset.sum_congr rfl fun B _ => Finset.sum_congr rfl fun p hp => ?_
  refine (tableAdds_args m c T r.val l B p (Finset.mem_range.mp hp)).trans ?_
  refine congrArg (fun cd => tokenAdds _ _ cd r.val p) (funext fun q => ?_)
  exact (Cert.ReferenceIdeal.Hand.codesV_at _ _ _ _ (Fin.ofNat 160 B) T (Fin.ofNat 384 q) l).symm

/-- One over a table's grid is the reference's inverted grid. -/
theorem inv_step (c : Dev nD) (T : Fin 12) :
    Scalar.divf (Scalar.ofBits .f32 0x3F800000#32 : Ideal .f32) (STm m c T.val) = refScale m c (ValueIdx.ix1 T) := by
  have hT := T.isLt
  have est : stepAt (grid0.coords (pointOf T.val 0)) = ValueIdx.ix2 (0 : Fin 1) T := by
    have ht : (pointOf T.val 0).val = 5 * T.val := by show (5 * T.val + 0) % 60 = _; omega
    have q0 : (grid0.coords (pointOf T.val 0) 0).val = T.val := by rw [pt0, ht]; omega
    funext a
    fin_cases a
    · rfl
    · exact Fin.ext (by show (grid0.coords (pointOf T.val 0) 0).val % 12 = T.val; rw [q0]; omega)
  have e : STm m c T.val = pow2 (kV (F := Ideal) (m ((c.tc : Thread nD τ).loc main_arg5)) (ValueIdx.ix1 T)) := by
    unfold STm
    rw [est]
    exact (b2_at m c _ _).trans (v56_at m c T)
  have h1 : (Scalar.ofBits .f32 0x3F800000#32 : Ideal .f32) = (1 : EReal) := by
    show Ideal.ofBits .f32 0x3F800000#32 = 1
    simp [Ideal.ofBits, Ideal.ieee, -EReal.coe_mul]
    norm_num
  rw [e, h1]
  exact inv_pow2 _ (kV_range _ _).1 (kV_range _ _).2

/-- The counts result is the reference's. -/
theorem fixed_eq (h : PreOK m) (c : Dev nD) (g : Buf (Elt Ideal) ((c : Thread nD τ).loc main_v57_1)) (hg : FixOK c (PTm m c) g) :
    (g : S12x45000x128.Idx → BitVec 32) = refCounts m c := by
  funext x
  rw [ValueIdx.eq_ix3 x]
  exact (fix_at c _ g hg (x 0) (x 1) (x 2)).trans (counts_eq m h c (x 0) (x 1) (x 2))
/-- The gradient result is the reference's. -/
theorem gradient_eq (h : PreOK m) (c : Dev nD) (g : Buf (Elt Ideal) ((c : Thread nD τ).loc main_v57_0)) (hg : GradOK c (PTm m c) (STm m c) g) :
    (g : S12x45000x128.Idx → Elt Ideal .f32) = Cert.ReferenceIdeal.Hand.gradV (F := Ideal) (refCounts m c) (refScale m c) := by
  funext x
  rw [ValueIdx.eq_ix3 x]
  refine (grad_at c _ _ g hg (x 0) (x 1) (x 2)).trans (Eq.trans ?_ (Cert.ReferenceIdeal.Hand.gradV_at _ _ (x 0) (x 1) (x 2)).symm)
  exact congrArg₂ FloatOps.mulf (congrArg (FloatOps.sitofp .f32) (counts_eq m h c (x 0) (x 1) (x 2))) (inv_step m c (x 0))

/-- At the extended reals, from memories that agree on the arguments and meet the condition on them, the kernel and the reference end with equal
    gradients, equal counts and equal row scales, and with their arguments as launched. -/
theorem algebraic : Cert.algebraic_KernelIdeal_ReferenceIdeal (hKernelIdeal := Cert.KernelIdeal.Gen.facts) (hReferenceIdeal := Cert.ReferenceIdeal.Gen.facts)
    (hPre_ids_and_lengths_fit := Cert.Pre_ids_and_lengths_fit.Gen.facts) := by
  intro m g m' g' hpre hagree
  have h : PreOK m := hpre
  refine ⟨fun c => Cert.ReferenceIdeal.Hand.gradV (F := Ideal) (refCounts m c) (refScale m c), fun c => refCounts m c, fun c => refScale m c, ?_, ?_⟩
  · refine θ_run_mono (run_main m g (inOK m h)) fun r hr c => ?_
    obtain ⟨hG, hF, hk⟩ := hr.1 c
    refine ⟨gradient_eq m h c _ hG, fixed_eq m h c _ hF, ?_, ?_, ?_, ?_, ?_, ?_, ?_⟩
    · exact (hk main_v33 (by decide +kernel)).trans (V_v33 m c)
    · exact (hk main_arg0 (by decide +kernel)).trans (V_main_arg0 m c)
    · exact (hk main_arg1 (by decide +kernel)).trans (V_main_arg1 m c)
    · exact (hk main_arg2 (by decide +kernel)).trans (V_main_arg2 m c)
    · exact (hk main_arg3 (by decide +kernel)).trans (V_main_arg3 m c)
    · exact (hk main_arg4 (by decide +kernel)).trans (V_main_arg4 m c)
    · exact (hk main_arg5 (by decide +kernel)).trans (V_main_arg5 m c)
  · refine θ_run_mono (Cert.ReferenceIdeal.Hand.run_vals m' g') fun r hr c => ?_
    obtain ⟨h85, h81, h42, hargs⟩ := hr c
    obtain ⟨a0, a1, a2, a3, a4, a5⟩ := hagree c
    have eF : Cert.ReferenceIdeal.Hand.FX m' c = refCounts m c := by
      unfold Cert.ReferenceIdeal.Hand.FX refCounts
      rw [a0, a1, a2, a3, a4, a5]
    have eS : pow2V (F := Ideal) (negi (kV (F := Ideal) (m' ((c.tc : Thread Cert.ReferenceIdeal.nD Cert.ReferenceIdeal.τ).loc Cert.ReferenceIdeal.main_arg5)))) = refScale m c := by
      unfold refScale
      rw [a5]
    refine ⟨h85.trans ?_, h81.trans eF, h42.trans eS, hargs⟩
    rw [eF, eS]

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.Pre_ids_and_lengths_fit
public import proofs.«01_k».proof.Proof.Gen.ReferenceIdeal
public import proofs.«01_k».proof.Proof.Gen.ReferenceIdeal.Frame
public import proofs.«01_k».proof.Proof.BitsFrame
public import proofs.«01_k».proof.Proof.IdealFrame
public import proofs.«01_k».proof.Proof.Algebraic

@[expose] public section

noncomputable section

namespace Cert.Proof

open Idealize.ShloMosaic Idealize.SL.Sem

/-- The claim: the kernel as printed, its idealization and the reference run to the end, their arguments unchanged and every
    semaphore at zero; and at the extended reals the kernel's gradients, counts and row scales are the reference's. -/
theorem claim : Cert.Claim :=
  ⟨Cert.Kernel.Gen.facts, Cert.KernelIdeal.Gen.facts, Cert.ReferenceIdeal.Gen.facts, Cert.Pre_ids_and_lengths_fit.Gen.facts,
    fun m ρ h => Cert.Kernel.Hand.frame m ρ h,
    fun m ρ h => Cert.KernelIdeal.Hand.frame m ρ h,
    fun m ρ _ => Cert.ReferenceIdeal.Gen.frame m ρ,
    fun m ρ _ => Cert.ReferenceIdeal.Gen.frame m ρ,
    trivial,
    Cert.KernelIdeal.Hand.algebraic⟩

end Cert.Proof

end
